-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  IdealRules.named_const.Statement Cert.KernelIdeal.κ "neg" .f32 0xF149F2CA#32 ⊥
  ∧ IdealRules.named_const.Statement Cert.KernelIdeal.κ "masked" .f32 0xF1C9F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v15)) (v1 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_v14) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_v46) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v24)) (v1 : (c : Dev Cert.Kernel4Ideal.nD) → Buf (Elt Ideal) ((c.tc : Thread Cert.Kernel4Ideal.nD Cert.Kernel4Ideal.τ).loc Cert.Kernel4Ideal.main_v25)) (v2 : (c : Dev Cert.Kernel4Ideal.nD) → Buf (Elt Ideal) ((c.tc : Thread Cert.Kernel4Ideal.nD Cert.Kernel4Ideal.τ).loc Cert.Kernel4Ideal.main_v26)) (v3 : (c : Dev Cert.Kernel4Ideal.nD) → Buf (Elt Ideal) ((c.tc : Thread Cert.Kernel4Ideal.nD Cert.Kernel4Ideal.τ).loc Cert.Kernel4Ideal.main_v27)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v24) = v0 c
          ∧ r.2.mem ((c.tc : Thread Cert.Kernel4Ideal.nD Cert.Kernel4Ideal.τ).loc Cert.Kernel4Ideal.main_v25) = v1 c
          ∧ r.2.mem ((c.tc : Thread Cert.Kernel4Ideal.nD Cert.Kernel4Ideal.τ).loc Cert.Kernel4Ideal.main_v26) = v2 c
          ∧ r.2.mem ((c.tc : Thread Cert.Kernel4Ideal.nD Cert.Kernel4Ideal.τ).loc Cert.Kernel4Ideal.main_v27) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v52) = v1 c
          ∧ r.2.mem ((c.tc : Thread Cert.Reference4Ideal.nD Cert.Reference4Ideal.τ).loc Cert.Reference4Ideal.main_v53) = v2 c
          ∧ r.2.mem ((c.tc : Thread Cert.Reference4Ideal.nD Cert.Reference4Ideal.τ).loc Cert.Reference4Ideal.main_v54) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v74)) (v1 : (c : Dev Cert.Kernel5Ideal.nD) → Buf (Elt Ideal) ((c.tc : Thread Cert.Kernel5Ideal.nD Cert.Kernel5Ideal.τ).loc Cert.Kernel5Ideal.main_v75)) (v2 : (c : Dev Cert.Kernel5Ideal.nD) → Buf (Elt Ideal) ((c.tc : Thread Cert.Kernel5Ideal.nD Cert.Kernel5Ideal.τ).loc Cert.Kernel5Ideal.main_v76)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v74) = v0 c
          ∧ r.2.mem ((c.tc : Thread Cert.Kernel5Ideal.nD Cert.Kernel5Ideal.τ).loc Cert.Kernel5Ideal.main_v75) = v1 c
          ∧ r.2.mem ((c.tc : Thread Cert.Kernel5Ideal.nD Cert.Kernel5Ideal.τ).loc Cert.Kernel5Ideal.main_v76) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v72) = v0 c
          ∧ r.2.mem ((c.tc : Thread Cert.Reference5Ideal.nD Cert.Reference5Ideal.τ).loc Cert.Reference5Ideal.main_v119) = v1 c
          ∧ r.2.mem ((c.tc : Thread Cert.Reference5Ideal.nD Cert.Reference5Ideal.τ).loc Cert.Reference5Ideal.main_v154) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v39)) (v1 : (c : Dev Cert.Kernel6Ideal.nD) → Buf (Elt Ideal) ((c.tc : Thread Cert.Kernel6Ideal.nD Cert.Kernel6Ideal.τ).loc Cert.Kernel6Ideal.main_v40)) (v2 : (c : Dev Cert.Kernel6Ideal.nD) → Buf (Elt Ideal) ((c.tc : Thread Cert.Kernel6Ideal.nD Cert.Kernel6Ideal.τ).loc Cert.Kernel6Ideal.main_v41)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v39) = v0 c
          ∧ r.2.mem ((c.tc : Thread Cert.Kernel6Ideal.nD Cert.Kernel6Ideal.τ).loc Cert.Kernel6Ideal.main_v40) = v1 c
          ∧ r.2.mem ((c.tc : Thread Cert.Kernel6Ideal.nD Cert.Kernel6Ideal.τ).loc Cert.Kernel6Ideal.main_v41) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v59) = v0 c
          ∧ r.2.mem ((c.tc : Thread Cert.Reference6Ideal.nD Cert.Reference6Ideal.τ).loc Cert.Reference6Ideal.main_v63) = v1 c
          ∧ r.2.mem ((c.tc : Thread Cert.Reference6Ideal.nD Cert.Reference6Ideal.τ).loc Cert.Reference6Ideal.main_v24) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S2x4096x8x128 : Shape := ⟨4, ![2, 4096, 8, 128]⟩
abbrev S2x4096x8 : Shape := ⟨3, ![2, 4096, 8]⟩
abbrev S_ : Shape := ⟨0, ![]⟩

class Facts : Prop where
  bcast_S_S2x4096x8x128 : S_.BroadcastsInDim S2x4096x8x128 (![] : Fin 0 → Fin S2x4096x8x128.rank)
  reducesTo_S2x4096x8x128_S_d0_1_2_3 : S2x4096x8x128.ReducesTo [0, 1, 2, 3] S_
  h_S_ : 0 < S_.numel
  bcast_S_S2x4096x8 : S_.BroadcastsInDim S2x4096x8 (![] : Fin 0 → Fin S2x4096x8.rank)
  reducesTo_S2x4096x8_S_d0_1_2 : S2x4096x8.ReducesTo [0, 1, 2] S_

variable [Facts]

def fn {F : FTy → Type} [FloatOps F] (main_arg0 : FVec F S2x4096x8x128 .f32) (main_arg1 : FVec F S2x4096x8x128 .f32) (main_arg2 : FVec F S2x4096x8x128 .f32) (main_arg3 : FVec F S2x4096x8 .f32) : IVec S_ 1 :=
  let main_v0 : FVec F S2x4096x8x128 .f32 := Host.absf main_arg0
  let main_cst : FVec F S_ .f32 := constant S_ .f32 0x7F800000#32
  let main_v1 : FVec F S2x4096x8x128 .f32 := broadcastInDim S2x4096x8x128 ![] bcast_S_S2x4096x8x128 main_cst
  let main_v2 : IVec S2x4096x8x128 1 := cmpf .olt main_v0 main_v1
  let main_c : IVec S_ 1 := constantI S_ 1 1#1
  let main_v3 : IVec S_ 1 := (fun x v => Host.reduce IntOp.andi x v reducesTo_S2x4096x8x128_S_d0_1_2_3 h_S_) main_v2 main_c
  let main_v4 : FVec F S2x4096x8x128 .f32 := Host.absf main_arg1
  let main_cst_0 : FVec F S_ .f32 := constant S_ .f32 0x7F800000#32
  let main_v5 : FVec F S2x4096x8x128 .f32 := broadcastInDim S2x4096x8x128 ![] bcast_S_S2x4096x8x128 main_cst_0
  let main_v6 : IVec S2x4096x8x128 1 := cmpf .olt main_v4 main_v5
  let main_c_1 : IVec S_ 1 := constantI S_ 1 1#1
  let main_v7 : IVec S_ 1 := (fun x v => Host.reduce IntOp.andi x v reducesTo_S2x4096x8x128_S_d0_1_2_3 h_S_) main_v6 main_c_1
  let main_v8 : IVec S_ 1 := andi main_v3 main_v7
  let main_v9 : FVec F S2x4096x8 .f32 := Host.absf main_arg3
  let main_cst_2 : FVec F S_ .f32 := constant S_ .f32 0x7F800000#32
  let main_v10 : FVec F S2x4096x8 .f32 := broadcastInDim S2x4096x8 ![] bcast_S_S2x4096x8 main_cst_2
  let main_v11 : IVec S2x4096x8 1 := cmpf .olt main_v9 main_v10
  let main_c_3 : IVec S_ 1 := constantI S_ 1 1#1
  let main_v12 : IVec S_ 1 := (fun x v => Host.reduce IntOp.andi x v reducesTo_S2x4096x8_S_d0_1_2 h_S_) main_v11 main_c_3
  let main_v13 : IVec S_ 1 := andi main_v8 main_v12
  main_v13
-- ==== Kernel.lean ====
abbrev S2x4096x8x128 : Shape := ⟨4, ![2, 4096, 8, 128]⟩
abbrev S2x4096x8 : Shape := ⟨3, ![2, 4096, 8]⟩
abbrev S8192x1024 : Shape := ⟨2, ![8192, 1024]⟩
abbrev S2x8x4096 : Shape := ⟨3, ![2, 8, 4096]⟩
abbrev S8192x8 : Shape := ⟨2, ![8192, 8]⟩
abbrev S512x1024 : Shape := ⟨2, ![512, 1024]⟩
abbrev S512x8 : Shape := ⟨2, ![512, 8]⟩
abbrev S1x8x512 : Shape := ⟨3, ![1, 8, 512]⟩
abbrev S8x512x1 : Shape := ⟨3, ![8, 512, 1]⟩
abbrev S512x128 : Shape := ⟨2, ![512, 128]⟩
abbrev S512x512 : Shape := ⟨2, ![512, 512]⟩
abbrev S512x1 : Shape := ⟨2, ![512, 1]⟩
abbrev S1x1x512 : Shape := ⟨3, ![1, 1, 512]⟩
abbrev S1x512 : Shape := ⟨2, ![1, 512]⟩
abbrev S1x512x1 : Shape := ⟨3, ![1, 512, 1]⟩
abbrev S512 : Shape := ⟨1, ![512]⟩

abbrev nBuf : Space → Nat
  | .hbm => 13
  | .vmem => 15
  | .smem => 0
  | _ => 0

abbrev bufTy : (tb : Table) → Fin (tcTables nBuf tb) → BufTy
  | .hbm, ⟨0, _⟩ => ⟨S2x4096x8x128, .f32⟩
  | .hbm, ⟨1, _⟩ => ⟨S2x4096x8x128, .f32⟩
  | .hbm, ⟨2, _⟩ => ⟨S2x4096x8x128, .f32⟩
  | .hbm, ⟨3, _⟩ => ⟨S2x4096x8, .f32⟩
  | .hbm, ⟨4, _⟩ => ⟨S8192x1024, .f32⟩
  | .hbm, ⟨5, _⟩ => ⟨S8192x1024, .bf16⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S8192x1024, .bf16⟩
  | .hbm, ⟨10, _⟩ => ⟨S2x8x4096, .f32⟩
  | .hbm, ⟨11, _⟩ => ⟨S8192x8, .f32⟩
  | .hbm, ⟨12, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x8, .f32⟩
  | .local _ .vmem, ⟨7, _⟩ => ⟨S512x8, .f32⟩
  | .local _ .vmem, ⟨8, _⟩ => ⟨S1x8x512, .f32⟩
  | .local _ .vmem, ⟨9, _⟩ => ⟨S1x8x512, .f32⟩
  | .local _ .vmem, ⟨10, _⟩ => ⟨S512x1024, .bf16⟩
  | .local _ .vmem, ⟨11, _⟩ => ⟨S512x1024, .bf16⟩
  | .local _ .vmem, ⟨12, _⟩ => ⟨S8x512x1, .f32⟩
  | .local _ .vmem, ⟨13, _⟩ => ⟨S8x512x1, .f32⟩
  | .local _ .vmem, ⟨14, _⟩ => ⟨S512x1024, .f32⟩
  | _, _ => ⟨S2x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 8], ![false, false, false]⟩

def k0_cond3 (i : grid0.Coords) : BitVec 1 :=
  let arg2 : BitVec 32 := BitVec.ofNat 32 (i 2).val
  let arg1 : BitVec 32 := BitVec.ofNat 32 (i 1).val
  let v6 : BitVec 1 := Scalar.cmpi .eq arg2 arg1
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.minsi arg2 arg1
  let v2 : BitVec 32 := Scalar.addi v0 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.minsi arg2 arg1
  let v2 : BitVec 32 := Scalar.addi v0 v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== KernelIdeal.lean ====
variable {F : FTy → Type} [FloatOps F] [Named F]
def κ : String → Option EReal := fun
  | "masked" => some ⊥
  | "neg" => some ⊥
  | _ => none
-- ==== ReferenceIdeal.lean ====
abbrev S2x4096x8x128 : Shape := ⟨4, ![2, 4096, 8, 128]⟩
abbrev S2x4096x8 : Shape := ⟨3, ![2, 4096, 8]⟩
abbrev S4096 : Shape := ⟨1, ![4096]⟩
abbrev S2x8x4096 : Shape := ⟨3, ![2, 8, 4096]⟩
abbrev S2x8x4096x4096 : Shape := ⟨4, ![2, 8, 4096, 4096]⟩
abbrev S_ : Shape := ⟨0, ![]⟩
abbrev S2x8x4096x1 : Shape := ⟨4, ![2, 8, 4096, 1]⟩
abbrev S2x8x1x4096 : Shape := ⟨4, ![2, 8, 1, 4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S2x8x128x4096 : Shape := ⟨4, ![2, 8, 128, 4096]⟩
abbrev S8192x1024 : Shape := ⟨2, ![8192, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2x4096x8x128, .f32⟩
  | .hbm, ⟨1, _⟩ => ⟨S2x4096x8x128, .f32⟩
  | .hbm, ⟨2, _⟩ => ⟨S2x4096x8x128, .f32⟩
  | .hbm, ⟨3, _⟩ => ⟨S2x4096x8, .f32⟩
  | .hbm, ⟨4, _⟩ => ⟨S4096, .i32⟩
  | .hbm, ⟨5, _⟩ => ⟨S2x8x4096, .f32⟩
  | .hbm, ⟨6, _⟩ => ⟨S2x8x4096x4096, .f32⟩
  | .hbm, ⟨7, _⟩ => ⟨S_, .f32⟩
  | .hbm, ⟨8, _⟩ => ⟨S2x8x4096x4096, .f32⟩
  | .hbm, ⟨9, _⟩ => ⟨S2x8x4096x4096, .f32⟩
  | .hbm, ⟨10, _⟩ => ⟨S2x8x4096x1, .f32⟩
  | .hbm, ⟨11, _⟩ => ⟨S2x8x4096x4096, .f32⟩
  | .hbm, ⟨12, _⟩ => ⟨S2x8x4096x4096, .f32⟩
  | .hbm, ⟨13, _⟩ => ⟨S2x8x1x4096, .f32⟩
  | .hbm, ⟨14, _⟩ => ⟨S2x8x4096x4096, .f32⟩
  | .hbm, ⟨15, _⟩ => ⟨S2x8x4096x4096, .f32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S1x1x4096x4096, .i1⟩
  | .hbm, ⟨22, _⟩ => ⟨S_, .f32⟩
  | .hbm, ⟨23, _⟩ => ⟨S_, .f32⟩
  | .hbm, ⟨24, _⟩ => ⟨S2x8x4096x4096, .i1⟩
  | .hbm, ⟨25, _⟩ => ⟨S2x8x4096x4096, .f32⟩
  | .hbm, ⟨26, _⟩ => ⟨S2x8x4096x4096, .f32⟩
  | .hbm, ⟨27, _⟩ => ⟨S_, .f32⟩
  | .hbm, ⟨28, _⟩ => ⟨S2x8x4096, .f32⟩
  | .hbm, ⟨29, _⟩ => ⟨S_, .f32⟩
  | .hbm, ⟨30, _⟩ => ⟨S2x8x4096, .f32⟩
  | .hbm, ⟨31, _⟩ => ⟨S2x8x4096, .f32⟩
  | .hbm, ⟨32, _⟩ => ⟨S2x8x4096x1, .f32⟩
  | .hbm, ⟨33, _⟩ => ⟨S2x8x4096x4096, .f32⟩
  | .hbm, ⟨34, _⟩ => ⟨S2x8x4096x4096, .f32⟩
  | .hbm, ⟨35, _⟩ => ⟨S2x8x4096x4096, .f32⟩
  | .hbm, ⟨36, _⟩ => ⟨S_, .f32⟩
  | .hbm, ⟨37, _⟩ => ⟨S2x8x4096, .f32⟩
  | .hbm, ⟨38, _⟩ => ⟨S2x8x4096x1, .f32⟩
  | .hbm, ⟨39, _⟩ => ⟨S2x8x4096x4096, .f32⟩
  | .hbm, ⟨40, _⟩ => ⟨S2x8x4096x4096, .f32⟩
  | .hbm, ⟨41, _⟩ => ⟨S2x8x128x4096, .f32⟩
  | .hbm, ⟨42, _⟩ => ⟨S2x4096x8x128, .f32⟩
  | .hbm, ⟨43, _⟩ => ⟨S8192x1024, .f32⟩
  | .hbm, ⟨44, _⟩ => ⟨S8192x1024, .bf16⟩
  | _, _ => ⟨S2x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel2.lean ====
abbrev S2x4096x2048 : Shape := ⟨3, ![2, 4096, 2048]⟩
abbrev S2048 : Shape := ⟨1, ![2048]⟩
abbrev S2048x5504 : Shape := ⟨2, ![2048, 5504]⟩
abbrev S3x5504 : Shape := ⟨2, ![3, 5504]⟩
abbrev S5504 : Shape := ⟨1, ![5504]⟩
abbrev S5504x2048 : Shape := ⟨2, ![5504, 2048]⟩
abbrev S_ : Shape := ⟨0, ![]⟩
abbrev S2048x5632 : Shape := ⟨2, ![2048, 5632]⟩
abbrev S3x5632 : Shape := ⟨2, ![3, 5632]⟩
abbrev S5632 : Shape := ⟨1, ![5632]⟩
abbrev S5632x2048 : Shape := ⟨2, ![5632, 2048]⟩
abbrev S8192x2048 : Shape := ⟨2, ![8192, 2048]⟩
abbrev S1x2048 : Shape := ⟨2, ![1, 2048]⟩
abbrev S1x5632 : Shape := ⟨2, ![1, 5632]⟩
abbrev S16x8x5632 : Shape := ⟨3, ![16, 8, 5632]⟩
abbrev S512x2048 : Shape := ⟨2, ![512, 2048]⟩
abbrev S2048x512 : Shape := ⟨2, ![2048, 512]⟩
abbrev S3x512 : Shape := ⟨2, ![3, 512]⟩
abbrev S1x512 : Shape := ⟨2, ![1, 512]⟩
abbrev S1x8x512 : Shape := ⟨3, ![1, 8, 512]⟩
abbrev S11x8x512 : Shape := ⟨3, ![11, 8, 512]⟩
abbrev S512 : Shape := ⟨1, ![512]⟩
abbrev S512x1 : Shape := ⟨2, ![512, 1]⟩
abbrev S8x512 : Shape := ⟨2, ![8, 512]⟩
abbrev S2048x256 : Shape := ⟨2, ![2048, 256]⟩
abbrev S512x256 : Shape := ⟨2, ![512, 256]⟩
abbrev S1x8x256 : Shape := ⟨3, ![1, 8, 256]⟩
abbrev S8x256 : Shape := ⟨2, ![8, 256]⟩
abbrev S1x256 : Shape := ⟨2, ![1, 256]⟩
abbrev S256x2048 : Shape := ⟨2, ![256, 2048]⟩
abbrev S2x8x8x5632 : Shape := ⟨4, ![2, 8, 8, 5632]⟩
abbrev S2x1x2x5504 : Shape := ⟨4, ![2, 1, 2, 5504]⟩
abbrev S2x2x5504 : Shape := ⟨3, ![2, 2, 5504]⟩

abbrev nBuf : Space → Nat
  | .hbm => 34
  | .vmem => 20
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S3x5504, .f32⟩
  | .hbm, ⟨5, _⟩ => ⟨S5504, .f32⟩
  | .hbm, ⟨6, _⟩ => ⟨S5504x2048, .f32⟩
  | .hbm, ⟨7, _⟩ => ⟨S_, .i32⟩
  | .hbm, ⟨8, _⟩ => ⟨S_, .f32⟩
  | .hbm, ⟨9, _⟩ => ⟨S2048x5632, .f32⟩
  | .hbm, ⟨10, _⟩ => ⟨S2048x5632, .bf16⟩
  | .hbm, ⟨11, _⟩ => ⟨S_, .i32⟩
  | .hbm, ⟨12, _⟩ => ⟨S_, .f32⟩
  | .hbm, ⟨13, _⟩ => ⟨S2048x5632, .f32⟩
  | .hbm, ⟨14, _⟩ => ⟨S2048x5632, .bf16⟩
  | .hbm, ⟨15, _⟩ => ⟨S_, .i32⟩
  | .hbm, ⟨16, _⟩ => ⟨S_, .f32⟩
  | .hbm, ⟨17, _⟩ => ⟨S3x5632, .f32⟩
  | .hbm, ⟨18, _⟩ => ⟨S_, .i32⟩
  | .hbm, ⟨19, _⟩ => ⟨S_, .f32⟩
  | .hbm, ⟨20, _⟩ => ⟨S5632, .f32⟩
  | .hbm, ⟨21, _⟩ => ⟨S_, .i32⟩
  | .hbm, ⟨22, _⟩ => ⟨S_, .f32⟩
  | .hbm, ⟨23, _⟩ => ⟨S5632x2048, .f32⟩
  | .hbm, ⟨24, _⟩ => ⟨S5632x2048, .bf16⟩
  | .hbm, ⟨25, _⟩ => ⟨S8192x2048, .f32⟩
  | .hbm, ⟨26, _⟩ => ⟨S1x2048, .f32⟩
  | .hbm, ⟨27, _⟩ => ⟨S1x5632, .f32⟩
  | .hbm, ⟨28, _⟩ => ⟨S8192x2048, .f32⟩
  | .hbm, ⟨29, _⟩ => ⟨S16x8x5632, .f32⟩
  | .hbm, ⟨30, _⟩ => ⟨S2x8x8x5632, .f32⟩
  | .hbm, ⟨31, _⟩ => ⟨S2x1x2x5504, .f32⟩
  | .hbm, ⟨32, _⟩ => ⟨S2x2x5504, .f32⟩
  | .hbm, ⟨33, _⟩ => ⟨S2x4096x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S3x512, .f32⟩
  | .local _ .vmem, ⟨8, _⟩ => ⟨S3x512, .f32⟩
  | .local _ .vmem, ⟨9, _⟩ => ⟨S1x512, .f32⟩
  | .local _ .vmem, ⟨10, _⟩ => ⟨S1x512, .f32⟩
  | .local _ .vmem, ⟨11, _⟩ => ⟨S512x2048, .bf16⟩
  | .local _ .vmem, ⟨12, _⟩ => ⟨S512x2048, .bf16⟩
  | .local _ .vmem, ⟨13, _⟩ => ⟨S512x2048, .f32⟩
  | .local _ .vmem, ⟨14, _⟩ => ⟨S512x2048, .f32⟩
  | .local _ .vmem, ⟨15, _⟩ => ⟨S1x8x512, .f32⟩
  | .local _ .vmem, ⟨16, _⟩ => ⟨S1x8x512, .f32⟩
  | .local _ .vmem, ⟨17, _⟩ => ⟨S512x2048, .bf16⟩
  | .local _ .vmem, ⟨18, _⟩ => ⟨S512x2048, .f32⟩
  | .local _ .vmem, ⟨19, _⟩ => ⟨S11x8x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_call2_v0 : Ref sig .tc := ⟨.hbm, 16, rfl⟩
abbrev main_v4 : Ref sig .tc := ⟨.hbm, 17, rfl⟩
abbrev main_c_2 : Ref sig .tc := ⟨.hbm, 18, rfl⟩
abbrev main_call3_v0 : Ref sig .tc := ⟨.hbm, 19, rfl⟩
abbrev main_v5 : Ref sig .tc := ⟨.hbm, 20, rfl⟩
abbrev main_c_3 : Ref sig .tc := ⟨.hbm, 21, rfl⟩
abbrev main_call4_v0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11_0 : Ref sig .tc := ⟨.hbm, 28, rfl⟩
abbrev main_v11_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg0 : BitVec 32 := BitVec.ofNat 32 (i 0).val
  let c8_i32 : BitVec 32 := 8#32
  let c0_i32_1 : BitVec 32 := 0#32
  let v3 : BitVec 1 := Scalar.cmpi .eq c8_i32 c0_i32_1
  let c1_i32 : BitVec 32 := 1#32
  let v4 : BitVec 32 := Scalar.select v3 c1_i32 c8_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_off1 (i : grid0.Coords) : Fin 3 → Nat :=
  let arg1 : BitVec 32 := BitVec.ofNat 32 (i 1).val
  let v166 : Index := Scalar.indexCast arg1
  let c0_73 : Index := 0#32
  let c0_74 : Index := 0#32
  ![v166.toNat, 0, 0]
def k0_off2 (i : grid0.Coords) : Fin 3 → Nat :=
  let arg1 : BitVec 32 := BitVec.ofNat 32 (i 1).val
  let v30 : Index := Scalar.indexCast arg1
  let c0_18 : Index := 0#32
  let c0_19 : Index := 0#32
  ![v30.toNat, 0, 0]
def k0_off3 (i : grid0.Coords) : Fin 3 → Nat :=
  let arg1 : BitVec 32 := BitVec.ofNat 32 (i 1).val
  let v93 : Index := Scalar.indexCast arg1
  let c0_41 : Index := 0#32
  let c256_42 : Index := 256#32
  ![v93.toNat, 0, 256]
def k0_cond3 (i : grid0.Coords) : BitVec 1 :=
  let arg1 : BitVec 32 := BitVec.ofNat 32 (i 1).val
  let c10_i32 : BitVec 32 := 10#32
  let v162 : BitVec 1 := Scalar.cmpi .eq arg1 c10_i32
  let v163 : BitVec 32 := Scalar.extui v162
  let c0_i32_71 : BitVec 32 := 0#32
  let v164 : BitVec 1 := Scalar.cmpi .ne v163 c0_i32_71
  v164

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S2x4096x2048 : Shape := ⟨3, ![2, 4096, 2048]⟩
abbrev S2048 : Shape := ⟨1, ![2048]⟩
abbrev S2048x5504 : Shape := ⟨2, ![2048, 5504]⟩
abbrev S3x5504 : Shape := ⟨2, ![3, 5504]⟩
abbrev S5504 : Shape := ⟨1, ![5504]⟩
abbrev S5504x2048 : Shape := ⟨2, ![5504, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x5504 : Shape := ⟨3, ![2, 4096, 5504]⟩
abbrev S2x2x5504 : Shape := ⟨3, ![2, 2, 5504]⟩
abbrev S2x4098x5504 : Shape := ⟨3, ![2, 4098, 5504]⟩
abbrev S1x5504 : Shape := ⟨2, ![1, 5504]⟩
abbrev S1x1x5504 : Shape := ⟨3, ![1, 1, 5504]⟩

abbrev nBuf : Space → Nat
  | .hbm => 67
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S3x5504, .f32⟩
  | .hbm, ⟨5, _⟩ => ⟨S5504, .f32⟩
  | .hbm, ⟨6, _⟩ => ⟨S5504x2048, .f32⟩
  | .hbm, ⟨7, _⟩ => ⟨S2x4096x2048, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x2048, .f32⟩
  | .hbm, ⟨19, _⟩ => ⟨S2x4096x2048, .f32⟩
  | .hbm, ⟨20, _⟩ => ⟨S1x1x2048, .f32⟩
  | .hbm, ⟨21, _⟩ => ⟨S2x4096x2048, .f32⟩
  | .hbm, ⟨22, _⟩ => ⟨S2x4096x2048, .f32⟩
  | .hbm, ⟨23, _⟩ => ⟨S2x4096x5504, .f32⟩
  | .hbm, ⟨24, _⟩ => ⟨S2x4096x5504, .f32⟩
  | .hbm, ⟨25, _⟩ => ⟨S_, .f32⟩
  | .hbm, ⟨26, _⟩ => ⟨S2x2x5504, .f32⟩
  | .hbm, ⟨27, _⟩ => ⟨S2x4098x5504, .f32⟩
  | .hbm, ⟨28, _⟩ => ⟨S1x5504, .f32⟩
  | .hbm, ⟨29, _⟩ => ⟨S5504, .f32⟩
  | .hbm, ⟨30, _⟩ => ⟨S2x4096x5504, .f32⟩
  | .hbm, ⟨31, _⟩ => ⟨S1x1x5504, .f32⟩
  | .hbm, ⟨32, _⟩ => ⟨S2x4096x5504, .f32⟩
  | .hbm, ⟨33, _⟩ => ⟨S2x4096x5504, .f32⟩
  | .hbm, ⟨34, _⟩ => ⟨S_, .f32⟩
  | .hbm, ⟨35, _⟩ => ⟨S2x4096x5504, .f32⟩
  | .hbm, ⟨36, _⟩ => ⟨S2x4096x5504, .f32⟩
  | .hbm, ⟨37, _⟩ => ⟨S1x5504, .f32⟩
  | .hbm, ⟨38, _⟩ => ⟨S5504, .f32⟩
  | .hbm, ⟨39, _⟩ => ⟨S2x4096x5504, .f32⟩
  | .hbm, ⟨40, _⟩ => ⟨S1x1x5504, .f32⟩
  | .hbm, ⟨41, _⟩ => ⟨S2x4096x5504, .f32⟩
  | .hbm, ⟨42, _⟩ => ⟨S2x4096x5504, .f32⟩
  | .hbm, ⟨43, _⟩ => ⟨S2x4096x5504, .f32⟩
  | .hbm, ⟨44, _⟩ => ⟨S1x5504, .f32⟩
  | .hbm, ⟨45, _⟩ => ⟨S5504, .f32⟩
  | .hbm, ⟨46, _⟩ => ⟨S2x4096x5504, .f32⟩
  | .hbm, ⟨47, _⟩ => ⟨S1x1x5504, .f32⟩
  | .hbm, ⟨48, _⟩ => ⟨S2x4096x5504, .f32⟩
  | .hbm, ⟨49, _⟩ => ⟨S2x4096x5504, .f32⟩
  | .hbm, ⟨50, _⟩ => ⟨S2x4096x5504, .f32⟩
  | .hbm, ⟨51, _⟩ => ⟨S1x1x5504, .f32⟩
  | .hbm, ⟨52, _⟩ => ⟨S2x4096x5504, .f32⟩
  | .hbm, ⟨53, _⟩ => ⟨S2x4096x5504, .f32⟩
  | .hbm, ⟨54, _⟩ => ⟨S2x4096x5504, .f32⟩
  | .hbm, ⟨55, _⟩ => ⟨S2x4096x5504, .f32⟩
  | .hbm, ⟨56, _⟩ => ⟨S_, .f32⟩
  | .hbm, ⟨57, _⟩ => ⟨S2x4096x5504, .f32⟩
  | .hbm, ⟨58, _⟩ => ⟨S2x4096x5504, .f32⟩
  | .hbm, ⟨59, _⟩ => ⟨S_, .f32⟩
  | .hbm, ⟨60, _⟩ => ⟨S2x4096x5504, .f32⟩
  | .hbm, ⟨61, _⟩ => ⟨S2x4096x5504, .f32⟩
  | .hbm, ⟨62, _⟩ => ⟨S2x4096x5504, .f32⟩
  | .hbm, ⟨63, _⟩ => ⟨S2x4096x5504, .f32⟩
  | .hbm, ⟨64, _⟩ => ⟨S2x4096x2048, .f32⟩
  | .hbm, ⟨65, _⟩ => ⟨S2x4096x2048, .f32⟩
  | .hbm, ⟨66, _⟩ => ⟨S2x2x5504, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== Kernel3.lean ====
abbrev S2x4096x8x128 : Shape := ⟨4, ![2, 4096, 8, 128]⟩
abbrev S2x4096x2048 : Shape := ⟨3, ![2, 4096, 2048]⟩
abbrev S2048x2048 : Shape := ⟨2, ![2048, 2048]⟩
abbrev S8192x1024 : Shape := ⟨2, ![8192, 1024]⟩
abbrev S8192x2048 : Shape := ⟨2, ![8192, 2048]⟩
abbrev S512x1024 : Shape := ⟨2, ![512, 1024]⟩
abbrev S2048x512 : Shape := ⟨2, ![2048, 512]⟩
abbrev S512x512 : Shape := ⟨2, ![512, 512]⟩
abbrev S1024x512 : Shape := ⟨2, ![1024, 512]⟩

abbrev nBuf : Space → Nat
  | .hbm => 11
  | .vmem => 10
  | .smem => 0
  | _ => 0

abbrev bufTy : (tb : Table) → Fin (tcTables nBuf tb) → BufTy
  | .hbm, ⟨0, _⟩ => ⟨S2x4096x8x128, .f32⟩
  | .hbm, ⟨1, _⟩ => ⟨S2x4096x8x128, .f32⟩
  | .hbm, ⟨2, _⟩ => ⟨S2x4096x2048, .f32⟩
  | .hbm, ⟨3, _⟩ => ⟨S2048x2048, .f32⟩
  | .hbm, ⟨4, _⟩ => ⟨S8192x1024, .f32⟩
  | .hbm, ⟨5, _⟩ => ⟨S8192x1024, .bf16⟩
  | .hbm, ⟨6, _⟩ => ⟨S8192x1024, .f32⟩
  | .hbm, ⟨7, _⟩ => ⟨S8192x1024, .bf16⟩
  | .hbm, ⟨8, _⟩ => ⟨S2048x2048, .bf16⟩
  | .hbm, ⟨9, _⟩ => ⟨S8192x2048, .f32⟩
  | .hbm, ⟨10, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .bf16⟩
  | .local _ .vmem, ⟨5, _⟩ => ⟨S2048x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | _, _ => ⟨S2x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S2x4096x8x128 : Shape := ⟨4, ![2, 4096, 8, 128]⟩
abbrev S2x4096x2048 : Shape := ⟨3, ![2, 4096, 2048]⟩
abbrev S2048x2048 : Shape := ⟨2, ![2048, 2048]⟩
abbrev S2x4096x1024 : Shape := ⟨3, ![2, 4096, 1024]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2x4096x8x128, .f32⟩
  | .hbm, ⟨1, _⟩ => ⟨S2x4096x8x128, .f32⟩
  | .hbm, ⟨2, _⟩ => ⟨S2x4096x2048, .f32⟩
  | .hbm, ⟨3, _⟩ => ⟨S2048x2048, .f32⟩
  | .hbm, ⟨4, _⟩ => ⟨S2x4096x1024, .f32⟩
  | .hbm, ⟨5, _⟩ => ⟨S2x4096x1024, .f32⟩
  | .hbm, ⟨6, _⟩ => ⟨S2x4096x2048, .f32⟩
  | .hbm, ⟨7, _⟩ => ⟨S2x4096x2048, .f32⟩
  | .hbm, ⟨8, _⟩ => ⟨S2x4096x2048, .f32⟩
  | .hbm, ⟨9, _⟩ => ⟨S8192x2048, .f32⟩
  | _, _ => ⟨S2x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel4.lean ====
abbrev S2x4096x2048 : Shape := ⟨3, ![2, 4096, 2048]⟩
abbrev S2048 : Shape := ⟨1, ![2048]⟩
abbrev S2048x5720 : Shape := ⟨2, ![2048, 5720]⟩
abbrev S128 : Shape := ⟨1, ![128]⟩
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048x1024 : Shape := ⟨2, ![2048, 1024]⟩
abbrev S2048x256 : Shape := ⟨2, ![2048, 256]⟩
abbrev S2048x5632 : Shape := ⟨2, ![2048, 5632]⟩
abbrev S1x128 : Shape := ⟨2, ![1, 128]⟩
abbrev S8x128 : Shape := ⟨2, ![8, 128]⟩
abbrev S1024 : Shape := ⟨1, ![1024]⟩
abbrev S1x1024 : Shape := ⟨2, ![1, 1024]⟩
abbrev S8192x1024 : Shape := ⟨2, ![8192, 1024]⟩
abbrev S2048x512 : Shape := ⟨2, ![2048, 512]⟩
abbrev S1x512 : Shape := ⟨2, ![1, 512]⟩
abbrev S512x512 : Shape := ⟨2, ![512, 512]⟩
abbrev S512x256 : Shape := ⟨2, ![512, 256]⟩
abbrev S512x128 : Shape := ⟨2, ![512, 128]⟩
abbrev S8192x256 : Shape := ⟨2, ![8192, 256]⟩
abbrev S2x4096x8x128 : Shape := ⟨4, ![2, 4096, 8, 128]⟩
abbrev S2x4096x2x128 : Shape := ⟨4, ![2, 4096, 2, 128]⟩

abbrev nBuf : Space → Nat
  | .hbm => 36
  | .vmem => 38
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x5720, .f32⟩
  | .hbm, ⟨3, _⟩ => ⟨S128, .f32⟩
  | .hbm, ⟨4, _⟩ => ⟨S128, .f32⟩
  | .hbm, ⟨5, _⟩ => ⟨S8192x2048, .f32⟩
  | .hbm, ⟨6, _⟩ => ⟨S1x2048, .f32⟩
  | .hbm, ⟨7, _⟩ => ⟨S8192x2048, .bf16⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x256, .f32⟩
  | .hbm, ⟨13, _⟩ => ⟨S2048x256, .f32⟩
  | .hbm, ⟨14, _⟩ => ⟨S2048x1024, .f32⟩
  | .hbm, ⟨15, _⟩ => ⟨S2048x5632, .f32⟩
  | .hbm, ⟨16, _⟩ => ⟨S2048x5632, .bf16⟩
  | .hbm, ⟨17, _⟩ => ⟨S1x128, .f32⟩
  | .hbm, ⟨18, _⟩ => ⟨S8x128, .f32⟩
  | .hbm, ⟨19, _⟩ => ⟨S1024, .f32⟩
  | .hbm, ⟨20, _⟩ => ⟨S1x1024, .f32⟩
  | .hbm, ⟨21, _⟩ => ⟨S8192x1024, .bf16⟩
  | .hbm, ⟨22, _⟩ => ⟨S1x128, .f32⟩
  | .hbm, ⟨23, _⟩ => ⟨S8x128, .f32⟩
  | .hbm, ⟨24, _⟩ => ⟨S1024, .f32⟩
  | .hbm, ⟨25, _⟩ => ⟨S1x1024, .f32⟩
  | .hbm, ⟨26, _⟩ => ⟨S8192x1024, .f32⟩
  | .hbm, ⟨27, _⟩ => ⟨S8192x1024, .bf16⟩
  | .hbm, ⟨28, _⟩ => ⟨S8192x1024, .f32⟩
  | .hbm, ⟨29, _⟩ => ⟨S8192x1024, .bf16⟩
  | .hbm, ⟨30, _⟩ => ⟨S8192x256, .f32⟩
  | .hbm, ⟨31, _⟩ => ⟨S8192x256, .bf16⟩
  | .hbm, ⟨32, _⟩ => ⟨S2x4096x8x128, .bf16⟩
  | .hbm, ⟨33, _⟩ => ⟨S2x4096x8x128, .f32⟩
  | .hbm, ⟨34, _⟩ => ⟨S2x4096x8x128, .f32⟩
  | .hbm, ⟨35, _⟩ => ⟨S2x4096x2x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S2048x512, .bf16⟩
  | .local _ .vmem, ⟨8, _⟩ => ⟨S2048x512, .bf16⟩
  | .local _ .vmem, ⟨9, _⟩ => ⟨S1x512, .f32⟩
  | .local _ .vmem, ⟨10, _⟩ => ⟨S1x512, .f32⟩
  | .local _ .vmem, ⟨11, _⟩ => ⟨S512x512, .bf16⟩
  | .local _ .vmem, ⟨12, _⟩ => ⟨S512x512, .bf16⟩
  | .local _ .vmem, ⟨13, _⟩ => ⟨S512x2048, .bf16⟩
  | .local _ .vmem, ⟨14, _⟩ => ⟨S512x2048, .bf16⟩
  | .local _ .vmem, ⟨15, _⟩ => ⟨S2048x512, .bf16⟩
  | .local _ .vmem, ⟨16, _⟩ => ⟨S2048x512, .bf16⟩
  | .local _ .vmem, ⟨17, _⟩ => ⟨S1x512, .f32⟩
  | .local _ .vmem, ⟨18, _⟩ => ⟨S1x512, .f32⟩
  | .local _ .vmem, ⟨19, _⟩ => ⟨S512x512, .f32⟩
  | .local _ .vmem, ⟨20, _⟩ => ⟨S512x512, .f32⟩
  | .local _ .vmem, ⟨21, _⟩ => ⟨S512x512, .bf16⟩
  | .local _ .vmem, ⟨22, _⟩ => ⟨S512x512, .bf16⟩
  | .local _ .vmem, ⟨23, _⟩ => ⟨S512x2048, .bf16⟩
  | .local _ .vmem, ⟨24, _⟩ => ⟨S512x2048, .bf16⟩
  | .local _ .vmem, ⟨25, _⟩ => ⟨S2048x512, .bf16⟩
  | .local _ .vmem, ⟨26, _⟩ => ⟨S2048x512, .bf16⟩
  | .local _ .vmem, ⟨27, _⟩ => ⟨S512x512, .f32⟩
  | .local _ .vmem, ⟨28, _⟩ => ⟨S512x512, .f32⟩
  | .local _ .vmem, ⟨29, _⟩ => ⟨S512x512, .bf16⟩
  | .local _ .vmem, ⟨30, _⟩ => ⟨S512x512, .bf16⟩
  | .local _ .vmem, ⟨31, _⟩ => ⟨S512x2048, .bf16⟩
  | .local _ .vmem, ⟨32, _⟩ => ⟨S512x2048, .bf16⟩
  | .local _ .vmem, ⟨33, _⟩ => ⟨S2048x256, .bf16⟩
  | .local _ .vmem, ⟨34, _⟩ => ⟨S512x256, .f32⟩
  | .local _ .vmem, ⟨35, _⟩ => ⟨S512x256, .f32⟩
  | .local _ .vmem, ⟨36, _⟩ => ⟨S512x256, .bf16⟩
  | .local _ .vmem, ⟨37, _⟩ => ⟨S512x256, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21_0 : Ref sig .tc := ⟨.hbm, 26, rfl⟩
abbrev main_v21_1 : Ref sig .tc := ⟨.hbm, 27, rfl⟩
abbrev main_v22_0 : Ref sig .tc := ⟨.hbm, 28, rfl⟩
abbrev main_v22_1 : Ref sig .tc := ⟨.hbm, 29, rfl⟩
abbrev main_v23_0 : Ref sig .tc := ⟨.hbm, 30, rfl⟩
abbrev main_v23_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem3_1 : DmaSem sig := 30
abbrev cc4_sem0_0 : DmaSem sig := 31
abbrev cc4_sem0_1 : DmaSem sig := 32
abbrev cc4_sem1_0 : DmaSem sig := 33
abbrev cc4_sem2_0 : DmaSem sig := 34
abbrev cc4_sem2_1 : DmaSem sig := 35
abbrev cc4_sem3_0 : DmaSem sig := 36
abbrev cc4_sem3_1 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![16, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![16, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![16, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  let c0_i32_0 : BitVec 32 := 0#32
  ![c0_i32.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S2048x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S512x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S512x256 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]
-- ==== Reference4Ideal.lean ====
abbrev S2x4096x2048 : Shape := ⟨3, ![2, 4096, 2048]⟩
abbrev S2048 : Shape := ⟨1, ![2048]⟩
abbrev S2048x5720 : Shape := ⟨2, ![2048, 5720]⟩
abbrev S128 : Shape := ⟨1, ![128]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x5720 : Shape := ⟨3, ![2, 4096, 5720]⟩
abbrev S2x4096x1024 : Shape := ⟨3, ![2, 4096, 1024]⟩
abbrev S2x4096x8 : Shape := ⟨3, ![2, 4096, 8]⟩
abbrev S2x4096x256 : Shape := ⟨3, ![2, 4096, 256]⟩
abbrev S2x4096x64 : Shape := ⟨3, ![2, 4096, 64]⟩
abbrev S2x4096x16 : Shape := ⟨3, ![2, 4096, 16]⟩
abbrev S2x4096x8x128 : Shape := ⟨4, ![2, 4096, 8, 128]⟩
abbrev S2x4096x8x1 : Shape := ⟨4, ![2, 4096, 8, 1]⟩
abbrev S1x1x1x128 : Shape := ⟨4, ![1, 1, 1, 128]⟩
abbrev S2x4096x2x128 : Shape := ⟨4, ![2, 4096, 2, 128]⟩

abbrev nBuf : Space → Nat
  | .hbm => 69
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x5720, .f32⟩
  | .hbm, ⟨3, _⟩ => ⟨S128, .f32⟩
  | .hbm, ⟨4, _⟩ => ⟨S128, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S2x4096x5720, .f32⟩
  | .hbm, ⟨22, _⟩ => ⟨S2x4096x1024, .f32⟩
  | .hbm, ⟨23, _⟩ => ⟨S2x4096x1024, .f32⟩
  | .hbm, ⟨24, _⟩ => ⟨S2x4096x1024, .f32⟩
  | .hbm, ⟨25, _⟩ => ⟨S2x4096x8, .f32⟩
  | .hbm, ⟨26, _⟩ => ⟨S2x4096x1024, .f32⟩
  | .hbm, ⟨27, _⟩ => ⟨S2x4096x256, .f32⟩
  | .hbm, ⟨28, _⟩ => ⟨S2x4096x256, .f32⟩
  | .hbm, ⟨29, _⟩ => ⟨S2x4096x1024, .f32⟩
  | .hbm, ⟨30, _⟩ => ⟨S2x4096x64, .f32⟩
  | .hbm, ⟨31, _⟩ => ⟨S2x4096x16, .f32⟩
  | .hbm, ⟨32, _⟩ => ⟨S2x4096x8x128, .f32⟩
  | .hbm, ⟨33, _⟩ => ⟨S2x4096x8x128, .f32⟩
  | .hbm, ⟨34, _⟩ => ⟨S_, .f32⟩
  | .hbm, ⟨35, _⟩ => ⟨S2x4096x8, .f32⟩
  | .hbm, ⟨36, _⟩ => ⟨S2x4096x8x1, .f32⟩
  | .hbm, ⟨37, _⟩ => ⟨S_, .f32⟩
  | .hbm, ⟨38, _⟩ => ⟨S2x4096x8x1, .f32⟩
  | .hbm, ⟨39, _⟩ => ⟨S2x4096x8x1, .f32⟩
  | .hbm, ⟨40, _⟩ => ⟨S_, .f32⟩
  | .hbm, ⟨41, _⟩ => ⟨S2x4096x8x1, .f32⟩
  | .hbm, ⟨42, _⟩ => ⟨S2x4096x8x1, .f32⟩
  | .hbm, ⟨43, _⟩ => ⟨S2x4096x8x1, .f32⟩
  | .hbm, ⟨44, _⟩ => ⟨S2x4096x8x128, .f32⟩
  | .hbm, ⟨45, _⟩ => ⟨S2x4096x8x128, .f32⟩
  | .hbm, ⟨46, _⟩ => ⟨S1x1x1x128, .f32⟩
  | .hbm, ⟨47, _⟩ => ⟨S2x4096x8x128, .f32⟩
  | .hbm, ⟨48, _⟩ => ⟨S2x4096x8x128, .f32⟩
  | .hbm, ⟨49, _⟩ => ⟨S2x4096x8x128, .bf16⟩
  | .hbm, ⟨50, _⟩ => ⟨S2x4096x8x128, .f32⟩
  | .hbm, ⟨51, _⟩ => ⟨S2x4096x8x128, .f32⟩
  | .hbm, ⟨52, _⟩ => ⟨S_, .f32⟩
  | .hbm, ⟨53, _⟩ => ⟨S2x4096x8, .f32⟩
  | .hbm, ⟨54, _⟩ => ⟨S2x4096x8x1, .f32⟩
  | .hbm, ⟨55, _⟩ => ⟨S_, .f32⟩
  | .hbm, ⟨56, _⟩ => ⟨S2x4096x8x1, .f32⟩
  | .hbm, ⟨57, _⟩ => ⟨S2x4096x8x1, .f32⟩
  | .hbm, ⟨58, _⟩ => ⟨S_, .f32⟩
  | .hbm, ⟨59, _⟩ => ⟨S2x4096x8x1, .f32⟩
  | .hbm, ⟨60, _⟩ => ⟨S2x4096x8x1, .f32⟩
  | .hbm, ⟨61, _⟩ => ⟨S2x4096x8x1, .f32⟩
  | .hbm, ⟨62, _⟩ => ⟨S2x4096x8x128, .f32⟩
  | .hbm, ⟨63, _⟩ => ⟨S2x4096x8x128, .f32⟩
  | .hbm, ⟨64, _⟩ => ⟨S1x1x1x128, .f32⟩
  | .hbm, ⟨65, _⟩ => ⟨S2x4096x8x128, .f32⟩
  | .hbm, ⟨66, _⟩ => ⟨S2x4096x8x128, .f32⟩
  | .hbm, ⟨67, _⟩ => ⟨S2x4096x8x128, .f32⟩
  | .hbm, ⟨68, _⟩ => ⟨S2x4096x2x128, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== Kernel5.lean ====
abbrev S2x4096x2048 : Shape := ⟨3, ![2, 4096, 2048]⟩
abbrev S2048 : Shape := ⟨1, ![2048]⟩
abbrev S2048x5720 : Shape := ⟨2, ![2048, 5720]⟩
abbrev S128 : Shape := ⟨1, ![128]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S1x4096x1x128 : Shape := ⟨4, ![1, 4096, 1, 128]⟩
abbrev S32 : Shape := ⟨1, ![32]⟩
abbrev S1x32 : Shape := ⟨2, ![1, 32]⟩
abbrev S4096x32 : Shape := ⟨2, ![4096, 32]⟩
abbrev S1x4096x1x64 : Shape := ⟨4, ![1, 4096, 1, 64]⟩
abbrev S1x4096x2x64 : Shape := ⟨4, ![1, 4096, 2, 64]⟩
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048x1024 : Shape := ⟨2, ![2048, 1024]⟩
abbrev S2048x256 : Shape := ⟨2, ![2048, 256]⟩
abbrev S2048x5632 : Shape := ⟨2, ![2048, 5632]⟩
abbrev S1x128 : Shape := ⟨2, ![1, 128]⟩
abbrev S8x128 : Shape := ⟨2, ![8, 128]⟩
abbrev S1024 : Shape := ⟨1, ![1024]⟩
abbrev S1x1024 : Shape := ⟨2, ![1, 1024]⟩
abbrev S8192x1024 : Shape := ⟨2, ![8192, 1024]⟩
abbrev S2048x512 : Shape := ⟨2, ![2048, 512]⟩
abbrev S1x512 : Shape := ⟨2, ![1, 512]⟩
abbrev S512x128 : Shape := ⟨2, ![512, 128]⟩
abbrev S512x512 : Shape := ⟨2, ![512, 512]⟩
abbrev S512x256 : Shape := ⟨2, ![512, 256]⟩
abbrev S2x128 : Shape := ⟨2, ![2, 128]⟩
abbrev S256 : Shape := ⟨1, ![256]⟩
abbrev S1x256 : Shape := ⟨2, ![1, 256]⟩
abbrev S8192x256 : Shape := ⟨2, ![8192, 256]⟩
abbrev S2x4096x8x128 : Shape := ⟨4, ![2, 4096, 8, 128]⟩
abbrev S2x4096x2x128 : Shape := ⟨4, ![2, 4096, 2, 128]⟩
abbrev S2x4096x16x64 : Shape := ⟨4, ![2, 4096, 16, 64]⟩

abbrev nBuf : Space → Nat
  | .hbm => 87
  | .vmem => 39
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x5720, .f32⟩
  | .hbm, ⟨3, _⟩ => ⟨S128, .f32⟩
  | .hbm, ⟨4, _⟩ => ⟨S128, .f32⟩
  | .hbm, ⟨5, _⟩ => ⟨S4096, .i32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S4096, .f32⟩
  | .hbm, ⟨15, _⟩ => ⟨S4096x1, .f32⟩
  | .hbm, ⟨16, _⟩ => ⟨S1x64, .f32⟩
  | .hbm, ⟨17, _⟩ => ⟨S4096x64, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S4096x64, .f32⟩
  | .hbm, ⟨22, _⟩ => ⟨S4096x128, .f32⟩
  | .hbm, ⟨23, _⟩ => ⟨S1x4096x1x128, .f32⟩
  | .hbm, ⟨24, _⟩ => ⟨S1x4096x1x128, .f32⟩
  | .hbm, ⟨25, _⟩ => ⟨S4096x128, .f32⟩
  | .hbm, ⟨26, _⟩ => ⟨S4096x64, .f32⟩
  | .hbm, ⟨27, _⟩ => ⟨S4096x64, .f32⟩
  | .hbm, ⟨28, _⟩ => ⟨S4096x64, .f32⟩
  | .hbm, ⟨29, _⟩ => ⟨S4096x128, .f32⟩
  | .hbm, ⟨30, _⟩ => ⟨S1x4096x1x128, .f32⟩
  | .hbm, ⟨31, _⟩ => ⟨S1x4096x1x128, .f32⟩
  | .hbm, ⟨32, _⟩ => ⟨S4096x128, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S4096, .f32⟩
  | .hbm, ⟨42, _⟩ => ⟨S4096x1, .f32⟩
  | .hbm, ⟨43, _⟩ => ⟨S1x32, .f32⟩
  | .hbm, ⟨44, _⟩ => ⟨S4096x32, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S4096x64, .f32⟩
  | .hbm, ⟨50, _⟩ => ⟨S1x4096x1x64, .f32⟩
  | .hbm, ⟨51, _⟩ => ⟨S1x4096x2x64, .f32⟩
  | .hbm, ⟨52, _⟩ => ⟨S4096x128, .f32⟩
  | .hbm, ⟨53, _⟩ => ⟨S4096x32, .f32⟩
  | .hbm, ⟨54, _⟩ => ⟨S4096x32, .f32⟩
  | .hbm, ⟨55, _⟩ => ⟨S4096x32, .f32⟩
  | .hbm, ⟨56, _⟩ => ⟨S4096x64, .f32⟩
  | .hbm, ⟨57, _⟩ => ⟨S1x4096x1x64, .f32⟩
  | .hbm, ⟨58, _⟩ => ⟨S1x4096x2x64, .f32⟩
  | .hbm, ⟨59, _⟩ => ⟨S4096x128, .f32⟩
  | .hbm, ⟨60, _⟩ => ⟨S8192x2048, .f32⟩
  | .hbm, ⟨61, _⟩ => ⟨S1x2048, .f32⟩
  | .hbm, ⟨62, _⟩ => ⟨S8192x2048, .bf16⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x256, .f32⟩
  | .hbm, ⟨68, _⟩ => ⟨S2048x256, .f32⟩
  | .hbm, ⟨69, _⟩ => ⟨S2048x1024, .f32⟩
  | .hbm, ⟨70, _⟩ => ⟨S2048x5632, .f32⟩
  | .hbm, ⟨71, _⟩ => ⟨S2048x5632, .bf16⟩
  | .hbm, ⟨72, _⟩ => ⟨S1x128, .f32⟩
  | .hbm, ⟨73, _⟩ => ⟨S8x128, .f32⟩
  | .hbm, ⟨74, _⟩ => ⟨S1024, .f32⟩
  | .hbm, ⟨75, _⟩ => ⟨S1x1024, .f32⟩
  | .hbm, ⟨76, _⟩ => ⟨S8192x1024, .bf16⟩
  | .hbm, ⟨77, _⟩ => ⟨S1x128, .f32⟩
  | .hbm, ⟨78, _⟩ => ⟨S2x128, .f32⟩
  | .hbm, ⟨79, _⟩ => ⟨S256, .f32⟩
  | .hbm, ⟨80, _⟩ => ⟨S1x256, .f32⟩
  | .hbm, ⟨81, _⟩ => ⟨S8192x256, .f32⟩
  | .hbm, ⟨82, _⟩ => ⟨S8192x256, .bf16⟩
  | .hbm, ⟨83, _⟩ => ⟨S8192x1024, .bf16⟩
  | .hbm, ⟨84, _⟩ => ⟨S2x4096x8x128, .bf16⟩
  | .hbm, ⟨85, _⟩ => ⟨S2x4096x2x128, .f32⟩
  | .hbm, ⟨86, _⟩ => ⟨S2x4096x16x64, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S2048x512, .bf16⟩
  | .local _ .vmem, ⟨8, _⟩ => ⟨S2048x512, .bf16⟩
  | .local _ .vmem, ⟨9, _⟩ => ⟨S1x512, .f32⟩
  | .local _ .vmem, ⟨10, _⟩ => ⟨S1x512, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x512, .bf16⟩
  | .local _ .vmem, ⟨16, _⟩ => ⟨S512x512, .bf16⟩
  | .local _ .vmem, ⟨17, _⟩ => ⟨S512x2048, .bf16⟩
  | .local _ .vmem, ⟨18, _⟩ => ⟨S512x2048, .bf16⟩
  | .local _ .vmem, ⟨19, _⟩ => ⟨S2048x256, .bf16⟩
  | .local _ .vmem, ⟨20, _⟩ => ⟨S1x256, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x256, .f32⟩
  | .local _ .vmem, ⟨26, _⟩ => ⟨S512x256, .f32⟩
  | .local _ .vmem, ⟨27, _⟩ => ⟨S512x256, .bf16⟩
  | .local _ .vmem, ⟨28, _⟩ => ⟨S512x256, .bf16⟩
  | .local _ .vmem, ⟨29, _⟩ => ⟨S512x2048, .bf16⟩
  | .local _ .vmem, ⟨30, _⟩ => ⟨S512x2048, .bf16⟩
  | .local _ .vmem, ⟨31, _⟩ => ⟨S2048x512, .bf16⟩
  | .local _ .vmem, ⟨32, _⟩ => ⟨S2048x512, .bf16⟩
  | .local _ .vmem, ⟨33, _⟩ => ⟨S512x128, .f32⟩
  | .local _ .vmem, ⟨34, _⟩ => ⟨S512x128, .f32⟩
  | .local _ .vmem, ⟨35, _⟩ => ⟨S512x128, .f32⟩
  | .local _ .vmem, ⟨36, _⟩ => ⟨S512x128, .f32⟩
  | .local _ .vmem, ⟨37, _⟩ => ⟨S512x512, .bf16⟩
  | .local _ .vmem, ⟨38, _⟩ => ⟨S512x512, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72_0 : Ref sig .tc := ⟨.hbm, 81, rfl⟩
abbrev main_v72_1 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg6_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg3_1 : Ref sig .tc := ⟨.vmem, 36, rfl⟩
abbrev cc3_stg4_0 : Ref sig .tc := ⟨.vmem, 37, rfl⟩
abbrev cc3_stg4_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22
abbrev cc2_sem4_0 : DmaSem sig := 23
abbrev cc2_sem4_1 : DmaSem sig := 24
abbrev cc2_sem5_0 : DmaSem sig := 25
abbrev cc2_sem5_1 : DmaSem sig := 26
abbrev cc2_sem6_0 : DmaSem sig := 27
abbrev cc2_sem6_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem3_1 : DmaSem sig := 36
abbrev cc3_sem4_0 : DmaSem sig := 37
abbrev cc3_sem4_1 : DmaSem sig := 38

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_4 (i : grid1.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![16, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc2_transform_4 (i : grid2.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S2048x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S512x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S512x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S512x256 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨2, ![16, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  let c0_i32_0 : BitVec 32 := 0#32
  ![c0_i32.toNat, v0.toNat]

def cc3_transform_2 (i : grid3.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc3_transform_3 (i : grid3.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S512x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S512x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]
-- ==== Reference5Ideal.lean ====
abbrev S2x4096x2048 : Shape := ⟨3, ![2, 4096, 2048]⟩
abbrev S2048 : Shape := ⟨1, ![2048]⟩
abbrev S2048x5720 : Shape := ⟨2, ![2048, 5720]⟩
abbrev S128 : Shape := ⟨1, ![128]⟩
abbrev S4096 : Shape := ⟨1, ![4096]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x5720 : Shape := ⟨3, ![2, 4096, 5720]⟩
abbrev S2x4096x1024 : Shape := ⟨3, ![2, 4096, 1024]⟩
abbrev S2x4096x8 : Shape := ⟨3, ![2, 4096, 8]⟩
abbrev S2x4096x256 : Shape := ⟨3, ![2, 4096, 256]⟩
abbrev S2x4096x64 : Shape := ⟨3, ![2, 4096, 64]⟩
abbrev S2x4096x16 : Shape := ⟨3, ![2, 4096, 16]⟩
abbrev S2x4096x8x128 : Shape := ⟨4, ![2, 4096, 8, 128]⟩
abbrev S2x4096x8x1 : Shape := ⟨4, ![2, 4096, 8, 1]⟩
abbrev S1x1x1x128 : Shape := ⟨4, ![1, 1, 1, 128]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S2x4096x8x64 : Shape := ⟨4, ![2, 4096, 8, 64]⟩
abbrev S1x4096x1x64 : Shape := ⟨4, ![1, 4096, 1, 64]⟩
abbrev S2x4096x2x128 : Shape := ⟨4, ![2, 4096, 2, 128]⟩
abbrev S2x4096x2 : Shape := ⟨3, ![2, 4096, 2]⟩
abbrev S2x4096x2x1 : Shape := ⟨4, ![2, 4096, 2, 1]⟩
abbrev S2x4096x2x64 : Shape := ⟨4, ![2, 4096, 2, 64]⟩
abbrev S2x4096x16x64 : Shape := ⟨4, ![2, 4096, 16, 64]⟩
abbrev S32 : Shape := ⟨1, ![32]⟩
abbrev S1x32 : Shape := ⟨2, ![1, 32]⟩
abbrev S4096x32 : Shape := ⟨2, ![4096, 32]⟩
abbrev S4096x1x32 : Shape := ⟨3, ![4096, 1, 32]⟩
abbrev S2x4096x16x32 : Shape := ⟨4, ![2, 4096, 16, 32]⟩
abbrev S1x4096x1x32 : Shape := ⟨4, ![1, 4096, 1, 32]⟩

abbrev nBuf : Space → Nat
  | .hbm => 175
  | .vmem => 0
  | .smem => 0
  | _ => 0

abbrev hbmTy0_0 (i : Nat) : BufTy := match i % 128 with
  | 0 => ⟨S2x4096x2048, .f32⟩
  | 1 => ⟨S2048, .f32⟩
  | 2 => ⟨S2048x5720, .f32⟩
  | 3 => ⟨S128, .f32⟩
  | 4 => ⟨S128, .f32⟩
  | 5 => ⟨S4096, .i32⟩
  | 6 => ⟨S2x4096x2048, .f32⟩
  | 7 => ⟨S_, .f32⟩
  | 8 => ⟨S2x4096, .f32⟩
  | 9 => ⟨S2x4096x1, .f32⟩
  | 10 => ⟨S_, .f32⟩
  | 11 => ⟨S2x4096x1, .f32⟩
  | 12 => ⟨S2x4096x1, .f32⟩
  | 13 => ⟨S_, .f32⟩
  | 14 => ⟨S2x4096x1, .f32⟩
  | 15 => ⟨S2x4096x1, .f32⟩
  | 16 => ⟨S2x4096x1, .f32⟩
  | 17 => ⟨S2x4096x2048, .f32⟩
  | 18 => ⟨S2x4096x2048, .f32⟩
  | 19 => ⟨S1x1x2048, .f32⟩
  | 20 => ⟨S2x4096x2048, .f32⟩
  | 21 => ⟨S2x4096x2048, .f32⟩
  | 22 => ⟨S2x4096x5720, .f32⟩
  | 23 => ⟨S2x4096x1024, .f32⟩
  | 24 => ⟨S2x4096x1024, .f32⟩
  | 25 => ⟨S2x4096x1024, .f32⟩
  | 26 => ⟨S2x4096x8, .f32⟩
  | 27 => ⟨S2x4096x1024, .f32⟩
  | 28 => ⟨S2x4096x256, .f32⟩
  | 29 => ⟨S2x4096x256, .f32⟩
  | 30 => ⟨S2x4096x1024, .f32⟩
  | 31 => ⟨S2x4096x64, .f32⟩
  | 32 => ⟨S2x4096x16, .f32⟩
  | 33 => ⟨S2x4096x8x128, .f32⟩
  | 34 => ⟨S2x4096x8x128, .f32⟩
  | 35 => ⟨S_, .f32⟩
  | 36 => ⟨S2x4096x8, .f32⟩
  | 37 => ⟨S2x4096x8x1, .f32⟩
  | 38 => ⟨S_, .f32⟩
  | 39 => ⟨S2x4096x8x1, .f32⟩
  | 40 => ⟨S2x4096x8x1, .f32⟩
  | 41 => ⟨S_, .f32⟩
  | 42 => ⟨S2x4096x8x1, .f32⟩
  | 43 => ⟨S2x4096x8x1, .f32⟩
  | 44 => ⟨S2x4096x8x1, .f32⟩
  | 45 => ⟨S2x4096x8x128, .f32⟩
  | 46 => ⟨S2x4096x8x128, .f32⟩
  | 47 => ⟨S1x1x1x128, .f32⟩
  | 48 => ⟨S2x4096x8x128, .f32⟩
  | 49 => ⟨S2x4096x8x128, .f32⟩
  | 50 => ⟨S64, .f32⟩
  | 51 => ⟨S64, .f32⟩
  | 52 => ⟨S_, .f32⟩
  | 53 => ⟨S64, .f32⟩
  | 54 => ⟨S64, .f32⟩
  | 55 => ⟨S_, .f32⟩
  | 56 => ⟨S64, .f32⟩
  | 57 => ⟨S64, .f32⟩
  | 58 => ⟨S4096, .f32⟩
  | 59 => ⟨S4096x1, .f32⟩
  | 60 => ⟨S1x64, .f32⟩
  | 61 => ⟨S4096x64, .f32⟩
  | 62 => ⟨S4096x64, .f32⟩
  | 63 => ⟨S4096x64, .f32⟩
  | 64 => ⟨S4096x64, .f32⟩
  | 65 => ⟨S4096x1x64, .f32⟩
  | 66 => ⟨S4096x64, .f32⟩
  | 67 => ⟨S4096x1x64, .f32⟩
  | 68 => ⟨S2x4096x8x64, .f32⟩
  | 69 => ⟨S2x4096x8x64, .f32⟩
  | 70 => ⟨S1x4096x1x64, .f32⟩
  | 71 => ⟨S2x4096x8x64, .f32⟩
  | 72 => ⟨S2x4096x8x64, .f32⟩
  | 73 => ⟨S1x4096x1x64, .f32⟩
  | 74 => ⟨S2x4096x8x64, .f32⟩
  | 75 => ⟨S2x4096x8x64, .f32⟩
  | 76 => ⟨S2x4096x8x64, .f32⟩
  | 77 => ⟨S1x4096x1x64, .f32⟩
  | 78 => ⟨S2x4096x8x64, .f32⟩
  | 79 => ⟨S2x4096x8x64, .f32⟩
  | 80 => ⟨S1x4096x1x64, .f32⟩
  | 81 => ⟨S2x4096x8x64, .f32⟩
  | 82 => ⟨S2x4096x8x64, .f32⟩
  | 83 => ⟨S2x4096x8x64, .f32⟩
  | 84 => ⟨S2x4096x8x128, .f32⟩
  | 85 => ⟨S2x4096x8x128, .bf16⟩
  | 86 => ⟨S2x4096x2x128, .f32⟩
  | 87 => ⟨S2x4096x2x128, .f32⟩
  | 88 => ⟨S_, .f32⟩
  | 89 => ⟨S2x4096x2, .f32⟩
  | 90 => ⟨S2x4096x2x1, .f32⟩
  | 91 => ⟨S_, .f32⟩
  | 92 => ⟨S2x4096x2x1, .f32⟩
  | 93 => ⟨S2x4096x2x1, .f32⟩
  | 94 => ⟨S_, .f32⟩
  | 95 => ⟨S2x4096x2x1, .f32⟩
  | 96 => ⟨S2x4096x2x1, .f32⟩
  | 97 => ⟨S2x4096x2x1, .f32⟩
  | 98 => ⟨S2x4096x2x128, .f32⟩
  | 99 => ⟨S2x4096x2x128, .f32⟩
  | 100 => ⟨S1x1x1x128, .f32⟩
  | 101 => ⟨S2x4096x2x128, .f32⟩
  | 102 => ⟨S2x4096x2x128, .f32⟩
  | 103 => ⟨S64, .f32⟩
  | 104 => ⟨S64, .f32⟩
  | 105 => ⟨S_, .f32⟩
  | 106 => ⟨S64, .f32⟩
  | 107 => ⟨S64, .f32⟩
  | 108 => ⟨S_, .f32⟩
  | 109 => ⟨S64, .f32⟩
  | 110 => ⟨S64, .f32⟩
  | 111 => ⟨S4096, .f32⟩
  | 112 => ⟨S4096x1, .f32⟩
  | 113 => ⟨S1x64, .f32⟩
  | 114 => ⟨S4096x64, .f32⟩
  | 115 => ⟨S4096x64, .f32⟩
  | 116 => ⟨S4096x64, .f32⟩
  | 117 => ⟨S4096x64, .f32⟩
  | 118 => ⟨S4096x1x64, .f32⟩
  | 119 => ⟨S4096x64, .f32⟩
  | 120 => ⟨S4096x1x64, .f32⟩
  | 121 => ⟨S2x4096x2x64, .f32⟩
  | 122 => ⟨S2x4096x2x64, .f32⟩
  | 123 => ⟨S1x4096x1x64, .f32⟩
  | 124 => ⟨S2x4096x2x64, .f32⟩
  | 125 => ⟨S2x4096x2x64, .f32⟩
  | 126 => ⟨S1x4096x1x64, .f32⟩
  | 127 => ⟨S2x4096x2x64, .f32⟩
  | _ => ⟨S2x4096x2048, .f32⟩

abbrev hbmTy0_1 (i : Nat) : BufTy := match i % 128 with
  | 0 => ⟨S2x4096x2x64, .f32⟩
  | 1 => ⟨S2x4096x2x64, .f32⟩
  | 2 => ⟨S1x4096x1x64, .f32⟩
  | 3 => ⟨S2x4096x2x64, .f32⟩
  | 4 => ⟨S2x4096x2x64, .f32⟩
  | 5 => ⟨S1x4096x1x64, .f32⟩
  | 6 => ⟨S2x4096x2x64, .f32⟩
  | 7 => ⟨S2x4096x2x64, .f32⟩
  | 8 => ⟨S2x4096x2x64, .f32⟩
  | 9 => ⟨S2x4096x2x128, .f32⟩
  | 10 => ⟨S2x4096x16x64, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S4096, .f32⟩
  | 20 => ⟨S4096x1, .f32⟩
  | 21 => ⟨S1x32, .f32⟩
  | 22 => ⟨S4096x32, .f32⟩
  | 23 => ⟨S4096x32, .f32⟩
  | 24 => ⟨S4096x32, .f32⟩
  | 25 => ⟨S4096x32, .f32⟩
  | 26 => ⟨S4096x1x32, .f32⟩
  | 27 => ⟨S4096x32, .f32⟩
  | 28 => ⟨S4096x1x32, .f32⟩
  | 29 => ⟨S2x4096x16x32, .f32⟩
  | 30 => ⟨S2x4096x16x32, .f32⟩
  | 31 => ⟨S1x4096x1x32, .f32⟩
  | 32 => ⟨S2x4096x16x32, .f32⟩
  | 33 => ⟨S2x4096x16x32, .f32⟩
  | 34 => ⟨S1x4096x1x32, .f32⟩
  | 35 => ⟨S2x4096x16x32, .f32⟩
  | 36 => ⟨S2x4096x16x32, .f32⟩
  | 37 => ⟨S2x4096x16x32, .f32⟩
  | 38 => ⟨S1x4096x1x32, .f32⟩
  | 39 => ⟨S2x4096x16x32, .f32⟩
  | 40 => ⟨S2x4096x16x32, .f32⟩
  | 41 => ⟨S1x4096x1x32, .f32⟩
  | 42 => ⟨S2x4096x16x32, .f32⟩
  | 43 => ⟨S2x4096x16x32, .f32⟩
  | 44 => ⟨S2x4096x16x32, .f32⟩
  | 45 => ⟨S2x4096x16x64, .f32⟩
  | 46 => ⟨S2x4096x16x64, .bf16⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_7 : Ref sig .tc := ⟨.hbm, 88, rfl⟩
abbrev main_v75 : Ref sig .tc := ⟨.hbm, 89, rfl⟩
abbrev main_v76 : Ref sig .tc := ⟨.hbm, 90, rfl⟩
abbrev main_cst_8 : Ref sig .tc := ⟨.hbm, 91, rfl⟩
abbrev main_v77 : Ref sig .tc := ⟨.hbm, 92, rfl⟩
abbrev main_v78 : Ref sig .tc := ⟨.hbm, 93, rfl⟩
abbrev main_cst_9 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_cst_10 : Ref sig .tc := ⟨.hbm, 105, rfl⟩
abbrev main_v89 : Ref sig .tc := ⟨.hbm, 106, rfl⟩
abbrev main_v90 : Ref sig .tc := ⟨.hbm, 107, rfl⟩
abbrev main_cst_11 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_cst_12 : Ref sig .tc := ⟨.hbm, 141, rfl⟩
abbrev main_v123 : Ref sig .tc := ⟨.hbm, 142, rfl⟩
abbrev main_v124 : Ref sig .tc := ⟨.hbm, 143, rfl⟩
abbrev main_cst_13 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩

abbrev nD : Nat := 1
abbrev τ : Topo := Topo.v7x

variable {F : FTy → Type} [FloatOps F]
-- ==== Kernel6.lean ====
abbrev S2x4096x2048 : Shape := ⟨3, ![2, 4096, 2048]⟩
abbrev S2048 : Shape := ⟨1, ![2048]⟩
abbrev S2048x5720 : Shape := ⟨2, ![2048, 5720]⟩
abbrev S8 : Shape := ⟨1, ![8]⟩
abbrev S2048x64 : Shape := ⟨2, ![2048, 64]⟩
abbrev S_ : Shape := ⟨0, ![]⟩
abbrev S2048x128 : Shape := ⟨2, ![2048, 128]⟩
abbrev S2048x8 : Shape := ⟨2, ![2048, 8]⟩
abbrev S2048x16 : Shape := ⟨2, ![2048, 16]⟩
abbrev S2048x384 : Shape := ⟨2, ![2048, 384]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S1x8 : Shape := ⟨2, ![1, 8]⟩
abbrev S8192x64 : Shape := ⟨2, ![8192, 64]⟩
abbrev S8192x8 : Shape := ⟨2, ![8192, 8]⟩
abbrev S8192x16 : Shape := ⟨2, ![8192, 16]⟩
abbrev S512x128 : Shape := ⟨2, ![512, 128]⟩
abbrev S512x64 : Shape := ⟨2, ![512, 64]⟩
abbrev S512x8 : Shape := ⟨2, ![512, 8]⟩
abbrev S512x16 : Shape := ⟨2, ![512, 16]⟩
abbrev S512x384 : Shape := ⟨2, ![512, 384]⟩
abbrev S2x4096x64 : Shape := ⟨3, ![2, 4096, 64]⟩
abbrev S2x4096x8 : Shape := ⟨3, ![2, 4096, 8]⟩
abbrev S2x4096x16 : Shape := ⟨3, ![2, 4096, 16]⟩

abbrev nBuf : Space → Nat
  | .hbm => 57
  | .vmem => 21
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x5720, .f32⟩
  | .hbm, ⟨3, _⟩ => ⟨S8, .f32⟩
  | .hbm, ⟨4, _⟩ => ⟨S2048x64, .f32⟩
  | .hbm, ⟨5, _⟩ => ⟨S_, .i32⟩
  | .hbm, ⟨6, _⟩ => ⟨S_, .f32⟩
  | .hbm, ⟨7, _⟩ => ⟨S2048x128, .f32⟩
  | .hbm, ⟨8, _⟩ => ⟨S2048x8, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x16, .f32⟩
  | .hbm, ⟨13, _⟩ => ⟨S_, .i32⟩
  | .hbm, ⟨14, _⟩ => ⟨S_, .f32⟩
  | .hbm, ⟨15, _⟩ => ⟨S2048x128, .f32⟩
  | .hbm, ⟨16, _⟩ => ⟨S2048x384, .f32⟩
  | .hbm, ⟨17, _⟩ => ⟨S2048x384, .bf16⟩
  | .hbm, ⟨18, _⟩ => ⟨S4096, .i32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S4096, .f32⟩
  | .hbm, ⟨28, _⟩ => ⟨S4096x1, .f32⟩
  | .hbm, ⟨29, _⟩ => ⟨S1x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S4096x32, .f32⟩
  | .hbm, ⟨35, _⟩ => ⟨S4096x64, .f32⟩
  | .hbm, ⟨36, _⟩ => ⟨S1x4096x1x64, .f32⟩
  | .hbm, ⟨37, _⟩ => ⟨S1x4096x2x64, .f32⟩
  | .hbm, ⟨38, _⟩ => ⟨S4096x128, .f32⟩
  | .hbm, ⟨39, _⟩ => ⟨S4096x32, .f32⟩
  | .hbm, ⟨40, _⟩ => ⟨S4096x32, .f32⟩
  | .hbm, ⟨41, _⟩ => ⟨S4096x32, .f32⟩
  | .hbm, ⟨42, _⟩ => ⟨S4096x64, .f32⟩
  | .hbm, ⟨43, _⟩ => ⟨S1x4096x1x64, .f32⟩
  | .hbm, ⟨44, _⟩ => ⟨S1x4096x2x64, .f32⟩
  | .hbm, ⟨45, _⟩ => ⟨S4096x128, .f32⟩
  | .hbm, ⟨46, _⟩ => ⟨S8192x2048, .f32⟩
  | .hbm, ⟨47, _⟩ => ⟨S1x2048, .f32⟩
  | .hbm, ⟨48, _⟩ => ⟨S8192x2048, .bf16⟩
  | .hbm, ⟨49, _⟩ => ⟨S1x8, .f32⟩
  | .hbm, ⟨50, _⟩ => ⟨S8192x64, .f32⟩
  | .hbm, ⟨51, _⟩ => ⟨S8192x64, .bf16⟩
  | .hbm, ⟨52, _⟩ => ⟨S8192x8, .f32⟩
  | .hbm, ⟨53, _⟩ => ⟨S8192x16, .f32⟩
  | .hbm, ⟨54, _⟩ => ⟨S2x4096x64, .f32⟩
  | .hbm, ⟨55, _⟩ => ⟨S2x4096x8, .f32⟩
  | .hbm, ⟨56, _⟩ => ⟨S2x4096x16, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S2048x384, .bf16⟩
  | .local _ .vmem, ⟨8, _⟩ => ⟨S1x8, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x64, .f32⟩
  | .local _ .vmem, ⟨14, _⟩ => ⟨S512x64, .f32⟩
  | .local _ .vmem, ⟨15, _⟩ => ⟨S512x64, .bf16⟩
  | .local _ .vmem, ⟨16, _⟩ => ⟨S512x64, .bf16⟩
  | .local _ .vmem, ⟨17, _⟩ => ⟨S512x8, .f32⟩
  | .local _ .vmem, ⟨18, _⟩ => ⟨S512x8, .f32⟩
  | .local _ .vmem, ⟨19, _⟩ => ⟨S512x16, .f32⟩
  | .local _ .vmem, ⟨20, _⟩ => ⟨S512x16, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38_0 : Ref sig .tc := ⟨.hbm, 50, rfl⟩
abbrev main_v38_1 : Ref sig .tc := ⟨.hbm, 51, rfl⟩
abbrev main_v38_2 : Ref sig .tc := ⟨.hbm, 52, rfl⟩
abbrev main_v38_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18
abbrev cc1_sem8_0 : DmaSem sig := 19
abbrev cc1_sem8_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_4 (i : grid1.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x384 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x8 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x16 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== Reference6Ideal.lean ====
abbrev S2x4096x2048 : Shape := ⟨3, ![2, 4096, 2048]⟩
abbrev S2048 : Shape := ⟨1, ![2048]⟩
abbrev S2048x5720 : Shape := ⟨2, ![2048, 5720]⟩
abbrev S8 : Shape := ⟨1, ![8]⟩
abbrev S4096 : Shape := ⟨1, ![4096]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x5720 : Shape := ⟨3, ![2, 4096, 5720]⟩
abbrev S2x4096x1024 : Shape := ⟨3, ![2, 4096, 1024]⟩
abbrev S2x4096x8 : Shape := ⟨3, ![2, 4096, 8]⟩
abbrev S2x4096x256 : Shape := ⟨3, ![2, 4096, 256]⟩
abbrev S2x4096x64 : Shape := ⟨3, ![2, 4096, 64]⟩
abbrev S2x4096x16 : Shape := ⟨3, ![2, 4096, 16]⟩
abbrev S2x4096x1x64 : Shape := ⟨4, ![2, 4096, 1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S2x4096x1x32 : Shape := ⟨4, ![2, 4096, 1, 32]⟩
abbrev S1x4096x1x32 : Shape := ⟨4, ![1, 4096, 1, 32]⟩
abbrev S1x1x8 : Shape := ⟨3, ![1, 1, 8]⟩

abbrev nBuf : Space → Nat
  | .hbm => 88
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x5720, .f32⟩
  | .hbm, ⟨3, _⟩ => ⟨S8, .f32⟩
  | .hbm, ⟨4, _⟩ => ⟨S4096, .i32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S2x4096x5720, .f32⟩
  | .hbm, ⟨22, _⟩ => ⟨S2x4096x1024, .f32⟩
  | .hbm, ⟨23, _⟩ => ⟨S2x4096x1024, .f32⟩
  | .hbm, ⟨24, _⟩ => ⟨S2x4096x1024, .f32⟩
  | .hbm, ⟨25, _⟩ => ⟨S2x4096x8, .f32⟩
  | .hbm, ⟨26, _⟩ => ⟨S2x4096x1024, .f32⟩
  | .hbm, ⟨27, _⟩ => ⟨S2x4096x256, .f32⟩
  | .hbm, ⟨28, _⟩ => ⟨S2x4096x256, .f32⟩
  | .hbm, ⟨29, _⟩ => ⟨S2x4096x1024, .f32⟩
  | .hbm, ⟨30, _⟩ => ⟨S2x4096x64, .f32⟩
  | .hbm, ⟨31, _⟩ => ⟨S2x4096x16, .f32⟩
  | .hbm, ⟨32, _⟩ => ⟨S2x4096x1x64, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S4096, .f32⟩
  | .hbm, ⟨42, _⟩ => ⟨S4096x1, .f32⟩
  | .hbm, ⟨43, _⟩ => ⟨S1x32, .f32⟩
  | .hbm, ⟨44, _⟩ => ⟨S4096x32, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S4096x1x32, .f32⟩
  | .hbm, ⟨49, _⟩ => ⟨S4096x32, .f32⟩
  | .hbm, ⟨50, _⟩ => ⟨S4096x1x32, .f32⟩
  | .hbm, ⟨51, _⟩ => ⟨S2x4096x1x32, .f32⟩
  | .hbm, ⟨52, _⟩ => ⟨S2x4096x1x32, .f32⟩
  | .hbm, ⟨53, _⟩ => ⟨S1x4096x1x32, .f32⟩
  | .hbm, ⟨54, _⟩ => ⟨S2x4096x1x32, .f32⟩
  | .hbm, ⟨55, _⟩ => ⟨S2x4096x1x32, .f32⟩
  | .hbm, ⟨56, _⟩ => ⟨S1x4096x1x32, .f32⟩
  | .hbm, ⟨57, _⟩ => ⟨S2x4096x1x32, .f32⟩
  | .hbm, ⟨58, _⟩ => ⟨S2x4096x1x32, .f32⟩
  | .hbm, ⟨59, _⟩ => ⟨S2x4096x1x32, .f32⟩
  | .hbm, ⟨60, _⟩ => ⟨S1x4096x1x32, .f32⟩
  | .hbm, ⟨61, _⟩ => ⟨S2x4096x1x32, .f32⟩
  | .hbm, ⟨62, _⟩ => ⟨S2x4096x1x32, .f32⟩
  | .hbm, ⟨63, _⟩ => ⟨S1x4096x1x32, .f32⟩
  | .hbm, ⟨64, _⟩ => ⟨S2x4096x1x32, .f32⟩
  | .hbm, ⟨65, _⟩ => ⟨S2x4096x1x32, .f32⟩
  | .hbm, ⟨66, _⟩ => ⟨S2x4096x1x32, .f32⟩
  | .hbm, ⟨67, _⟩ => ⟨S2x4096x1x64, .f32⟩
  | .hbm, ⟨68, _⟩ => ⟨S2x4096x64, .f32⟩
  | .hbm, ⟨69, _⟩ => ⟨S1x1x8, .f32⟩
  | .hbm, ⟨70, _⟩ => ⟨S2x4096x8, .f32⟩
  | .hbm, ⟨71, _⟩ => ⟨S2x4096x8, .f32⟩
  | .hbm, ⟨72, _⟩ => ⟨S2x4096x8, .f32⟩
  | .hbm, ⟨73, _⟩ => ⟨S_, .f32⟩
  | .hbm, ⟨74, _⟩ => ⟨S2x4096x8, .f32⟩
  | .hbm, ⟨75, _⟩ => ⟨S2x4096x8, .f32⟩
  | .hbm, ⟨76, _⟩ => ⟨S2x4096x8, .f32⟩
  | .hbm, ⟨77, _⟩ => ⟨S2x4096x8, .f32⟩
  | .hbm, ⟨78, _⟩ => ⟨S2x4096x8, .i1⟩
  | .hbm, ⟨79, _⟩ => ⟨S2x4096x8, .f32⟩
  | .hbm, ⟨80, _⟩ => ⟨S2x4096x8, .f32⟩
  | .hbm, ⟨81, _⟩ => ⟨S2x4096x8, .f32⟩
  | .hbm, ⟨82, _⟩ => ⟨S2x4096x8, .f32⟩
  | .hbm, ⟨83, _⟩ => ⟨S2x4096x8, .f32⟩
  | .hbm, ⟨84, _⟩ => ⟨S2x4096x8, .f32⟩
  | .hbm, ⟨85, _⟩ => ⟨S2x4096x8, .f32⟩
  | .hbm, ⟨86, _⟩ => ⟨S2x4096x8, .f32⟩
  | .hbm, ⟨87, _⟩ => ⟨S2x4096x8, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_call0_v0 : Ref sig .tc := ⟨.hbm, 72, rfl⟩
abbrev main_call0_call0_cst : Ref sig .tc := ⟨.hbm, 73, rfl⟩
abbrev main_call0_call0_v0 : Ref sig .tc := ⟨.hbm, 74, rfl⟩
abbrev main_call0_call0_v1 : Ref sig .tc := ⟨.hbm, 75, rfl⟩
abbrev main_call0_call0_v2 : Ref sig .tc := ⟨.hbm, 76, rfl⟩
abbrev main_call0_call0_v3 : Ref sig .tc := ⟨.hbm, 77, rfl⟩
abbrev main_call0_call0_v4 : Ref sig .tc := ⟨.hbm, 78, rfl⟩
abbrev main_call0_call0_v5 : Ref sig .tc := ⟨.hbm, 79, rfl⟩
abbrev main_call0_call0_v6 : Ref sig .tc := ⟨.hbm, 80, rfl⟩
abbrev main_call0_call0_v7 : Ref sig .tc := ⟨.hbm, 81, rfl⟩
abbrev main_call0_call0_v8 : Ref sig .tc := ⟨.hbm, 82, rfl⟩
abbrev main_call0_call0_v9 : Ref sig .tc := ⟨.hbm, 83, rfl⟩
abbrev main_call0_call0_v10 : Ref sig .tc := ⟨.hbm, 84, rfl⟩
abbrev main_call0_call0_v11 : Ref sig .tc := ⟨.hbm, 85, rfl⟩
abbrev main_call0_v1 : Ref sig .tc := ⟨.hbm, 86, rfl⟩
abbrev main_v63 : Ref sig .tc := ⟨.hbm, 87, rfl⟩

abbrev nD : Nat := 1
abbrev τ : Topo := Topo.v7x

variable {F : FTy → Type} [FloatOps F]
-- ==== Proof.FoxRounded.Init.lean ====
/- The first branch of the rounded body, run. -/
module

public import proofs.«01_k».proof.Proof.FoxRounded.Steps
public import proofs.«01_k».proof.Proof.Gen.Kernel.Launch
public import proofs.«01_k».proof.Proof.Gen.Kernel.Points
public import Idealize.ShloMosaic.Lib.Pipeline.FrameBody
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.FoxRounded

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The first branch, run: it leaves the mask value in the running maxima and zeros in the running sums and the accumulators. -/
theorem init_run (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x8 .f32) (harg6 : arg6.IsWhole) (arg7 : Memref sig .tc .vmem S1x8x512 .f32) (harg7 : arg7.IsWhole) (arg8 : Memref sig .tc .vmem S512x1024 .bf16) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S512x1024 .f32) (harg11 : arg11.IsWhole)
    (x0 : Vec F S512x1024 .bf16) (x1 : Vec F S512x1024 .bf16) (x2 : Vec F S512x1024 .bf16) (x3 : Vec F S512x8 .f32) (x4 : Vec F S1x8x512 .f32)
    (o : Vec F S512x1024 .bf16) (m : Vec F S8x512x1 .f32) (l : Vec F S8x512x1 .f32) (a : Vec F S512x1024 .f32) (E : Set ℕ) (K : PUnit → sProp 𝕄) :
    iprop(owns (c : Thread nD τ) arg9 fullShare m ∗ owns (c : Thread nD τ) arg10 fullShare l ∗ owns (c : Thread nD τ) arg11 fullShare a
        ∗ (iprop(owns (c : Thread nD τ) arg9 fullShare (k0_pay1 (F := F)) ∗ owns (c : Thread nD τ) arg10 fullShare (k0_pay2 (F := F)) ∗ owns (c : Thread nD τ) arg11 fullShare (k0_pay3 (F := F))) -∗ K ⟨⟩))
      ⊢ wp frame (wpE (defs₀ (F := F)) Variants.none c none) E (initPart i arg3 harg3 arg4 harg4 arg5 harg5 arg6 harg6 arg7 harg7 arg8 harg8 arg9 harg9 arg10 harg10 arg11 harg11) K := by
  unfold initPart
  unfold owns
  iintro ⟨⟨%fS0, %hfS0, HS0⟩, ⟨%fS1, %hfS1, HS1⟩, ⟨%fS2, %hfS2, HS2⟩, Hk⟩
  subst hfS0 hfS1 hfS2
  sl_exec
  sl_step
  iapply Hk
  isplitl [HS0]
  · iexists _; isplitr; swap; · iexact HS0
    ipureintro
    exact read_fill _ _ _ (by decide)
  isplitl [HS1]
  · iexists _; isplitr; swap; · iexact HS1
    ipureintro
    exact read_fill _ _ _ (by decide)
  iexists _; isplitr; swap; · iexact HS2
  ipureintro
  exact read_fill _ _ _ (by decide)

end Cert.FoxRounded

end
-- ==== Proof.Fox.Parts.lean ====
/-
  The kernel's body as a sequence of its three guarded branches: set up the running quantities, advance them by a block
  of keys wholly in the past, advance them by the diagonal block and store the quotients. Each branch is a program of its
  own, so that it is run once, whatever the other two do.
-/
module

public import proofs.«01_k».proof.Proof.Gen.KernelIdeal.Skeleton

@[expose] public section

set_option maxRecDepth 16384

noncomputable section

namespace Cert.Fox

open Idealize.ShloMosaic Idealize.SL.Sem
open Cert.KernelIdeal Cert.KernelIdeal.Gen

variable {F : FTy → Type} [FloatOps F] [Named F]

/-- The test of the first branch: the block of keys is the first one. -/
def initCond (i : grid0.Coords) : BitVec 1 :=
  Scalar.cmpi .ne (Scalar.extui (Scalar.cmpi .eq (BitVec.ofNat 32 (i 2).val) 0#32) : BitVec 32) 0#32

/-- The test of the second branch: the block of keys comes before the block of queries. -/
def fullCond (i : grid0.Coords) : BitVec 1 :=
  Scalar.cmpi .ne (Scalar.extui (Scalar.cmpi .slt (BitVec.ofNat 32 (i 2).val) (BitVec.ofNat 32 (i 1).val)) : BitVec 32) 0#32

/-- The first branch: the running maxima are set to the mask value, the running sums and the accumulators to zero. -/
noncomputable def initPart (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x8 .f32) (harg6 : arg6.IsWhole)
    (arg7 : Memref sig .tc .vmem S1x8x512 .f32) (harg7 : arg7.IsWhole) (arg8 : Memref sig .tc .vmem S512x1024 .bf16) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S512x1024 .f32) (harg11 : arg11.IsWhole) :
    Prog (TpuEff nD τ sig (Elt F) Λ₀ .tc) PUnit := do
  let v10 : Vec F S8x512x1 .f32 ← Prog.lift (.load arg9 (Rect.unit (s := S8x512x1) ![0, 0, 0] S8x512x1.size inb_S8x512x1_S8x512x1_0_0_0).toLoadRect (View.loadsAt_vmem h_S8x512x1))
  Prog.lift (.store arg9 (Rect.unit (s := S8x512x1) ![0, 0, 0] S8x512x1.size inb_S8x512x1_S8x512x1_0_0_0) (k0_pay1 (F := F)) Finset.univ (View.stores_vmem_bits_univ h_S8x512x1 rfl) (.inl rfl))
  let v14 : Vec F S8x512x1 .f32 ← Prog.lift (.load arg10 (Rect.unit (s := S8x512x1) ![0, 0, 0] S8x512x1.size inb_S8x512x1_S8x512x1_0_0_0).toLoadRect (View.loadsAt_vmem h_S8x512x1))
  Prog.lift (.store arg10 (Rect.unit (s := S8x512x1) ![0, 0, 0] S8x512x1.size inb_S8x512x1_S8x512x1_0_0_0) (k0_pay2 (F := F)) Finset.univ (View.stores_vmem_bits_univ h_S8x512x1 rfl) (.inl rfl))
  let v18 : Vec F S512x1024 .f32 ← Prog.lift (.load arg11 (Rect.unit (s := S512x1024) ![0, 0] S512x1024.size inb_S512x1024_S512x1024_0_0).toLoadRect (View.loadsAt_vmem h_S512x1024))
  Prog.lift (.store arg11 (Rect.unit (s := S512x1024) ![0, 0] S512x1024.size inb_S512x1024_S512x1024_0_0) (k0_pay3 (F := F)) Finset.univ (View.stores_vmem_bits_univ h_S512x1024 rfl) (.inl rfl))
  pure ⟨⟩

/-- The second branch: the eight heads are advanced by a block of keys that lies wholly before the block of queries. -/
noncomputable def fullPart (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x8 .f32) (harg6 : arg6.IsWhole)
    (arg7 : Memref sig .tc .vmem S1x8x512 .f32) (harg7 : arg7.IsWhole) (arg8 : Memref sig .tc .vmem S512x1024 .bf16) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S512x1024 .f32) (harg11 : arg11.IsWhole) :
    Prog (TpuEff nD τ sig (Elt F) Λ₀ .tc) PUnit := do
  let ⟨v20, v30, v35, v37, v40, v43⟩ : Σ' (v20 : FVec F S512x512 .f32) (v30 : FVec F S512x128 .bf16) (v35 : FVec F S512x1 .f32) (v37 : FVec F S512x1 .f32) (v40 : FVec F S512x512 .f32), FVec F S512x1 .f32 ← k0_part1 i arg3 harg3 arg4 harg4 arg5 harg5 arg6 harg6 arg7 harg7 arg8 harg8 arg9 harg9 arg10 harg10 arg11 harg11
  let ⟨v68, v76⟩ : Σ' (v68 : FVec F S512x512 .f32), FVec F S512x512 .f32 ← k0_part2 i arg3 harg3 arg4 harg4 arg5 harg5 arg6 harg6 arg7 harg7 arg8 harg8 arg9 harg9 arg10 harg10 arg11 harg11 v20 v30 v35 v37 v40 v43
  let v111 : FVec F S512x512 .f32 ← k0_part3 i arg3 harg3 arg4 harg4 arg5 harg5 arg6 harg6 arg7 harg7 arg8 harg8 arg9 harg9 arg10 harg10 arg11 harg11 v68 v76
  let ⟨v116, v126, v131, v133, v136, v146⟩ : Σ' (v116 : FVec F S512x512 .f32) (v126 : FVec F S512x128 .bf16) (v131 : FVec F S512x1 .f32) (v133 : FVec F S512x1 .f32) (v136 : FVec F S512x512 .f32), Vec F S512x128 .f32 ← k0_part4 i arg3 harg3 arg4 harg4 arg5 harg5 arg6 harg6 arg7 harg7 arg8 harg8 arg9 harg9 arg10 harg10 arg11 harg11 v111
  let ⟨v164, v172, v174, v179, v181⟩ : Σ' (v164 : FVec F S512x512 .f32) (v172 : FVec F S512x512 .f32) (v174 : FVec F S512x128 .bf16) (v179 : FVec F S512x1 .f32), FVec F S512x1 .f32 ← k0_part5 i arg3 harg3 arg4 harg4 arg5 harg5 arg6 harg6 arg7 harg7 arg8 harg8 arg9 harg9 arg10 harg10 arg11 harg11 v116 v126 v131 v133 v136 v146
  let ⟨v207, v212, v215⟩ : Σ' (v207 : FVec F S512x512 .f32) (v212 : FVec F S512x512 .f32), FVec F S512x512 .f32 ← k0_part6 i arg3 harg3 arg4 harg4 arg5 harg5 arg6 harg6 arg7 harg7 arg8 harg8 arg9 harg9 arg10 harg10 arg11 harg11 v164 v172 v174 v179 v181
  let v227 : FVec F S512x1 .f32 ← k0_part7 i arg3 harg3 arg4 harg4 arg5 harg5 arg6 harg6 arg7 harg7 arg8 harg8 arg9 harg9 arg10 harg10 arg11 harg11 v207 v215
  let ⟨v260, v270, v275, v277, v280, v286⟩ : Σ' (v260 : FVec F S512x512 .f32) (v270 : FVec F S512x128 .bf16) (v275 : FVec F S512x1 .f32) (v277 : FVec F S512x1 .f32) (v280 : FVec F S512x512 .f32), FVec F S512x1 .f32 ← k0_part8 i arg3 harg3 arg4 harg4 arg5 harg5 arg6 harg6 arg7 harg7 arg8 harg8 arg9 harg9 arg10 harg10 arg11 harg11 v212 v227
  let ⟨v308, v316, v318⟩ : Σ' (v308 : FVec F S512x512 .f32) (v316 : FVec F S512x512 .f32), FVec F S512x128 .bf16 ← k0_part9 i arg3 harg3 arg4 harg4 arg5 harg5 arg6 harg6 arg7 harg7 arg8 harg8 arg9 harg9 arg10 harg10 arg11 harg11 v260 v270 v275 v277 v280 v286
  let v355 : FVec F S512x512 .f32 ← k0_part10 i arg3 harg3 arg4 harg4 arg5 harg5 arg6 harg6 arg7 harg7 arg8 harg8 arg9 harg9 arg10 harg10 arg11 harg11 v308 v316 v318
  let v366 : FVec F S512x1 .f32 ← k0_part11 i arg3 harg3 arg4 harg4 arg5 harg5 arg6 harg6 arg7 harg7 arg8 harg8 arg9 harg9 arg10 harg10 arg11 harg11 v355
  let v390 : Vec F S1x512x1 .f32 ← Prog.lift (.load arg9 (Rect.unit (s := S8x512x1) ![7, 0, 0] S1x512x1.size inb_S8x512x1_S1x512x1_7_0_0).toLoadRect (View.loadsAt_vmem h_S1x512x1))
  Prog.lift (.store arg9 (Rect.unit (s := S8x512x1) ![7, 0, 0] S1x512x1.size inb_S8x512x1_S1x512x1_7_0_0) (k0_pay4 v366) Finset.univ (View.stores_vmem_bits_univ h_S1x512x1 rfl) (.inl rfl))
  pure ⟨⟩

/-- The third branch: the eight heads are advanced by the diagonal block, and their quotients are stored. -/
noncomputable def diagPart (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x8 .f32) (harg6 : arg6.IsWhole)
    (arg7 : Memref sig .tc .vmem S1x8x512 .f32) (harg7 : arg7.IsWhole) (arg8 : Memref sig .tc .vmem S512x1024 .bf16) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S512x1024 .f32) (harg11 : arg11.IsWhole) :
    Prog (TpuEff nD τ sig (Elt F) Λ₀ .tc) PUnit := do
  let ⟨v11, v23, v35, v40, v42, v45⟩ : Σ' (v11 : IVec S512x512 1) (v23 : FVec F S512x512 .f32) (v35 : FVec F S512x128 .bf16) (v40 : FVec F S512x1 .f32) (v42 : FVec F S512x1 .f32), FVec F S512x512 .f32 ← k0_part12 i arg3 harg3 arg4 harg4 arg5 harg5 arg6 harg6 arg7 harg7 arg8 harg8 arg9 harg9 arg10 harg10 arg11 harg11
  let ⟨v73, v77⟩ : Σ' (v73 : FVec F S512x512 .f32), FVec F S512x512 .f32 ← k0_part13 i arg3 harg3 arg4 harg4 arg5 harg5 arg6 harg6 arg7 harg7 arg8 harg8 arg9 harg9 arg10 harg10 arg11 harg11 v23 v35 v40 v42 v45
  let v90 : FVec F S512x1 .f32 ← k0_part14 i arg3 harg3 arg4 harg4 arg5 harg5 arg6 harg6 arg7 harg7 arg8 harg8 arg9 harg9 arg10 harg10 arg11 harg11 v11 v77
  let ⟨v123, v135, v140, v142, v145, v148, v149⟩ : Σ' (v123 : FVec F S512x512 .f32) (v135 : FVec F S512x128 .bf16) (v140 : FVec F S512x1 .f32) (v142 : FVec F S512x1 .f32) (v145 : FVec F S512x512 .f32) (v148 : FVec F S512x1 .f32), FVec F S512 .f32 ← k0_part15 i arg3 harg3 arg4 harg4 arg5 harg5 arg6 harg6 arg7 harg7 arg8 harg8 arg9 harg9 arg10 harg10 arg11 harg11 v11 v73 v90
  let ⟨v173, v183⟩ : Σ' (v173 : FVec F S512x512 .f32), FVec F S512x512 .f32 ← k0_part16 i arg3 harg3 arg4 harg4 arg5 harg5 arg6 harg6 arg7 harg7 arg8 harg8 arg9 harg9 arg10 harg10 arg11 harg11 v11 v123 v135 v140 v142 v145 v148 v149
  let v218 : FVec F S512x512 .f32 ← k0_part17 i arg3 harg3 arg4 harg4 arg5 harg5 arg6 harg6 arg7 harg7 arg8 harg8 arg9 harg9 arg10 harg10 arg11 harg11 v173 v183
  let ⟨v223, v235, v240, v242, v245, v254⟩ : Σ' (v223 : FVec F S512x512 .f32) (v235 : FVec F S512x128 .bf16) (v240 : FVec F S512x1 .f32) (v242 : FVec F S512x1 .f32) (v245 : FVec F S512x512 .f32), FVec F S1x512x1 .f32 ← k0_part18 i arg3 harg3 arg4 harg4 arg5 harg5 arg6 harg6 arg7 harg7 arg8 harg8 arg9 harg9 arg10 harg10 arg11 harg11 v11 v218
  let ⟨v273, v283, v285, v286⟩ : Σ' (v273 : FVec F S512x512 .f32) (v283 : FVec F S512x512 .f32) (v285 : FVec F S512x128 .bf16), Vec F S1x512x1 .f32 ← k0_part19 i arg3 harg3 arg4 harg4 arg5 harg5 arg6 harg6 arg7 harg7 arg8 harg8 arg9 harg9 arg10 harg10 arg11 harg11 v11 v223 v235 v240 v242 v245 v254
  let ⟨v318, v320, v322⟩ : Σ' (v318 : FVec F S512x512 .f32) (v320 : FVec F S512x128 .bf16), FVec F S512x128 .bf16 ← k0_part20 i arg3 harg3 arg4 harg4 arg5 harg5 arg6 harg6 arg7 harg7 arg8 harg8 arg9 harg9 arg10 harg10 arg11 harg11 v273 v283 v285 v286
  let ⟨v323, v335, v340, v357, v358, cst_218⟩ : Σ' (v323 : FVec F S512x512 .f32) (v335 : FVec F S512x128 .bf16) (v340 : FVec F S512x1 .f32) (v357 : FVec F S512x128 .f32) (v358 : FVec F S512x512 .bf16), FVec F S512x128 .f32 ← k0_part21 i arg3 harg3 arg4 harg4 arg5 harg5 arg6 harg6 arg7 harg7 arg8 harg8 arg9 harg9 arg10 harg10 arg11 harg11 v11 v318 v320 v322
  let ⟨v380, v385, v387, v390, v393, v394⟩ : Σ' (v380 : FVec F S512x128 .bf16) (v385 : FVec F S512x1 .f32) (v387 : FVec F S512x1 .f32) (v390 : FVec F S512x512 .f32) (v393 : FVec F S512x1 .f32), FVec F S512 .f32 ← k0_part22 i arg3 harg3 arg4 harg4 arg5 harg5 arg6 harg6 arg7 harg7 arg8 harg8 arg9 harg9 arg10 harg10 arg11 harg11 v11 v323 v335 v340 v357 v358 cst_218
  let v424 : FVec F S512x128 .bf16 ← k0_part23 i arg3 harg3 arg4 harg4 arg5 harg5 arg6 harg6 arg7 harg7 arg8 harg8 arg9 harg9 arg10 harg10 arg11 harg11 v380 v385 v387 v390 v393 v394
  let v452 : FVec F S512x128 .bf16 ← k0_part24 i arg3 harg3 arg4 harg4 arg5 harg5 arg6 harg6 arg7 harg7 arg8 harg8 arg9 harg9 arg10 harg10 arg11 harg11 v424
  Prog.lift (.store arg8 (Rect.unit (s := S512x1024) ![0, 640] S512x128.size inb_S512x1024_S512x128_0_640) v452 Finset.univ (View.stores_vmem h_S512x128 (harg8.storeExact_slice rfl _ packedbf16_S512x1024_S512x128_0_640) (fun _ => rfl)) (.inl rfl))
  let v454 : Vec F S512x128 .f32 ← Prog.lift (.load arg11 (Rect.unit (s := S512x1024) ![0, 768] S512x128.size inb_S512x1024_S512x128_0_768).toLoadRect (View.loadsAt_vmem h_S512x128))
  let v455 : Vec F S1x512x1 .f32 ← Prog.lift (.load arg10 (Rect.unit (s := S8x512x1) ![6, 0, 0] S1x512x1.size inb_S8x512x1_S1x512x1_6_0_0).toLoadRect (View.loadsAt_vmem h_S1x512x1))
  let v460 : Vec F S512x128 .bf16 ← Prog.lift (.load arg8 (Rect.unit (s := S512x1024) ![0, 768] S512x128.size inb_S512x1024_S512x128_0_768).toLoadRect (View.loadsAt_vmem h_S512x128))
  Prog.lift (.store arg8 (Rect.unit (s := S512x1024) ![0, 768] S512x128.size inb_S512x1024_S512x128_0_768) (k0_pay5 v454 v455) Finset.univ (View.stores_vmem h_S512x128 (harg8.storeExact_slice rfl _ packedbf16_S512x1024_S512x128_0_768) (fun _ => rfl)) (.inl rfl))
  let v461 : Vec F S512x128 .f32 ← Prog.lift (.load arg11 (Rect.unit (s := S512x1024) ![0, 896] S512x128.size inb_S512x1024_S512x128_0_896).toLoadRect (View.loadsAt_vmem h_S512x128))
  let v462 : Vec F S1x512x1 .f32 ← Prog.lift (.load arg10 (Rect.unit (s := S8x512x1) ![7, 0, 0] S1x512x1.size inb_S8x512x1_S1x512x1_7_0_0).toLoadRect (View.loadsAt_vmem h_S1x512x1))
  let v467 : Vec F S512x128 .bf16 ← Prog.lift (.load arg8 (Rect.unit (s := S512x1024) ![0, 896] S512x128.size inb_S512x1024_S512x128_0_896).toLoadRect (View.loadsAt_vmem h_S512x128))
  Prog.lift (.store arg8 (Rect.unit (s := S512x1024) ![0, 896] S512x128.size inb_S512x1024_S512x128_0_896) (k0_pay6 v461 v462) Finset.univ (View.stores_vmem h_S512x128 (harg8.storeExact_slice rfl _ packedbf16_S512x1024_S512x128_0_896) (fun _ => rfl)) (.inl rfl))
  pure ⟨⟩

/-- The body is its three branches, one after the other. -/
theorem body_eq (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x8 .f32) (harg6 : arg6.IsWhole)
    (arg7 : Memref sig .tc .vmem S1x8x512 .f32) (harg7 : arg7.IsWhole) (arg8 : Memref sig .tc .vmem S512x1024 .bf16) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S512x1024 .f32) (harg11 : arg11.IsWhole) :
    cc0_fox_prompt_attention (F := F) i arg3 harg3 arg4 harg4 arg5 harg5 arg6 harg6 arg7 harg7 arg8 harg8 arg9 harg9 arg10 harg10 arg11 harg11
      = ((if initCond i = 1#1 then initPart i arg3 harg3 arg4 harg4 arg5 harg5 arg6 harg6 arg7 harg7 arg8 harg8 arg9 harg9 arg10 harg10 arg11 harg11 else pure ⟨⟩) >>= fun _ =>
        (if fullCond i = 1#1 then fullPart i arg3 harg3 arg4 harg4 arg5 harg5 arg6 harg6 arg7 harg7 arg8 harg8 arg9 harg9 arg10 harg10 arg11 harg11 else pure ⟨⟩) >>= fun _ =>
        (if k0_cond3 i = 1#1 then diagPart i arg3 harg3 arg4 harg4 arg5 harg5 arg6 harg6 arg7 harg7 arg8 harg8 arg9 harg9 arg10 harg10 arg11 harg11 else pure ⟨⟩)) := by
  rw [cc0_fox_prompt_attention_eq_skeleton]
  unfold cc0_fox_prompt_attention_skel
  unfold initCond fullCond initPart fullPart diagPart
  dsimp only
  split_ifs <;> rfl

end Cert.Fox

end
-- ==== Proof.Fox.Steps.lean ====
/-
  The three branches of the body as functions of the arrays: what each leaves in the running maxima, the running sums and
  the accumulators, and, for the last one, in the block of results. Each is written once for a head `h`, over the
  rectangles of that head, and the whole array takes at each position the value of the head the position belongs to.
-/
module

public import proofs.«01_k».proof.Proof.Fox.Parts
public import Idealize.ShloMosaic.Lib.Pipeline.FrameBody
public import Idealize.ShloMosaic.Lib.Pointwise.Index
public import Idealize.ShloMosaic.Lib.Pipeline.ReadBack

@[expose] public section

set_option maxRecDepth 16384

noncomputable section

namespace Cert.Fox

open Idealize.ShloMosaic Idealize.SL.Sem
open Cert.KernelIdeal Cert.KernelIdeal.Gen

variable {F : FTy → Type} [FloatOps F] [Named F]

/-! ## The rectangles of a head -/

/-- The columns of head `h` in a block of 512 rows and 1024 columns. -/
abbrev rA (h : Fin 8) : Rect S512x1024 :=
  Rect.unit (s := S512x1024) ![0, 128 * h.val] S512x128.size (by intro a; have := h.isLt; fin_cases a <;> simp [S512x1024, S512x128] <;> omega)
/-- The column of head `h` among the row biases. -/
abbrev rC (h : Fin 8) : Rect S512x8 :=
  Rect.unit (s := S512x8) ![0, h.val] S512x1.size (by intro a; have := h.isLt; fin_cases a <;> simp [S512x8, S512x1] <;> omega)
/-- The row of head `h` among the column biases. -/
abbrev rK (h : Fin 8) : Rect S1x8x512 :=
  Rect.unit (s := S1x8x512) ![0, h.val, 0] S1x1x512.size (by intro a; have := h.isLt; fin_cases a <;> simp [S1x8x512, S1x1x512] <;> omega)
/-- The rows of head `h` among the running maxima, and among the running sums. -/
abbrev rM (h : Fin 8) : Rect S8x512x1 :=
  Rect.unit (s := S8x512x1) ![h.val, 0, 0] S1x512x1.size (by intro a; have := h.isLt; fin_cases a <;> simp [S8x512x1, S1x512x1] <;> omega)

/-! ## One head -/

/-- The scores of head `h` on a block of keys in the past: products of queries and keys, scaled, with the biases. -/
def fullScore (x0 x1 : Vec F S512x1024 .bf16) (x3 : Vec F S512x8 .f32) (x4 : Vec F S1x8x512 .f32) (h : Fin 8) : FVec F S512x512 .f32 :=
  k0_pay8 (View.ld x0 (rA h)) (View.ld x1 (rA h)) (View.ld x3 (rC h)) (View.ld x4 (rK h))

/-- The scores of head `h` on the diagonal block: those after the query are masked. -/
def diagScore (x0 x1 : Vec F S512x1024 .bf16) (x3 : Vec F S512x8 .f32) (x4 : Vec F S1x8x512 .f32) (h : Fin 8) : FVec F S512x512 .f32 :=
  k0_pay90 (View.ld x0 (rA h)) (View.ld x1 (rA h)) (View.ld x3 (rC h)) (View.ld x4 (rK h))

/-- The running maxima of a head after a block with scores `s`. -/
def headM (s : FVec F S512x512 .f32) (m : Vec F S1x512x1 .f32) : Vec F S1x512x1 .f32 := k0_pay17 (k0_pay21 s m)
/-- The running sums of a head after a block with scores `s`. -/
def headL (s : FVec F S512x512 .f32) (m l : Vec F S1x512x1 .f32) : Vec F S1x512x1 .f32 := k0_pay24 s m l
/-- The accumulator of a head after a block with scores `s` and values `v`. -/
def headA (s : FVec F S512x512 .f32) (v : Vec F S512x128 .bf16) (m : Vec F S1x512x1 .f32) (a : Vec F S512x128 .f32) :
    Vec F S512x128 .f32 := k0_pay25 s v m a

/-! ## The whole arrays -/

/-- The head a column of 1024 belongs to. -/
def headOf (y : S512x1024.Idx) : Fin 8 := ⟨(y 1).val / 128, by have := (y 1).isLt; simp [S512x1024] at this; omega⟩
/-- A position of a block of 512 rows and 1024 columns within its head's 128 columns. -/
def inHead (y : S512x1024.Idx) : S512x128.Idx := fun a => match a with | 0 => y 0 | 1 => ⟨(y 1).val % 128, Nat.mod_lt _ (by decide)⟩
/-- A position of the running maxima within its head. -/
def inRow (y : S8x512x1.Idx) : S1x512x1.Idx := fun a => match a with | 0 => ⟨0, by decide⟩ | 1 => y 1 | 2 => y 2

/-- All running maxima after a block with scores `s h` for head `h`. -/
def stepM (s : Fin 8 → FVec F S512x512 .f32) (m : Vec F S8x512x1 .f32) : Vec F S8x512x1 .f32 := fun y =>
  headM (s (y 0)) (View.ld m (rM (y 0))) (inRow y)
/-- All running sums after a block with scores `s h` for head `h`. -/
def stepL (s : Fin 8 → FVec F S512x512 .f32) (m l : Vec F S8x512x1 .f32) : Vec F S8x512x1 .f32 := fun y =>
  headL (s (y 0)) (View.ld m (rM (y 0))) (View.ld l (rM (y 0))) (inRow y)
/-- All accumulators after a block with scores `s h` for head `h` and values `x2`. -/
def stepA (s : Fin 8 → FVec F S512x512 .f32) (x2 : Vec F S512x1024 .bf16) (m : Vec F S8x512x1 .f32) (a : Vec F S512x1024 .f32) :
    Vec F S512x1024 .f32 := fun y =>
  headA (s (headOf y)) (View.ld x2 (rA (headOf y))) (View.ld m (rM (headOf y))) (View.ld a (rA (headOf y))) (inHead y)
/-- The block of results: every head's accumulator divided by its sum. -/
def quot (l : Vec F S8x512x1 .f32) (a : Vec F S512x1024 .f32) : Vec F S512x1024 .bf16 := fun y =>
  k0_pay5 (View.ld a (rA (headOf y))) (View.ld l (rM (headOf y))) (inHead y)

theorem headOf_rA (h : Fin 8) (x : (rA h).shape.Idx) : headOf ((rA h).idx x) = h := by
  have : (x 1).val < 128 := (x 1).isLt
  apply Fin.ext; simp only [headOf, LoadRect.idx]; simp; omega
theorem inHead_rA (h : Fin 8) (x : (rA h).shape.Idx) : inHead ((rA h).idx x) = x := by
  have : (x 1).val < 128 := (x 1).isLt
  funext a; fin_cases a <;> apply Fin.ext <;> simp [inHead, LoadRect.idx]; omega
theorem zero_rM (h : Fin 8) (x : (rM h).shape.Idx) : (rM h).idx x 0 = h := by
  have : (x 0).val < 1 := (x 0).isLt
  apply Fin.ext; simp [LoadRect.idx]; omega
theorem inRow_rM (h : Fin 8) (x : (rM h).shape.Idx) : inRow ((rM h).idx x) = x := by
  have : (x 0).val < 1 := (x 0).isLt
  funext a; fin_cases a <;> apply Fin.ext <;> simp [inRow, LoadRect.idx]; omega

/-- The maxima of head `h` among all the maxima. -/
theorem stepM_rM (s : Fin 8 → FVec F S512x512 .f32) (m : Vec F S8x512x1 .f32) (h : Fin 8) (x : (rM h).shape.Idx) :
    stepM s m ((rM h).idx x) = headM (s h) (View.ld m (rM h)) x := by
  unfold stepM; rw [inRow_rM, zero_rM]
/-- The sums of head `h` among all the sums. -/
theorem stepL_rM (s : Fin 8 → FVec F S512x512 .f32) (m l : Vec F S8x512x1 .f32) (h : Fin 8) (x : (rM h).shape.Idx) :
    stepL s m l ((rM h).idx x) = headL (s h) (View.ld m (rM h)) (View.ld l (rM h)) x := by
  unfold stepL; rw [inRow_rM, zero_rM]
/-- The accumulator of head `h` among all the accumulators. -/
theorem stepA_rA (s : Fin 8 → FVec F S512x512 .f32) (x2 : Vec F S512x1024 .bf16) (m : Vec F S8x512x1 .f32) (a : Vec F S512x1024 .f32)
    (h : Fin 8) (x : (rA h).shape.Idx) :
    stepA s x2 m a ((rA h).idx x) = headA (s h) (View.ld x2 (rA h)) (View.ld m (rM h)) (View.ld a (rA h)) x := by
  unfold stepA; rw [inHead_rA, headOf_rA]
/-- The results of head `h` among all the results. -/
theorem quot_rA (l : Vec F S8x512x1 .f32) (a : Vec F S512x1024 .f32) (h : Fin 8) (x : (rA h).shape.Idx) :
    quot l a ((rA h).idx x) = k0_pay5 (View.ld a (rA h)) (View.ld l (rM h)) x := by
  unfold quot; rw [inHead_rA, headOf_rA]

/-- Stores that are blocks of `G` and together reach every index leave a buffer that reads `G`. -/
theorem read_pieces {κ : Kind} {sp : Space} {s : Shape} {e : EltTy} {v : View sig κ sp s e} (f : v.ty.Contents (Elt F))
    (L : List (View.Piece (Elt F) s e)) (G : s.Idx → Elt F e) (h : View.PiecesOf G L) (hc : ∀ y, ∃ p ∈ L, y ∈ p.1.set) :
    v.read (Elt F) (v.writes (Elt F) f L) = G := by
  rw [View.read_writes_of_cover v f v v.junk L hc, View.read_writes_junk_eq_canon]
  funext y
  have := View.canon_append_of_piecesOf G [] L h y (hc y)
  rwa [List.append_nil] at this

/-- A store of a whole array leaves a buffer that reads it. -/
theorem read_fill {κ : Kind} {sp : Space} {s : Shape} {e : EltTy} {v : View sig κ sp s e} (f : v.ty.Contents (Elt F))
    {off : Fin s.rank → Nat} (inb : ∀ a, off a + s.size a ≤ s.size a) (w : s.Idx → Elt F e) (h : ∀ a, off a = 0) :
    v.read (Elt F) (v.writes (Elt F) f [⟨Rect.unit off s.size inb, w⟩]) = w := by
  have hm : ∀ y, y ∈ (Rect.unit off s.size inb).set := fun y => by
    rw [Rect.mem_set_unit]; intro a; rw [h a]; exact ⟨Nat.zero_le _, by have := (y a).isLt; omega⟩
  rw [View.read_writes_of_cover v f v v.junk _ (fun y => ⟨_, List.mem_cons_self, hm y⟩), View.read_writes_junk_eq_canon]
  exact View.canon_cons_unit_lit _ _ _ h

/-- Loads of a buffer that holds blocks of `G` everywhere read `G`. -/
theorem readCov_pieces {κ : Kind} {sp : Space} {s : Shape} {e : EltTy} (v : View sig κ sp s e)
    (L : List (View.Piece (Elt F) s e)) (G : s.Idx → Elt F e) (h : View.PiecesOf G L) (hc : ∀ y, ∃ p ∈ L, y ∈ p.1.set) (r : Rect s) :
    v.readCov L r.toLoadRect = View.ld G r := by
  rw [View.readCov_eq_canon']
  funext j
  have := View.canon_append_of_piecesOf G [] L h (r.idx j) (hc _)
  rwa [List.append_nil] at this

/-- The eight stores of quotients, each read from accumulators and sums stored just before, are blocks of `quot`. -/
theorem quot_pieces {κ : Kind} {sp : Space} (va : View sig κ sp S512x1024 .f32) (vl : View sig κ sp S8x512x1 .f32)
    (LA : List (View.Piece (Elt F) S512x1024 .f32)) (LL : List (View.Piece (Elt F) S8x512x1 .f32))
    (a : Vec F S512x1024 .f32) (l : Vec F S8x512x1 .f32)
    (hA : View.PiecesOf a LA) (cA : ∀ y, ∃ p ∈ LA, y ∈ p.1.set) (hL : View.PiecesOf l LL) (cL : ∀ y, ∃ p ∈ LL, y ∈ p.1.set) :
    View.PiecesOf (Val := Elt F) (s := S512x1024) (e := .bf16) (quot l a)
      [⟨rA 7, k0_pay5 (va.readCov LA (rA 7).toLoadRect) (vl.readCov LL (rM 7).toLoadRect)⟩,
       ⟨rA 6, k0_pay5 (va.readCov LA (rA 6).toLoadRect) (vl.readCov LL (rM 6).toLoadRect)⟩,
       ⟨rA 5, k0_pay5 (va.readCov LA (rA 5).toLoadRect) (vl.readCov LL (rM 5).toLoadRect)⟩,
       ⟨rA 4, k0_pay5 (va.readCov LA (rA 4).toLoadRect) (vl.readCov LL (rM 4).toLoadRect)⟩,
       ⟨rA 3, k0_pay5 (va.readCov LA (rA 3).toLoadRect) (vl.readCov LL (rM 3).toLoadRect)⟩,
       ⟨rA 2, k0_pay5 (va.readCov LA (rA 2).toLoadRect) (vl.readCov LL (rM 2).toLoadRect)⟩,
       ⟨rA 1, k0_pay5 (va.readCov LA (rA 1).toLoadRect) (vl.readCov LL (rM 1).toLoadRect)⟩,
       ⟨rA 0, k0_pay5 (va.readCov LA (rA 0).toLoadRect) (vl.readCov LL (rM 0).toLoadRect)⟩] := by
  have H (h : Fin 8) (x : (rA h).shape.Idx) :
      k0_pay5 (va.readCov LA (rA h).toLoadRect) (vl.readCov LL (rM h).toLoadRect) x = quot l a ((rA h).emb x) := by
    rw [readCov_pieces va LA a hA cA, readCov_pieces vl LL l hL cL]; exact (quot_rA l a h x).symm
  exact ⟨H 7, H 6, H 5, H 4, H 3, H 2, H 1, H 0, trivial⟩

end Cert.Fox

end
-- ==== Proof.Fox.Init.lean ====
/- The first branch of the body, run. -/
module

public import proofs.«01_k».proof.Proof.Fox.Steps
public import proofs.«01_k».proof.Proof.Gen.KernelIdeal.Launch
public import proofs.«01_k».proof.Proof.Gen.KernelIdeal.Points
public import Idealize.ShloMosaic.Lib.Pipeline.FrameBody
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- The first branch, run: it leaves the mask value in the running maxima and zeros in the running sums and the accumulators. -/
theorem init_run (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x8 .f32) (harg6 : arg6.IsWhole) (arg7 : Memref sig .tc .vmem S1x8x512 .f32) (harg7 : arg7.IsWhole) (arg8 : Memref sig .tc .vmem S512x1024 .bf16) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S512x1024 .f32) (harg11 : arg11.IsWhole)
    (x0 : Vec F S512x1024 .bf16) (x1 : Vec F S512x1024 .bf16) (x2 : Vec F S512x1024 .bf16) (x3 : Vec F S512x8 .f32) (x4 : Vec F S1x8x512 .f32)
    (o : Vec F S512x1024 .bf16) (m : Vec F S8x512x1 .f32) (l : Vec F S8x512x1 .f32) (a : Vec F S512x1024 .f32) (E : Set ℕ) (K : PUnit → sProp 𝕄) :
    iprop(owns (c : Thread nD τ) arg9 fullShare m ∗ owns (c : Thread nD τ) arg10 fullShare l ∗ owns (c : Thread nD τ) arg11 fullShare a
        ∗ (iprop(owns (c : Thread nD τ) arg9 fullShare (k0_pay1 (F := F)) ∗ owns (c : Thread nD τ) arg10 fullShare (k0_pay2 (F := F)) ∗ owns (c : Thread nD τ) arg11 fullShare (k0_pay3 (F := F))) -∗ K ⟨⟩))
      ⊢ wp frame (wpE (defs₀ (F := F)) Variants.none c none) E (initPart i arg3 harg3 arg4 harg4 arg5 harg5 arg6 harg6 arg7 harg7 arg8 harg8 arg9 harg9 arg10 harg10 arg11 harg11) K := by
  unfold initPart
  unfold owns
  iintro ⟨⟨%fS0, %hfS0, HS0⟩, ⟨%fS1, %hfS1, HS1⟩, ⟨%fS2, %hfS2, HS2⟩, Hk⟩
  subst hfS0 hfS1 hfS2
  sl_exec
  sl_step
  iapply Hk
  isplitl [HS0]
  · iexists _; isplitr; swap; · iexact HS0
    ipureintro
    exact read_fill _ _ _ (by decide)
  isplitl [HS1]
  · iexists _; isplitr; swap; · iexact HS1
    ipureintro
    exact read_fill _ _ _ (by decide)
  iexists _; isplitr; swap; · iexact HS2
  ipureintro
  exact read_fill _ _ _ (by decide)

end Cert.Fox

end
-- ==== Proof.Fox.Full.lean ====
/- The second branch of the body, run. -/
module

public import proofs.«01_k».proof.Proof.Fox.Steps
public import proofs.«01_k».proof.Proof.Gen.KernelIdeal.Launch
public import proofs.«01_k».proof.Proof.Gen.KernelIdeal.Points
public import Idealize.ShloMosaic.Lib.Pipeline.FrameBody
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1200000 in
/-- The second branch, run: it leaves the inputs as they were, and advances the running maxima, the running sums and the
    accumulators by the block's scores. -/
theorem full_run (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x8 .f32) (harg6 : arg6.IsWhole) (arg7 : Memref sig .tc .vmem S1x8x512 .f32) (harg7 : arg7.IsWhole) (arg8 : Memref sig .tc .vmem S512x1024 .bf16) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S512x1024 .f32) (harg11 : arg11.IsWhole)
    (x0 : Vec F S512x1024 .bf16) (x1 : Vec F S512x1024 .bf16) (x2 : Vec F S512x1024 .bf16) (x3 : Vec F S512x8 .f32) (x4 : Vec F S1x8x512 .f32)
    (m : Vec F S8x512x1 .f32) (l : Vec F S8x512x1 .f32) (a : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg9 fullShare m ∗ owns (c : Thread nD τ) arg10 fullShare l ∗ owns (c : Thread nD τ) arg11 fullShare a
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg9 fullShare (stepM (fullScore x0 x1 x3 x4) m) ∗ owns (c : Thread nD τ) arg10 fullShare (stepL (fullScore x0 x1 x3 x4) m l) ∗ owns (c : Thread nD τ) arg11 fullShare (stepA (fullScore x0 x1 x3 x4) x2 m a)) -∗ K ⟨⟩))
      ⊢ wp frame (wpE (defs₀ (F := F)) Variants.none c none) E (fullPart i arg3 harg3 arg4 harg4 arg5 harg5 arg6 harg6 arg7 harg7 arg8 harg8 arg9 harg9 arg10 harg10 arg11 harg11) K := by
  unfold fullPart
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
  subst hf0 hf1 hf2 hf3 hf4 hfs0 hfs1 hfs2
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [HS0]
  · iexists _; isplitr; swap; · iexact HS0
    ipureintro
    refine read_pieces _ _ _ ?_ (View.cover_of_tiledL _ ![1, 512, 1] (by sl_kernel_rfl))
    refine ⟨fun x => Eq.trans ?_ (stepM_rM _ _ 7 x).symm, ?_⟩
    · refine congrFun ?_ x; frame_open; rfl
    refine ⟨fun x => Eq.trans ?_ (stepM_rM _ _ 6 x).symm, ?_⟩
    · refine congrFun ?_ x; frame_open; rfl
    refine ⟨fun x => Eq.trans ?_ (stepM_rM _ _ 5 x).symm, ?_⟩
    · refine congrFun ?_ x; frame_open; rfl
    refine ⟨fun x => Eq.trans ?_ (stepM_rM _ _ 4 x).symm, ?_⟩
    · refine congrFun ?_ x; frame_open; rfl
    refine ⟨fun x => Eq.trans ?_ (stepM_rM _ _ 3 x).symm, ?_⟩
    · refine congrFun ?_ x; frame_open; rfl
    refine ⟨fun x => Eq.trans ?_ (stepM_rM _ _ 2 x).symm, ?_⟩
    · refine congrFun ?_ x; frame_open; rfl
    refine ⟨fun x => Eq.trans ?_ (stepM_rM _ _ 1 x).symm, ?_⟩
    · refine congrFun ?_ x; frame_open; rfl
    refine ⟨fun x => Eq.trans ?_ (stepM_rM _ _ 0 x).symm, ?_⟩
    · refine congrFun ?_ x; frame_open; rfl
    trivial
  isplitl [HS1]
  · iexists _; isplitr; swap; · iexact HS1
    ipureintro
    refine read_pieces _ _ _ ?_ (View.cover_of_tiledL _ ![1, 512, 1] (by sl_kernel_rfl))
    refine ⟨fun x => Eq.trans ?_ (stepL_rM _ _ _ 7 x).symm, ?_⟩
    · refine congrFun ?_ x; frame_open; rfl
    refine ⟨fun x => Eq.trans ?_ (stepL_rM _ _ _ 6 x).symm, ?_⟩
    · refine congrFun ?_ x; frame_open; rfl
    refine ⟨fun x => Eq.trans ?_ (stepL_rM _ _ _ 5 x).symm, ?_⟩
    · refine congrFun ?_ x; frame_open; rfl
    refine ⟨fun x => Eq.trans ?_ (stepL_rM _ _ _ 4 x).symm, ?_⟩
    · refine congrFun ?_ x; frame_open; rfl
    refine ⟨fun x => Eq.trans ?_ (stepL_rM _ _ _ 3 x).symm, ?_⟩
    · refine congrFun ?_ x; frame_open; rfl
    refine ⟨fun x => Eq.trans ?_ (stepL_rM _ _ _ 2 x).symm, ?_⟩
    · refine congrFun ?_ x; frame_open; rfl
    refine ⟨fun x => Eq.trans ?_ (stepL_rM _ _ _ 1 x).symm, ?_⟩
    · refine congrFun ?_ x; frame_open; rfl
    refine ⟨fun x => Eq.trans ?_ (stepL_rM _ _ _ 0 x).symm, ?_⟩
    · refine congrFun ?_ x; frame_open; rfl
    trivial
  iexists _; isplitr; swap; · iexact HS2
  ipureintro
  refine read_pieces _ _ _ ?_ (View.cover_of_tiledL _ ![512, 128] (by sl_kernel_rfl))
  refine ⟨fun x => Eq.trans ?_ (stepA_rA _ _ _ _ 7 x).symm, ?_⟩
  · refine congrFun ?_ x; frame_open; rfl
  refine ⟨fun x => Eq.trans ?_ (stepA_rA _ _ _ _ 6 x).symm, ?_⟩
  · refine congrFun ?_ x; frame_open; rfl
  refine ⟨fun x => Eq.trans ?_ (stepA_rA _ _ _ _ 5 x).symm, ?_⟩
  · refine congrFun ?_ x; frame_open; rfl
  refine ⟨fun x => Eq.trans ?_ (stepA_rA _ _ _ _ 4 x).symm, ?_⟩
  · refine congrFun ?_ x; frame_open; rfl
  refine ⟨fun x => Eq.trans ?_ (stepA_rA _ _ _ _ 3 x).symm, ?_⟩
  · refine congrFun ?_ x; frame_open; rfl
  refine ⟨fun x => Eq.trans ?_ (stepA_rA _ _ _ _ 2 x).symm, ?_⟩
  · refine congrFun ?_ x; frame_open; rfl
  refine ⟨fun x => Eq.trans ?_ (stepA_rA _ _ _ _ 1 x).symm, ?_⟩
  · refine congrFun ?_ x; frame_open; rfl
  refine ⟨fun x => Eq.trans ?_ (stepA_rA _ _ _ _ 0 x).symm, ?_⟩
  · refine congrFun ?_ x; frame_open; rfl
  trivial

end Cert.Fox

end
-- ==== Proof.Fox.Diag.lean ====
/- The third branch of the body, run. -/
module

public import proofs.«01_k».proof.Proof.Fox.Steps
public import proofs.«01_k».proof.Proof.Gen.KernelIdeal.Launch
public import proofs.«01_k».proof.Proof.Gen.KernelIdeal.Points
public import Idealize.ShloMosaic.Lib.Pipeline.FrameBody
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- The third branch, run: it advances the running quantities by the diagonal block's scores and stores the quotients. -/
theorem diag_run (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x8 .f32) (harg6 : arg6.IsWhole) (arg7 : Memref sig .tc .vmem S1x8x512 .f32) (harg7 : arg7.IsWhole) (arg8 : Memref sig .tc .vmem S512x1024 .bf16) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S512x1024 .f32) (harg11 : arg11.IsWhole)
    (x0 : Vec F S512x1024 .bf16) (x1 : Vec F S512x1024 .bf16) (x2 : Vec F S512x1024 .bf16) (x3 : Vec F S512x8 .f32) (x4 : Vec F S1x8x512 .f32)
    (o : Vec F S512x1024 .bf16) (m : Vec F S8x512x1 .f32) (l : Vec F S8x512x1 .f32) (a : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare o ∗ owns (c : Thread nD τ) arg9 fullShare m ∗ owns (c : Thread nD τ) arg10 fullShare l ∗ owns (c : Thread nD τ) arg11 fullShare a
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (quot (stepL (diagScore x0 x1 x3 x4) m l) (stepA (diagScore x0 x1 x3 x4) x2 m a)) ∗ owns (c : Thread nD τ) arg9 fullShare (stepM (diagScore x0 x1 x3 x4) m) ∗ owns (c : Thread nD τ) arg10 fullShare (stepL (diagScore x0 x1 x3 x4) m l) ∗ owns (c : Thread nD τ) arg11 fullShare (stepA (diagScore x0 x1 x3 x4) x2 m a)) -∗ K ⟨⟩))
      ⊢ wp frame (wpE (defs₀ (F := F)) Variants.none c none) E (diagPart i arg3 harg3 arg4 harg4 arg5 harg5 arg6 harg6 arg7 harg7 arg8 harg8 arg9 harg9 arg10 harg10 arg11 harg11) K := by
  unfold diagPart
  simp only [k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fS0, %hfS0, HS0⟩, ⟨%fS1, %hfS1, HS1⟩, ⟨%fS2, %hfS2, HS2⟩, Hk⟩
  subst hf0 hf1 hf2 hf3 hf4 hf5 hfS0 hfS1 hfS2
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; · iexact H5
    ipureintro
    refine read_pieces _ _ _ (quot_pieces arg11.view arg10.view _ _ _ _ ?_ (View.cover_of_tiledL _ ![512, 128] (by sl_kernel_rfl)) ?_ (View.cover_of_tiledL _ ![1, 512, 1] (by sl_kernel_rfl))) (View.cover_of_tiledL _ ![512, 128] (by sl_kernel_rfl))
    · refine ⟨fun x => Eq.trans ?_ (stepA_rA _ _ _ _ 7 x).symm, ?_⟩
      · refine congrFun ?_ x; frame_open; rfl
      refine ⟨fun x => Eq.trans ?_ (stepA_rA _ _ _ _ 6 x).symm, ?_⟩
      · refine congrFun ?_ x; frame_open; rfl
      refine ⟨fun x => Eq.trans ?_ (stepA_rA _ _ _ _ 5 x).symm, ?_⟩
      · refine congrFun ?_ x; frame_open; rfl
      refine ⟨fun x => Eq.trans ?_ (stepA_rA _ _ _ _ 4 x).symm, ?_⟩
      · refine congrFun ?_ x; frame_open; rfl
      refine ⟨fun x => Eq.trans ?_ (stepA_rA _ _ _ _ 3 x).symm, ?_⟩
      · refine congrFun ?_ x; frame_open; rfl
      refine ⟨fun x => Eq.trans ?_ (stepA_rA _ _ _ _ 2 x).symm, ?_⟩
      · refine congrFun ?_ x; frame_open; rfl
      refine ⟨fun x => Eq.trans ?_ (stepA_rA _ _ _ _ 1 x).symm, ?_⟩
      · refine congrFun ?_ x; frame_open; rfl
      refine ⟨fun x => Eq.trans ?_ (stepA_rA _ _ _ _ 0 x).symm, ?_⟩
      · refine congrFun ?_ x; frame_open; rfl
      trivial
    · refine ⟨fun x => Eq.trans ?_ (stepL_rM _ _ _ 7 x).symm, ?_⟩
      · refine congrFun ?_ x; frame_open; rfl
      refine ⟨fun x => Eq.trans ?_ (stepL_rM _ _ _ 6 x).symm, ?_⟩
      · refine congrFun ?_ x; frame_open; rfl
      refine ⟨fun x => Eq.trans ?_ (stepL_rM _ _ _ 5 x).symm, ?_⟩
      · refine congrFun ?_ x; frame_open; rfl
      refine ⟨fun x => Eq.trans ?_ (stepL_rM _ _ _ 4 x).symm, ?_⟩
      · refine congrFun ?_ x; frame_open; rfl
      refine ⟨fun x => Eq.trans ?_ (stepL_rM _ _ _ 3 x).symm, ?_⟩
      · refine congrFun ?_ x; frame_open; rfl
      refine ⟨fun x => Eq.trans ?_ (stepL_rM _ _ _ 2 x).symm, ?_⟩
      · refine congrFun ?_ x; frame_open; rfl
      refine ⟨fun x => Eq.trans ?_ (stepL_rM _ _ _ 1 x).symm, ?_⟩
      · refine congrFun ?_ x; frame_open; rfl
      refine ⟨fun x => Eq.trans ?_ (stepL_rM _ _ _ 0 x).symm, ?_⟩
      · refine congrFun ?_ x; frame_open; rfl
      trivial
  isplitl [HS0]
  · iexists _; isplitr; swap; · iexact HS0
    ipureintro
    refine read_pieces _ _ _ ?_ (View.cover_of_tiledL _ ![1, 512, 1] (by sl_kernel_rfl))
    refine ⟨fun x => Eq.trans ?_ (stepM_rM _ _ 7 x).symm, ?_⟩
    · refine congrFun ?_ x; frame_open; rfl
    refine ⟨fun x => Eq.trans ?_ (stepM_rM _ _ 6 x).symm, ?_⟩
    · refine congrFun ?_ x; frame_open; rfl
    refine ⟨fun x => Eq.trans ?_ (stepM_rM _ _ 5 x).symm, ?_⟩
    · refine congrFun ?_ x; frame_open; rfl
    refine ⟨fun x => Eq.trans ?_ (stepM_rM _ _ 4 x).symm, ?_⟩
    · refine congrFun ?_ x; frame_open; rfl
    refine ⟨fun x => Eq.trans ?_ (stepM_rM _ _ 3 x).symm, ?_⟩
    · refine congrFun ?_ x; frame_open; rfl
    refine ⟨fun x => Eq.trans ?_ (stepM_rM _ _ 2 x).symm, ?_⟩
    · refine congrFun ?_ x; frame_open; rfl
    refine ⟨fun x => Eq.trans ?_ (stepM_rM _ _ 1 x).symm, ?_⟩
    · refine congrFun ?_ x; frame_open; rfl
    refine ⟨fun x => Eq.trans ?_ (stepM_rM _ _ 0 x).symm, ?_⟩
    · refine congrFun ?_ x; frame_open; rfl
    trivial
  isplitl [HS1]
  · iexists _; isplitr; swap; · iexact HS1
    ipureintro
    refine read_pieces _ _ _ ?_ (View.cover_of_tiledL _ ![1, 512, 1] (by sl_kernel_rfl))
    refine ⟨fun x => Eq.trans ?_ (stepL_rM _ _ _ 7 x).symm, ?_⟩
    · refine congrFun ?_ x; frame_open; rfl
    refine ⟨fun x => Eq.trans ?_ (stepL_rM _ _ _ 6 x).symm, ?_⟩
    · refine congrFun ?_ x; frame_open; rfl
    refine ⟨fun x => Eq.trans ?_ (stepL_rM _ _ _ 5 x).symm, ?_⟩
    · refine congrFun ?_ x; frame_open; rfl
    refine ⟨fun x => Eq.trans ?_ (stepL_rM _ _ _ 4 x).symm, ?_⟩
    · refine congrFun ?_ x; frame_open; rfl
    refine ⟨fun x => Eq.trans ?_ (stepL_rM _ _ _ 3 x).symm, ?_⟩
    · refine congrFun ?_ x; frame_open; rfl
    refine ⟨fun x => Eq.trans ?_ (stepL_rM _ _ _ 2 x).symm, ?_⟩
    · refine congrFun ?_ x; frame_open; rfl
    refine ⟨fun x => Eq.trans ?_ (stepL_rM _ _ _ 1 x).symm, ?_⟩
    · refine congrFun ?_ x; frame_open; rfl
    refine ⟨fun x => Eq.trans ?_ (stepL_rM _ _ _ 0 x).symm, ?_⟩
    · refine congrFun ?_ x; frame_open; rfl
    trivial
  iexists _; isplitr; swap; · iexact HS2
  ipureintro
  refine read_pieces _ _ _ ?_ (View.cover_of_tiledL _ ![512, 128] (by sl_kernel_rfl))
  refine ⟨fun x => Eq.trans ?_ (stepA_rA _ _ _ _ 7 x).symm, ?_⟩
  · refine congrFun ?_ x; frame_open; rfl
  refine ⟨fun x => Eq.trans ?_ (stepA_rA _ _ _ _ 6 x).symm, ?_⟩
  · refine congrFun ?_ x; frame_open; rfl
  refine ⟨fun x => Eq.trans ?_ (stepA_rA _ _ _ _ 5 x).symm, ?_⟩
  · refine congrFun ?_ x; frame_open; rfl
  refine ⟨fun x => Eq.trans ?_ (stepA_rA _ _ _ _ 4 x).symm, ?_⟩
  · refine congrFun ?_ x; frame_open; rfl
  refine ⟨fun x => Eq.trans ?_ (stepA_rA _ _ _ _ 3 x).symm, ?_⟩
  · refine congrFun ?_ x; frame_open; rfl
  refine ⟨fun x => Eq.trans ?_ (stepA_rA _ _ _ _ 2 x).symm, ?_⟩
  · refine congrFun ?_ x; frame_open; rfl
  refine ⟨fun x => Eq.trans ?_ (stepA_rA _ _ _ _ 1 x).symm, ?_⟩
  · refine congrFun ?_ x; frame_open; rfl
  refine ⟨fun x => Eq.trans ?_ (stepA_rA _ _ _ _ 0 x).symm, ?_⟩
  · refine congrFun ?_ x; frame_open; rfl
  trivial

end Cert.Fox

end
-- ==== Proof.Fox.Body.lean ====
/- The body at one point of the grid, from its three branches. -/
module

public import proofs.«01_k».proof.Proof.Fox.Init
public import proofs.«01_k».proof.Proof.Fox.Full
public import proofs.«01_k».proof.Proof.Fox.Diag
public import proofs.«01_k».proof.Proof.Gen.KernelIdeal.Launch
public import proofs.«01_k».proof.Proof.Gen.KernelIdeal.Points
public import Idealize.ShloMosaic.Lib.Pipeline.FrameBody
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- What the body carries: the running maxima, the running sums, the accumulators, and the block of results. -/
structure St (F : FTy → Type) where
  m : Vec F S8x512x1 .f32
  l : Vec F S8x512x1 .f32
  a : Vec F S512x1024 .f32
  o : Vec F S512x1024 .bf16

/-- The first branch on what is carried. -/
def initSt (s : St F) : St F := ⟨k0_pay1, k0_pay2, k0_pay3, s.o⟩
/-- The second branch on what is carried. -/
def fullSt (x0 : Vec F S512x1024 .bf16) (x1 : Vec F S512x1024 .bf16) (x2 : Vec F S512x1024 .bf16) (x3 : Vec F S512x8 .f32) (x4 : Vec F S1x8x512 .f32) (s : St F) : St F :=
  ⟨stepM (fullScore x0 x1 x3 x4) s.m, stepL (fullScore x0 x1 x3 x4) s.m s.l, stepA (fullScore x0 x1 x3 x4) x2 s.m s.a, s.o⟩
/-- The third branch on what is carried. -/
def diagSt (x0 : Vec F S512x1024 .bf16) (x1 : Vec F S512x1024 .bf16) (x2 : Vec F S512x1024 .bf16) (x3 : Vec F S512x8 .f32) (x4 : Vec F S1x8x512 .f32) (s : St F) : St F :=
  ⟨stepM (diagScore x0 x1 x3 x4) s.m, stepL (diagScore x0 x1 x3 x4) s.m s.l, stepA (diagScore x0 x1 x3 x4) x2 s.m s.a,
    quot (stepL (diagScore x0 x1 x3 x4) s.m s.l) (stepA (diagScore x0 x1 x3 x4) x2 s.m s.a)⟩
/-- The body on what is carried: the branches taken, in order. -/
def stepSt (i : grid0.Coords) (x0 : Vec F S512x1024 .bf16) (x1 : Vec F S512x1024 .bf16) (x2 : Vec F S512x1024 .bf16) (x3 : Vec F S512x8 .f32) (x4 : Vec F S1x8x512 .f32) (s : St F) : St F :=
  let s1 := if initCond i = 1#1 then initSt s else s
  let s2 := if fullCond i = 1#1 then fullSt x0 x1 x2 x3 x4 s1 else s1
  if k0_cond3 i = 1#1 then diagSt x0 x1 x2 x3 x4 s2 else s2

/-- The body's buffers, the inputs at `x0 x1 x2 x3 x4` and the carried ones at `s`. -/
def held (c : Dev nD) (arg3 : Memref sig .tc .vmem S512x1024 .bf16) (arg4 : Memref sig .tc .vmem S512x1024 .bf16) (arg5 : Memref sig .tc .vmem S512x1024 .bf16) (arg6 : Memref sig .tc .vmem S512x8 .f32) (arg7 : Memref sig .tc .vmem S1x8x512 .f32) (arg8 : Memref sig .tc .vmem S512x1024 .bf16) (arg9 : Memref sig .tc .vmem S8x512x1 .f32) (arg10 : Memref sig .tc .vmem S8x512x1 .f32) (arg11 : Memref sig .tc .vmem S512x1024 .f32)
    (x0 : Vec F S512x1024 .bf16) (x1 : Vec F S512x1024 .bf16) (x2 : Vec F S512x1024 .bf16) (x3 : Vec F S512x8 .f32) (x4 : Vec F S1x8x512 .f32) (s : St F) : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
    ∗ owns (c : Thread nD τ) arg8 fullShare s.o ∗ owns (c : Thread nD τ) arg9 fullShare s.m ∗ owns (c : Thread nD τ) arg10 fullShare s.l ∗ owns (c : Thread nD τ) arg11 fullShare s.a)

/-- The first branch, taken or not. -/
theorem init_stage (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x8 .f32) (harg6 : arg6.IsWhole) (arg7 : Memref sig .tc .vmem S1x8x512 .f32) (harg7 : arg7.IsWhole) (arg8 : Memref sig .tc .vmem S512x1024 .bf16) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S512x1024 .f32) (harg11 : arg11.IsWhole)
    (x0 : Vec F S512x1024 .bf16) (x1 : Vec F S512x1024 .bf16) (x2 : Vec F S512x1024 .bf16) (x3 : Vec F S512x8 .f32) (x4 : Vec F S1x8x512 .f32) (s : St F) (E : Set ℕ) (K : PUnit → sProp 𝕄) :
    iprop(held c arg3 arg4 arg5 arg6 arg7 arg8 arg9 arg10 arg11 x0 x1 x2 x3 x4 s ∗ (held c arg3 arg4 arg5 arg6 arg7 arg8 arg9 arg10 arg11 x0 x1 x2 x3 x4 (if initCond i = 1#1 then initSt s else s) -∗ K ⟨⟩))
      ⊢ wp frame (wpE (defs₀ (F := F)) Variants.none c none) E (if initCond i = 1#1 then initPart i arg3 harg3 arg4 harg4 arg5 harg5 arg6 harg6 arg7 harg7 arg8 harg8 arg9 harg9 arg10 harg10 arg11 harg11 else pure ⟨⟩) K := by
  by_cases h : initCond i = 1#1
  · rw [if_pos h, if_pos h]
    unfold held
    iintro ⟨⟨H0, H1, H2, H3, H4, H5, H6, H7, H8⟩, Hk⟩
    iapply (init_run c i arg3 harg3 arg4 harg4 arg5 harg5 arg6 harg6 arg7 harg7 arg8 harg8 arg9 harg9 arg10 harg10 arg11 harg11 x0 x1 x2 x3 x4 s.o s.m s.l s.a E K)
    isplitl [H6]; · iexact H6
    isplitl [H7]; · iexact H7
    isplitl [H8]; · iexact H8
    iintro ⟨H6, H7, H8⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [if_neg h, if_neg h]
    iintro ⟨H, Hk⟩
    sl_step
    iapply Hk
    iexact H

/-- The second branch, taken or not. -/
theorem full_stage (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x8 .f32) (harg6 : arg6.IsWhole) (arg7 : Memref sig .tc .vmem S1x8x512 .f32) (harg7 : arg7.IsWhole) (arg8 : Memref sig .tc .vmem S512x1024 .bf16) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S512x1024 .f32) (harg11 : arg11.IsWhole)
    (x0 : Vec F S512x1024 .bf16) (x1 : Vec F S512x1024 .bf16) (x2 : Vec F S512x1024 .bf16) (x3 : Vec F S512x8 .f32) (x4 : Vec F S1x8x512 .f32) (s : St F) (E : Set ℕ) (K : PUnit → sProp 𝕄) :
    iprop(held c arg3 arg4 arg5 arg6 arg7 arg8 arg9 arg10 arg11 x0 x1 x2 x3 x4 s ∗ (held c arg3 arg4 arg5 arg6 arg7 arg8 arg9 arg10 arg11 x0 x1 x2 x3 x4 (if fullCond i = 1#1 then fullSt x0 x1 x2 x3 x4 s else s) -∗ K ⟨⟩))
      ⊢ wp frame (wpE (defs₀ (F := F)) Variants.none c none) E (if fullCond i = 1#1 then fullPart i arg3 harg3 arg4 harg4 arg5 harg5 arg6 harg6 arg7 harg7 arg8 harg8 arg9 harg9 arg10 harg10 arg11 harg11 else pure ⟨⟩) K := by
  by_cases h : fullCond i = 1#1
  · rw [if_pos h, if_pos h]
    unfold held
    iintro ⟨⟨H0, H1, H2, H3, H4, H5, H6, H7, H8⟩, Hk⟩
    iapply (full_run c i arg3 harg3 arg4 harg4 arg5 harg5 arg6 harg6 arg7 harg7 arg8 harg8 arg9 harg9 arg10 harg10 arg11 harg11 x0 x1 x2 x3 x4 s.m s.l s.a E K)
    isplitl [H0]; · iexact H0
    isplitl [H1]; · iexact H1
    isplitl [H2]; · iexact H2
    isplitl [H3]; · iexact H3
    isplitl [H4]; · iexact H4
    isplitl [H6]; · iexact H6
    isplitl [H7]; · iexact H7
    isplitl [H8]; · iexact H8
    iintro ⟨H0, H1, H2, H3, H4, H6, H7, H8⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [if_neg h, if_neg h]
    iintro ⟨H, Hk⟩
    sl_step
    iapply Hk
    iexact H

/-- The third branch, taken or not. -/
theorem diag_stage (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x8 .f32) (harg6 : arg6.IsWhole) (arg7 : Memref sig .tc .vmem S1x8x512 .f32) (harg7 : arg7.IsWhole) (arg8 : Memref sig .tc .vmem S512x1024 .bf16) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S512x1024 .f32) (harg11 : arg11.IsWhole)
    (x0 : Vec F S512x1024 .bf16) (x1 : Vec F S512x1024 .bf16) (x2 : Vec F S512x1024 .bf16) (x3 : Vec F S512x8 .f32) (x4 : Vec F S1x8x512 .f32) (s : St F) (E : Set ℕ) (K : PUnit → sProp 𝕄) :
    iprop(held c arg3 arg4 arg5 arg6 arg7 arg8 arg9 arg10 arg11 x0 x1 x2 x3 x4 s ∗ (held c arg3 arg4 arg5 arg6 arg7 arg8 arg9 arg10 arg11 x0 x1 x2 x3 x4 (if k0_cond3 i = 1#1 then diagSt x0 x1 x2 x3 x4 s else s) -∗ K ⟨⟩))
      ⊢ wp frame (wpE (defs₀ (F := F)) Variants.none c none) E (if k0_cond3 i = 1#1 then diagPart i arg3 harg3 arg4 harg4 arg5 harg5 arg6 harg6 arg7 harg7 arg8 harg8 arg9 harg9 arg10 harg10 arg11 harg11 else pure ⟨⟩) K := by
  by_cases h : k0_cond3 i = 1#1
  · rw [if_pos h, if_pos h]
    unfold held
    iintro ⟨⟨H0, H1, H2, H3, H4, H5, H6, H7, H8⟩, Hk⟩
    iapply (diag_run c i arg3 harg3 arg4 harg4 arg5 harg5 arg6 harg6 arg7 harg7 arg8 harg8 arg9 harg9 arg10 harg10 arg11 harg11 x0 x1 x2 x3 x4 s.o s.m s.l s.a E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [if_neg h, if_neg h]
    iintro ⟨H, Hk⟩
    sl_step
    iapply Hk
    iexact H

/-- The body, run: from the inputs at `x0 x1 x2 x3 x4` and what is carried at `s` to the inputs as they were and what is carried
    advanced by the branches taken. -/
theorem body_run (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x8 .f32) (harg6 : arg6.IsWhole) (arg7 : Memref sig .tc .vmem S1x8x512 .f32) (harg7 : arg7.IsWhole) (arg8 : Memref sig .tc .vmem S512x1024 .bf16) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S512x1024 .f32) (harg11 : arg11.IsWhole)
    (x0 : Vec F S512x1024 .bf16) (x1 : Vec F S512x1024 .bf16) (x2 : Vec F S512x1024 .bf16) (x3 : Vec F S512x8 .f32) (x4 : Vec F S1x8x512 .f32) (s : St F) (E : Set ℕ) (K : PUnit → sProp 𝕄) :
    iprop(held c arg3 arg4 arg5 arg6 arg7 arg8 arg9 arg10 arg11 x0 x1 x2 x3 x4 s ∗ (held c arg3 arg4 arg5 arg6 arg7 arg8 arg9 arg10 arg11 x0 x1 x2 x3 x4 (stepSt i x0 x1 x2 x3 x4 s) -∗ K ⟨⟩))
      ⊢ wp frame (wpE (defs₀ (F := F)) Variants.none c none) E (cc0_fox_prompt_attention i arg3 harg3 arg4 harg4 arg5 harg5 arg6 harg6 arg7 harg7 arg8 harg8 arg9 harg9 arg10 harg10 arg11 harg11) K := by
  rw [body_eq, wp_bind]
  refine BIBase.Entails.trans ?_ (init_stage c i arg3 harg3 arg4 harg4 arg5 harg5 arg6 harg6 arg7 harg7 arg8 harg8 arg9 harg9 arg10 harg10 arg11 harg11 x0 x1 x2 x3 x4 s E _)
  iintro ⟨H, Hk⟩
  isplitl [H]; · iexact H
  iintro H
  rw [wp_bind]
  iapply (full_stage c i arg3 harg3 arg4 harg4 arg5 harg5 arg6 harg6 arg7 harg7 arg8 harg8 arg9 harg9 arg10 harg10 arg11 harg11 x0 x1 x2 x3 x4 _ E _)
  isplitl [H]; · iexact H
  iintro H
  iapply (diag_stage c i arg3 harg3 arg4 harg4 arg5 harg5 arg6 harg6 arg7 harg7 arg8 harg8 arg9 harg9 arg10 harg10 arg11 harg11 x0 x1 x2 x3 x4 _ E _)
  isplitl [H]; · iexact H
  iintro H
  iapply Hk
  iexact H

end Cert.Fox

end
-- ==== Proof.Fox.Run.lean ====
/-
  The kernel's run: what is carried from point to point of the grid, the region's proof data over it, the body's
  obligation, and the launch.
-/
module

public import proofs.«01_k».proof.Proof.Fox.Body
public import proofs.«01_k».proof.Proof.Gen.KernelIdeal.Frame
public import Idealize.ShloMosaic.Lib.Pipeline.TableIdle

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The branches, by the point -/

/-- The first branch is taken at the first block of keys. -/
theorem init_iff : ∀ t : Fin cfg0.N, initCond (grid0.coords t) = 1#1 ↔ t.val % 8 = 0 :=
  (by decide +kernel : ∀ t : Fin grid0.N, initCond (grid0.coords t) = 1#1 ↔ t.val % 8 = 0)
/-- The second branch is taken at the blocks of keys before the block of queries. -/
theorem full_iff : ∀ t : Fin cfg0.N, fullCond (grid0.coords t) = 1#1 ↔ t.val % 8 < t.val / 8 % 8 :=
  (by decide +kernel : ∀ t : Fin grid0.N, fullCond (grid0.coords t) = 1#1 ↔ t.val % 8 < t.val / 8 % 8)
/-- The third branch is taken at the diagonal. -/
theorem diag_iff : ∀ t : Fin cfg0.N, k0_cond3 (grid0.coords t) = 1#1 ↔ t.val / 8 % 8 = t.val % 8 :=
  (by decide +kernel : ∀ t : Fin grid0.N, k0_cond3 (grid0.coords t) = 1#1 ↔ t.val / 8 % 8 = t.val % 8)

/-- The block of results is left alone exactly where the third branch is not taken. -/
theorem idle5 : ∀ t : Fin cfg0.N, cfg0.idle 5 (grid0.coords t) = !decide (t.val / 8 % 8 = t.val % 8) :=
  (by decide +kernel : ∀ t : Fin grid0.N, cfg0.idle 5 (grid0.coords t) = !decide (t.val / 8 % 8 = t.val % 8))
/-- The block of results is written back after the last block of keys. -/
theorem flush5 : ∀ t : Fin cfg0.N, (cfg0.win 5).flush t = decide (t.val % 8 = 7) :=
  (by decide +kernel : ∀ t : Fin grid0.N, win0_5.flush t = decide (t.val % 8 = 7))
/-- The block of results holds nothing of this row of blocks up to the diagonal. -/
theorem fresh5 : ∀ n, n ≤ cfg0.N → cfg0.fresh 5 n = decide (n % 8 ≤ n / 8 % 8) :=
  cfg0.fresh_tab 5 (fun n => decide (n % 8 ≤ n / 8 % 8)) rfl fun t => by
    rw [flush5, idle5]
    have ht : t.val < 128 := Nat.lt_of_lt_of_eq t.isLt N_0
    rw [Bool.eq_iff_iff]
    simp only [decide_eq_true_eq, Bool.or_eq_true, Bool.and_eq_true, Bool.not_eq_true', decide_eq_false_iff_not]
    by_cases h7 : t.val % 8 = 7
    · have : (t.val + 1) % 8 = 0 := by omega
      rw [this]; simp [h7]
    · have e1 : (t.val + 1) % 8 = t.val % 8 + 1 := by omega
      have e2 : (t.val + 1) / 8 = t.val / 8 := by omega
      rw [e1, e2]; omega

/-! ## What is carried -/

/-- The body's step at point `t`, over the blocks the point reads. -/
def stepAt (c : Dev nD) (t : Fin cfg0.N) (s : St F) : St F :=
  stepSt (grid0.coords t) (iblk m c 0 t) (iblk m c 1 t) (iblk m c 2 t) (iblk m c 3 t) (iblk m c 4 t) s

/-- What is carried after the first `n` points. -/
def carried (c : Dev nD) : ℕ → St F
  | 0 => ⟨k0_pay1, k0_pay2, k0_pay3, quot k0_pay2 k0_pay3⟩
  | n + 1 => if h : n < cfg0.N then stepAt m c ⟨n, h⟩ (carried c n) else carried c n

theorem carried_succ (c : Dev nD) (t : Fin cfg0.N) : carried m c (t.val + 1) = stepAt m c t (carried m c t.val) := by
  rw [carried, dif_pos t.isLt]

/-- What the block of results held before a point matters only where the third branch is not taken. -/
theorem stepSt_o (i : grid0.Coords) (x0 : Vec F S512x1024 .bf16) (x1 : Vec F S512x1024 .bf16) (x2 : Vec F S512x1024 .bf16) (x3 : Vec F S512x8 .f32) (x4 : Vec F S1x8x512 .f32)
    (s : St F) (o : Vec F S512x1024 .bf16) :
    stepSt i x0 x1 x2 x3 x4 ⟨s.m, s.l, s.a, o⟩
      = ⟨(stepSt i x0 x1 x2 x3 x4 s).m, (stepSt i x0 x1 x2 x3 x4 s).l, (stepSt i x0 x1 x2 x3 x4 s).a,
          if k0_cond3 i = 1#1 then (stepSt i x0 x1 x2 x3 x4 s).o else o⟩ := by
  unfold stepSt; dsimp only; split_ifs <;> rfl

/-- Where the third branch is not taken the block of results is kept. -/
theorem stepSt_keep (i : grid0.Coords) (x0 : Vec F S512x1024 .bf16) (x1 : Vec F S512x1024 .bf16) (x2 : Vec F S512x1024 .bf16) (x3 : Vec F S512x8 .f32) (x4 : Vec F S1x8x512 .f32)
    (s : St F) (h : ¬k0_cond3 i = 1#1) : (stepSt i x0 x1 x2 x3 x4 s).o = s.o := by
  unfold stepSt; dsimp only; split_ifs <;> rfl

/-- Where the first branch is taken, nothing of the carried quantities before the point matters. -/
theorem stepSt_init (i : grid0.Coords) (x0 : Vec F S512x1024 .bf16) (x1 : Vec F S512x1024 .bf16) (x2 : Vec F S512x1024 .bf16) (x3 : Vec F S512x8 .f32) (x4 : Vec F S1x8x512 .f32)
    (s s' : St F) (h : initCond i = 1#1) (ho : s.o = s'.o) : stepSt i x0 x1 x2 x3 x4 s = stepSt i x0 x1 x2 x3 x4 s' := by
  unfold stepSt initSt; dsimp only; rw [if_pos h, if_pos h, ho]

/-! ## The region's proof data -/

/-- The carried arrays after `n` points, owned, and the generator register. -/
def scr (c : Dev nD) (s : St F) : sProp 𝕄 :=
  iprop((owns (c : Thread nD τ) (Memref.whole cc0_scratch0) fullShare s.m ∗ owns (c : Thread nD τ) (Memref.whole cc0_scratch1) fullShare s.l ∗ owns (c : Thread nD τ) (Memref.whole cc0_scratch2) fullShare s.a) ∗ (∃ r, prngReg c r))

/-- The invariant before the first point, and after `n + 1` points. -/
def Phi (c : Dev nD) : ℕ → sProp 𝕄
  | 0 => Pipeline.ΦA spec0 c
  | n + 1 => scr c (carried m c (n + 1))

theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- The region's proof data: the inputs' buffers at their blocks, the results' at the carried block of results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (carried m c (t.val + 1)).o
  Φ t := Phi m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (carried m c (t.val + 1)).o := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- Where the block of results is written back without having been stored at that point, it was stored before, and the
    buffer holds it. -/
theorem before_5 (c : Dev nD) (t : Fin cfg0.N) (d) (hi : ¬t.val / 8 % 8 = t.val % 8) (hf : t.val % 8 = 7) :
    (dats m 0 c).before 5 t d = (carried m c (t.val + 1)).o := by
  have hN : t.val < 128 := Nat.lt_of_lt_of_eq t.isLt N_0
  rw [(dats m 0 c).before_out_traj 5 rfl (fun _ _ => rfl) (fun t hz hidle _ => by
    have h : ¬k0_cond3 (grid0.coords t) = 1#1 := by
      rw [diag_iff]; have := (idle5 t).symm.trans hidle; simpa using this
    rw [after_5, after_5, carried_succ, stepAt, stepSt_keep _ _ _ _ _ _ _ h]
    show (carried m c t.val).o = (carried m c (t.val - 1 + 1)).o
    rw [Nat.sub_add_cancel (Nat.one_le_iff_ne_zero.mpr hz)]) t.val t rfl d]
  rw [fresh5 _ (Nat.le_of_lt t.isLt), if_neg (by rw [decide_eq_true_eq]; omega), after_5, carried_succ m c t, stepAt,
    stepSt_keep _ _ _ _ _ _ _ (by rw [diag_iff]; exact hi)]
  show (carried m c (t.val - 1 + 1)).o = (carried m c t.val).o
  rw [Nat.sub_add_cancel (by omega)]

/-! ## The body's obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_0 (c : Dev nD) (t : Fin cfg0.N) : (dats m 0 c).leavesExact 0 t = owns (c : Thread nD τ) (st0_0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (st0_1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (st0_2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (st0_3 t) fullShare (iblk m c 3 t) := by
  unfold Dat.leavesExact; rw [show cfg0.idle 3 (cfg0.grid.coords t) = false from rfl, after_3]
theorem leaves_4 (c : Dev nD) (t : Fin cfg0.N) : (dats m 0 c).leavesExact 4 t = owns (c : Thread nD τ) (st0_4 t) fullShare (iblk m c 4 t) := by
  unfold Dat.leavesExact; rw [show cfg0.idle 4 (cfg0.grid.coords t) = false from rfl, after_4]

/-- What the body leaves in the block of results is what the proof data states. -/
theorem leaves_5 (c : Dev nD) (t : Fin cfg0.N) (d) :
    owns (c : Thread nD τ) (st0_5 t) fullShare (if k0_cond3 (grid0.coords t) = 1#1 then (carried m c (t.val + 1)).o else (dats m 0 c).before 5 t d)
      ⊢ (dats m 0 c).leavesExact 5 t := by
  unfold Dat.leavesExact
  by_cases hd : t.val / 8 % 8 = t.val % 8
  · rw [show cfg0.idle 5 (cfg0.grid.coords t) = false from (idle5 t).trans (by simp [hd]), if_pos ((diag_iff t).mpr hd), after_5]
    try exact BIBase.Entails.rfl
  · rw [show cfg0.idle 5 (cfg0.grid.coords t) = true from (idle5 t).trans (by simp [hd]), if_neg (fun h => hd ((diag_iff t).mp h))]
    by_cases hf : t.val % 8 = 7
    · rw [show (cfg0.win 5).flush t = true from (flush5 t).trans (by simp [hf]), before_5 m c t d hd hf, after_5]
      try exact BIBase.Entails.rfl
    · rw [show (cfg0.win 5).flush t = false from (flush5 t).trans (by simp [hf])]
      dsimp only
      iintro H; iexists d; iexact H

/-- The carried arrays as the invariant has them before a point, whatever they hold before the first. -/
theorem Phi_in (c : Dev nD) (t : Fin cfg0.N) :
    Phi m c t.val ⊢ iprop(∃ s : St F, ⌜∀ o, stepAt m c t ⟨s.m, s.l, s.a, o⟩ = stepAt m c t ⟨(carried m c t.val).m, (carried m c t.val).l, (carried m c t.val).a, o⟩⌝ ∗ scr c s) := by
  by_cases hz : t.val = 0
  · rw [hz]
    show Pipeline.ΦA spec0 c ⊢ _
    rw [PhiA_eq]
    iintro ⟨⟨⟨%d0, H0⟩, ⟨%d1, H1⟩, ⟨%d2, H2⟩⟩, Hg⟩
    iexists ⟨d0, d1, d2, quot k0_pay2 k0_pay3⟩
    isplitr
    · ipureintro; intro o
      exact stepSt_init _ _ _ _ _ _ _ _ ((init_iff t).mpr (by rw [hz])) rfl
    unfold scr
    isplitl [H0 H1 H2]
    · isplitl [H0]; · iexact H0
      isplitl [H1]; · iexact H1
      iexact H2
    iexact Hg
  · obtain ⟨n, hn⟩ := Nat.exists_eq_succ_of_ne_zero hz
    rw [hn]
    show scr c (carried m c (n + 1)) ⊢ _
    iintro H
    iexists (carried m c (n + 1))
    isplitr
    · ipureintro; intro o; rfl
    iexact H

/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = scr c (carried m c (t.val + 1)) from rfl, show (dats m 0 c).Φ t.castSucc = Phi m c t.val from rfl]
  rw [leaves_0, leaves_1, leaves_2, leaves_3, leaves_4]
  iintro ⟨HP, Ho, ⟨%d0, H0⟩, ⟨%d1, H1⟩, ⟨%d2, H2⟩, ⟨%d3, H3⟩, ⟨%d4, H4⟩, ⟨%d5, H5⟩⟩
  ihave HP := Phi_in m c t $$ HP
  icases HP with ⟨%s, %hs, HP⟩
  unfold scr
  icases HP with ⟨⟨HS0, HS1, HS2⟩, Hg⟩
  iapply (body_run c (grid0.coords t) _ _ _ _ _ _ _ _ _ _ _ _ _ _ _ _ _ _ (iblk m c 0 t) (iblk m c 1 t) (iblk m c 2 t) (iblk m c 3 t) (iblk m c 4 t) ⟨s.m, s.l, s.a, (dats m 0 c).before 5 t d5⟩ Set.univ _)
  rw [show stepSt (grid0.coords t) (iblk m c 0 t) (iblk m c 1 t) (iblk m c 2 t) (iblk m c 3 t) (iblk m c 4 t) ⟨s.m, s.l, s.a, (dats m 0 c).before 5 t d5⟩
    = ⟨(carried m c (t.val + 1)).m, (carried m c (t.val + 1)).l, (carried m c (t.val + 1)).a,
        if k0_cond3 (grid0.coords t) = 1#1 then (carried m c (t.val + 1)).o else (dats m 0 c).before 5 t d5⟩ from
      (hs _).trans ((stepSt_o _ _ _ _ _ _ _ _).trans (by rw [carried_succ]; rfl))]
  unfold held
  isplitl [H0 H1 H2 H3 H4 H5 HS0 HS1 HS2]
  · isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iexact HS2
  iintro ⟨H0, H1, H2, H3, H4, H5, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iapply (leaves_5 m c t d5)
  iexact H5

/-- The body table's row at a point is the body there. -/
theorem defs_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hout (c : Dev nD) : (dats m 0 c).Φ (Fin.last cfg0.N) ⊢ Pipeline.ΦA spec0 c := by
  rw [show (dats m 0 c).Φ (Fin.last cfg0.N) = scr c (carried m c 128) from rfl, PhiA_eq]
  unfold scr
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-! ## The launch -/

set_option backward.isDefEq.respectTransparency.types false in
/-- Every run of the program ends, with the region's arrays as the proof data states and all counters at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := hout m)
    (hQ' := fun _ h => h)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the argument arrays end unchanged and every counter at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Fox

end
-- ==== Proof.Fox.Softmax.lean ====
/-
  A softmax taken block by block: over a set of keys with scores in the extended reals, the greatest score, the sum of the
  weights relative to it and the weighted sum of values, and how the three are carried from a set of keys to a larger one.
-/
module

public import Idealize.ShloMosaic.PureOps.Ideal

@[expose] public section

noncomputable section

namespace Cert.Fox

open Idealize.ShloMosaic

/-- The weight of a score `s` relative to `M`. -/
def wt (s M : EReal) : EReal := Ideal.exp (s - M)

/-- A weight relative to a score that is not smaller is a nonnegative real. -/
theorem wt_real {s M : EReal} (h : s ≤ M) : ∃ r : ℝ, 0 ≤ r ∧ wt s M = (r : EReal) := by
  induction s using EReal.rec with
  | bot => exact ⟨0, le_rfl, by simp [wt, sub_eq_add_neg]⟩
  | top => rw [top_le_iff] at h; subst h; exact ⟨0, le_rfl, by simp [wt, sub_eq_add_neg]⟩
  | coe s =>
    induction M using EReal.rec with
    | bot => simp at h
    | top => exact ⟨0, le_rfl, by simp [wt, sub_eq_add_neg]⟩
    | coe M => exact ⟨Real.exp (s - M), (Real.exp_pos _).le, by rw [wt, ← EReal.coe_sub]; rfl⟩

/-- Weights compose along scores that do not decrease. -/
theorem wt_mul {s m M : EReal} (h : s ≤ m) (h' : m ≤ M) : wt m M * wt s m = wt s M := by
  induction M using EReal.rec with
  | bot => rw [le_bot_iff] at h'; subst h'; rw [le_bot_iff] at h; subst h; simp [wt, sub_eq_add_neg]
  | top =>
    have hz : ∀ x : EReal, wt x ⊤ = 0 := fun x => by
      induction x using EReal.rec <;> simp [wt, sub_eq_add_neg]
    rw [hz, hz, zero_mul]
  | coe M =>
    induction m using EReal.rec with
    | bot => rw [le_bot_iff] at h; subst h; simp [wt, sub_eq_add_neg]
    | top => simp at h'
    | coe m =>
      induction s using EReal.rec with
      | bot => simp [wt, sub_eq_add_neg]
      | top => simp at h
      | coe s =>
        rw [wt, wt, wt, ← EReal.coe_sub, ← EReal.coe_sub, ← EReal.coe_sub, Ideal.exp_coe, Ideal.exp_coe, Ideal.exp_coe,
          ← EReal.coe_mul, ← Real.exp_add]
        congr 2; ring

/-- The smallest score weighs nothing. -/
theorem wt_bot (M : EReal) : wt ⊥ M = 0 := by simp [wt, sub_eq_add_neg]

/-- A real score weighs one relative to itself. -/
theorem wt_self (r : ℝ) : wt r r = 1 := by
  rw [wt, ← EReal.coe_sub, Ideal.exp_coe, sub_self, Real.exp_zero]; rfl

/-- A nonnegative real distributes over a sum of extended reals. -/
theorem real_mul_sum {ι : Type*} (r : ℝ) (hr : 0 ≤ r) (K : Finset ι) (f : ι → EReal) :
    (r : EReal) * ∑ k ∈ K, f k = ∑ k ∈ K, (r : EReal) * f k := by
  classical
  induction K using Finset.induction_on with
  | empty => simp
  | insert a K ha ih => rw [Finset.sum_insert ha, Finset.sum_insert ha, ← ih, EReal.left_distrib_of_nonneg_of_ne_top (by exact_mod_cast hr) (EReal.coe_ne_top r)]

/-- The reals' sums are the extended reals' sums. -/
theorem coe_sum {ι : Type*} (f : ι → ℝ) (K : Finset ι) : ((∑ k ∈ K, f k : ℝ) : EReal) = ∑ k ∈ K, (f k : EReal) := by
  classical
  induction K using Finset.induction_on with
  | empty => simp
  | insert a K ha ih => rw [Finset.sum_insert ha, Finset.sum_insert ha, EReal.coe_add, ih]

variable {ι : Type*} [DecidableEq ι] (S V : ι → EReal) (K B : Finset ι)

/-- The weights of a set of keys, relative to its greatest score, summed. -/
def mass : EReal := ∑ k ∈ K, wt (S k) (K.sup S)
/-- The values of a set of keys, weighted relative to its greatest score, summed. -/
def blend : EReal := ∑ k ∈ K, wt (S k) (K.sup S) * V k

theorem mass_eq_blend : mass S K = blend S (fun _ => 1) K := by simp [mass, blend]

/-- The weighted sum over two sets: the first one's rescaled, plus the second one's terms. -/
theorem blend_union (h : Disjoint K B) :
    blend S V (K ∪ B) = wt (K.sup S) (max (K.sup S) (B.sup S)) * blend S V K
      + ∑ k ∈ B, wt (S k) (max (K.sup S) (B.sup S)) * V k := by
  obtain ⟨r, hr, e⟩ := wt_real (le_max_left (K.sup S) (B.sup S))
  rw [blend, Finset.sum_union h, Finset.sup_union, blend, e, real_mul_sum r hr]
  refine congrArg₂ (· + ·) (Finset.sum_congr rfl fun k hk => ?_) rfl
  rw [← e, ← mul_assoc, wt_mul (Finset.le_sup hk) (le_max_left _ _)]

/-- The sum of the weights over two sets: the first one's rescaled, plus the second one's. -/
theorem mass_union (h : Disjoint K B) :
    mass S (K ∪ B) = wt (K.sup S) (max (K.sup S) (B.sup S)) * mass S K + ∑ k ∈ B, wt (S k) (max (K.sup S) (B.sup S)) := by
  rw [mass_eq_blend, blend_union S _ K B h, mass_eq_blend]; simp

/-- Keys of the smallest score add nothing. -/
theorem blend_mono (h : K ⊆ B) (hz : ∀ k ∈ B, k ∉ K → S k = ⊥) : blend S V B = blend S V K ∧ B.sup S = K.sup S := by
  have hs : B.sup S = K.sup S := by
    refine le_antisymm (Finset.sup_le fun k hk => ?_) (Finset.sup_mono h)
    by_cases hK : k ∈ K
    · exact Finset.le_sup hK
    · rw [hz k hk hK]; exact bot_le
  refine ⟨?_, hs⟩
  rw [blend, blend, hs]
  exact (Finset.sum_subset h fun k hk hK => by rw [hz k hk hK, wt_bot, zero_mul]).symm

/-- Where no score is infinite upwards and some score is real, the weights sum to a positive real. -/
theorem mass_real (ht : ∀ k ∈ K, S k ≠ ⊤) (k₀ : ι) (h₀ : k₀ ∈ K) (hb : S k₀ ≠ ⊥) : ∃ r : ℝ, 0 < r ∧ mass S K = (r : EReal) := by
  have hle : ∀ k ∈ K, S k ≤ K.sup S := fun k hk => Finset.le_sup hk
  obtain ⟨k₁, h₁, e₁⟩ := Finset.exists_mem_eq_sup K ⟨k₀, h₀⟩ S
  have hr : ∃ x : ℝ, S k₁ = (x : EReal) := by
    have h1 : S k₁ ≠ ⊤ := ht k₁ h₁
    have h2 : S k₁ ≠ ⊥ := fun h => hb (le_bot_iff.mp (h ▸ e₁ ▸ hle k₀ h₀))
    exact ⟨(S k₁).toReal, (EReal.coe_toReal h1 h2).symm⟩
  obtain ⟨x, hx⟩ := hr
  have hw : ∀ k, ∃ r : ℝ, k ∈ K → 0 ≤ r ∧ wt (S k) (K.sup S) = (r : EReal) := fun k => by
    by_cases hk : k ∈ K
    · obtain ⟨r, h⟩ := wt_real (hle k hk); exact ⟨r, fun _ => h⟩
    · exact ⟨0, fun h => absurd h hk⟩
  choose f hf using hw
  have h1 : f k₁ = 1 := by
    have := (hf k₁ h₁).2
    rw [e₁, hx, wt_self] at this
    exact_mod_cast this.symm
  refine ⟨∑ k ∈ K, f k, lt_of_lt_of_le zero_lt_one (h1 ▸ Finset.single_le_sum (fun k hk => (hf k hk).1) h₁), ?_⟩
  rw [mass, Finset.sum_congr rfl fun k hk => (hf k hk).2]
  exact (coe_sum f K).symm

/-- A weighted sum divided by a positive real is the sum of the values under the divided weights. -/
theorem div_blend (r : ℝ) (hr : 0 < r) (w : ι → EReal) :
    Ideal.div (∑ k ∈ K, w k * V k) r = ∑ k ∈ K, V k * Ideal.div (w k) r := by
  rw [Ideal.div_coe hr.ne', mul_comm, real_mul_sum _ (one_div_nonneg.mpr hr.le)]
  refine Finset.sum_congr rfl fun k _ => ?_
  rw [Ideal.div_coe hr.ne', mul_comm (w k) (V k), mul_comm, mul_assoc]

end Cert.Fox

end
-- ==== Proof.Fox.Point.lean ====
/-
  The body's arithmetic over the extended reals, at one position: the scores of a block, and what a block does to the
  running maximum, the running sum and the accumulator of a row.
-/
module

public import proofs.«01_k».proof.Proof.Fox.Body
public import proofs.«01_k».proof.Proof.Fox.Softmax
public import Idealize.ShloMosaic.Lib.Pointwise
public import Idealize.ShloMosaic.Lib.WordCmp

@[expose] public section

set_option maxRecDepth 16384

noncomputable section

namespace Cert.Fox

open Idealize.ShloMosaic Idealize.SL.Sem
open Cert.KernelIdeal Cert.KernelIdeal.Gen

/-- The scale of the scores. -/
abbrev scale : EReal := Ideal.ofBits .f32 0x3DB504F3#32

/-- The column of head `h` and dimension `d`. -/
abbrev lane (h : Fin 8) (d : Fin 128) : Fin 1024 := ⟨128 * h.val + d.val, by have := h.isLt; have := d.isLt; omega⟩

/-- The smallest pattern is the smallest extended real. -/
theorem ofBits_neg_inf : Ideal.ofBits .f32 0xFF800000#32 = ⊥ := by
  have h1 : ((0xFF800000#32 : BitVec 32).extractLsb' 23 8).toNat = 255 := by decide
  have h2 : ((0xFF800000#32 : BitVec 32).extractLsb' 0 23).toNat = 0 := by decide
  have h3 : ((0xFF800000#32 : BitVec 32).extractLsb' 31 1 == 1#1) = true := by decide
  show Ideal.ieee 8 23 (0xFF800000#32 : BitVec 32) = ⊥
  unfold Ideal.ieee
  simp only [h1, h2]
  simp [h3]

/-- The running maxima begin at the smallest extended real. -/
theorem named_neg : Named.named (F := Ideal) κ "neg" (φ := .f32) 0xF149F2CA#32 = ⊥ :=
  IdealRules.named_const.ideal_named_scalar _ _ _ _ rfl
/-- A masked score is the smallest extended real. -/
theorem named_masked : Named.named (F := Ideal) κ "masked" (φ := .f32) 0xF1C9F2CA#32 = ⊥ :=
  IdealRules.named_const.ideal_named_scalar _ _ _ _ rfl

/-- A selection by a decided condition. -/
theorem select_ofBool {α : Type} (p : Prop) [Decidable p] (a b : α) :
    Scalar.select (BitVec.ofBool (decide p)) a b = if p then a else b := by
  by_cases h : p <;> simp [h, Scalar.select]

/-- A fold of maxima from the smallest extended real is the greatest term. -/
theorem fold_max {n : ℕ} (f : Fin n → EReal) : Finset.fold max ⊥ f Finset.univ = Finset.univ.sup f := rfl

variable (x0 x1 x2 : Vec Ideal S512x1024 .bf16) (x3 : Vec Ideal S512x8 .f32) (x4 : Vec Ideal S1x8x512 .f32) (h : Fin 8)

/-- A score of a block of keys in the past. -/
theorem fullScore_apply (r l : Fin 512) :
    fullScore x0 x1 x3 x4 h (ix2 r l)
      = (∑ d : Fin 128, x0 (ix2 r (lane h d)) * x1 (ix2 l (lane h d))) * scale + x3 (ix2 r h) - x4 (ix3 0 h l) := by
  pointwise [fullScore, k0_pay8]

/-- On the diagonal block the keys after the query are masked. -/
theorem diagScore_apply (r l : Fin 512) :
    diagScore x0 x1 x3 x4 h (ix2 r l) = if l.val ≤ r.val then fullScore x0 x1 x3 x4 h (ix2 r l) else ⊥ := by
  pointwise [diagScore, fullScore, k0_pay90, k0_pay88, k0_pay8]
  rw [WordCmp.cmpi_sge_ofNat (by have := r.isLt; omega) (by have := l.isLt; omega), select_ofBool, named_masked]

variable (s : FVec Ideal S512x512 .f32) (m l : Vec Ideal S1x512x1 .f32) (v : Vec Ideal S512x128 .bf16) (a : Vec Ideal S512x128 .f32)

/-- The running maximum of a row after a block. -/
theorem headM_apply (r : Fin 512) :
    headM s m (ix3 0 r 0) = max (m (ix3 0 r 0)) (Finset.univ.sup fun k : Fin 512 => s (ix2 r k)) := by
  pointwise [headM, k0_pay17, k0_pay21, k0_pay20]
  rw [ofBits_neg_inf]; rfl

/-- The running sum of a row after a block: rescaled, plus the block's weights. -/
theorem headL_apply (r : Fin 512) :
    headL s m l (ix3 0 r 0)
      = wt (m (ix3 0 r 0)) (headM s m (ix3 0 r 0)) * l (ix3 0 r 0) + ∑ k : Fin 512, wt (s (ix2 r k)) (headM s m (ix3 0 r 0)) := by
  pointwise [headL, headM, k0_pay17, k0_pay21, k0_pay22, k0_pay23, k0_pay24, k0_pay20]
  rfl

/-- The accumulator of a row after a block: rescaled, plus the block's weighted values. -/
theorem headA_apply (r : Fin 512) (d : Fin 128) :
    headA s v m a (ix2 r d)
      = wt (m (ix3 0 r 0)) (headM s m (ix3 0 r 0)) * a (ix2 r d) + ∑ k : Fin 512, wt (s (ix2 r k)) (headM s m (ix3 0 r 0)) * v (ix2 k d) := by
  pointwise [headA, headM, k0_pay17, k0_pay21, k0_pay22, k0_pay23, k0_pay25, k0_pay20]
  rfl

/-- The quotient at a position. -/
theorem pay5_apply (r : Fin 512) (d : Fin 128) :
    k0_pay5 a l (ix2 r d) = Ideal.div (a (ix2 r d)) (l (ix3 0 r 0)) := by
  pointwise [k0_pay5]

/-- The maxima begin at the smallest extended real. -/
theorem pay1_apply (y : S8x512x1.Idx) : k0_pay1 (F := Ideal) y = ⊥ := by
  pointwise [k0_pay1]
  exact named_neg
/-- The sums begin at zero. -/
theorem pay2_apply (y : S8x512x1.Idx) : k0_pay2 (F := Ideal) y = 0 := by
  pointwise [k0_pay2]
/-- The accumulators begin at zero. -/
theorem pay3_apply (y : S512x1024.Idx) : k0_pay3 (F := Ideal) y = 0 := by
  pointwise [k0_pay3]

end Cert.Fox

end
-- ==== Proof.Fox.Keys.lean ====
/-
  What is carried along a row of blocks, in closed form: after `n` blocks of keys, the greatest score, the sum of the
  weights and the weighted sum of the values of the keys of those blocks; and the step from `n` blocks to the next.
-/
module

public import proofs.«01_k».proof.Proof.Fox.Point

@[expose] public section

set_option maxRecDepth 16384

noncomputable section

namespace Cert.Fox

open Idealize.ShloMosaic Idealize.SL.Sem
open Cert.KernelIdeal Cert.KernelIdeal.Gen

/-! ## One block, for all heads -/

section Step

variable (s : Fin 8 → FVec Ideal S512x512 .f32) (m l : Vec Ideal S8x512x1 .f32) (x2 : Vec Ideal S512x1024 .bf16)
  (a : Vec Ideal S512x1024 .f32) (h : Fin 8) (r : Fin 512) (d : Fin 128)

theorem ld_rM (m : Vec Ideal S8x512x1 .f32) : View.ld m (rM h) (ix3 0 r 0) = m (ix3 h r 0) := by pointwise
theorem ld_rA {e : EltTy} (x : Vec Ideal S512x1024 e) : View.ld x (rA h) (ix2 r d) = x (ix2 r (lane h d)) := by pointwise

theorem headOf_lane : headOf (ix2 r (lane h d)) = h := by
  apply Fin.ext; show (128 * h.val + d.val) / 128 = h.val; have := d.isLt; omega
theorem inHead_lane : inHead (ix2 r (lane h d)) = ix2 r d := by
  funext b; fin_cases b
  · rfl
  · apply Fin.ext; show (128 * h.val + d.val) % 128 = d.val; have := d.isLt; omega
theorem inRow_ix : inRow (ix3 h r 0) = ix3 0 r 0 := by
  funext b; fin_cases b <;> rfl

/-- The running maxima after a block. -/
theorem stepM_apply : stepM s m (ix3 h r 0) = max (m (ix3 h r 0)) (Finset.univ.sup fun k : Fin 512 => s h (ix2 r k)) := by
  show headM (s h) (View.ld m (rM h)) (inRow (ix3 h r 0)) = _
  rw [inRow_ix, headM_apply, ld_rM]

/-- The running sums after a block. -/
theorem stepL_apply : stepL s m l (ix3 h r 0)
    = wt (m (ix3 h r 0)) (stepM s m (ix3 h r 0)) * l (ix3 h r 0) + ∑ k : Fin 512, wt (s h (ix2 r k)) (stepM s m (ix3 h r 0)) := by
  show headL (s h) (View.ld m (rM h)) (View.ld l (rM h)) (inRow (ix3 h r 0)) = _
  rw [inRow_ix, headL_apply, headM_apply, ld_rM, ld_rM, stepM_apply]

/-- The accumulators after a block. -/
theorem stepA_apply : stepA s x2 m a (ix2 r (lane h d))
    = wt (m (ix3 h r 0)) (stepM s m (ix3 h r 0)) * a (ix2 r (lane h d))
      + ∑ k : Fin 512, wt (s h (ix2 r k)) (stepM s m (ix3 h r 0)) * x2 (ix2 k (lane h d)) := by
  unfold stepA
  rw [headOf_lane, inHead_lane, headA_apply, headM_apply, ld_rM, ld_rA, stepM_apply]
  refine congrArg₂ (· + ·) rfl (Finset.sum_congr rfl fun k _ => ?_)
  rw [ld_rA]

/-- The quotients. -/
theorem quot_apply : quot l a (ix2 r (lane h d)) = Ideal.div (a (ix2 r (lane h d))) (l (ix3 h r 0)) := by
  unfold quot
  rw [headOf_lane, inHead_lane, pay5_apply, ld_rM, ld_rA]

end Step

/-! ## The closed form -/

/-- The keys of the first `n` blocks: a key is its block and its place there. -/
def keys (n : ℕ) : Finset (ℕ × Fin 512) := Finset.range n ×ˢ Finset.univ

/-- The keys of block `n`. -/
def blockKeys (n : ℕ) : Finset (ℕ × Fin 512) := {n} ×ˢ Finset.univ

theorem keys_succ (n : ℕ) : keys (n + 1) = keys n ∪ blockKeys n := by
  ext ⟨a, b⟩; simp [keys, blockKeys]; omega
theorem keys_disjoint (n : ℕ) : Disjoint (keys n) (blockKeys n) := by
  rw [Finset.disjoint_left]; rintro ⟨a, b⟩ h h'; simp [keys, blockKeys] at h h'; omega
theorem sum_blockKeys (n : ℕ) (f : ℕ × Fin 512 → EReal) : ∑ k ∈ blockKeys n, f k = ∑ k : Fin 512, f (n, k) := by
  rw [blockKeys, Finset.sum_product]; simp
theorem sup_blockKeys (n : ℕ) (f : ℕ × Fin 512 → EReal) : (blockKeys n).sup f = Finset.univ.sup fun k : Fin 512 => f (n, k) := by
  rw [blockKeys, Finset.sup_product_left]; simp

/-- What is carried is the closed form over the keys of the first `n` blocks: of head `h` and row `r`, the scores `S h r`
    and the values `W h d`. -/
def Holds (S : Fin 8 → Fin 512 → ℕ × Fin 512 → EReal) (W : Fin 8 → Fin 128 → ℕ × Fin 512 → EReal) (n : ℕ)
    (m l : Vec Ideal S8x512x1 .f32) (a : Vec Ideal S512x1024 .f32) : Prop :=
  ∀ (h : Fin 8) (r : Fin 512), m (ix3 h r 0) = (keys n).sup (S h r) ∧ l (ix3 h r 0) = mass (S h r) (keys n)
    ∧ ∀ d : Fin 128, a (ix2 r (lane h d)) = blend (S h r) (W h d) (keys n)

variable (S : Fin 8 → Fin 512 → ℕ × Fin 512 → EReal) (W : Fin 8 → Fin 128 → ℕ × Fin 512 → EReal)

/-- The initial arrays hold the closed form over no keys. -/
theorem holds_zero : Holds S W 0 (k0_pay1 (F := Ideal)) (k0_pay2 (F := Ideal)) (k0_pay3 (F := Ideal)) := fun h r => by
  refine ⟨?_, ?_, fun d => ?_⟩
  · rw [pay1_apply]; simp [keys]
  · rw [pay2_apply]; simp [keys, mass]
  · rw [pay3_apply]; simp [keys, blend]

/-- A block of keys takes the closed form over `n` blocks to the one over `n + 1`. -/
theorem holds_succ (n : ℕ) (m l : Vec Ideal S8x512x1 .f32) (a : Vec Ideal S512x1024 .f32) (hh : Holds S W n m l a)
    (s : Fin 8 → FVec Ideal S512x512 .f32) (hs : ∀ (h : Fin 8) (r k : Fin 512), s h (ix2 r k) = S h r (n, k))
    (x2 : Vec Ideal S512x1024 .bf16) (hv : ∀ (h : Fin 8) (k : Fin 512) (d : Fin 128), x2 (ix2 k (lane h d)) = W h d (n, k)) :
    Holds S W (n + 1) (stepM s m) (stepL s m l) (stepA s x2 m a) := fun h r => by
  obtain ⟨hm, hl, ha⟩ := hh h r
  have e : stepM s m (ix3 h r 0) = max ((keys n).sup (S h r)) ((blockKeys n).sup (S h r)) := by
    rw [stepM_apply, hm, sup_blockKeys]; simp only [hs]
  refine ⟨?_, ?_, fun d => ?_⟩
  · rw [e, keys_succ, Finset.sup_union]
  · rw [stepL_apply, e, hm, hl, keys_succ, mass_union _ _ _ (keys_disjoint n), sum_blockKeys]; simp only [hs]
  · rw [stepA_apply, e, hm, ha d, keys_succ, blend_union _ _ _ _ (keys_disjoint n), sum_blockKeys]; simp only [hs, hv]

/-- The quotients over the closed form. -/
theorem holds_quot (n : ℕ) (m l : Vec Ideal S8x512x1 .f32) (a : Vec Ideal S512x1024 .f32) (hh : Holds S W n m l a) (h : Fin 8) (r : Fin 512) (d : Fin 128) :
    quot l a (ix2 r (lane h d)) = Ideal.div (blend (S h r) (W h d) (keys n)) (mass (S h r) (keys n)) := by
  rw [quot_apply, (hh h r).2.1, (hh h r).2.2 d]

end Cert.Fox

end
-- ==== Proof.Fox.Blocks.lean ====
/-
  The blocks a point of the grid reads, as entries of the arguments: point `64 b + 8 i + j` reads block `i` of the queries
  of batch `b` and block `min j i` of its keys and values.
-/
module

public import proofs.«01_k».proof.Proof.Fox.Keys
public import proofs.«01_k».proof.Proof.Gen.KernelIdeal.Frame
public import Idealize.ShloMosaic.Lib.Pipeline.ValueKit

@[expose] public section

set_option maxRecDepth 16384

noncomputable section

namespace Cert.Fox

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The block indices of the windows. -/
theorem idx : ∀ t : Fin cfg0.N, win0_0.index t = ![t.val / 8, 0]
    ∧ win0_1.index t = ![t.val / 64 * 8 + min (t.val % 8) (t.val / 8 % 8), 0]
    ∧ win0_2.index t = ![t.val / 64 * 8 + min (t.val % 8) (t.val / 8 % 8), 0]
    ∧ win0_3.index t = ![t.val / 8, 0]
    ∧ win0_4.index t = ![t.val / 64, 0, min (t.val % 8) (t.val / 8 % 8)]
    ∧ win0_5.index t = ![t.val / 8, 0] := by decide +kernel

/-- The batch of a point. -/
abbrev batch (t : Fin cfg0.N) : Fin 2 := ⟨t.val / 64, by have := Nat.lt_of_lt_of_eq t.isLt N_0; omega⟩
/-- The place of row `r` of block `n` among the 4096 positions. -/
abbrev place (n : ℕ) (r : Fin 512) : Fin 4096 := ⟨(512 * n + r.val) % 4096, Nat.mod_lt _ (by decide)⟩

/-- The queries' block. -/
theorem iblk_q (t : Fin cfg0.N) (r : Fin 512) (h : Fin 8) (d : Fin 128) :
    iblk m c 0 t (ix2 r (lane h d)) = m ((c.tc : Thread nD τ).loc main_arg0) (ix4 (batch t) (place (t.val / 8 % 8) r) h d) := by
  have ht : t.val < 128 := Nat.lt_of_lt_of_eq t.isLt N_0
  blk_simp [iblk, V]
  entry_read
  pointwise
  blk_ext [idx t]

/-- The keys' block. -/
theorem iblk_k (t : Fin cfg0.N) (r : Fin 512) (h : Fin 8) (d : Fin 128) :
    iblk m c 1 t (ix2 r (lane h d)) = m ((c.tc : Thread nD τ).loc main_arg1) (ix4 (batch t) (place (min (t.val % 8) (t.val / 8 % 8)) r) h d) := by
  have ht : t.val < 128 := Nat.lt_of_lt_of_eq t.isLt N_0
  blk_simp [iblk, V]
  entry_read
  pointwise
  blk_ext [idx t]

/-- The values' block. -/
theorem iblk_v (t : Fin cfg0.N) (r : Fin 512) (h : Fin 8) (d : Fin 128) :
    iblk m c 2 t (ix2 r (lane h d)) = m ((c.tc : Thread nD τ).loc main_arg2) (ix4 (batch t) (place (min (t.val % 8) (t.val / 8 % 8)) r) h d) := by
  have ht : t.val < 128 := Nat.lt_of_lt_of_eq t.isLt N_0
  blk_simp [iblk, V]
  entry_read
  pointwise
  blk_ext [idx t]

/-- The queries' biases. -/
theorem iblk_cq (t : Fin cfg0.N) (r : Fin 512) (h : Fin 8) :
    iblk m c 3 t (ix2 r h) = m ((c.tc : Thread nD τ).loc main_arg3) (ix3 (batch t) (place (t.val / 8 % 8) r) h) := by
  have ht : t.val < 128 := Nat.lt_of_lt_of_eq t.isLt N_0
  blk_simp [iblk, V]
  entry_read
  pointwise
  blk_ext [idx t]

/-- The keys' biases. -/
theorem iblk_ck (t : Fin cfg0.N) (r : Fin 512) (h : Fin 8) :
    iblk m c 4 t (ix3 0 h r) = m ((c.tc : Thread nD τ).loc main_arg3) (ix3 (batch t) (place (min (t.val % 8) (t.val / 8 % 8)) r) h) := by
  have ht : t.val < 128 := Nat.lt_of_lt_of_eq t.isLt N_0
  blk_simp [iblk, V]
  entry_read
  pointwise
  blk_ext [idx t]

end Cert.Fox

end
-- ==== Proof.Fox.Attention.lean ====
/-
  The kernel's result: along each row of blocks what is carried is the closed form over the blocks of keys met so far, so
  that the block written back holds the attention over all keys, the later ones being masked.
-/
module

public import proofs.«01_k».proof.Proof.Fox.Blocks
public import proofs.«01_k».proof.Proof.Fox.Run

@[expose] public section

set_option maxRecDepth 16384

noncomputable section

namespace Cert.Fox

open Idealize.ShloMosaic Idealize.ShloMosaic.TcCoe Idealize.SL.Sem
open Idealize.ShloMosaic.Pipeline (Dat)
open Cert.KernelIdeal Cert.KernelIdeal.Gen

/-! ## The attention -/

section Attention

variable (q k v : Vec Ideal S2x4096x8x128 .f32) (cc : Vec Ideal S2x4096x8 .f32) (b : Fin 2) (h : Fin 8)

/-- The score of query `x` and key `y` without the mask. -/
def rawScore (x y : Fin 4096) : EReal :=
  (∑ d : Fin 128, q (ix4 b x h d) * k (ix4 b y h d)) * scale + cc (ix3 b x h) - cc (ix3 b y h)
/-- The score, with the keys after the query masked. -/
def score (x y : Fin 4096) : EReal := if y.val ≤ x.val then rawScore q k cc b h x y else ⊥
/-- The score of a key given by its block and its place there. -/
def keyScore (x : Fin 4096) (p : ℕ × Fin 512) : EReal := score q k cc b h x (place p.1 p.2)
/-- The values of a key given by its block and its place there. -/
def keyValue (d : Fin 128) (p : ℕ × Fin 512) : EReal := v (ix4 b (place p.1 p.2) h d)
/-- The attention of query `x` at dimension `d`. -/
def attn (x : Fin 4096) (d : Fin 128) : EReal :=
  Ideal.div (blend (keyScore q k cc b h x) (keyValue v b h d) (keys 8)) (mass (keyScore q k cc b h x) (keys 8))

/-- The keys after the query's own block are masked. -/
theorem attn_eq (i : ℕ) (hi : i < 8) (r : Fin 512) (d : Fin 128) :
    Ideal.div (blend (keyScore q k cc b h (place i r)) (keyValue v b h d) (keys (i + 1))) (mass (keyScore q k cc b h (place i r)) (keys (i + 1)))
      = attn q k v cc b h (place i r) d := by
  have hsub : keys (i + 1) ⊆ keys 8 := by
    rintro ⟨a, e⟩; simp only [keys, Finset.mem_product, Finset.mem_range, Finset.mem_univ, and_true]; omega
  have hz : ∀ p ∈ keys 8, p ∉ keys (i + 1) → keyScore q k cc b h (place i r) p = ⊥ := by
    rintro ⟨a, e⟩ h8 hn
    simp only [keys, Finset.mem_product, Finset.mem_range, Finset.mem_univ, and_true] at h8 hn
    refine if_neg ?_
    show ¬(512 * a + e.val) % 4096 ≤ (512 * i + r.val) % 4096
    have := r.isLt; have := e.isLt; omega
  unfold attn
  rw [mass_eq_blend, mass_eq_blend, (blend_mono _ _ _ _ hsub hz).1, (blend_mono _ _ _ _ hsub hz).1]

end Attention

/-! ## What is carried -/

variable (m : (ℓ : Loc nD τ sig) → Buf (Elt Ideal) ℓ) (c : Dev nD)

/-- The queries, the keys, the values and the biases. -/
abbrev argQ : Vec Ideal S2x4096x8x128 .f32 := m ((c.tc : Thread nD τ).loc main_arg0)
abbrev argK : Vec Ideal S2x4096x8x128 .f32 := m ((c.tc : Thread nD τ).loc main_arg1)
abbrev argV : Vec Ideal S2x4096x8x128 .f32 := m ((c.tc : Thread nD τ).loc main_arg2)
abbrev argC : Vec Ideal S2x4096x8 .f32 := m ((c.tc : Thread nD τ).loc main_arg3)

/-- The scores of the rows of point `t`. -/
abbrev rowScore (t : Fin cfg0.N) (h : Fin 8) (r : Fin 512) : ℕ × Fin 512 → EReal :=
  keyScore (argQ m c) (argK m c) (argC m c) (batch t) h (place (t.val / 8 % 8) r)
/-- The values of the batch of point `t`. -/
abbrev rowValue (t : Fin cfg0.N) (h : Fin 8) (d : Fin 128) : ℕ × Fin 512 → EReal := keyValue (argV m c) (batch t) h d

/-- The scores a point computes for keys in the past. -/
theorem full_scores (t : Fin cfg0.N) (hj : t.val % 8 < t.val / 8 % 8) (h : Fin 8) (r k : Fin 512) :
    fullScore (F := Ideal) (iblk m c 0 t) (iblk m c 1 t) (iblk m c 3 t) (iblk m c 4 t) h (ix2 r k) = rowScore m c t h r (t.val % 8, k) := by
  rw [fullScore_apply, iblk_cq, iblk_ck]
  have e : min (t.val % 8) (t.val / 8 % 8) = t.val % 8 := by omega
  simp only [iblk_q, iblk_k, e]
  refine (if_pos ?_).symm
  show (512 * (t.val % 8) + k.val) % 4096 ≤ (512 * (t.val / 8 % 8) + r.val) % 4096
  have := r.isLt; have := k.isLt; omega

/-- The scores a point computes on the diagonal. -/
theorem diag_scores (t : Fin cfg0.N) (hj : t.val / 8 % 8 = t.val % 8) (h : Fin 8) (r k : Fin 512) :
    diagScore (F := Ideal) (iblk m c 0 t) (iblk m c 1 t) (iblk m c 3 t) (iblk m c 4 t) h (ix2 r k) = rowScore m c t h r (t.val % 8, k) := by
  rw [diagScore_apply, fullScore_apply, iblk_cq, iblk_ck]
  have e : min (t.val % 8) (t.val / 8 % 8) = t.val % 8 := by omega
  simp only [iblk_q, iblk_k, e]
  have hp : (k.val ≤ r.val) ↔ (place (t.val % 8) k).val ≤ (place (t.val / 8 % 8) r).val := by
    show _ ↔ (512 * (t.val % 8) + k.val) % 4096 ≤ (512 * (t.val / 8 % 8) + r.val) % 4096
    have := r.isLt; have := k.isLt; omega
  exact if_congr hp rfl rfl

/-- The values a point reads. -/
theorem values (t : Fin cfg0.N) (hj : t.val % 8 ≤ t.val / 8 % 8) (h : Fin 8) (k : Fin 512) (d : Fin 128) :
    iblk m c 2 t (ix2 k (lane h d)) = rowValue m c t h d (t.val % 8, k) := by
  have e : min (t.val % 8) (t.val / 8 % 8) = t.val % 8 := by omega
  rw [iblk_v, e]; rfl

/-- What a state holds after point `t`: the closed form over the blocks of keys met, and from the diagonal on the quotients. -/
def Good (t : Fin cfg0.N) (s : St Ideal) : Prop :=
  Holds (rowScore m c t) (rowValue m c t) (min (t.val % 8) (t.val / 8 % 8) + 1) s.m s.l s.a
    ∧ (t.val / 8 % 8 ≤ t.val % 8 → s.o = quot s.l s.a)

/-- A point keeps the closed form. -/
theorem good_step (t : Fin cfg0.N) (s : St Ideal)
    (hs : ¬t.val % 8 = 0 → Holds (rowScore m c t) (rowValue m c t) (min (t.val % 8) (t.val / 8 % 8 + 1)) s.m s.l s.a)
    (ho : t.val / 8 % 8 < t.val % 8 → s.o = quot s.l s.a) : Good m c t (stepAt m c t s) := by
  have h1 : Holds (rowScore m c t) (rowValue m c t) (min (t.val % 8) (t.val / 8 % 8 + 1))
      (if initCond (grid0.coords t) = 1#1 then initSt s else s).m (if initCond (grid0.coords t) = 1#1 then initSt s else s).l
      (if initCond (grid0.coords t) = 1#1 then initSt s else s).a := by
    by_cases hz : t.val % 8 = 0
    · rw [if_pos ((init_iff t).mpr hz), hz, Nat.zero_min]; exact holds_zero _ _
    · rw [if_neg (fun h => hz ((init_iff t).mp h))]; exact hs hz
  unfold Good stepAt stepSt
  dsimp only
  rcases lt_trichotomy (t.val % 8) (t.val / 8 % 8) with hj | hj | hj
  · rw [if_neg (fun h => absurd ((diag_iff t).mp h) (by omega)), if_pos ((full_iff t).mpr hj)]
    refine ⟨?_, fun h => absurd h (by omega)⟩
    rw [show min (t.val % 8) (t.val / 8 % 8) = t.val % 8 by omega]
    rw [show min (t.val % 8) (t.val / 8 % 8 + 1) = t.val % 8 by omega] at h1
    exact holds_succ _ _ _ _ _ _ h1 _ (full_scores m c t hj) _ (values m c t (by omega))
  · rw [if_pos ((diag_iff t).mpr hj.symm), if_neg (fun h => absurd ((full_iff t).mp h) (by omega))]
    refine ⟨?_, fun _ => rfl⟩
    rw [show min (t.val % 8) (t.val / 8 % 8) = t.val % 8 by omega]
    rw [show min (t.val % 8) (t.val / 8 % 8 + 1) = t.val % 8 by omega] at h1
    exact holds_succ _ _ _ _ _ _ h1 _ (diag_scores m c t hj.symm) _ (values m c t (by omega))
  · rw [if_neg (fun h => absurd ((diag_iff t).mp h) (by omega)), if_neg (fun h => absurd ((full_iff t).mp h) (by omega))]
    rw [if_neg (fun h => absurd ((init_iff t).mp h) (by omega))] at h1 ⊢
    rw [show min (t.val % 8) (t.val / 8 % 8 + 1) = min (t.val % 8) (t.val / 8 % 8) + 1 by omega] at h1
    exact ⟨h1, fun _ => ho hj⟩

/-- What is carried after every point. -/
theorem good (n : ℕ) : ∀ hn : n < cfg0.N, Good m c ⟨n, hn⟩ (carried m c (n + 1)) := by
  induction n with
  | zero =>
    intro hn
    rw [carried_succ m c ⟨0, hn⟩]
    exact good_step m c ⟨0, hn⟩ _ (fun h => absurd rfl h) (fun h => absurd h (by simp))
  | succ n ih =>
    intro hn
    have hN : n + 1 < 128 := Nat.lt_of_lt_of_eq hn N_0
    have hg := ih (by omega)
    rw [carried_succ m c ⟨n + 1, hn⟩]
    by_cases hz : (n + 1) % 8 = 0
    · exact good_step m c ⟨n + 1, hn⟩ _ (fun h => absurd hz h) (fun h => absurd h (by simp only [hz]; omega))
    · have e1 : (n + 1) % 8 = n % 8 + 1 := by omega
      have e2 : (n + 1) / 8 = n / 8 := by omega
      have e3 : (n + 1) / 64 = n / 64 := by omega
      obtain ⟨g1, g2⟩ := hg
      have eb : batch (⟨n + 1, hn⟩ : Fin cfg0.N) = batch (⟨n, by omega⟩ : Fin cfg0.N) := Fin.ext e3
      refine good_step m c ⟨n + 1, hn⟩ _ (fun _ => ?_) (fun h => g2 ?_)
      · show Holds (rowScore m c ⟨n + 1, hn⟩) (rowValue m c ⟨n + 1, hn⟩) (min ((n + 1) % 8) ((n + 1) / 8 % 8 + 1)) _ _ _
        have h1 : rowScore m c ⟨n + 1, hn⟩ = rowScore m c ⟨n, by omega⟩ := by
          unfold rowScore; rw [eb]; simp only [e2]
        have h2 : rowValue m c ⟨n + 1, hn⟩ = rowValue m c ⟨n, by omega⟩ := by
          unfold rowValue; rw [eb]
        rw [h1, h2, e1, e2, show min (n % 8 + 1) (n / 8 % 8 + 1) = min (n % 8) (n / 8 % 8) + 1 by omega]
        exact g1
      · show n / 8 % 8 ≤ n % 8
        have : (n + 1) / 8 % 8 < (n + 1) % 8 := h
        rw [e1, e2] at this; omega

/-! ## The result -/

/-- The result array: the attention of each query, head and dimension. -/
def result (q k v : Vec Ideal S2x4096x8x128 .f32) (cc : Vec Ideal S2x4096x8 .f32) : Vec Ideal S8192x1024 .bf16 := fun y =>
  attn q k v cc ⟨(y 0).val / 4096, by have := (y 0).isLt; simp [S8192x1024] at this; omega⟩
    ⟨(y 1).val / 128, by have := (y 1).isLt; simp [S8192x1024] at this; omega⟩
    ⟨(y 0).val % 4096, Nat.mod_lt _ (by decide)⟩ ⟨(y 1).val % 128, Nat.mod_lt _ (by decide)⟩

/-- After the run the result array holds the attention. -/
theorem final_result : (dats m 0 c).arrAt 5 cfg0.N = result (argQ m c) (argK m c) (argV m c) (argC m c) := by
  refine (dats m 0 c).arrAt_eq_of_covers 5 _ (by decide +kernel) fun t hf y => ?_
  have ht : t.val < 128 := Nat.lt_of_lt_of_eq t.isLt N_0
  have h7 : t.val % 8 = 7 := by have := (flush5 t).symm.trans hf; simpa using this
  blk_simp
  rw [after_5]
  obtain ⟨r, e, rfl⟩ : ∃ (r : Fin 512) (e : Fin 1024), y = ix2 r e := ⟨y 0, y 1, by funext i; fin_cases i <;> rfl⟩
  have he : e = lane ⟨e.val / 128, by omega⟩ ⟨e.val % 128, Nat.mod_lt _ (by decide)⟩ := Fin.ext (by show e.val = 128 * (e.val / 128) + e.val % 128; omega)
  obtain ⟨hh, ho⟩ := good m c t.val t.isLt
  rw [show min (t.val % 8) (t.val / 8 % 8) = t.val / 8 % 8 by omega] at hh
  rw [ho (by show t.val / 8 % 8 ≤ t.val % 8; omega)]
  have hq := (holds_quot _ _ _ _ _ _ hh ⟨e.val / 128, by omega⟩ r ⟨e.val % 128, Nat.mod_lt _ (by decide)⟩).trans
    (attn_eq _ _ _ _ _ _ (t.val / 8 % 8) (by omega) r _)
  rw [← he] at hq
  refine hq.trans ?_
  have e0 : ((win0_5.blk t).view.emb (ix2 r e) 0).val = 512 * (t.val / 8) + r.val := by
    blk_simp [idx t]
    omega
  have e1 : ((win0_5.blk t).view.emb (ix2 r e) 1).val = e.val := by
    blk_simp [idx t]
  unfold result
  have hb : (batch t) = ⟨((win0_5.blk t).view.emb (ix2 r e) 0).val / 4096, by have := r.isLt; omega⟩ := Fin.ext (by
    show t.val / 64 = _ / 4096
    rw [e0]; have := r.isLt; omega)
  have hx : place (t.val / 8 % 8) r = ⟨((win0_5.blk t).view.emb (ix2 r e) 0).val % 4096, Nat.mod_lt _ (by decide)⟩ := Fin.ext (by
    show (512 * (t.val / 8 % 8) + r.val) % 4096 = _ % 4096
    rw [e0]; have := r.isLt; omega)
  simp only [e1]
  rw [hb, hx]

end Cert.Fox

end
-- ==== Proof.Fox.Host.lean ====
/-
  The reference's result read at an index: the attention as `attn` has it, once the scores are finite.
-/
module

public import proofs.«01_k».proof.Proof.Fox.Attention
public import proofs.«01_k».proof.Proof.Gen.ReferenceIdeal.Run
public import Idealize.ShloMosaic.Lib.WordCmp

@[expose] public section

set_option maxRecDepth 16384

noncomputable section

namespace Cert.Fox.Host

open Idealize.ShloMosaic Idealize.ShloMosaic.TcCoe Idealize.SL.Sem
open Cert.ReferenceIdeal Cert.ReferenceIdeal.Gen

/-! ## The reference's stages -/

/-- The scores, the keys after the query masked. -/
def scores (q k : FVec Ideal S2x4096x8x128 .f32) (cc : FVec Ideal S2x4096x8 .f32) : FVec Ideal S2x8x4096x4096 .f32 :=
  select (broadcastInDim S2x8x4096x4096 ![0, 1, 2, 3] bcast_S1x1x4096x4096_S2x8x4096x4096_0_1_2_3 (broadcastInDim S1x1x4096x4096 ![2, 3] bcast_S4096x4096_S1x1x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))))
    (subf (addf (mulf (Host.dotGeneral dot_S2x4096x8x128_S2x4096x8x128_S2x8x4096x4096_3_3_1_1_02_02 none q k) (broadcastInDim S2x8x4096x4096 ![] bcast_S_S2x8x4096x4096 (constant S_ .f32 0x3DB504F3#32)))
      (broadcastInDim S2x8x4096x4096 ![0, 1, 2, 3] bcast_S2x8x4096x1_S2x8x4096x4096_0_1_2_3 (broadcastInDim S2x8x4096x1 ![0, 1, 2] bcast_S2x8x4096_S2x8x4096x1_0_1_2 (transpose S2x8x4096 [0, 2, 1] cc transposes_S2x4096x8_S2x8x4096_0_2_1))))
      (broadcastInDim S2x8x4096x4096 ![0, 1, 2, 3] bcast_S2x8x1x4096_S2x8x4096x4096_0_1_2_3 (broadcastInDim S2x8x1x4096 ![0, 1, 3] bcast_S2x8x4096_S2x8x1x4096_0_1_3 (transpose S2x8x4096 [0, 2, 1] cc transposes_S2x4096x8_S2x8x4096_0_2_1))))
    (broadcastInDim S2x8x4096x4096 ![] bcast_S_S2x8x4096x4096 (id (constant S_ .f32 0xFF800000#32)))

/-- The greatest score of each query. -/
def maxes (s : FVec Ideal S2x8x4096x4096 .f32) : FVec Ideal S2x8x4096 .f32 :=
  maximumf (broadcastInDim S2x8x4096 ![] bcast_S_S2x8x4096 (constant S_ .f32 0xFF800000#32)) (Host.reduce FloatOps.maximumf s (constant S_ .f32 0xFF800000#32) reducesTo_S2x8x4096x4096_S2x8x4096_d3 h_S_)

/-- The weights of the keys. -/
def weights (s : FVec Ideal S2x8x4096x4096 .f32) : FVec Ideal S2x8x4096x4096 .f32 :=
  Host.exp (subf s (broadcastInDim S2x8x4096x4096 ![0, 1, 2, 3] bcast_S2x8x4096x1_S2x8x4096x4096_0_1_2_3 (broadcastInDim S2x8x4096x1 ![0, 1, 2] bcast_S2x8x4096_S2x8x4096x1_0_1_2 (maxes s))))

/-- The sum of the weights of each query. -/
def sums (w : FVec Ideal S2x8x4096x4096 .f32) : FVec Ideal S2x8x4096 .f32 :=
  Host.reduceAdd w (constant S_ .f32 0x00000000#32) reducesTo_S2x8x4096x4096_S2x8x4096_d3 h_S_

/-- The values weighted. -/
def mixed (w : FVec Ideal S2x8x4096x4096 .f32) (v : FVec Ideal S2x4096x8x128 .f32) : FVec Ideal S2x8x128x4096 .f32 :=
  Host.dotGeneral dot_S2x4096x8x128_S2x8x4096x4096_S2x8x128x4096_1_3_3_2_02_01 none v (Host.divf w (broadcastInDim S2x8x4096x4096 ![0, 1, 2, 3] bcast_S2x8x4096x1_S2x8x4096x4096_0_1_2_3 (broadcastInDim S2x8x4096x1 ![0, 1, 2] bcast_S2x8x4096_S2x8x4096x1_0_1_2 (sums w))))

/-- The result's layout. -/
def laid (x : FVec Ideal S2x8x128x4096 .f32) : FVec Ideal S8192x1024 .bf16 :=
  truncf .bf16 (shapeCast S8192x1024 (transpose S2x4096x8x128 [0, 3, 1, 2] x transposes_S2x8x128x4096_S2x4096x8x128_0_3_1_2) shapeCasts_S2x4096x8x128_S8192x1024) bitsLt_bf16_f32

/-- The reference's result through its stages. -/
theorem res_eq (m : (ℓ : Loc nD τ sig) → Buf (Elt Ideal) ℓ) (c : Dev nD) :
    Cert.ReferenceIdeal.Value.res_main_v32 m c = laid (mixed (weights (scores (m ((c.tc : Thread nD τ).loc main_arg0)) (m ((c.tc : Thread nD τ).loc main_arg1)) (m ((c.tc : Thread nD τ).loc main_arg3)))) (m ((c.tc : Thread nD τ).loc main_arg2))) := rfl

/-! ## The stages at an index -/

variable (b : Fin 2) (h : Fin 8) (x y : Fin 4096)

/-- The scores are the masked scores. -/
theorem scores_apply (q k : Vec Ideal S2x4096x8x128 .f32) (cc : Vec Ideal S2x4096x8 .f32) :
    scores q k cc (ix4 b h x y) = score q k cc b h x y := by
  unfold scores
  pointwise
  rw [WordCmp.cmpi_sle_ofNat (by have := y.isLt; omega) (by have := x.isLt; omega), select_ofBool]
  exact if_congr Iff.rfl rfl ofBits_neg_inf

/-- A reduced index with the last coordinate put in, at any extents. -/
theorem lift_ix {A B N K : ℕ} (hr : (⟨4, ![A, B, N, K]⟩ : Shape).Reduces [3] ⟨3, ![A, B, N]⟩) (b : Fin A) (h : Fin B) (x : Fin N) (y : Fin K) :
    hr.lift (ix3 b h x) y = ix4 b h x y := by
  funext i
  apply Fin.ext
  fin_cases i <;> rfl

/-- A host maximum over the last axis, at any extents. -/
theorem reduce_max {A B N K : ℕ} {u : Shape} (s : (⟨4, ![A, B, N, K]⟩ : Shape).Idx → EReal) (z : u.Idx → EReal)
    (h' : (⟨4, ![A, B, N, K]⟩ : Shape).ReducesTo [3] ⟨3, ![A, B, N]⟩) (hr : (⟨4, ![A, B, N, K]⟩ : Shape).Reduces [3] ⟨3, ![A, B, N]⟩)
    (hu : 0 < u.numel) (hz : ∀ i, z i = ⊥) (b : Fin A) (h : Fin B) (x : Fin N) :
    Host.reduce (max : EReal → EReal → EReal) s z h' hu (ix3 b h x) = Finset.univ.sup fun y => s (ix4 b h x y) := by
  rw [Host.reduce_eq_fold_single (max : EReal → EReal → EReal) s z h' hr hu, hz]
  have e : s ∘ hr.lift (ix3 b h x) = fun y => s (ix4 b h x y) := funext fun y => congrArg s (lift_ix hr b h x y)
  rw [e]; rfl

/-- An elementwise maximum read at an index. -/
theorem max_at {s : Shape} (x y : FVec Ideal s .f32) (i : s.Idx) : maximumf x y i = max (x i) (y i) := rfl

/-- A constant broadcast from a scalar read at an index. -/
theorem scalar_at (w : BitVec 32) (i : S2x8x4096.Idx) :
    broadcastInDim S2x8x4096 ![] bcast_S_S2x8x4096 (constant (F := Ideal) S_ .f32 w) i = Ideal.ofBits .f32 w := rfl

/-- The last axis of the scores is the one reduced. -/
theorem reduces : S2x8x4096x4096.Reduces [3] S2x8x4096 := by decide

/-- The host's maximum is the greatest score. -/
theorem host_max (s : FVec Ideal S2x8x4096x4096 .f32) :
    Host.reduce FloatOps.maximumf s (constant S_ .f32 0xFF800000#32) reducesTo_S2x8x4096x4096_S2x8x4096_d3 h_S_ (ix3 b h x)
      = Finset.univ.sup fun y => s (ix4 b h x y) :=
  reduce_max s _ reducesTo_S2x8x4096x4096_S2x8x4096_d3 reduces h_S_ (fun _ => ofBits_neg_inf) b h x

/-- The greatest score of a query. -/
theorem maxes_apply (s : Vec Ideal S2x8x4096x4096 .f32) :
    maxes s (ix3 b h x) = Finset.univ.sup fun y => s (ix4 b h x y) := by
  unfold maxes
  rw [max_at, host_max, scalar_at]
  exact (congrArg (max · _) ofBits_neg_inf).trans (max_eq_right bot_le)

/-- The weight of a key. -/
theorem weights_apply (s : FVec Ideal S2x8x4096x4096 .f32) :
    weights s (ix4 b h x y) = wt (s (ix4 b h x y)) (maxes s (ix3 b h x)) := by
  unfold weights
  pointwise
  rfl

/-- The sum over the keys. -/
theorem sums_apply (s : FVec Ideal S2x8x4096x4096 .f32) :
    sums s (ix3 b h x) = ∑ y : Fin 4096, s (ix4 b h x y) := by
  unfold sums
  pointwise

/-- The weighted values of a query. -/
theorem mixed_apply (w : FVec Ideal S2x8x4096x4096 .f32) (v : FVec Ideal S2x4096x8x128 .f32) (d : Fin 128) :
    mixed w v (ix4 b h d x) = ∑ y : Fin 4096, v (ix4 b y h d) * Ideal.div (w (ix4 b h x y)) (sums w (ix3 b h x)) := by
  unfold mixed
  pointwise

/-- The result's layout read at an index. -/
theorem laid_apply (u : FVec Ideal S2x8x128x4096 .f32) (R : Fin 8192) (e : Fin 1024) :
    laid u (ix2 R e) = u (ix4 (⟨R.val / 4096, by omega⟩ : Fin 2) (⟨e.val / 128, by omega⟩ : Fin 8) (⟨e.val % 128, Nat.mod_lt _ (by decide)⟩ : Fin 128) (⟨R.val % 4096, Nat.mod_lt _ (by decide)⟩ : Fin 4096)) := by
  unfold laid
  pointwise

/-! ## The attention -/

/-- The 4096 keys by their blocks. -/
theorem keys_image : (keys 8).image (fun p => place p.1 p.2) = Finset.univ := by
  refine Finset.eq_univ_of_forall fun y => Finset.mem_image.mpr ⟨(y.val / 512, ⟨y.val % 512, Nat.mod_lt _ (by decide)⟩), ?_, ?_⟩
  · simp only [keys, Finset.mem_product, Finset.mem_range, Finset.mem_univ, and_true]; omega
  · refine Fin.ext ?_
    show (512 * (y.val / 512) + y.val % 512) % 4096 = y.val
    omega

/-- A key has one place in one block. -/
theorem keys_inj : ∀ p ∈ keys 8, ∀ p' ∈ keys 8, place p.1 p.2 = place p'.1 p'.2 → p = p' := by
  rintro ⟨a, e⟩ h1 ⟨a', e'⟩ h2 he
  simp only [keys, Finset.mem_product, Finset.mem_range, Finset.mem_univ, and_true] at h1 h2
  have hv : (512 * a + e.val) % 4096 = (512 * a' + e'.val) % 4096 := congrArg Fin.val he
  have := e.isLt; have := e'.isLt
  refine Prod.ext (by show a = a'; omega) (Fin.ext ?_)
  show e.val = e'.val
  omega

/-- A sum over the keys is one over the blocks. -/
theorem sum_keys (f : Fin 4096 → EReal) : ∑ y : Fin 4096, f y = ∑ p ∈ keys 8, f (place p.1 p.2) := by
  rw [← keys_image, Finset.sum_image keys_inj]

/-- The greatest of the keys is the greatest over the blocks. -/
theorem sup_keys (f : Fin 4096 → EReal) : (Finset.univ.sup f) = (keys 8).sup fun p => f (place p.1 p.2) := by
  rw [← keys_image, Finset.sup_image]; rfl

/-- The reference's attention is `attn`, the scores being finite. -/
theorem mixed_eq (q k v : Vec Ideal S2x4096x8x128 .f32) (cc : Vec Ideal S2x4096x8 .f32)
    (hs : ∀ x y, ∃ r : ℝ, rawScore q k cc b h x y = r) (d : Fin 128) :
    mixed (weights (scores q k cc)) v (ix4 b h d x) = attn q k v cc b h x d := by
  have hw : ∀ y, weights (scores q k cc) (ix4 b h x y)
      = wt (score q k cc b h x y) ((keys 8).sup (keyScore q k cc b h x)) := fun y => by
    rw [weights_apply, maxes_apply, scores_apply, sup_keys]
    simp only [scores_apply]; rfl
  have hsum : sums (weights (scores q k cc)) (ix3 b h x) = mass (keyScore q k cc b h x) (keys 8) := by
    rw [sums_apply, sum_keys]
    simp only [hw]; rfl
  have ht : ∀ p ∈ keys 8, keyScore q k cc b h x p ≠ ⊤ := fun p _ => by
    unfold keyScore score
    split
    · obtain ⟨r, hr⟩ := hs x (place p.1 p.2); rw [hr]; exact EReal.coe_ne_top r
    · exact bot_ne_top
  obtain ⟨p₀, h₀, hp⟩ := Finset.mem_image.mp (keys_image ▸ Finset.mem_univ x : x ∈ (keys 8).image fun p => place p.1 p.2)
  have hb : keyScore q k cc b h x p₀ ≠ ⊥ := by
    unfold keyScore score
    rw [hp, if_pos le_rfl]
    obtain ⟨r, hr⟩ := hs x x; rw [hr]; exact EReal.coe_ne_bot r
  obtain ⟨r, hr0, hr⟩ := mass_real (keyScore q k cc b h x) (keys 8) ht p₀ h₀ hb
  rw [mixed_apply, sum_keys, hsum]
  simp only [hw]
  unfold attn
  rw [hr, blend, div_blend _ _ r hr0]
  rfl

end Cert.Fox.Host

end
-- ==== Proof.Fox.Finite.lean ====
/-
  The precondition read back: the queries, the keys and the biases are finite, hence so is every score.
-/
module

public import proofs.«01_k».proof.Proof.Fox.Attention
public import proofs.«01_k».proof.Pre_finite
public import Idealize.ShloMosaic.Lib.ReduceAll

@[expose] public section

set_option maxRecDepth 16384

noncomputable section

namespace Cert.Fox

open Idealize.ShloMosaic Idealize.ShloMosaic.TcCoe Idealize.SL.Sem

/-- The side conditions the precondition's operations take. -/
theorem pre_facts : Cert.Pre_finite.Facts := ⟨by decide, by decide, by decide, by decide, by decide⟩

/-- The printed infinity. -/
theorem ofBits_inf : Ideal.ofBits .f32 0x7F800000#32 = ⊤ := by
  have h1 : ((0x7F800000#32 : BitVec 32).extractLsb' 23 8).toNat = 255 := by decide
  have h2 : ((0x7F800000#32 : BitVec 32).extractLsb' 0 23).toNat = 0 := by decide
  have h3 : ((0x7F800000#32 : BitVec 32).extractLsb' 31 1 == 1#1) = false := by decide
  show Ideal.ieee 8 23 (0x7F800000#32 : BitVec 32) = ⊤
  unfold Ideal.ieee
  simp only [h1, h2]
  simp [h3]

/-- The scale is a real number. -/
theorem scale_real : ∃ r : ℝ, scale = r := by
  have h1 : ((0x3DB504F3#32 : BitVec 32).extractLsb' 23 8).toNat = 123 := by decide
  show ∃ r : ℝ, Ideal.ieee 8 23 (0x3DB504F3#32 : BitVec 32) = r
  unfold Ideal.ieee
  simp only [h1]
  simp
  exact ⟨_, rfl⟩

/-- An extended real smaller than infinity in absolute value is a real number. -/
theorem real_of_abs (x : EReal) (h : FloatOps.cmpf (F := Ideal) (φ := .f32) .olt (FloatOps.hostAbsf (F := Ideal) (φ := .f32) x) (Ideal.ofBits .f32 0x7F800000#32) = 1#1) :
    ∃ r : ℝ, x = r := by
  rw [ofBits_inf] at h
  induction x with
  | coe r => exact ⟨r, rfl⟩
  | top =>
    have e : FloatOps.cmpf (F := Ideal) (φ := .f32) .olt (FloatOps.hostAbsf (F := Ideal) (φ := .f32) (⊤ : EReal)) (⊤ : EReal) = BitVec.ofBool (decide (max (⊤ : EReal) (-⊤) < ⊤)) := rfl
    rw [e] at h; simp at h
  | bot =>
    have e : FloatOps.cmpf (F := Ideal) (φ := .f32) .olt (FloatOps.hostAbsf (F := Ideal) (φ := .f32) (⊥ : EReal)) (⊤ : EReal) = BitVec.ofBool (decide (max (⊥ : EReal) (-⊥) < ⊤)) := rfl
    rw [e] at h; simp at h

/-- The entries the precondition bounds are real numbers. -/
theorem real_of_pre [Cert.Pre_finite.Facts] (q k v : FVec Ideal Cert.Pre_finite.S2x4096x8x128 .f32) (cc : FVec Ideal Cert.Pre_finite.S2x4096x8 .f32)
    (h : Cert.Pre_finite.fn (F := Ideal) q k v cc = fun _ => 1#1) :
    (∀ i, ∃ r : ℝ, q i = r) ∧ (∀ i, ∃ r : ℝ, k i = r) ∧ (∀ i, ∃ r : ℝ, cc i = r) := by
  have h0 := congrFun h ix0
  obtain ⟨h12, h3⟩ := IntOp.andi_eq_one.mp h0
  obtain ⟨h1, h2⟩ := IntOp.andi_eq_one.mp h12
  haveI : Subsingleton Cert.Pre_finite.S_.Idx := ⟨fun a b => funext fun i => i.elim0⟩
  exact ⟨fun i => real_of_abs _ (Host.reduce_andi_all _ _ _ _ _ h1 i), fun i => real_of_abs _ (Host.reduce_andi_all _ _ _ _ _ h2 i),
    fun i => real_of_abs _ (Host.reduce_andi_all _ _ _ _ _ h3 i)⟩

/-- Every score is a real number when the queries, the keys and the biases are. -/
theorem rawScore_real (q k : Vec Ideal Cert.KernelIdeal.S2x4096x8x128 .f32) (cc : Vec Ideal Cert.KernelIdeal.S2x4096x8 .f32)
    (hq : ∀ i, ∃ r : ℝ, q i = r) (hk : ∀ i, ∃ r : ℝ, k i = r) (hc : ∀ i, ∃ r : ℝ, cc i = r) (b : Fin 2) (h : Fin 8) (x y : Fin 4096) :
    ∃ r : ℝ, rawScore q k cc b h x y = r := by
  choose fq hq using hq
  choose fk hk using hk
  choose fc hc using hc
  obtain ⟨s, hs⟩ := scale_real
  unfold rawScore
  simp only [hq, hk, hc, hs, ← EReal.coe_mul]
  rw [← coe_sum]
  simp only [← EReal.coe_mul, ← EReal.coe_add, ← EReal.coe_sub]
  exact ⟨_, rfl⟩

end Cert.Fox

end
-- ==== Proof.Fox.Claims.lean ====
/-
  The claims about the attention: the frames, the ledger of named constants, and the two programs' equal results.
-/
module

public import proofs.«01_k».proof.Defs
public import proofs.«01_k».proof.Proof.FoxRounded.Run
public import proofs.«01_k».proof.Proof.Fox.Run
public import proofs.«01_k».proof.Proof.Fox.Host
public import proofs.«01_k».proof.Proof.Fox.Finite

@[expose] public section

noncomputable section

namespace Cert.Fox

open Idealize.ShloMosaic Idealize.ShloMosaic.TcCoe Idealize.SL.Sem

attribute [local instance] Cert.Kernel.Gen.facts Cert.KernelIdeal.Gen.facts Cert.ReferenceIdeal.Gen.facts pre_facts

/-- The kernel's frame. -/
theorem frame_p : Cert.quiescent_Kernel := fun m ρ _ => Cert.FoxRounded.frame_rounded m ρ
/-- The idealized kernel's frame. -/
theorem frame_pi : Cert.quiescent_KernelIdeal := fun m ρ _ => frame_ideal m ρ
/-- The idealized kernel's frame from finite scores. -/
theorem frame_pi_finite : Cert.quiescent_KernelIdeal_pre_finite := fun m ρ _ => frame_ideal m ρ
/-- The reference's frame. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
/-- The reference's frame from finite scores. -/
theorem frame_ri_finite : Cert.quiescent_ReferenceIdeal_pre_finite := fun m ρ _ => frame_ri m ρ trivial

/-- The two named constants stand for the smallest extended real. -/
theorem preserves : Cert.preserves_Kernel_KernelIdeal :=
  ⟨IdealRules.named_const.statement Cert.KernelIdeal.κ "neg" .f32 0xF149F2CA#32 ⊥ rfl,
    IdealRules.named_const.statement Cert.KernelIdeal.κ "masked" .f32 0xF1C9F2CA#32 ⊥ rfl⟩

/-- The kernel's run ends with the attention in its result and the arguments unchanged. -/
theorem kernel_value (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v8) = result (argQ m c) (argK m c) (argV m c) (argC m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono (fun _ h c => ⟨((h.1 c).1 5).trans (final_result m c), h.2 c⟩) (θ_run_and (run_main m ρ) (unchanged m ρ))

/-- The reference's result is the attention, the queries, the keys and the biases being finite. -/
theorem reference_value (m : (ℓ : Loc Cert.ReferenceIdeal.nD Cert.ReferenceIdeal.τ Cert.ReferenceIdeal.sig) → Buf (Elt Ideal) ℓ) (c : Dev Cert.ReferenceIdeal.nD)
    (q k v : Vec Ideal Cert.KernelIdeal.S2x4096x8x128 .f32) (cc : Vec Ideal Cert.KernelIdeal.S2x4096x8 .f32)
    (e0 : m ((c.tc : Thread Cert.ReferenceIdeal.nD Cert.ReferenceIdeal.τ).loc Cert.ReferenceIdeal.main_arg0) = q)
    (e1 : m ((c.tc : Thread Cert.ReferenceIdeal.nD Cert.ReferenceIdeal.τ).loc Cert.ReferenceIdeal.main_arg1) = k)
    (e2 : m ((c.tc : Thread Cert.ReferenceIdeal.nD Cert.ReferenceIdeal.τ).loc Cert.ReferenceIdeal.main_arg2) = v)
    (e3 : m ((c.tc : Thread Cert.ReferenceIdeal.nD Cert.ReferenceIdeal.τ).loc Cert.ReferenceIdeal.main_arg3) = cc)
    (hs : ∀ b h x y, ∃ r : ℝ, rawScore q k cc b h x y = r) :
    Cert.ReferenceIdeal.Value.res_main_v32 m c = result q k v cc := by
  rw [Host.res_eq, e0, e1, e2, e3]
  funext y
  obtain ⟨R, e, rfl⟩ : ∃ (R : Fin 8192) (e : Fin 1024), y = ix2 R e := ⟨y 0, y 1, by funext i; fin_cases i <;> rfl⟩
  rw [Host.laid_apply, Host.mixed_eq _ _ _ q k v cc (hs _ _)]
  rfl

/-- The two programs end with equal results, the queries, the keys and the biases being finite. -/
theorem algebraic : Cert.algebraic_KernelIdeal_ReferenceIdeal_pre_finite := by
  intro m ρ m' ρ' hpre hagree
  refine ⟨_, kernel_value m ρ, ?_⟩
  refine (θ_run Cert.ReferenceIdeal.defs _ _).mono (fun _ h c => ⟨(h c).1.trans ?_, (h c).2⟩) (Cert.ReferenceIdeal.Value.run (F := Ideal) m' ρ')
  obtain ⟨a0, a1, a2, a3⟩ := hagree c
  obtain ⟨hq, hk, hc⟩ := real_of_pre _ _ _ _ (hpre c)
  exact reference_value m' c _ _ _ _ a0 a1 a2 a3 (rawScore_real _ _ _ hq hk hc)

end Cert.Fox

end
-- ==== Proof.Ffn.Parts.lean ====
/-
  The kernel's body as a sequence of five programs: normalise the rows and clear the accumulator (first tile of columns),
  clear the carried rows (first tile of a sequence), the first 256 columns of the tile, the second 256 columns, and add the
  residual (last tile of columns). Each is a program of its own, so that it is run once, whatever the others do.
-/
module

public import proofs.«01_k».proof.Proof.Gen.Kernel2Ideal.Skeleton

@[expose] public section

set_option maxRecDepth 16384

noncomputable section

namespace Cert.Ffn

open Idealize.ShloMosaic Idealize.SL.Sem
open Cert.Kernel2Ideal Cert.Kernel2Ideal.Gen

variable {F : FTy → Type} [FloatOps F]

/-- The row number of every entry of a block of 512 rows and 256 columns. -/
abbrev rowNo : IVec S512x256 32 := iota .tc S512x256 32 [0] iota_S512x256_d0_w32

/-- The test of the first branch: the tile of columns is the first one. -/
def initCond (i : grid0.Coords) : BitVec 1 :=
  Scalar.cmpi .ne (Scalar.extui (Scalar.cmpi .eq (BitVec.ofNat 32 (i 1).val) 0#32) : BitVec 32) 0#32

/-- The first branch: the rows are normalised and rounded, the accumulator is cleared. -/
noncomputable def initPart (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S1x8x512 .f32) (harg10 : arg10.IsWhole) (arg11 : Memref sig .tc .vmem S512x2048 .bf16) (harg11 : arg11.IsWhole) (arg12 : Memref sig .tc .vmem S512x2048 .f32) (harg12 : arg12.IsWhole) (arg13 : Memref sig .tc .vmem S11x8x512 .f32) (harg13 : arg13.IsWhole) :
    Prog (TpuEff nD τ sig (Elt F) Λ₀ .tc) PUnit := do
  let v165 : Vec F S512x2048 .f32 ← Prog.lift (.load arg2 (Rect.unit (s := S512x2048) ![0, 0] S512x2048.size inb_S512x2048_S512x2048_0_0).toLoadRect (View.loadsAt_vmem h_S512x2048))
  let v177 : Vec F S1x2048 .f32 ← Prog.lift (.load arg3 (Rect.unit (s := S1x2048) ![0, 0] S1x2048.size inb_S1x2048_S1x2048_0_0).toLoadRect (View.loadsAt_vmem h_S1x2048))
  let v182 : Vec F S512x2048 .bf16 ← Prog.lift (.load arg11 (Rect.unit (s := S512x2048) ![0, 0] S512x2048.size inb_S512x2048_S512x2048_0_0).toLoadRect (View.loadsAt_vmem h_S512x2048))
  Prog.lift (.store arg11 (Rect.unit (s := S512x2048) ![0, 0] S512x2048.size inb_S512x2048_S512x2048_0_0) (k0_pay3 v165 v177) Finset.univ (View.stores_vmem h_S512x2048 (harg11.storeExact_slice rfl _ packedbf16_S512x2048_S512x2048_0_0) (fun _ => rfl)) (.inl rfl))
  let v186 : Vec F S512x2048 .f32 ← Prog.lift (.load arg12 (Rect.unit (s := S512x2048) ![0, 0] S512x2048.size inb_S512x2048_S512x2048_0_0).toLoadRect (View.loadsAt_vmem h_S512x2048))
  Prog.lift (.store arg12 (Rect.unit (s := S512x2048) ![0, 0] S512x2048.size inb_S512x2048_S512x2048_0_0) (k0_pay4 (F := F)) Finset.univ (View.stores_vmem_bits_univ h_S512x2048 rfl) (.inl rfl))
  pure ⟨⟩

/-- The second branch: the rows carried for this tile of columns are cleared. -/
noncomputable def zeroPart (i : grid0.Coords) (hz : k0_cond2 i = 1#1) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S1x8x512 .f32) (harg10 : arg10.IsWhole) (arg11 : Memref sig .tc .vmem S512x2048 .bf16) (harg11 : arg11.IsWhole) (arg12 : Memref sig .tc .vmem S512x2048 .f32) (harg12 : arg12.IsWhole) (arg13 : Memref sig .tc .vmem S11x8x512 .f32) (harg13 : arg13.IsWhole) :
    Prog (TpuEff nD τ sig (Elt F) Λ₀ .tc) PUnit := do
  let v167 : Vec F S1x8x512 .f32 ← Prog.lift (.load arg13 (Rect.unit (s := S11x8x512) (k0_off1 i) S1x8x512.size (k0_off1_inb i hz)).toLoadRect (View.loadsAt_vmem h_S1x8x512))
  Prog.lift (.store arg13 (Rect.unit (s := S11x8x512) (k0_off1 i) S1x8x512.size (k0_off1_inb i hz)) (k0_pay5 (F := F)) Finset.univ (View.stores_vmem_bits_univ h_S1x8x512 rfl) (.inl rfl))
  pure ⟨⟩

/-- The first 256 columns of the tile: the gates are stored among the carried rows, the activated product is projected; with it come the gates and the ups of the other 256 columns. -/
noncomputable def mainA (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S1x8x512 .f32) (harg10 : arg10.IsWhole) (arg11 : Memref sig .tc .vmem S512x2048 .bf16) (harg11 : arg11.IsWhole) (arg12 : Memref sig .tc .vmem S512x2048 .f32) (harg12 : arg12.IsWhole) (arg13 : Memref sig .tc .vmem S11x8x512 .f32) (harg13 : arg13.IsWhole) :
    Prog (TpuEff nD τ sig (Elt F) Λ₀ .tc) (Σ' (v25 : FVec F S512x256 .f32) (v28 : FVec F S512x256 .f32), FVec F S512x2048 .f32) := do
  let v16 : Vec F S512x2048 .bf16 ← Prog.lift (.load arg11 (Rect.unit (s := S512x2048) ![0, 0] S512x2048.size inb_S512x2048_S512x2048_0_0).toLoadRect (View.loadsAt_vmem h_S512x2048))
  let v17 : Vec F S2048x256 .bf16 ← Prog.lift (.load arg4 (Rect.unit (s := S2048x512) ![0, 0] S2048x256.size inb_S2048x512_S2048x256_0_0).toLoadRect (View.loadsAt_vmem h_S2048x256))
  let v20 : Vec F S2048x256 .bf16 ← Prog.lift (.load arg5 (Rect.unit (s := S2048x512) ![0, 0] S2048x256.size inb_S2048x512_S2048x256_0_0).toLoadRect (View.loadsAt_vmem h_S2048x256))
  let v23 : Vec F S2048x256 .bf16 ← Prog.lift (.load arg4 (Rect.unit (s := S2048x512) ![0, 256] S2048x256.size inb_S2048x512_S2048x256_0_256).toLoadRect (View.loadsAt_vmem h_S2048x256))
  let v26 : Vec F S2048x256 .bf16 ← Prog.lift (.load arg5 (Rect.unit (s := S2048x512) ![0, 256] S2048x256.size inb_S2048x512_S2048x256_0_256).toLoadRect (View.loadsAt_vmem h_S2048x256))
  let v31 : Vec F S1x8x256 .f32 ← Prog.lift (.load arg13 (Rect.unit (s := S11x8x512) (k0_off2 i) S1x8x256.size (k0_off2_inb i)).toLoadRect (View.loadsAt_vmem h_S1x8x256))
  let v55 : Vec F S1x8x256 .f32 ← Prog.lift (.load arg13 (Rect.unit (s := S11x8x512) (k0_off2 i) S1x8x256.size (k0_off2_inb i)).toLoadRect (View.loadsAt_vmem h_S1x8x256))
  Prog.lift (.store arg13 (Rect.unit (s := S11x8x512) (k0_off2 i) S1x8x256.size (k0_off2_inb i)) (k0_pay12 (k0_pay6 v16 v17)) Finset.univ (View.stores_vmem_bits_univ h_S1x8x256 rfl) (.inl rfl))
  let v59 : Vec F S1x8x256 .f32 ← Prog.lift (.load arg10 (Rect.unit (s := S1x8x512) ![0, 0, 0] S1x8x256.size inb_S1x8x512_S1x8x256_0_0_0).toLoadRect (View.loadsAt_vmem h_S1x8x256))
  Prog.lift (.store arg10 (Rect.unit (s := S1x8x512) ![0, 0, 0] S1x8x256.size inb_S1x8x512_S1x8x256_0_0_0) (k0_pay13 (k0_pay6 v16 v17)) Finset.univ (View.stores_vmem_bits_univ h_S1x8x256 rfl) (.inl rfl))
  let v62 : Vec F S1x256 .f32 ← Prog.lift (.load arg7 (Rect.unit (s := S1x512) ![0, 0] S1x256.size inb_S1x512_S1x256_0_0).toLoadRect (View.loadsAt_vmem h_S1x256))
  let v64 : Vec F S1x256 .f32 ← Prog.lift (.load arg6 (Rect.unit (s := S3x512) ![0, 0] S1x256.size inb_S3x512_S1x256_0_0).toLoadRect (View.loadsAt_vmem h_S1x256))
  let v70 : Vec F S1x256 .f32 ← Prog.lift (.load arg6 (Rect.unit (s := S3x512) ![1, 0] S1x256.size inb_S3x512_S1x256_1_0).toLoadRect (View.loadsAt_vmem h_S1x256))
  let v75 : Vec F S1x256 .f32 ← Prog.lift (.load arg6 (Rect.unit (s := S3x512) ![2, 0] S1x256.size inb_S3x512_S1x256_2_0).toLoadRect (View.loadsAt_vmem h_S1x256))
  let v90 : Vec F S256x2048 .bf16 ← Prog.lift (.load arg8 (Rect.unit (s := S512x2048) ![0, 0] S256x2048.size inb_S512x2048_S256x2048_0_0).toLoadRect (View.loadsAt_vmem h_S256x2048))
  pure ⟨k0_pay8 v16 v23, k0_pay9 v16 v26, k0_pay16 (k0_pay6 v16 v17) (k0_pay7 v16 v20) (k0_pay11 (k0_pay6 v16 v17) rowNo v31) (k0_pay14 (k0_pay6 v16 v17) rowNo v31 v62 v64) (k0_pay15 v70) v75 v90⟩

/-- The second 256 columns of the tile, and the sum of the two products onto the accumulator. -/
noncomputable def mainB (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S1x8x512 .f32) (harg10 : arg10.IsWhole) (arg11 : Memref sig .tc .vmem S512x2048 .bf16) (harg11 : arg11.IsWhole) (arg12 : Memref sig .tc .vmem S512x2048 .f32) (harg12 : arg12.IsWhole) (arg13 : Memref sig .tc .vmem S11x8x512 .f32) (harg13 : arg13.IsWhole)
    (v25 v28 : FVec F S512x256 .f32) (v92 : FVec F S512x2048 .f32) :
    Prog (TpuEff nD τ sig (Elt F) Λ₀ .tc) PUnit := do
  let v94 : Vec F S1x8x256 .f32 ← Prog.lift (.load arg13 (Rect.unit (s := S11x8x512) (k0_off3 i) S1x8x256.size (k0_off3_inb i)).toLoadRect (View.loadsAt_vmem h_S1x8x256))
  let v118 : Vec F S1x8x256 .f32 ← Prog.lift (.load arg13 (Rect.unit (s := S11x8x512) (k0_off3 i) S1x8x256.size (k0_off3_inb i)).toLoadRect (View.loadsAt_vmem h_S1x8x256))
  Prog.lift (.store arg13 (Rect.unit (s := S11x8x512) (k0_off3 i) S1x8x256.size (k0_off3_inb i)) (k0_pay21 (k0_pay20 v25)) Finset.univ (View.stores_vmem_bits_univ h_S1x8x256 rfl) (.inl rfl))
  let v122 : Vec F S1x8x256 .f32 ← Prog.lift (.load arg10 (Rect.unit (s := S1x8x512) ![0, 0, 256] S1x8x256.size inb_S1x8x512_S1x8x256_0_0_256).toLoadRect (View.loadsAt_vmem h_S1x8x256))
  Prog.lift (.store arg10 (Rect.unit (s := S1x8x512) ![0, 0, 256] S1x8x256.size inb_S1x8x512_S1x8x256_0_0_256) (k0_pay22 v25) Finset.univ (View.stores_vmem_bits_univ h_S1x8x256 rfl) (.inl rfl))
  let v125 : Vec F S1x256 .f32 ← Prog.lift (.load arg7 (Rect.unit (s := S1x512) ![0, 256] S1x256.size inb_S1x512_S1x256_0_256).toLoadRect (View.loadsAt_vmem h_S1x256))
  let v127 : Vec F S1x256 .f32 ← Prog.lift (.load arg6 (Rect.unit (s := S3x512) ![0, 256] S1x256.size inb_S3x512_S1x256_0_256).toLoadRect (View.loadsAt_vmem h_S1x256))
  let v133 : Vec F S1x256 .f32 ← Prog.lift (.load arg6 (Rect.unit (s := S3x512) ![1, 256] S1x256.size inb_S3x512_S1x256_1_256).toLoadRect (View.loadsAt_vmem h_S1x256))
  let v138 : Vec F S1x256 .f32 ← Prog.lift (.load arg6 (Rect.unit (s := S3x512) ![2, 256] S1x256.size inb_S3x512_S1x256_2_256).toLoadRect (View.loadsAt_vmem h_S1x256))
  let v153 : Vec F S256x2048 .bf16 ← Prog.lift (.load arg8 (Rect.unit (s := S512x2048) ![256, 0] S256x2048.size inb_S512x2048_S256x2048_256_0).toLoadRect (View.loadsAt_vmem h_S256x2048))
  let v157 : Vec F S512x2048 .f32 ← Prog.lift (.load arg12 (Rect.unit (s := S512x2048) ![0, 0] S512x2048.size inb_S512x2048_S512x2048_0_0).toLoadRect (View.loadsAt_vmem h_S512x2048))
  let v159 : Vec F S512x2048 .f32 ← Prog.lift (.load arg12 (Rect.unit (s := S512x2048) ![0, 0] S512x2048.size inb_S512x2048_S512x2048_0_0).toLoadRect (View.loadsAt_vmem h_S512x2048))
  Prog.lift (.store arg12 (Rect.unit (s := S512x2048) ![0, 0] S512x2048.size inb_S512x2048_S512x2048_0_0) (k0_pay1 v92 (k0_pay23 v25 v28 (k0_pay18 v25 rowNo v94) (k0_pay19 v25 rowNo v94) v125 v127 v133 v138 v153) v157) Finset.univ (View.stores_vmem_bits_univ h_S512x2048 rfl) (.inl rfl))
  pure ⟨⟩

/-- The last branch: the accumulator is added to the rows. -/
noncomputable def lastPart (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S1x8x512 .f32) (harg10 : arg10.IsWhole) (arg11 : Memref sig .tc .vmem S512x2048 .bf16) (harg11 : arg11.IsWhole) (arg12 : Memref sig .tc .vmem S512x2048 .f32) (harg12 : arg12.IsWhole) (arg13 : Memref sig .tc .vmem S11x8x512 .f32) (harg13 : arg13.IsWhole) :
    Prog (TpuEff nD τ sig (Elt F) Λ₀ .tc) PUnit := do
  let v165 : Vec F S512x2048 .f32 ← Prog.lift (.load arg2 (Rect.unit (s := S512x2048) ![0, 0] S512x2048.size inb_S512x2048_S512x2048_0_0).toLoadRect (View.loadsAt_vmem h_S512x2048))
  let v167 : Vec F S512x2048 .f32 ← Prog.lift (.load arg12 (Rect.unit (s := S512x2048) ![0, 0] S512x2048.size inb_S512x2048_S512x2048_0_0).toLoadRect (View.loadsAt_vmem h_S512x2048))
  let v169 : Vec F S512x2048 .f32 ← Prog.lift (.load arg9 (Rect.unit (s := S512x2048) ![0, 0] S512x2048.size inb_S512x2048_S512x2048_0_0).toLoadRect (View.loadsAt_vmem h_S512x2048))
  Prog.lift (.store arg9 (Rect.unit (s := S512x2048) ![0, 0] S512x2048.size inb_S512x2048_S512x2048_0_0) (k0_pay2 v165 v167) Finset.univ (View.stores_vmem_bits_univ h_S512x2048 rfl) (.inl rfl))
  pure ⟨⟩

/-- The body is its five programs, one after the other. -/
theorem body_eq (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S1x8x512 .f32) (harg10 : arg10.IsWhole) (arg11 : Memref sig .tc .vmem S512x2048 .bf16) (harg11 : arg11.IsWhole) (arg12 : Memref sig .tc .vmem S512x2048 .f32) (harg12 : arg12.IsWhole) (arg13 : Memref sig .tc .vmem S11x8x512 .f32) (harg13 : arg13.IsWhole) :
    cc0_conv_ffn (F := F) i arg2 harg2 arg3 harg3 arg4 harg4 arg5 harg5 arg6 harg6 arg7 harg7 arg8 harg8 arg9 harg9 arg10 harg10 arg11 harg11 arg12 harg12 arg13 harg13
      = ((if initCond i = 1#1 then initPart i arg2 harg2 arg3 harg3 arg4 harg4 arg5 harg5 arg6 harg6 arg7 harg7 arg8 harg8 arg9 harg9 arg10 harg10 arg11 harg11 arg12 harg12 arg13 harg13 else pure ⟨⟩) >>= fun _ =>
        (if hz : k0_cond2 i = 1#1 then zeroPart i hz arg2 harg2 arg3 harg3 arg4 harg4 arg5 harg5 arg6 harg6 arg7 harg7 arg8 harg8 arg9 harg9 arg10 harg10 arg11 harg11 arg12 harg12 arg13 harg13 else pure ⟨⟩) >>= fun _ =>
        mainA i arg2 harg2 arg3 harg3 arg4 harg4 arg5 harg5 arg6 harg6 arg7 harg7 arg8 harg8 arg9 harg9 arg10 harg10 arg11 harg11 arg12 harg12 arg13 harg13 >>= fun r =>
        mainB i arg2 harg2 arg3 harg3 arg4 harg4 arg5 harg5 arg6 harg6 arg7 harg7 arg8 harg8 arg9 harg9 arg10 harg10 arg11 harg11 arg12 harg12 arg13 harg13 r.1 r.2.1 r.2.2 >>= fun _ =>
        (if k0_cond3 i = 1#1 then lastPart i arg2 harg2 arg3 harg3 arg4 harg4 arg5 harg5 arg6 harg6 arg7 harg7 arg8 harg8 arg9 harg9 arg10 harg10 arg11 harg11 arg12 harg12 arg13 harg13 else pure ⟨⟩)) := by
  rw [cc0_conv_ffn_eq_skeleton]
  unfold cc0_conv_ffn_skel
  rw [k0_part1_eq_skeleton, k0_part2_eq_skeleton, k0_part3_eq_skeleton, k0_part4_eq_skeleton]
  unfold k0_part1_skel initCond
  dsimp only
  split_ifs <;> rfl

end Cert.Ffn

end
-- ==== Proof.Ffn.Steps.lean ====
/- The five programs of the body, run. -/
module

public import proofs.«01_k».proof.Proof.Ffn.Parts
public import proofs.«01_k».proof.Proof.Gen.Kernel2Ideal.Launch
public import proofs.«01_k».proof.Proof.Gen.Kernel2Ideal.Points
public import Idealize.ShloMosaic.Lib.Pipeline.FrameBody
public import Idealize.ShloMosaic.Lib.Pipeline.ReadBack
public import Idealize.ShloMosaic.Lib.Pipeline.ValueKit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-! ## What each of the five programs leaves -/

/-- The first 256 columns of a block of weights, and the others. -/
abbrev cols0 (x : Vec F S2048x512 .bf16) : Vec F S2048x256 .bf16 := View.ld x (Rect.unit (s := S2048x512) ![0, 0] S2048x256.size inb_S2048x512_S2048x256_0_0)
abbrev cols1 (x : Vec F S2048x512 .bf16) : Vec F S2048x256 .bf16 := View.ld x (Rect.unit (s := S2048x512) ![0, 256] S2048x256.size inb_S2048x512_S2048x256_0_256)
/-- The first 256 rows of a block of weights, and the others. -/
abbrev rows0 (x : Vec F S512x2048 .bf16) : Vec F S256x2048 .bf16 := View.ld x (Rect.unit (s := S512x2048) ![0, 0] S256x2048.size inb_S512x2048_S256x2048_0_0)
abbrev rows1 (x : Vec F S512x2048 .bf16) : Vec F S256x2048 .bf16 := View.ld x (Rect.unit (s := S512x2048) ![256, 0] S256x2048.size inb_S512x2048_S256x2048_256_0)
/-- The first 256 entries of the bias, and the others. -/
abbrev bias0 (x : Vec F S1x512 .f32) : Vec F S1x256 .f32 := View.ld x (Rect.unit (s := S1x512) ![0, 0] S1x256.size inb_S1x512_S1x256_0_0)
abbrev bias1 (x : Vec F S1x512 .f32) : Vec F S1x256 .f32 := View.ld x (Rect.unit (s := S1x512) ![0, 256] S1x256.size inb_S1x512_S1x256_0_256)
/-- The first 256 entries of each of the three taps, and the others. -/
abbrev tap00 (x : Vec F S3x512 .f32) : Vec F S1x256 .f32 := View.ld x (Rect.unit (s := S3x512) ![0, 0] S1x256.size inb_S3x512_S1x256_0_0)
abbrev tap10 (x : Vec F S3x512 .f32) : Vec F S1x256 .f32 := View.ld x (Rect.unit (s := S3x512) ![1, 0] S1x256.size inb_S3x512_S1x256_1_0)
abbrev tap20 (x : Vec F S3x512 .f32) : Vec F S1x256 .f32 := View.ld x (Rect.unit (s := S3x512) ![2, 0] S1x256.size inb_S3x512_S1x256_2_0)
abbrev tap01 (x : Vec F S3x512 .f32) : Vec F S1x256 .f32 := View.ld x (Rect.unit (s := S3x512) ![0, 256] S1x256.size inb_S3x512_S1x256_0_256)
abbrev tap11 (x : Vec F S3x512 .f32) : Vec F S1x256 .f32 := View.ld x (Rect.unit (s := S3x512) ![1, 256] S1x256.size inb_S3x512_S1x256_1_256)
abbrev tap21 (x : Vec F S3x512 .f32) : Vec F S1x256 .f32 := View.ld x (Rect.unit (s := S3x512) ![2, 256] S1x256.size inb_S3x512_S1x256_2_256)
/-- The rows carried for the first 256 columns of the tile, and for the others. -/
abbrev kept0 (i : grid0.Coords) (x : Vec F S11x8x512 .f32) : Vec F S1x8x256 .f32 := View.ld x (Rect.unit (s := S11x8x512) (k0_off2 i) S1x8x256.size (k0_off2_inb i))
abbrev kept1 (i : grid0.Coords) (x : Vec F S11x8x512 .f32) : Vec F S1x8x256 .f32 := View.ld x (Rect.unit (s := S11x8x512) (k0_off3 i) S1x8x256.size (k0_off3_inb i))

/-- The gates and the ups of the first 256 columns, and of the others. -/
abbrev gate0 (hn : Vec F S512x2048 .bf16) (x2 : Vec F S2048x512 .bf16) : FVec F S512x256 .f32 := k0_pay6 hn (cols0 x2)
abbrev up0 (hn : Vec F S512x2048 .bf16) (x3 : Vec F S2048x512 .bf16) : FVec F S512x256 .f32 := k0_pay7 hn (cols0 x3)
abbrev gate1 (hn : Vec F S512x2048 .bf16) (x2 : Vec F S2048x512 .bf16) : FVec F S512x256 .f32 := k0_pay8 hn (cols1 x2)
abbrev up1 (hn : Vec F S512x2048 .bf16) (x3 : Vec F S2048x512 .bf16) : FVec F S512x256 .f32 := k0_pay9 hn (cols1 x3)

/-- The product of the first 256 columns with their rows of the down weights, the shifted gates filled from the carried rows `k`. -/
def down0 (g u : FVec F S512x256 .f32) (k : Vec F S1x8x256 .f32) (x4 : Vec F S3x512 .f32) (x5 : Vec F S1x512 .f32) (x6 : Vec F S512x2048 .bf16) : FVec F S512x2048 .f32 :=
  k0_pay16 g u (k0_pay11 g rowNo k) (k0_pay14 g rowNo k (bias0 x5) (tap00 x4)) (k0_pay15 (tap10 x4)) (tap20 x4) (rows0 x6)
/-- The same for the other 256 columns. -/
def down1 (g u : FVec F S512x256 .f32) (k : Vec F S1x8x256 .f32) (x4 : Vec F S3x512 .f32) (x5 : Vec F S1x512 .f32) (x6 : Vec F S512x2048 .bf16) : FVec F S512x2048 .f32 :=
  k0_pay23 g u (k0_pay18 g rowNo k) (k0_pay19 g rowNo k) (bias1 x5) (tap01 x4) (tap11 x4) (tap21 x4) (rows1 x6)

/-- The carried rows with the last rows of the gates put in. -/
def put0 (i : grid0.Coords) (g : FVec F S512x256 .f32) (x : Vec F S11x8x512 .f32) : Vec F S11x8x512 .f32 :=
  VecWindow.put x (k0_off2 i) S1x8x256.size (k0_pay12 g)
def put1 (i : grid0.Coords) (g : FVec F S512x256 .f32) (x : Vec F S11x8x512 .f32) : Vec F S11x8x512 .f32 :=
  VecWindow.put x (k0_off3 i) S1x8x256.size (k0_pay21 (k0_pay20 g))
/-- The carried rows of this tile of columns cleared. -/
def cleared (i : grid0.Coords) (x : Vec F S11x8x512 .f32) : Vec F S11x8x512 .f32 :=
  VecWindow.put x (k0_off1 i) S1x8x512.size k0_pay5
/-- The block of last rows with the last rows of the gates put in. -/
def last0 (g : FVec F S512x256 .f32) (x : Vec F S1x8x512 .f32) : Vec F S1x8x512 .f32 :=
  VecWindow.put x ![0, 0, 0] S1x8x256.size (k0_pay13 g)
def last1 (g : FVec F S512x256 .f32) (x : Vec F S1x8x512 .f32) : Vec F S1x8x512 .f32 :=
  VecWindow.put x ![0, 0, 256] S1x8x256.size (k0_pay22 g)

/-- A store of a whole array leaves a buffer that reads it. -/
theorem read_fill {κ : Kind} {sp : Space} {s : Shape} {e : EltTy} {v : View sig κ sp s e} (f : v.ty.Contents (Elt F))
    {off : Fin s.rank → Nat} (inb : ∀ a, off a + s.size a ≤ s.size a) (w : s.Idx → Elt F e) :
    v.read (Elt F) (v.writes (Elt F) f [⟨Rect.unit off s.size inb, w⟩]) = w :=
  View.read_writes_full v f inb w []

/-- A load of a whole block of rows reads it. -/
theorem whole_rows {κ : Kind} {sp : Space} {e : EltTy} (v : View sig κ sp S512x2048 e) (f : v.ty.Contents (Elt F)) :
    v.readAt (Elt F) (Rect.unit (s := S512x2048) ![0, 0] S512x2048.size inb_S512x2048_S512x2048_0_0).toLoadRect f = v.read (Elt F) f :=
  View.readAt_full v f _
/-- A load of the whole scale reads it. -/
theorem whole_scale {κ : Kind} {sp : Space} {e : EltTy} (v : View sig κ sp S1x2048 e) (f : v.ty.Contents (Elt F)) :
    v.readAt (Elt F) (Rect.unit (s := S1x2048) ![0, 0] S1x2048.size inb_S1x2048_S1x2048_0_0).toLoadRect f = v.read (Elt F) f :=
  View.readAt_full v f _

/-- A load through a view reads the rectangle of what the view reads. -/
theorem readAt_ld {κ : Kind} {sp : Space} {s : Shape} {e : EltTy} (v : View sig κ sp s e) (f : v.ty.Contents (Elt F)) (r : Rect s) :
    v.readAt (Elt F) r.toLoadRect f = View.ld (v.read (Elt F) f) r := rfl

/-- A store of a part leaves a buffer that reads what it held with the part put in. -/
theorem read_put {κ : Kind} {sp : Space} {s : Shape} {e : EltTy} {v : View sig κ sp s e} (f : v.ty.Contents (Elt F))
    {off size : Fin s.rank → Nat} (inb : ∀ a, off a + size a ≤ s.size a) (w : (Rect.unit off size inb).shape.Idx → Elt F e) :
    v.read (Elt F) (v.writes (Elt F) f [⟨Rect.unit off size inb, w⟩]) = VecWindow.put (v.read (Elt F) f) off size w :=
  View.read_writes_cons_put v f inb w [] rfl

set_option maxHeartbeats 2000000 in
/-- The first branch, run: the normalised rows, and a zero accumulator. -/
theorem init_run (c : Dev nD) (i : grid0.Coords)  (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S1x8x512 .f32) (harg10 : arg10.IsWhole) (arg11 : Memref sig .tc .vmem S512x2048 .bf16) (harg11 : arg11.IsWhole) (arg12 : Memref sig .tc .vmem S512x2048 .f32) (harg12 : arg12.IsWhole) (arg13 : Memref sig .tc .vmem S11x8x512 .f32) (harg13 : arg13.IsWhole)
    (x0 : Vec F S512x2048 .f32) (x1 : Vec F S1x2048 .f32) (hn : Vec F S512x2048 .bf16) (acc : Vec F S512x2048 .f32) (E : Set ℕ) (K : PUnit → sProp 𝕄) :
    iprop(owns (c : Thread nD τ) arg2 fullShare x0 ∗ owns (c : Thread nD τ) arg3 fullShare x1 ∗ owns (c : Thread nD τ) arg11 fullShare hn ∗ owns (c : Thread nD τ) arg12 fullShare acc
        ∗ (iprop(owns (c : Thread nD τ) arg2 fullShare x0 ∗ owns (c : Thread nD τ) arg3 fullShare x1 ∗ owns (c : Thread nD τ) arg11 fullShare (k0_pay3 x0 x1) ∗ owns (c : Thread nD τ) arg12 fullShare (k0_pay4 (F := F))) -∗ K ⟨⟩))
      ⊢ wp frame (wpE (defs₀ (F := F)) Variants.none c none) E (initPart i  arg2 harg2 arg3 harg3 arg4 harg4 arg5 harg5 arg6 harg6 arg7 harg7 arg8 harg8 arg9 harg9 arg10 harg10 arg11 harg11 arg12 harg12 arg13 harg13 ) K := by
  unfold initPart
  unfold owns
  iintro ⟨⟨%f_x0, %hf_x0, H_x0⟩, ⟨%f_x1, %hf_x1, H_x1⟩, ⟨%f_hn, %hf_hn, H_hn⟩, ⟨%f_acc, %hf_acc, H_acc⟩, Hk⟩
  subst hf_x0 hf_x1 hf_hn hf_acc
  sl_exec
  sl_step
  repeat rw [whole_rows]
  try rw [whole_scale]
  iapply Hk
  isplitl [H_x0]
  · iexists _; isplitr; · ipureintro; rfl
    iexact H_x0
  isplitl [H_x1]
  · iexists _; isplitr; · ipureintro; rfl
    iexact H_x1
  isplitl [H_hn]
  · iexists _; isplitr; swap; · iexact H_hn
    ipureintro
    exact read_fill (F := F) _ _ _
  iexists _; isplitr; swap; · iexact H_acc
  ipureintro
  exact read_fill (F := F) _ _ _

set_option maxHeartbeats 2000000 in
/-- The second branch, run: the carried rows of the tile of columns are zero. -/
theorem zero_run (c : Dev nD) (i : grid0.Coords) (hz : k0_cond2 i = 1#1) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S1x8x512 .f32) (harg10 : arg10.IsWhole) (arg11 : Memref sig .tc .vmem S512x2048 .bf16) (harg11 : arg11.IsWhole) (arg12 : Memref sig .tc .vmem S512x2048 .f32) (harg12 : arg12.IsWhole) (arg13 : Memref sig .tc .vmem S11x8x512 .f32) (harg13 : arg13.IsWhole)
    (halo : Vec F S11x8x512 .f32) (E : Set ℕ) (K : PUnit → sProp 𝕄) :
    iprop(owns (c : Thread nD τ) arg13 fullShare halo
        ∗ (iprop(owns (c : Thread nD τ) arg13 fullShare (cleared i halo)) -∗ K ⟨⟩))
      ⊢ wp frame (wpE (defs₀ (F := F)) Variants.none c none) E (zeroPart i hz arg2 harg2 arg3 harg3 arg4 harg4 arg5 harg5 arg6 harg6 arg7 harg7 arg8 harg8 arg9 harg9 arg10 harg10 arg11 harg11 arg12 harg12 arg13 harg13 ) K := by
  unfold zeroPart
  unfold owns
  iintro ⟨⟨%f_halo, %hf_halo, H_halo⟩, Hk⟩
  subst hf_halo
  sl_exec
  sl_step
  repeat rw [whole_rows]
  try rw [whole_scale]
  iapply Hk
  iexists _; isplitr; swap; · iexact H_halo
  ipureintro
  exact read_put (F := F) _ _ _

set_option maxHeartbeats 2000000 in
/-- The first 256 columns, run. -/
theorem mainA_run (c : Dev nD) (i : grid0.Coords)  (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S1x8x512 .f32) (harg10 : arg10.IsWhole) (arg11 : Memref sig .tc .vmem S512x2048 .bf16) (harg11 : arg11.IsWhole) (arg12 : Memref sig .tc .vmem S512x2048 .f32) (harg12 : arg12.IsWhole) (arg13 : Memref sig .tc .vmem S11x8x512 .f32) (harg13 : arg13.IsWhole)
    (x2 : Vec F S2048x512 .bf16) (x3 : Vec F S2048x512 .bf16) (x4 : Vec F S3x512 .f32) (x5 : Vec F S1x512 .f32) (x6 : Vec F S512x2048 .bf16) (gl : Vec F S1x8x512 .f32) (hn : Vec F S512x2048 .bf16) (halo : Vec F S11x8x512 .f32) (E : Set ℕ) (K : (Σ' (v25 : FVec F S512x256 .f32) (v28 : FVec F S512x256 .f32), FVec F S512x2048 .f32) → sProp 𝕄) :
    iprop(owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg10 fullShare gl ∗ owns (c : Thread nD τ) arg11 fullShare hn ∗ owns (c : Thread nD τ) arg13 fullShare halo
        ∗ (iprop(owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg10 fullShare (last0 (gate0 hn x2) gl) ∗ owns (c : Thread nD τ) arg11 fullShare hn ∗ owns (c : Thread nD τ) arg13 fullShare (put0 i (gate0 hn x2) halo)) -∗ K ⟨gate1 hn x2, up1 hn x3, down0 (gate0 hn x2) (up0 hn x3) (kept0 i halo) x4 x5 x6⟩))
      ⊢ wp frame (wpE (defs₀ (F := F)) Variants.none c none) E (mainA i  arg2 harg2 arg3 harg3 arg4 harg4 arg5 harg5 arg6 harg6 arg7 harg7 arg8 harg8 arg9 harg9 arg10 harg10 arg11 harg11 arg12 harg12 arg13 harg13 ) K := by
  unfold mainA
  unfold owns
  iintro ⟨⟨%f_x2, %hf_x2, H_x2⟩, ⟨%f_x3, %hf_x3, H_x3⟩, ⟨%f_x4, %hf_x4, H_x4⟩, ⟨%f_x5, %hf_x5, H_x5⟩, ⟨%f_x6, %hf_x6, H_x6⟩, ⟨%f_gl, %hf_gl, H_gl⟩, ⟨%f_hn, %hf_hn, H_hn⟩, ⟨%f_halo, %hf_halo, H_halo⟩, Hk⟩
  subst hf_x2 hf_x3 hf_x4 hf_x5 hf_x6 hf_gl hf_hn hf_halo
  sl_exec
  sl_step
  repeat rw [whole_rows]
  try rw [whole_scale]
  repeat rw [readAt_ld]
  unfold down0
  iapply Hk
  isplitl [H_x2]
  · iexists _; isplitr; · ipureintro; rfl
    iexact H_x2
  isplitl [H_x3]
  · iexists _; isplitr; · ipureintro; rfl
    iexact H_x3
  isplitl [H_x4]
  · iexists _; isplitr; · ipureintro; rfl
    iexact H_x4
  isplitl [H_x5]
  · iexists _; isplitr; · ipureintro; rfl
    iexact H_x5
  isplitl [H_x6]
  · iexists _; isplitr; · ipureintro; rfl
    iexact H_x6
  isplitl [H_gl]
  · iexists _; isplitr; swap; · iexact H_gl
    ipureintro
    exact read_put (F := F) _ _ _
  isplitl [H_hn]
  · iexists _; isplitr; · ipureintro; rfl
    iexact H_hn
  iexists _; isplitr; swap; · iexact H_halo
  ipureintro
  exact read_put (F := F) _ _ _

set_option maxHeartbeats 2000000 in
/-- The other 256 columns, run. -/
theorem mainB_run (c : Dev nD) (i : grid0.Coords) (g u : FVec F S512x256 .f32) (d : FVec F S512x2048 .f32) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S1x8x512 .f32) (harg10 : arg10.IsWhole) (arg11 : Memref sig .tc .vmem S512x2048 .bf16) (harg11 : arg11.IsWhole) (arg12 : Memref sig .tc .vmem S512x2048 .f32) (harg12 : arg12.IsWhole) (arg13 : Memref sig .tc .vmem S11x8x512 .f32) (harg13 : arg13.IsWhole)
    (x4 : Vec F S3x512 .f32) (x5 : Vec F S1x512 .f32) (x6 : Vec F S512x2048 .bf16) (gl : Vec F S1x8x512 .f32) (acc : Vec F S512x2048 .f32) (halo : Vec F S11x8x512 .f32) (E : Set ℕ) (K : PUnit → sProp 𝕄) :
    iprop(owns (c : Thread nD τ) arg6 fullShare x4 ∗ owns (c : Thread nD τ) arg7 fullShare x5 ∗ owns (c : Thread nD τ) arg8 fullShare x6 ∗ owns (c : Thread nD τ) arg10 fullShare gl ∗ owns (c : Thread nD τ) arg12 fullShare acc ∗ owns (c : Thread nD τ) arg13 fullShare halo
        ∗ (iprop(owns (c : Thread nD τ) arg6 fullShare x4 ∗ owns (c : Thread nD τ) arg7 fullShare x5 ∗ owns (c : Thread nD τ) arg8 fullShare x6 ∗ owns (c : Thread nD τ) arg10 fullShare (last1 g gl) ∗ owns (c : Thread nD τ) arg12 fullShare (k0_pay1 d (down1 g u (kept1 i halo) x4 x5 x6) acc) ∗ owns (c : Thread nD τ) arg13 fullShare (put1 i g halo)) -∗ K ⟨⟩))
      ⊢ wp frame (wpE (defs₀ (F := F)) Variants.none c none) E (mainB i  arg2 harg2 arg3 harg3 arg4 harg4 arg5 harg5 arg6 harg6 arg7 harg7 arg8 harg8 arg9 harg9 arg10 harg10 arg11 harg11 arg12 harg12 arg13 harg13 g u d) K := by
  unfold mainB
  unfold owns
  iintro ⟨⟨%f_x4, %hf_x4, H_x4⟩, ⟨%f_x5, %hf_x5, H_x5⟩, ⟨%f_x6, %hf_x6, H_x6⟩, ⟨%f_gl, %hf_gl, H_gl⟩, ⟨%f_acc, %hf_acc, H_acc⟩, ⟨%f_halo, %hf_halo, H_halo⟩, Hk⟩
  subst hf_x4 hf_x5 hf_x6 hf_gl hf_acc hf_halo
  sl_exec
  sl_step
  repeat rw [whole_rows]
  try rw [whole_scale]
  iapply Hk
  isplitl [H_x4]
  · iexists _; isplitr; · ipureintro; rfl
    iexact H_x4
  isplitl [H_x5]
  · iexists _; isplitr; · ipureintro; rfl
    iexact H_x5
  isplitl [H_x6]
  · iexists _; isplitr; · ipureintro; rfl
    iexact H_x6
  isplitl [H_gl]
  · iexists _; isplitr; swap; · iexact H_gl
    ipureintro
    exact read_put (F := F) _ _ _
  isplitl [H_acc]
  · iexists _; isplitr; swap; · iexact H_acc
    ipureintro
    exact read_fill (F := F) _ _ _
  iexists _; isplitr; swap; · iexact H_halo
  ipureintro
  exact read_put (F := F) _ _ _

set_option maxHeartbeats 2000000 in
/-- The last branch, run: the rows with the accumulator added. -/
theorem last_run (c : Dev nD) (i : grid0.Coords)  (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S1x8x512 .f32) (harg10 : arg10.IsWhole) (arg11 : Memref sig .tc .vmem S512x2048 .bf16) (harg11 : arg11.IsWhole) (arg12 : Memref sig .tc .vmem S512x2048 .f32) (harg12 : arg12.IsWhole) (arg13 : Memref sig .tc .vmem S11x8x512 .f32) (harg13 : arg13.IsWhole)
    (x0 : Vec F S512x2048 .f32) (o : Vec F S512x2048 .f32) (acc : Vec F S512x2048 .f32) (E : Set ℕ) (K : PUnit → sProp 𝕄) :
    iprop(owns (c : Thread nD τ) arg2 fullShare x0 ∗ owns (c : Thread nD τ) arg9 fullShare o ∗ owns (c : Thread nD τ) arg12 fullShare acc
        ∗ (iprop(owns (c : Thread nD τ) arg2 fullShare x0 ∗ owns (c : Thread nD τ) arg9 fullShare (k0_pay2 x0 acc) ∗ owns (c : Thread nD τ) arg12 fullShare acc) -∗ K ⟨⟩))
      ⊢ wp frame (wpE (defs₀ (F := F)) Variants.none c none) E (lastPart i  arg2 harg2 arg3 harg3 arg4 harg4 arg5 harg5 arg6 harg6 arg7 harg7 arg8 harg8 arg9 harg9 arg10 harg10 arg11 harg11 arg12 harg12 arg13 harg13 ) K := by
  unfold lastPart
  unfold owns
  iintro ⟨⟨%f_x0, %hf_x0, H_x0⟩, ⟨%f_o, %hf_o, H_o⟩, ⟨%f_acc, %hf_acc, H_acc⟩, Hk⟩
  subst hf_x0 hf_o hf_acc
  sl_exec
  sl_step
  repeat rw [whole_rows]
  try rw [whole_scale]
  iapply Hk
  isplitl [H_x0]
  · iexists _; isplitr; · ipureintro; rfl
    iexact H_x0
  isplitl [H_o]
  · iexists _; isplitr; swap; · iexact H_o
    ipureintro
    exact read_fill (F := F) _ _ _
  iexists _; isplitr; · ipureintro; rfl
  iexact H_acc

end Cert.Ffn

end
-- ==== Proof.Ffn.Body.lean ====
/- The body at one point of the grid, from its five programs. -/
module

public import proofs.«01_k».proof.Proof.Ffn.Steps
public import proofs.«01_k».proof.Proof.Gen.Kernel2Ideal.Launch
public import proofs.«01_k».proof.Proof.Gen.Kernel2Ideal.Points
public import Idealize.ShloMosaic.Lib.Pipeline.FrameBody
public import Idealize.ShloMosaic.Lib.Pipeline.ReadBack
public import Idealize.ShloMosaic.Lib.Pipeline.ValueKit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-- What the body carries: the normalised rows, the accumulator, the carried rows of gates, the block of last rows, and the block of results. -/
structure St (F : FTy → Type) where
  hn : Vec F S512x2048 .bf16
  acc : Vec F S512x2048 .f32
  halo : Vec F S11x8x512 .f32
  gl : Vec F S1x8x512 .f32
  o : Vec F S512x2048 .f32

/-- The first branch on what is carried. -/
def initSt (x0 : Vec F S512x2048 .f32) (x1 : Vec F S1x2048 .f32) (s : St F) : St F := ⟨k0_pay3 x0 x1, k0_pay4, s.halo, s.gl, s.o⟩
/-- The second branch on what is carried. -/
def zeroSt (i : grid0.Coords) (s : St F) : St F := ⟨s.hn, s.acc, cleared i s.halo, s.gl, s.o⟩
/-- The two halves of the tile on what is carried. -/
def mainSt (i : grid0.Coords) (x2 x3 : Vec F S2048x512 .bf16) (x4 : Vec F S3x512 .f32) (x5 : Vec F S1x512 .f32) (x6 : Vec F S512x2048 .bf16) (s : St F) : St F :=
  ⟨s.hn,
   k0_pay1 (down0 (gate0 s.hn x2) (up0 s.hn x3) (kept0 i s.halo) x4 x5 x6)
     (down1 (gate1 s.hn x2) (up1 s.hn x3) (kept1 i (put0 i (gate0 s.hn x2) s.halo)) x4 x5 x6) s.acc,
   put1 i (gate1 s.hn x2) (put0 i (gate0 s.hn x2) s.halo),
   last1 (gate1 s.hn x2) (last0 (gate0 s.hn x2) s.gl), s.o⟩
/-- The last branch on what is carried. -/
def lastSt (x0 : Vec F S512x2048 .f32) (s : St F) : St F := ⟨s.hn, s.acc, s.halo, s.gl, k0_pay2 x0 s.acc⟩
/-- The body on what is carried: the programs run, in order. -/
def stepSt (i : grid0.Coords) (x0 : Vec F S512x2048 .f32) (x1 : Vec F S1x2048 .f32) (x2 : Vec F S2048x512 .bf16) (x3 : Vec F S2048x512 .bf16) (x4 : Vec F S3x512 .f32) (x5 : Vec F S1x512 .f32) (x6 : Vec F S512x2048 .bf16) (s : St F) : St F :=
  let s1 := if initCond i = 1#1 then initSt x0 x1 s else s
  let s2 := if k0_cond2 i = 1#1 then zeroSt i s1 else s1
  let s3 := mainSt i x2 x3 x4 x5 x6 s2
  if k0_cond3 i = 1#1 then lastSt x0 s3 else s3

/-- The body's buffers, the inputs at `x0 x1 x2 x3 x4 x5 x6` and the carried ones at `s`. -/
def held (c : Dev nD) (arg2 : Memref sig .tc .vmem S512x2048 .f32) (arg3 : Memref sig .tc .vmem S1x2048 .f32) (arg4 : Memref sig .tc .vmem S2048x512 .bf16) (arg5 : Memref sig .tc .vmem S2048x512 .bf16) (arg6 : Memref sig .tc .vmem S3x512 .f32) (arg7 : Memref sig .tc .vmem S1x512 .f32) (arg8 : Memref sig .tc .vmem S512x2048 .bf16) (arg9 : Memref sig .tc .vmem S512x2048 .f32) (arg10 : Memref sig .tc .vmem S1x8x512 .f32) (arg11 : Memref sig .tc .vmem S512x2048 .bf16) (arg12 : Memref sig .tc .vmem S512x2048 .f32) (arg13 : Memref sig .tc .vmem S11x8x512 .f32)
    (x0 : Vec F S512x2048 .f32) (x1 : Vec F S1x2048 .f32) (x2 : Vec F S2048x512 .bf16) (x3 : Vec F S2048x512 .bf16) (x4 : Vec F S3x512 .f32) (x5 : Vec F S1x512 .f32) (x6 : Vec F S512x2048 .bf16) (s : St F) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare s.o ∗ owns (c : Thread nD τ) arg10 fullShare s.gl ∗ owns (c : Thread nD τ) arg11 fullShare s.hn ∗ owns (c : Thread nD τ) arg12 fullShare s.acc ∗ owns (c : Thread nD τ) arg13 fullShare s.halo)

/-- The first branch, taken or not. -/
theorem init_stage (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S1x8x512 .f32) (harg10 : arg10.IsWhole) (arg11 : Memref sig .tc .vmem S512x2048 .bf16) (harg11 : arg11.IsWhole) (arg12 : Memref sig .tc .vmem S512x2048 .f32) (harg12 : arg12.IsWhole) (arg13 : Memref sig .tc .vmem S11x8x512 .f32) (harg13 : arg13.IsWhole)
    (x0 : Vec F S512x2048 .f32) (x1 : Vec F S1x2048 .f32) (x2 : Vec F S2048x512 .bf16) (x3 : Vec F S2048x512 .bf16) (x4 : Vec F S3x512 .f32) (x5 : Vec F S1x512 .f32) (x6 : Vec F S512x2048 .bf16) (s : St F) (E : Set ℕ) (K : PUnit → sProp 𝕄) :
    iprop(held c arg2 arg3 arg4 arg5 arg6 arg7 arg8 arg9 arg10 arg11 arg12 arg13 x0 x1 x2 x3 x4 x5 x6 s ∗ (held c arg2 arg3 arg4 arg5 arg6 arg7 arg8 arg9 arg10 arg11 arg12 arg13 x0 x1 x2 x3 x4 x5 x6 (if initCond i = 1#1 then initSt x0 x1 s else s) -∗ K ⟨⟩))
      ⊢ wp frame (wpE (defs₀ (F := F)) Variants.none c none) E (if initCond i = 1#1 then initPart i arg2 harg2 arg3 harg3 arg4 harg4 arg5 harg5 arg6 harg6 arg7 harg7 arg8 harg8 arg9 harg9 arg10 harg10 arg11 harg11 arg12 harg12 arg13 harg13 else pure ⟨⟩) K := by
  by_cases h : initCond i = 1#1
  · rw [if_pos h, if_pos h]
    unfold held
    iintro ⟨⟨Hx0, Hx1, Hx2, Hx3, Hx4, Hx5, Hx6, Ho, Hgl, Hhn, Hacc, Hhalo⟩, Hk⟩
    iapply (init_run c i arg2 harg2 arg3 harg3 arg4 harg4 arg5 harg5 arg6 harg6 arg7 harg7 arg8 harg8 arg9 harg9 arg10 harg10 arg11 harg11 arg12 harg12 arg13 harg13 x0 x1 s.hn s.acc E K)
    isplitl [Hx0]; · iexact Hx0
    isplitl [Hx1]; · iexact Hx1
    isplitl [Hhn]; · iexact Hhn
    isplitl [Hacc]; · iexact Hacc
    iintro ⟨Hx0, Hx1, Hhn, Hacc⟩
    iapply Hk
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Ho]; · iexact Ho
    isplitl [Hgl]; · iexact Hgl
    isplitl [Hhn]; · iexact Hhn
    isplitl [Hacc]; · iexact Hacc
    iexact Hhalo
  · rw [if_neg h, if_neg h]
    iintro ⟨H, Hk⟩
    sl_step
    iapply Hk
    iexact H

/-- The second branch, taken or not. -/
theorem zero_stage (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S1x8x512 .f32) (harg10 : arg10.IsWhole) (arg11 : Memref sig .tc .vmem S512x2048 .bf16) (harg11 : arg11.IsWhole) (arg12 : Memref sig .tc .vmem S512x2048 .f32) (harg12 : arg12.IsWhole) (arg13 : Memref sig .tc .vmem S11x8x512 .f32) (harg13 : arg13.IsWhole)
    (x0 : Vec F S512x2048 .f32) (x1 : Vec F S1x2048 .f32) (x2 : Vec F S2048x512 .bf16) (x3 : Vec F S2048x512 .bf16) (x4 : Vec F S3x512 .f32) (x5 : Vec F S1x512 .f32) (x6 : Vec F S512x2048 .bf16) (s : St F) (E : Set ℕ) (K : PUnit → sProp 𝕄) :
    iprop(held c arg2 arg3 arg4 arg5 arg6 arg7 arg8 arg9 arg10 arg11 arg12 arg13 x0 x1 x2 x3 x4 x5 x6 s ∗ (held c arg2 arg3 arg4 arg5 arg6 arg7 arg8 arg9 arg10 arg11 arg12 arg13 x0 x1 x2 x3 x4 x5 x6 (if k0_cond2 i = 1#1 then zeroSt i s else s) -∗ K ⟨⟩))
      ⊢ wp frame (wpE (defs₀ (F := F)) Variants.none c none) E (if hz : k0_cond2 i = 1#1 then zeroPart i hz arg2 harg2 arg3 harg3 arg4 harg4 arg5 harg5 arg6 harg6 arg7 harg7 arg8 harg8 arg9 harg9 arg10 harg10 arg11 harg11 arg12 harg12 arg13 harg13 else pure ⟨⟩) K := by
  by_cases h : k0_cond2 i = 1#1
  · rw [if_pos h, dif_pos h]
    unfold held
    iintro ⟨⟨Hx0, Hx1, Hx2, Hx3, Hx4, Hx5, Hx6, Ho, Hgl, Hhn, Hacc, Hhalo⟩, Hk⟩
    iapply (zero_run c i h arg2 harg2 arg3 harg3 arg4 harg4 arg5 harg5 arg6 harg6 arg7 harg7 arg8 harg8 arg9 harg9 arg10 harg10 arg11 harg11 arg12 harg12 arg13 harg13 s.halo E K)
    isplitl [Hhalo]; · iexact Hhalo
    iintro Hhalo
    iapply Hk
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Ho]; · iexact Ho
    isplitl [Hgl]; · iexact Hgl
    isplitl [Hhn]; · iexact Hhn
    isplitl [Hacc]; · iexact Hacc
    iexact Hhalo
  · rw [if_neg h, dif_neg h]
    iintro ⟨H, Hk⟩
    sl_step
    iapply Hk
    iexact H

/-- The last branch, taken or not. -/
theorem last_stage (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S1x8x512 .f32) (harg10 : arg10.IsWhole) (arg11 : Memref sig .tc .vmem S512x2048 .bf16) (harg11 : arg11.IsWhole) (arg12 : Memref sig .tc .vmem S512x2048 .f32) (harg12 : arg12.IsWhole) (arg13 : Memref sig .tc .vmem S11x8x512 .f32) (harg13 : arg13.IsWhole)
    (x0 : Vec F S512x2048 .f32) (x1 : Vec F S1x2048 .f32) (x2 : Vec F S2048x512 .bf16) (x3 : Vec F S2048x512 .bf16) (x4 : Vec F S3x512 .f32) (x5 : Vec F S1x512 .f32) (x6 : Vec F S512x2048 .bf16) (s : St F) (E : Set ℕ) (K : PUnit → sProp 𝕄) :
    iprop(held c arg2 arg3 arg4 arg5 arg6 arg7 arg8 arg9 arg10 arg11 arg12 arg13 x0 x1 x2 x3 x4 x5 x6 s ∗ (held c arg2 arg3 arg4 arg5 arg6 arg7 arg8 arg9 arg10 arg11 arg12 arg13 x0 x1 x2 x3 x4 x5 x6 (if k0_cond3 i = 1#1 then lastSt x0 s else s) -∗ K ⟨⟩))
      ⊢ wp frame (wpE (defs₀ (F := F)) Variants.none c none) E (if k0_cond3 i = 1#1 then lastPart i arg2 harg2 arg3 harg3 arg4 harg4 arg5 harg5 arg6 harg6 arg7 harg7 arg8 harg8 arg9 harg9 arg10 harg10 arg11 harg11 arg12 harg12 arg13 harg13 else pure ⟨⟩) K := by
  by_cases h : k0_cond3 i = 1#1
  · rw [if_pos h, if_pos h]
    unfold held
    iintro ⟨⟨Hx0, Hx1, Hx2, Hx3, Hx4, Hx5, Hx6, Ho, Hgl, Hhn, Hacc, Hhalo⟩, Hk⟩
    iapply (last_run c i arg2 harg2 arg3 harg3 arg4 harg4 arg5 harg5 arg6 harg6 arg7 harg7 arg8 harg8 arg9 harg9 arg10 harg10 arg11 harg11 arg12 harg12 arg13 harg13 x0 s.o s.acc E K)
    isplitl [Hx0]; · iexact Hx0
    isplitl [Ho]; · iexact Ho
    isplitl [Hacc]; · iexact Hacc
    iintro ⟨Hx0, Ho, Hacc⟩
    iapply Hk
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Ho]; · iexact Ho
    isplitl [Hgl]; · iexact Hgl
    isplitl [Hhn]; · iexact Hhn
    isplitl [Hacc]; · iexact Hacc
    iexact Hhalo
  · rw [if_neg h, if_neg h]
    iintro ⟨H, Hk⟩
    sl_step
    iapply Hk
    iexact H

/-- The two halves of the tile, one after the other. -/
theorem main_stage (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S1x8x512 .f32) (harg10 : arg10.IsWhole) (arg11 : Memref sig .tc .vmem S512x2048 .bf16) (harg11 : arg11.IsWhole) (arg12 : Memref sig .tc .vmem S512x2048 .f32) (harg12 : arg12.IsWhole) (arg13 : Memref sig .tc .vmem S11x8x512 .f32) (harg13 : arg13.IsWhole)
    (x0 : Vec F S512x2048 .f32) (x1 : Vec F S1x2048 .f32) (x2 : Vec F S2048x512 .bf16) (x3 : Vec F S2048x512 .bf16) (x4 : Vec F S3x512 .f32) (x5 : Vec F S1x512 .f32) (x6 : Vec F S512x2048 .bf16) (s : St F) (E : Set ℕ) (K : PUnit → sProp 𝕄) :
    iprop(held c arg2 arg3 arg4 arg5 arg6 arg7 arg8 arg9 arg10 arg11 arg12 arg13 x0 x1 x2 x3 x4 x5 x6 s ∗ (held c arg2 arg3 arg4 arg5 arg6 arg7 arg8 arg9 arg10 arg11 arg12 arg13 x0 x1 x2 x3 x4 x5 x6 (mainSt i x2 x3 x4 x5 x6 s) -∗ K ⟨⟩))
      ⊢ wp frame (wpE (defs₀ (F := F)) Variants.none c none) E (mainA i arg2 harg2 arg3 harg3 arg4 harg4 arg5 harg5 arg6 harg6 arg7 harg7 arg8 harg8 arg9 harg9 arg10 harg10 arg11 harg11 arg12 harg12 arg13 harg13 >>= fun r => mainB i arg2 harg2 arg3 harg3 arg4 harg4 arg5 harg5 arg6 harg6 arg7 harg7 arg8 harg8 arg9 harg9 arg10 harg10 arg11 harg11 arg12 harg12 arg13 harg13 r.1 r.2.1 r.2.2) K := by
  rw [wp_bind]
  unfold held
  iintro ⟨⟨Hx0, Hx1, Hx2, Hx3, Hx4, Hx5, Hx6, Ho, Hgl, Hhn, Hacc, Hhalo⟩, Hk⟩
  iapply (mainA_run c i arg2 harg2 arg3 harg3 arg4 harg4 arg5 harg5 arg6 harg6 arg7 harg7 arg8 harg8 arg9 harg9 arg10 harg10 arg11 harg11 arg12 harg12 arg13 harg13 x2 x3 x4 x5 x6 s.gl s.hn s.halo E _)
  isplitl [Hx2]; · iexact Hx2
  isplitl [Hx3]; · iexact Hx3
  isplitl [Hx4]; · iexact Hx4
  isplitl [Hx5]; · iexact Hx5
  isplitl [Hx6]; · iexact Hx6
  isplitl [Hgl]; · iexact Hgl
  isplitl [Hhn]; · iexact Hhn
  isplitl [Hhalo]; · iexact Hhalo
  iintro ⟨Hx2, Hx3, Hx4, Hx5, Hx6, Hgl, Hhn, Hhalo⟩
  iapply (mainB_run c i (gate1 s.hn x2) (up1 s.hn x3) (down0 (gate0 s.hn x2) (up0 s.hn x3) (kept0 i s.halo) x4 x5 x6) arg2 harg2 arg3 harg3 arg4 harg4 arg5 harg5 arg6 harg6 arg7 harg7 arg8 harg8 arg9 harg9 arg10 harg10 arg11 harg11 arg12 harg12 arg13 harg13 x4 x5 x6 (last0 (gate0 s.hn x2) s.gl) s.acc (put0 i (gate0 s.hn x2) s.halo) E K)
  isplitl [Hx4]; · iexact Hx4
  isplitl [Hx5]; · iexact Hx5
  isplitl [Hx6]; · iexact Hx6
  isplitl [Hgl]; · iexact Hgl
  isplitl [Hacc]; · iexact Hacc
  isplitl [Hhalo]; · iexact Hhalo
  iintro ⟨Hx4, Hx5, Hx6, Hgl, Hacc, Hhalo⟩
  iapply Hk
  isplitl [Hx0]; · iexact Hx0
  isplitl [Hx1]; · iexact Hx1
  isplitl [Hx2]; · iexact Hx2
  isplitl [Hx3]; · iexact Hx3
  isplitl [Hx4]; · iexact Hx4
  isplitl [Hx5]; · iexact Hx5
  isplitl [Hx6]; · iexact Hx6
  isplitl [Ho]; · iexact Ho
  isplitl [Hgl]; · iexact Hgl
  isplitl [Hhn]; · iexact Hhn
  isplitl [Hacc]; · iexact Hacc
  iexact Hhalo

/-- The body, run: from the inputs at `x0 x1 x2 x3 x4 x5 x6` and what is carried at `s` to the inputs as they were and what is carried
    advanced. -/
theorem body_run (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S1x8x512 .f32) (harg10 : arg10.IsWhole) (arg11 : Memref sig .tc .vmem S512x2048 .bf16) (harg11 : arg11.IsWhole) (arg12 : Memref sig .tc .vmem S512x2048 .f32) (harg12 : arg12.IsWhole) (arg13 : Memref sig .tc .vmem S11x8x512 .f32) (harg13 : arg13.IsWhole)
    (x0 : Vec F S512x2048 .f32) (x1 : Vec F S1x2048 .f32) (x2 : Vec F S2048x512 .bf16) (x3 : Vec F S2048x512 .bf16) (x4 : Vec F S3x512 .f32) (x5 : Vec F S1x512 .f32) (x6 : Vec F S512x2048 .bf16) (s : St F) (E : Set ℕ) (K : PUnit → sProp 𝕄) :
    iprop(held c arg2 arg3 arg4 arg5 arg6 arg7 arg8 arg9 arg10 arg11 arg12 arg13 x0 x1 x2 x3 x4 x5 x6 s ∗ (held c arg2 arg3 arg4 arg5 arg6 arg7 arg8 arg9 arg10 arg11 arg12 arg13 x0 x1 x2 x3 x4 x5 x6 (stepSt i x0 x1 x2 x3 x4 x5 x6 s) -∗ K ⟨⟩))
      ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11 arg12 harg12 arg13 harg13) K := by
  rw [body_eq, wp_bind]
  refine BIBase.Entails.trans ?_ (init_stage c i arg2 harg2 arg3 harg3 arg4 harg4 arg5 harg5 arg6 harg6 arg7 harg7 arg8 harg8 arg9 harg9 arg10 harg10 arg11 harg11 arg12 harg12 arg13 harg13 x0 x1 x2 x3 x4 x5 x6 s E _)
  iintro ⟨H, Hk⟩
  isplitl [H]; · iexact H
  iintro H
  rw [wp_bind]
  iapply (zero_stage c i arg2 harg2 arg3 harg3 arg4 harg4 arg5 harg5 arg6 harg6 arg7 harg7 arg8 harg8 arg9 harg9 arg10 harg10 arg11 harg11 arg12 harg12 arg13 harg13 x0 x1 x2 x3 x4 x5 x6 _ E _)
  isplitl [H]; · iexact H
  iintro H
  rw [← bind_assoc, wp_bind]
  iapply (main_stage c i arg2 harg2 arg3 harg3 arg4 harg4 arg5 harg5 arg6 harg6 arg7 harg7 arg8 harg8 arg9 harg9 arg10 harg10 arg11 harg11 arg12 harg12 arg13 harg13 x0 x1 x2 x3 x4 x5 x6 _ E _)
  isplitl [H]; · iexact H
  iintro H
  iapply (last_stage c i arg2 harg2 arg3 harg3 arg4 harg4 arg5 harg5 arg6 harg6 arg7 harg7 arg8 harg8 arg9 harg9 arg10 harg10 arg11 harg11 arg12 harg12 arg13 harg13 x0 x1 x2 x3 x4 x5 x6 _ E _)
  isplitl [H]; · iexact H
  iintro H
  iapply Hk
  iexact H

end Cert.Ffn

end
-- ==== Proof.Ffn.Run.lean ====
/-
  The kernel's run: what is carried from point to point of the grid, the region's proof data over it, the body's
  obligation, and the launch. The rows carried for a tile of columns are whatever the memory held until the first tile of
  rows clears them; so before point `t` the carried rows are only stated for the tiles of columns before `t`.
-/
module

public import proofs.«01_k».proof.Proof.Ffn.Body
public import proofs.«01_k».proof.Proof.Gen.Kernel2Ideal.Launch
public import proofs.«01_k».proof.Proof.Gen.Kernel2Ideal.Points
public import Idealize.ShloMosaic.Lib.Pipeline.FrameBody
public import Idealize.ShloMosaic.Lib.Pipeline.ReadBack
public import Idealize.ShloMosaic.Lib.Pipeline.ValueKit
public import Idealize.ShloMosaic.Lib.VecWindow
public import proofs.«01_k».proof.Proof.Gen.Kernel2Ideal.Frame
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branches, by the point -/

/-- The first branch is taken at the first tile of columns. -/
theorem init_iff : ∀ t : Fin cfg0.N, initCond (grid0.coords t) = 1#1 ↔ t.val % 11 = 0 :=
  (by decide +kernel : ∀ t : Fin grid0.N, initCond (grid0.coords t) = 1#1 ↔ t.val % 11 = 0)
/-- The second branch is taken at the first tile of rows of a sequence. -/
theorem zero_iff : ∀ t : Fin cfg0.N, k0_cond2 (grid0.coords t) = 1#1 ↔ t.val / 11 % 8 = 0 :=
  (by decide +kernel : ∀ t : Fin grid0.N, k0_cond2 (grid0.coords t) = 1#1 ↔ t.val / 11 % 8 = 0)
/-- The last branch is taken at the last tile of columns. -/
theorem last_iff : ∀ t : Fin cfg0.N, k0_cond3 (grid0.coords t) = 1#1 ↔ t.val % 11 = 10 :=
  (by decide +kernel : ∀ t : Fin grid0.N, k0_cond3 (grid0.coords t) = 1#1 ↔ t.val % 11 = 10)
/-- The carried rows of the point are those of its tile of columns. -/
theorem off1_eq : ∀ t : Fin cfg0.N, k0_off1 (grid0.coords t) = ![t.val % 11, 0, 0] :=
  (by decide +kernel : ∀ t : Fin grid0.N, k0_off1 (grid0.coords t) = ![t.val % 11, 0, 0])
theorem off2_eq : ∀ t : Fin cfg0.N, k0_off2 (grid0.coords t) = ![t.val % 11, 0, 0] :=
  (by decide +kernel : ∀ t : Fin grid0.N, k0_off2 (grid0.coords t) = ![t.val % 11, 0, 0])
theorem off3_eq : ∀ t : Fin cfg0.N, k0_off3 (grid0.coords t) = ![t.val % 11, 0, 256] :=
  (by decide +kernel : ∀ t : Fin grid0.N, k0_off3 (grid0.coords t) = ![t.val % 11, 0, 256])
/-- The block of results is left alone exactly where the last branch is not taken. -/
theorem idle7 : ∀ t : Fin cfg0.N, cfg0.idle 7 (grid0.coords t) = !decide (t.val % 11 = 10) :=
  (by decide +kernel : ∀ t : Fin grid0.N, cfg0.idle 7 (grid0.coords t) = !decide (t.val % 11 = 10))
/-- The block of results is written back after the last tile of columns. -/
theorem flush7 : ∀ t : Fin cfg0.N, (cfg0.win 7).flush t = decide (t.val % 11 = 10) :=
  (by decide +kernel : ∀ t : Fin grid0.N, win0_7.flush t = decide (t.val % 11 = 10))

/-! ## What is carried -/

/-- The body's step at point `t`, over the blocks the point reads. -/
def stepAt (c : Dev nD) (t : Fin cfg0.N) (s : St F) : St F := stepSt (grid0.coords t) (iblk m c 0 t) (iblk m c 1 t) (iblk m c 2 t) (iblk m c 3 t) (iblk m c 4 t) (iblk m c 5 t) (iblk m c 6 t) s

/-- What is carried after the first `n` points, the memory taken as zeros before the first. -/
def carried (c : Dev nD) : ℕ → St F
  | 0 => ⟨k0_pay3 k0_pay4 (fun _ => Scalar.ofBits .f32 0x00000000#32), k0_pay4, fun _ => Scalar.ofBits .f32 0x00000000#32, fun _ => Scalar.ofBits .f32 0x00000000#32, k0_pay4⟩
  | n + 1 => if h : n < cfg0.N then stepAt m c ⟨n, h⟩ (carried c n) else carried c n

theorem carried_succ (c : Dev nD) (t : Fin cfg0.N) : carried m c (t.val + 1) = stepAt m c t (carried m c t.val) := by
  rw [carried, dif_pos t.isLt]

/-- The two agree on the carried rows of the tiles of columns before `n`. -/
def Rows (n : ℕ) (x x' : Vec F S11x8x512 .f32) : Prop := ∀ y, (y 0).val < n → x y = x' y

/-- The two agree on what a point `n` may read: everything but the carried rows of later tiles of columns. -/
def Agree (n : ℕ) (s s' : St F) : Prop := (n ≠ 0 → s.hn = s'.hn ∧ s.acc = s'.acc) ∧ Rows n s.halo s'.halo

/-- A part put into both keeps them agreeing. -/
theorem put_rows (n : ℕ) (x x' : Vec F S11x8x512 .f32) (h : Rows n x x') (off size : Fin 3 → ℕ) (w) :
    Rows n (VecWindow.put x off size w) (VecWindow.put x' off size w) := fun y hy => by
  unfold VecWindow.put
  split_ifs
  · rfl
  · exact h y hy

/-- Clearing, at the points before the second tile of rows, makes the point's own tile of columns agree too; later all agree already. -/
theorem zero_rows (t : Fin cfg0.N) (x x' : Vec F S11x8x512 .f32) (h : Rows t.val x x') :
    Rows (t.val + 1) (if k0_cond2 (grid0.coords t) = 1#1 then cleared (grid0.coords t) x else x)
      (if k0_cond2 (grid0.coords t) = 1#1 then cleared (grid0.coords t) x' else x') := fun y hy => by
  by_cases hl : (y 0).val < t.val
  · split_ifs
    · exact put_rows _ _ _ h _ _ _ y hl
    · exact h y hl
  · have h0 : (y 0).val < 11 := (y 0).isLt
    have hz : k0_cond2 (grid0.coords t) = 1#1 := (zero_iff t).mpr (by omega)
    rw [if_pos hz, if_pos hz]
    unfold cleared VecWindow.put
    have hm : ∀ a, k0_off1 (grid0.coords t) a ≤ (y a).val ∧ (y a).val < k0_off1 (grid0.coords t) a + S1x8x512.size a := by
      rw [off1_eq]
      have h1 : (y 1).val < 8 := (y 1).isLt
      have h2 : (y 2).val < 512 := (y 2).isLt
      intro a
      fin_cases a <;> simp [S1x8x512] <;> omega
    rw [dif_pos hm, dif_pos hm]

/-- The point's own carried rows agree. -/
theorem kept0_eq (t : Fin cfg0.N) (x x' : Vec F S11x8x512 .f32) (h : Rows (t.val + 1) x x') :
    kept0 (grid0.coords t) x = kept0 (grid0.coords t) x' := by
  funext k
  refine h _ ?_
  have e : (((Rect.unit (s := S11x8x512) (k0_off2 (grid0.coords t)) S1x8x256.size (k0_off2_inb (grid0.coords t))).idx k) 0).val
    = k0_off2 (grid0.coords t) 0 + 1 * (k 0).val := rfl
  have hk : (k 0).val < 1 := (k 0).isLt
  have := congrFun (off2_eq t) 0
  rw [e, this]
  simp
  omega
theorem kept1_eq (t : Fin cfg0.N) (x x' : Vec F S11x8x512 .f32) (h : Rows (t.val + 1) x x') :
    kept1 (grid0.coords t) x = kept1 (grid0.coords t) x' := by
  funext k
  refine h _ ?_
  have e : (((Rect.unit (s := S11x8x512) (k0_off3 (grid0.coords t)) S1x8x256.size (k0_off3_inb (grid0.coords t))).idx k) 0).val
    = k0_off3 (grid0.coords t) 0 + 1 * (k 0).val := rfl
  have hk : (k 0).val < 1 := (k 0).isLt
  have := congrFun (off3_eq t) 0
  rw [e, this]
  simp
  omega

/-- The block of last rows after both halves does not depend on what it held. -/
theorem last_cover (g0 g1 : FVec F S512x256 .f32) (x x' : Vec F S1x8x512 .f32) : last1 g1 (last0 g0 x) = last1 g1 (last0 g0 x') := by
  funext y
  unfold last1 last0 VecWindow.put
  have h0 : (y 0).val < 1 := (y 0).isLt
  have h1 : (y 1).val < 8 := (y 1).isLt
  have h2 : (y 2).val < 512 := (y 2).isLt
  by_cases hc : 256 ≤ (y 2).val
  · have hm : ∀ a, (![0, 0, 256] : Fin 3 → ℕ) a ≤ (y a).val ∧ (y a).val < (![0, 0, 256] : Fin 3 → ℕ) a + S1x8x256.size a := by
      intro a; fin_cases a <;> simp [S1x8x256] <;> omega
    rw [dif_pos hm, dif_pos hm]
  · have hm : ¬∀ a, (![0, 0, 256] : Fin 3 → ℕ) a ≤ (y a).val ∧ (y a).val < (![0, 0, 256] : Fin 3 → ℕ) a + S1x8x256.size a := by
      intro h; have := (h 2).1; simp at this; omega
    have hm' : ∀ a, (![0, 0, 0] : Fin 3 → ℕ) a ≤ (y a).val ∧ (y a).val < (![0, 0, 0] : Fin 3 → ℕ) a + S1x8x256.size a := by
      intro a; fin_cases a <;> simp [S1x8x256] <;> omega
    rw [dif_neg hm, dif_neg hm, dif_pos hm', dif_pos hm']

/-- The two halves from states that agree leave states that agree, and the same block of last rows. -/
theorem main_agree (t : Fin cfg0.N) (x2 x3 : Vec F S2048x512 .bf16) (x4 : Vec F S3x512 .f32) (x5 : Vec F S1x512 .f32) (x6 : Vec F S512x2048 .bf16) (s s' : St F)
    (hh : s.hn = s'.hn) (ha : s.acc = s'.acc) (hr : Rows (t.val + 1) s.halo s'.halo) :
    (mainSt (grid0.coords t) x2 x3 x4 x5 x6 s).hn = (mainSt (grid0.coords t) x2 x3 x4 x5 x6 s').hn
      ∧ (mainSt (grid0.coords t) x2 x3 x4 x5 x6 s).acc = (mainSt (grid0.coords t) x2 x3 x4 x5 x6 s').acc
      ∧ Rows (t.val + 1) (mainSt (grid0.coords t) x2 x3 x4 x5 x6 s).halo (mainSt (grid0.coords t) x2 x3 x4 x5 x6 s').halo
      ∧ (mainSt (grid0.coords t) x2 x3 x4 x5 x6 s).gl = (mainSt (grid0.coords t) x2 x3 x4 x5 x6 s').gl := by
  unfold mainSt
  dsimp only
  rw [hh, ha, kept0_eq t _ _ hr, kept1_eq t (put0 (grid0.coords t) (gate0 s'.hn x2) s.halo) (put0 (grid0.coords t) (gate0 s'.hn x2) s'.halo) (put_rows _ _ _ hr _ _ _)]
  exact ⟨rfl, rfl, put_rows _ _ _ (put_rows _ _ _ hr _ _ _) _ _ _, last_cover _ _ _ _⟩

/-- A point from states that agree leaves states that agree, the same block of last rows, and the same block of results where it stores one. -/
theorem step_agree (c : Dev nD) (t : Fin cfg0.N) (s s' : St F) (h : Agree t.val s s') :
    Agree (t.val + 1) (stepAt m c t s) (stepAt m c t s') ∧ (stepAt m c t s).gl = (stepAt m c t s').gl
      ∧ (stepAt m c t s).o = if k0_cond3 (grid0.coords t) = 1#1 then (stepAt m c t s').o else s.o := by
  obtain ⟨h1, h2⟩ := h
  have hz := zero_rows t _ _ h2
  have key : ∀ s1 s1' : St F, s1.hn = s1'.hn → s1.acc = s1'.acc → s1.halo = s.halo → s1'.halo = s'.halo → s1.o = s.o →
      Agree (t.val + 1)
        (let s2 := if k0_cond2 (grid0.coords t) = 1#1 then zeroSt (grid0.coords t) s1 else s1
         let s3 := mainSt (grid0.coords t) (iblk m c 2 t) (iblk m c 3 t) (iblk m c 4 t) (iblk m c 5 t) (iblk m c 6 t) s2
         if k0_cond3 (grid0.coords t) = 1#1 then lastSt (iblk m c 0 t) s3 else s3)
        (let s2 := if k0_cond2 (grid0.coords t) = 1#1 then zeroSt (grid0.coords t) s1' else s1'
         let s3 := mainSt (grid0.coords t) (iblk m c 2 t) (iblk m c 3 t) (iblk m c 4 t) (iblk m c 5 t) (iblk m c 6 t) s2
         if k0_cond3 (grid0.coords t) = 1#1 then lastSt (iblk m c 0 t) s3 else s3)
      ∧ (let s2 := if k0_cond2 (grid0.coords t) = 1#1 then zeroSt (grid0.coords t) s1 else s1
         let s3 := mainSt (grid0.coords t) (iblk m c 2 t) (iblk m c 3 t) (iblk m c 4 t) (iblk m c 5 t) (iblk m c 6 t) s2
         if k0_cond3 (grid0.coords t) = 1#1 then lastSt (iblk m c 0 t) s3 else s3).gl
        = (let s2 := if k0_cond2 (grid0.coords t) = 1#1 then zeroSt (grid0.coords t) s1' else s1'
         let s3 := mainSt (grid0.coords t) (iblk m c 2 t) (iblk m c 3 t) (iblk m c 4 t) (iblk m c 5 t) (iblk m c 6 t) s2
         if k0_cond3 (grid0.coords t) = 1#1 then lastSt (iblk m c 0 t) s3 else s3).gl
      ∧ (let s2 := if k0_cond2 (grid0.coords t) = 1#1 then zeroSt (grid0.coords t) s1 else s1
         let s3 := mainSt (grid0.coords t) (iblk m c 2 t) (iblk m c 3 t) (iblk m c 4 t) (iblk m c 5 t) (iblk m c 6 t) s2
         if k0_cond3 (grid0.coords t) = 1#1 then lastSt (iblk m c 0 t) s3 else s3).o
        = if k0_cond3 (grid0.coords t) = 1#1 then
            (let s2 := if k0_cond2 (grid0.coords t) = 1#1 then zeroSt (grid0.coords t) s1' else s1'
             let s3 := mainSt (grid0.coords t) (iblk m c 2 t) (iblk m c 3 t) (iblk m c 4 t) (iblk m c 5 t) (iblk m c 6 t) s2
             if k0_cond3 (grid0.coords t) = 1#1 then lastSt (iblk m c 0 t) s3 else s3).o else s.o := by
    intro s1 s1' eh ea ex ex' eo
    rw [← ex, ← ex'] at hz
    have e2 : ∀ s : St F, (if k0_cond2 (grid0.coords t) = 1#1 then zeroSt (grid0.coords t) s else s)
        = ⟨s.hn, s.acc, if k0_cond2 (grid0.coords t) = 1#1 then cleared (grid0.coords t) s.halo else s.halo, s.gl, s.o⟩ := fun s => by
      split_ifs <;> rfl
    dsimp only
    rw [e2, e2]
    obtain ⟨m1, m2, m3, m4⟩ := main_agree t (iblk m c 2 t) (iblk m c 3 t) (iblk m c 4 t) (iblk m c 5 t) (iblk m c 6 t)
      ⟨s1.hn, s1.acc, if k0_cond2 (grid0.coords t) = 1#1 then cleared (grid0.coords t) s1.halo else s1.halo, s1.gl, s1.o⟩
      ⟨s1'.hn, s1'.acc, if k0_cond2 (grid0.coords t) = 1#1 then cleared (grid0.coords t) s1'.halo else s1'.halo, s1'.gl, s1'.o⟩ eh ea hz
    by_cases hl : k0_cond3 (grid0.coords t) = 1#1
    · simp only [if_pos hl]
      refine ⟨⟨fun _ => ⟨m1, m2⟩, m3⟩, m4, ?_⟩
      unfold lastSt; dsimp only; rw [m2]
    · simp only [if_neg hl]
      exact ⟨⟨fun _ => ⟨m1, m2⟩, m3⟩, m4, eo⟩
  unfold stepAt stepSt
  by_cases hi : initCond (grid0.coords t) = 1#1
  · rw [if_pos hi, if_pos hi]
    exact key (initSt (iblk m c 0 t) (iblk m c 1 t) s) (initSt (iblk m c 0 t) (iblk m c 1 t) s') rfl rfl rfl rfl rfl
  · rw [if_neg hi, if_neg hi]
    have hn : t.val ≠ 0 := fun h0 => hi ((init_iff t).mpr (by rw [h0]))
    exact key s s' (h1 hn).1 (h1 hn).2 rfl rfl rfl

/-! ## The region's proof data -/

/-- The carried arrays, owned, and the generator register. -/
def scr (c : Dev nD) (s : St F) : sProp 𝕄 :=
  iprop((owns (c : Thread nD τ) (Memref.whole cc0_scratch0) fullShare s.hn ∗ owns (c : Thread nD τ) (Memref.whole cc0_scratch1) fullShare s.acc ∗ owns (c : Thread nD τ) (Memref.whole cc0_scratch2) fullShare s.halo) ∗ (∃ r, prngReg c r))

/-- The invariant before the first point, and after `n + 1` points. -/
def Phi (c : Dev nD) : ℕ → sProp 𝕄
  | 0 => Pipeline.ΦA spec0 c
  | n + 1 => iprop(∃ s : St F, ⌜Agree (n + 1) s (carried m c (n + 1))⌝ ∗ scr c s)

theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- The region's proof data: the inputs' buffers at their blocks, the two results' at what is carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (carried m c (t.val + 1)).o
    | ⟨8, _⟩ => (carried m c (t.val + 1)).gl
  Φ t := Phi m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (carried m c (t.val + 1)).o := by dsimp only [dats]
theorem after_8 (c : Dev nD) (t : Fin cfg0.N) : (dats m 0 c).after 8 t = (carried m c (t.val + 1)).gl := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The body's obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves_0 (c : Dev nD) (t : Fin cfg0.N) : (dats m 0 c).leavesExact 0 t = owns (c : Thread nD τ) (st0_0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (st0_1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (st0_2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (st0_3 t) fullShare (iblk m c 3 t) := by
  unfold Dat.leavesExact; rw [show cfg0.idle 3 (cfg0.grid.coords t) = false from rfl, after_3]
theorem leaves_4 (c : Dev nD) (t : Fin cfg0.N) : (dats m 0 c).leavesExact 4 t = owns (c : Thread nD τ) (st0_4 t) fullShare (iblk m c 4 t) := by
  unfold Dat.leavesExact; rw [show cfg0.idle 4 (cfg0.grid.coords t) = false from rfl, after_4]
theorem leaves_5 (c : Dev nD) (t : Fin cfg0.N) : (dats m 0 c).leavesExact 5 t = owns (c : Thread nD τ) (st0_5 t) fullShare (iblk m c 5 t) := by
  unfold Dat.leavesExact; rw [show cfg0.idle 5 (cfg0.grid.coords t) = false from rfl, after_5]
theorem leaves_6 (c : Dev nD) (t : Fin cfg0.N) : (dats m 0 c).leavesExact 6 t = owns (c : Thread nD τ) (st0_6 t) fullShare (iblk m c 6 t) := by
  unfold Dat.leavesExact; rw [show cfg0.idle 6 (cfg0.grid.coords t) = false from rfl, after_6]
theorem leaves_8 (c : Dev nD) (t : Fin cfg0.N) : (dats m 0 c).leavesExact 8 t = owns (c : Thread nD τ) (st0_8 t) fullShare (carried m c (t.val + 1)).gl := by
  unfold Dat.leavesExact; rw [show cfg0.idle 8 (cfg0.grid.coords t) = false from rfl, after_8]

/-- What the body leaves in the block of results is what the proof data states. -/
theorem leaves_7 (c : Dev nD) (t : Fin cfg0.N) (d) :
    owns (c : Thread nD τ) (st0_7 t) fullShare (if k0_cond3 (grid0.coords t) = 1#1 then (carried m c (t.val + 1)).o else (dats m 0 c).before 7 t d)
      ⊢ (dats m 0 c).leavesExact 7 t := by
  unfold Dat.leavesExact
  by_cases hd : t.val % 11 = 10
  · rw [show cfg0.idle 7 (cfg0.grid.coords t) = false from (idle7 t).trans (by simp [hd]), if_pos ((last_iff t).mpr hd), after_7]
    try exact BIBase.Entails.rfl
  · rw [show cfg0.idle 7 (cfg0.grid.coords t) = true from (idle7 t).trans (by simp [hd]), if_neg (fun h => hd ((last_iff t).mp h))]
    rw [show (cfg0.win 7).flush t = false from (flush7 t).trans (by simp [hd])]
    dsimp only
    iintro H; iexists d; iexact H

/-- The carried arrays as the invariant has them before a point, whatever they hold before the first. -/
theorem Phi_in (c : Dev nD) (t : Fin cfg0.N) :
    Phi m c t.val ⊢ iprop(∃ s : St F, ⌜Agree t.val s (carried m c t.val)⌝ ∗ scr c s) := by
  by_cases hz : t.val = 0
  · rw [hz]
    show Pipeline.ΦA spec0 c ⊢ _
    rw [PhiA_eq]
    iintro ⟨⟨⟨%d0, H0⟩, ⟨%d1, H1⟩, ⟨%d2, H2⟩⟩, Hg⟩
    iexists ⟨d0, d1, d2, (carried m c 0).gl, (carried m c 0).o⟩
    isplitr
    · ipureintro
      exact ⟨fun h => absurd rfl h, fun y hy => absurd hy (Nat.not_lt_zero _)⟩
    unfold scr
    isplitl [H0 H1 H2]
    · isplitl [H0]; · iexact H0
      isplitl [H1]; · iexact H1
      iexact H2
    iexact Hg
  · obtain ⟨n, hn⟩ := Nat.exists_eq_succ_of_ne_zero hz
    rw [hn]
    exact BIBase.Entails.rfl

/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = iprop(∃ s : St F, ⌜Agree (t.val + 1) s (carried m c (t.val + 1))⌝ ∗ scr c s) from rfl, show (dats m 0 c).Φ t.castSucc = Phi m c t.val from rfl]
  rw [leaves_0, leaves_1, leaves_2, leaves_3, leaves_4, leaves_5, leaves_6, leaves_8]
  iintro ⟨HP, Howe, ⟨%d0, Hx0⟩, ⟨%d1, Hx1⟩, ⟨%d2, Hx2⟩, ⟨%d3, Hx3⟩, ⟨%d4, Hx4⟩, ⟨%d5, Hx5⟩, ⟨%d6, Hx6⟩, ⟨%d7, Ho⟩, ⟨%d8, Hgl⟩⟩
  ihave HP := Phi_in m c t $$ HP
  icases HP with ⟨%s, %hs, HP⟩
  unfold scr
  icases HP with ⟨⟨Hhn, Hacc, Hhalo⟩, Hg⟩
  obtain ⟨ha, hg, ho⟩ := step_agree m c t ⟨s.hn, s.acc, s.halo, (dats m 0 c).before 8 t d8, (dats m 0 c).before 7 t d7⟩ (carried m c t.val) hs
  rw [← carried_succ] at ha hg ho
  iapply (body_run c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) ⟨s.hn, s.acc, s.halo, (dats m 0 c).before 8 t d8, (dats m 0 c).before 7 t d7⟩ Set.univ _)
  rw [show stepSt (grid0.coords t) (iblk m c 0 t) (iblk m c 1 t) (iblk m c 2 t) (iblk m c 3 t) (iblk m c 4 t) (iblk m c 5 t) (iblk m c 6 t) ⟨s.hn, s.acc, s.halo, (dats m 0 c).before 8 t d8, (dats m 0 c).before 7 t d7⟩
    = stepAt m c t ⟨s.hn, s.acc, s.halo, (dats m 0 c).before 8 t d8, (dats m 0 c).before 7 t d7⟩ from rfl]
  unfold held
  rw [hg, ho]
  isplitl [Hx0 Hx1 Hx2 Hx3 Hx4 Hx5 Hx6 Ho Hgl Hhn Hacc Hhalo]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Ho]; · iexact Ho
    isplitl [Hgl]; · iexact Hgl
    isplitl [Hhn]; · iexact Hhn
    isplitl [Hacc]; · iexact Hacc
    iexact Hhalo
  iintro ⟨Hx0, Hx1, Hx2, Hx3, Hx4, Hx5, Hx6, Ho, Hgl, Hhn, Hacc, Hhalo⟩
  isplitl [Hhn Hacc Hhalo Hg]
  · iexists (stepAt m c t ⟨s.hn, s.acc, s.halo, (dats m 0 c).before 8 t d8, (dats m 0 c).before 7 t d7⟩)
    isplitr
    · ipureintro; exact ha
    isplitl [Hhn Hacc Hhalo]
    · isplitl [Hhn]; · iexact Hhn
      isplitl [Hacc]; · iexact Hacc
      iexact Hhalo
    iexact Hg
  isplitl [Howe]; · iexact Howe
  isplitl [Hx0]; · iexact Hx0
  isplitl [Hx1]; · iexact Hx1
  isplitl [Hx2]; · iexact Hx2
  isplitl [Hx3]; · iexact Hx3
  isplitl [Hx4]; · iexact Hx4
  isplitl [Hx5]; · iexact Hx5
  isplitl [Hx6]; · iexact Hx6
  isplitl [Ho]
  · iapply (leaves_7 m c t d7)
    iexact Ho
  iexact Hgl

/-- The body table's row at a point is the body there. -/
theorem defs_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hout (c : Dev nD) : (dats m 0 c).Φ (Fin.last cfg0.N) ⊢ Pipeline.ΦA spec0 c := by
  rw [show (dats m 0 c).Φ (Fin.last cfg0.N) = iprop(∃ s : St F, ⌜Agree 176 s (carried m c 176)⌝ ∗ scr c s) from rfl, PhiA_eq]
  unfold scr
  iintro ⟨%s, %hs, ⟨HS0, HS1, HS2⟩, Hg⟩
  isplitl [HS0 HS1 HS2]
  · isplitl [HS0]
    · iexists _; iexact HS0
    isplitl [HS1]
    · iexists _; iexact HS1
    iexists _; iexact HS2
  iexact Hg

/-! ## The launch -/

/-- What the run ends with: the region's arrays as the proof data states, the later lines' buffers as computed from them. -/
abbrev EndsIn (r : PUnit × MemSt nD τ sig (Elt F)) : Prop :=
  Pipeline.FramePost cfgs (dats m) 0 (Pipeline.afterTail₀ cfgs (dats m) 0 (V0 m) [hostOps1]) r

set_option backward.isDefEq.respectTransparency.types false in
/-- Every run of the program ends so, with all counters at zero. -/
theorem run_main_quiescent : θ_run defs (onTc (τ := τ) (main (F := F))) (s₀ m ρ) (fun r => EndsIn m r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun _ => .rfl) (hout := hout m)
    (hQ' := fun _ h => h)

theorem run_main : θ_run defs (onTc (τ := τ) (main (F := F))) (s₀ m ρ) (EndsIn m) :=
  (θ_run defs _ _).mono (fun _ h => h.1) (run_main_quiescent m ρ)

/-- The frame: the argument arrays end unchanged and every counter at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Ffn

end
-- ==== Proof.Ffn.Math.lean ====
/-
  The layer's mathematics over the extended reals, for any number of hidden columns: the rows scaled to norm one, the gates
  and the ups, the gates mixed with those of the two positions before, and the down product added to the rows.
-/
module

public import proofs.«01_k».proof.Proof.Fox.Point

@[expose] public section

noncomputable section

namespace Cert.Ffn

open Idealize.ShloMosaic Idealize.SL.Sem

/-- The layer's inputs, with `D` hidden columns. The 8192 rows are the 4096 positions of two sequences, one after the other. -/
structure Args (D : ℕ) where
  x : Fin 8192 → Fin 2048 → EReal
  scale : Fin 2048 → EReal
  wg : Fin 2048 → Fin D → EReal
  wu : Fin 2048 → Fin D → EReal
  cw : Fin 3 → Fin D → EReal
  cb : Fin D → EReal
  wd : Fin D → Fin 2048 → EReal

/-- The smooth step times its argument. -/
def silu (z : EReal) : EReal := z * Ideal.div 1 (1 + Ideal.exp (0 - z))

/-- The value `d` positions before in the same sequence, zero before its first. -/
def back (d : ℕ) (f : Fin 8192 → EReal) (R : Fin 8192) : EReal :=
  if R.val % 4096 < d then 0 else f ⟨R.val - d, by omega⟩

/-- The three taps and the bias of a column on the values at a position, one before and two before. -/
def taps (b w0 w1 w2 z2 z1 z0 : EReal) : EReal := b + w0 * z2 + w1 * z1 + w2 * z0

namespace Args

variable {D : ℕ} (A : Args D)

/-- A row scaled to norm one, then by the scale. -/
def normed (R : Fin 8192) (k : Fin 2048) : EReal :=
  A.x R k * Ideal.rsqrt (Ideal.div (∑ k', A.x R k' * A.x R k') (Ideal.ofBits .f32 0x45000000#32) + Ideal.ofBits .f32 0x358637BD#32) * A.scale k
/-- The gates. -/
def gate (R : Fin 8192) (C : Fin D) : EReal := ∑ k, A.normed R k * A.wg k C
/-- The ups. -/
def up (R : Fin 8192) (C : Fin D) : EReal := ∑ k, A.normed R k * A.wu k C
/-- The gates mixed along the sequence. -/
def mixed (R : Fin 8192) (C : Fin D) : EReal :=
  taps (A.cb C) (A.cw 0 C) (A.cw 1 C) (A.cw 2 C) (back 2 (A.gate · C) R) (back 1 (A.gate · C) R) (A.gate R C)
/-- A hidden entry. -/
def hidden (R : Fin 8192) (C : Fin D) : EReal := silu (A.mixed R C) * A.up R C
/-- The layer's result. -/
def out (R : Fin 8192) (n : Fin 2048) : EReal := A.x R n + ∑ C, A.hidden R C * A.wd C n

/-- Inputs with further hidden columns, whose down weights are zero, give the same result. -/
theorem out_eq {E : ℕ} (B : Args E) (h : D ≤ E) (hx : B.x = A.x) (hs : B.scale = A.scale)
    (hg : ∀ k (C : Fin D), B.wg k (C.castLE h) = A.wg k C) (hu : ∀ k (C : Fin D), B.wu k (C.castLE h) = A.wu k C)
    (hw : ∀ j (C : Fin D), B.cw j (C.castLE h) = A.cw j C) (hb : ∀ C : Fin D, B.cb (C.castLE h) = A.cb C)
    (hd : ∀ (C : Fin D) n, B.wd (C.castLE h) n = A.wd C n) (hz : ∀ (C : Fin E) n, D ≤ C.val → B.wd C n = 0) (R n) :
    B.out R n = A.out R n := by
  have hn : ∀ R k, B.normed R k = A.normed R k := fun R k => by unfold normed; rw [hx, hs]
  have hgt : ∀ R (C : Fin D), B.gate R (C.castLE h) = A.gate R C := fun R C => by unfold gate; simp only [hn, hg]
  have hup : ∀ R (C : Fin D), B.up R (C.castLE h) = A.up R C := fun R C => by unfold up; simp only [hn, hu]
  have hm : ∀ R (C : Fin D), B.mixed R (C.castLE h) = A.mixed R C := fun R C => by unfold mixed; simp only [hgt, hw, hb]
  unfold out
  rw [hx]
  congr 1
  obtain ⟨p, rfl⟩ := Nat.exists_eq_add_of_le h
  rw [Fin.sum_univ_add, Finset.sum_eq_zero (s := Finset.univ) (f := fun i : Fin p => _), add_zero]
  · refine Finset.sum_congr rfl fun C _ => ?_
    have e : Fin.castAdd p C = C.castLE h := rfl
    unfold hidden
    rw [e, hm, hup, hd]
  · intro C _
    rw [hz _ _ (by simp), mul_zero]

/-- So do the gates of the columns they share. -/
theorem gate_eq {E : ℕ} (B : Args E) (h : D ≤ E) (hx : B.x = A.x) (hs : B.scale = A.scale)
    (hg : ∀ k (C : Fin D), B.wg k (C.castLE h) = A.wg k C) (R) (C : Fin D) : B.gate R (C.castLE h) = A.gate R C := by
  unfold gate normed
  simp only [hx, hs, hg]

end Args

end Cert.Ffn

end
-- ==== Proof.Ffn.Half.lean ====
/-
  The body's arithmetic over the extended reals, at one position: the scaled rows, the gates and ups of the two halves of a
  tile of columns, and the product of each half with its rows of the down weights.
-/
module

public import proofs.«01_k».proof.Proof.Ffn.Steps
public import Idealize.ShloMosaic.Lib.Pipeline.ValueKit
public import proofs.«01_k».proof.Proof.Ffn.Math
public import Idealize.ShloMosaic.Lib.WordCmp

@[expose] public section

set_option maxRecDepth 16384

noncomputable section

namespace Cert.Ffn

open Idealize.ShloMosaic Idealize.ShloMosaic.TcCoe Idealize.SL.Sem
open Cert.Kernel2Ideal Cert.Kernel2Ideal.Gen

/-- Column `e` of the first half of a tile, and of the second. -/
abbrev lo (e : Fin 256) : Fin 512 := ⟨e.val, by omega⟩
abbrev hi (e : Fin 256) : Fin 512 := ⟨256 + e.val, by omega⟩

/-- The values one row before, the first from the carried rows. -/
def shift1 (g : FVec Ideal S512x256 .f32) (k : Vec Ideal S1x8x256 .f32) (r : Fin 512) (e : Fin 256) : EReal :=
  if r.val = 0 then k (ix3 0 7 e) else g (ix2 ⟨(r.val + 512 - 1) % 512, Nat.mod_lt _ (by decide)⟩ e)
/-- The values two rows before, the first two from the carried rows. -/
def shift2 (g : FVec Ideal S512x256 .f32) (k : Vec Ideal S1x8x256 .f32) (r : Fin 512) (e : Fin 256) : EReal :=
  if r.val = 1 then k (ix3 0 7 e) else if r.val = 0 then k (ix3 0 6 e) else g (ix2 ⟨(r.val + 512 - 2) % 512, Nat.mod_lt _ (by decide)⟩ e)

/-- The rows' numbers select as the numbers themselves. -/
theorem select_row {α : Type} (r : Fin 512) (a : ℕ) (ha : a < 512) (x y : α) :
    Scalar.select (IntOp.cmpi CmpIPredicate.eq (BitVec.ofNat 32 r.val) (BitVec.ofNat 32 a)) x y = if r.val = a then x else y := by
  rw [WordCmp.cmpi_eq_ofNat (by have := r.isLt; omega) (by omega), Cert.Fox.select_ofBool]

section Half

variable (g u : FVec Ideal S512x256 .f32) (k : Vec Ideal S1x8x256 .f32) (x4 : Vec Ideal S3x512 .f32) (x5 : Vec Ideal S1x512 .f32)
  (x6 : Vec Ideal S512x2048 .bf16) (r : Fin 512) (e : Fin 256) (n : Fin 2048)

theorem pay11_apply : k0_pay11 g rowNo k (ix2 r e) = shift1 g k r e := by
  unfold k0_pay11 k0_pay10 rowNo
  pointwise
  exact select_row r 0 (by decide) _ _
theorem pay18_apply : k0_pay18 g rowNo k (ix2 r e) = shift1 g k r e := by
  unfold k0_pay18 k0_pay17 rowNo
  pointwise
  exact select_row r 0 (by decide) _ _
theorem pay14_apply (b w : Vec Ideal S1x256 .f32) : k0_pay14 g rowNo k b w (ix2 r e) = b (ix2 0 e) + w (ix2 0 e) * shift2 g k r e := by
  unfold k0_pay14 k0_pay10 rowNo
  pointwise
  refine congrArg (fun z => b (ix2 0 e) + w (ix2 0 e) * z) ?_
  refine (select_row r 1 (by decide) _ _).trans ?_
  unfold shift2
  refine if_congr Iff.rfl rfl ?_
  exact select_row r 0 (by decide) _ _
theorem pay19_apply : k0_pay19 g rowNo k (ix2 r e) = shift2 g k r e := by
  unfold k0_pay19 k0_pay17 rowNo
  pointwise
  refine (select_row r 1 (by decide) _ _).trans ?_
  unfold shift2
  refine if_congr Iff.rfl rfl ?_
  exact select_row r 0 (by decide) _ _

theorem bias0_apply : bias0 x5 (ix2 0 e) = x5 (ix2 0 (lo e)) := by unfold bias0; pointwise
theorem bias1_apply : bias1 x5 (ix2 0 e) = x5 (ix2 0 (hi e)) := by unfold bias1; pointwise
theorem tap00_apply : tap00 x4 (ix2 0 e) = x4 (ix2 0 (lo e)) := by unfold tap00; pointwise
theorem tap10_apply : tap10 x4 (ix2 0 e) = x4 (ix2 1 (lo e)) := by unfold tap10; pointwise
theorem tap20_apply : tap20 x4 (ix2 0 e) = x4 (ix2 2 (lo e)) := by unfold tap20; pointwise
theorem tap01_apply : tap01 x4 (ix2 0 e) = x4 (ix2 0 (hi e)) := by unfold tap01; pointwise
theorem tap11_apply : tap11 x4 (ix2 0 e) = x4 (ix2 1 (hi e)) := by unfold tap11; pointwise
theorem tap21_apply : tap21 x4 (ix2 0 e) = x4 (ix2 2 (hi e)) := by unfold tap21; pointwise
theorem rows0_apply : rows0 x6 (ix2 e n) = x6 (ix2 (lo e) n) := by unfold rows0; pointwise
theorem rows1_apply : rows1 x6 (ix2 e n) = x6 (ix2 (hi e) n) := by unfold rows1; pointwise

/-- The first half's product. -/
theorem down0_apply : down0 g u k x4 x5 x6 (ix2 r n)
    = ∑ e : Fin 256, silu (taps (x5 (ix2 0 (lo e))) (x4 (ix2 0 (lo e))) (x4 (ix2 1 (lo e))) (x4 (ix2 2 (lo e))) (shift2 g k r e) (shift1 g k r e) (g (ix2 r e))) * u (ix2 r e) * x6 (ix2 (lo e) n) := by
  unfold down0 k0_pay16 k0_pay15
  pointwise
  refine Finset.sum_congr rfl fun e _ => ?_
  rw [pay14_apply, pay11_apply, bias0_apply, tap00_apply, tap10_apply, tap20_apply, rows0_apply]
  rfl

/-- The second half's product. -/
theorem down1_apply : down1 g u k x4 x5 x6 (ix2 r n)
    = ∑ e : Fin 256, silu (taps (x5 (ix2 0 (hi e))) (x4 (ix2 0 (hi e))) (x4 (ix2 1 (hi e))) (x4 (ix2 2 (hi e))) (shift2 g k r e) (shift1 g k r e) (g (ix2 r e))) * u (ix2 r e) * x6 (ix2 (hi e) n) := by
  unfold down1 k0_pay23
  pointwise
  refine Finset.sum_congr rfl fun e _ => ?_
  rw [pay19_apply, pay18_apply, bias1_apply, tap01_apply, tap11_apply, tap21_apply, rows1_apply]
  rfl

/-- A row scaled. -/
theorem pay3_apply (x0 : Vec Ideal S512x2048 .f32) (x1 : Vec Ideal S1x2048 .f32) : k0_pay3 x0 x1 (ix2 r n)
    = x0 (ix2 r n) * Ideal.rsqrt (Ideal.div (∑ k', x0 (ix2 r k') * x0 (ix2 r k')) (Ideal.ofBits .f32 0x45000000#32) + Ideal.ofBits .f32 0x358637BD#32) * x1 (ix2 0 n) := by
  unfold k0_pay3
  pointwise

variable (hn : Vec Ideal S512x2048 .bf16) (w : Vec Ideal S2048x512 .bf16)

theorem cols0_apply (k : Fin 2048) : cols0 w (ix2 k e) = w (ix2 k (lo e)) := by unfold cols0; pointwise
theorem cols1_apply (k : Fin 2048) : cols1 w (ix2 k e) = w (ix2 k (hi e)) := by unfold cols1; pointwise

theorem gate0_apply : gate0 hn w (ix2 r e) = ∑ k, hn (ix2 r k) * w (ix2 k (lo e)) := by
  unfold gate0 k0_pay6
  pointwise
  exact Finset.sum_congr rfl fun k _ => by rw [cols0_apply]
theorem up0_apply : up0 hn w (ix2 r e) = ∑ k, hn (ix2 r k) * w (ix2 k (lo e)) := by
  unfold up0 k0_pay7
  pointwise
  exact Finset.sum_congr rfl fun k _ => by rw [cols0_apply]
theorem gate1_apply : gate1 hn w (ix2 r e) = ∑ k, hn (ix2 r k) * w (ix2 k (hi e)) := by
  unfold gate1 k0_pay8
  pointwise
  exact Finset.sum_congr rfl fun k _ => by rw [cols1_apply]
theorem up1_apply : up1 hn w (ix2 r e) = ∑ k, hn (ix2 r k) * w (ix2 k (hi e)) := by
  unfold up1 k0_pay9
  pointwise
  exact Finset.sum_congr rfl fun k _ => by rw [cols1_apply]

/-- The accumulator after both halves. -/
theorem pay1_apply (a b : FVec Ideal S512x2048 .f32) (x : Vec Ideal S512x2048 .f32) : k0_pay1 a b x (ix2 r n) = x (ix2 r n) + (a (ix2 r n) + b (ix2 r n)) := by
  unfold k0_pay1
  pointwise
theorem pay2_apply (a b : Vec Ideal S512x2048 .f32) : k0_pay2 a b (ix2 r n) = a (ix2 r n) + b (ix2 r n) := by
  unfold k0_pay2
  pointwise
theorem pay4_apply : k0_pay4 (F := Ideal) (ix2 r n) = 0 := by
  unfold k0_pay4
  pointwise

variable (q : Fin 8) (c : Fin 512)

theorem pay5_apply : k0_pay5 (F := Ideal) (ix3 0 q c) = 0 := by
  unfold k0_pay5
  pointwise
/-- The last eight rows of the gates, as each of the four stores has them. -/
theorem pay12_apply : k0_pay12 g (ix3 0 q e) = g (ix2 ⟨504 + q.val, by omega⟩ e) := by
  unfold k0_pay12
  pointwise
theorem pay13_apply : k0_pay13 g (ix3 0 q e) = g (ix2 ⟨504 + q.val, by omega⟩ e) := by
  unfold k0_pay13
  pointwise
theorem pay21_apply : k0_pay21 (k0_pay20 g) (ix3 0 q e) = g (ix2 ⟨504 + q.val, by omega⟩ e) := by
  unfold k0_pay21 k0_pay20
  pointwise
theorem pay22_apply : k0_pay22 g (ix3 0 q e) = g (ix2 ⟨504 + q.val, by omega⟩ e) := by
  unfold k0_pay22
  pointwise

end Half

end Cert.Ffn

end
-- ==== Proof.Ffn.Blocks.lean ====
/-
  What the region reads: its arrays as the host lines before it leave them (the rows reshaped, the weights padded with
  zero columns, or rows, and rounded), and the blocks a point of the grid reads. Point `11 i + j` reads tile `i` of the
  rows and tile `j` of the hidden columns.
-/
module

public import proofs.«01_k».proof.Proof.Ffn.Half
public import Idealize.ShloMosaic.Lib.Pipeline.ValueKit
public import proofs.«01_k».proof.Proof.Gen.Kernel2Ideal.Frame
public import Idealize.ShloMosaic.Lib.WordCmp

@[expose] public section

set_option maxRecDepth 16384

noncomputable section

namespace Cert.Ffn

open Idealize.ShloMosaic Idealize.ShloMosaic.TcCoe Idealize.SL.Sem
open Cert.Kernel2Ideal Cert.Kernel2Ideal.Gen

/-- The layer's inputs from the arguments. -/
def ofVecs (h : Vec Ideal S2x4096x2048 .f32) (g : Vec Ideal S2048 .f32) (wg wu : Vec Ideal S2048x5504 .f32) (cw : Vec Ideal S3x5504 .f32)
    (cb : Vec Ideal S5504 .f32) (wd : Vec Ideal S5504x2048 .f32) : Args 5504 where
  x R k := h (ix3 (⟨R.val / 4096, by omega⟩ : Fin 2) (⟨R.val % 4096, by omega⟩ : Fin 4096) k)
  scale k := g (ix1 k)
  wg k C := wg (ix2 k C)
  wu k C := wu (ix2 k C)
  cw j C := cw (ix2 j C)
  cb C := cb (ix1 C)
  wd C n := wd (ix2 C n)

/-- 5504 entries padded with zeros to 5632. -/
def cut (f : Fin 5504 → EReal) (C : Fin 5632) : EReal := if h : C.val < 5504 then f ⟨C.val, h⟩ else 0

/-- The inputs padded with hidden columns of zeros. -/
def Args.padded (A : Args 5504) : Args 5632 where
  x := A.x
  scale := A.scale
  wg k := cut (A.wg k)
  wu k := cut (A.wu k)
  cw j := cut (A.cw j)
  cb := cut A.cb
  wd C n := cut (A.wd · n) C

theorem cut_castLE (f : Fin 5504 → EReal) (C : Fin 5504) : cut f (C.castLE (by decide)) = f C := by
  unfold cut
  exact dif_pos C.isLt

/-- The padding's word is zero. -/
theorem sitofp_zero : (FloatOps.sitofp FTy.f32 0#32 : Ideal .f32) = (0 : EReal) := by
  show (((0#32 : BitVec 32).toInt : ℝ) : EReal) = 0
  simp

/-- The padding changes nothing. -/
theorem padded_out (A : Args 5504) (R n) : A.padded.out R n = A.out R n :=
  A.out_eq A.padded (by decide) rfl rfl (fun _ _ => cut_castLE _ _) (fun _ _ => cut_castLE _ _) (fun _ _ => cut_castLE _ _) (fun _ => cut_castLE _ _)
    (fun C n => cut_castLE (A.wd · n) C) (fun C n h => dif_neg (by omega)) R n
theorem padded_gate (A : Args 5504) (R) (C : Fin 5504) : A.padded.gate R (C.castLE (by decide)) = A.gate R C :=
  A.gate_eq A.padded (by decide) rfl rfl (fun _ _ => cut_castLE _ _) R C

variable (m : (ℓ : Loc nD τ sig) → Buf (Elt Ideal) ℓ) (c : Dev nD)

/-- The inputs the program is launched with. -/
def args : Args 5504 := ofVecs (m ((c.tc : Thread nD τ).loc main_arg0)) (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5)) (m ((c.tc : Thread nD τ).loc main_arg6))

/-! ## The region's arrays -/

theorem arr_x : V m c main_v8 = (shapeCast S8192x2048 (m ((c.tc : Thread nD τ).loc main_arg0) : Vec Ideal S2x4096x2048 .f32) shapeCasts_S2x4096x2048_S8192x2048 : Vec Ideal S8192x2048 .f32) := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  all_goals rfl
theorem arr_scale : V m c main_v9 = (shapeCast S1x2048 (m ((c.tc : Thread nD τ).loc main_arg1) : Vec Ideal S2048 .f32) shapeCasts_S2048_S1x2048 : Vec Ideal S1x2048 .f32) := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  all_goals rfl
theorem arr_wg : V m c main_v1 = (truncf .bf16 (pad S2048x5632 ![0, 0] ![0, 128] ![0, 0] (m ((c.tc : Thread nD τ).loc main_arg2) : Vec Ideal S2048x5504 .f32) (sitofp .f32 (constantI S_ 32 0#32)) pads_S2048x5504_S2048x5632_000_01280 h_S_ : FVec Ideal S2048x5632 .f32) bitsLt_bf16_f32 : FVec Ideal S2048x5632 .bf16) := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  all_goals rfl
theorem arr_wu : V m c main_v3 = (truncf .bf16 (pad S2048x5632 ![0, 0] ![0, 128] ![0, 0] (m ((c.tc : Thread nD τ).loc main_arg3) : Vec Ideal S2048x5504 .f32) (sitofp .f32 (constantI S_ 32 0#32)) pads_S2048x5504_S2048x5632_000_01280 h_S_ : FVec Ideal S2048x5632 .f32) bitsLt_bf16_f32 : FVec Ideal S2048x5632 .bf16) := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  all_goals rfl
theorem arr_cw : V m c main_v4 = (pad S3x5632 ![0, 0] ![0, 128] ![0, 0] (m ((c.tc : Thread nD τ).loc main_arg4) : Vec Ideal S3x5504 .f32) (sitofp .f32 (constantI S_ 32 0#32)) pads_S3x5504_S3x5632_000_01280 h_S_ : FVec Ideal S3x5632 .f32) := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  all_goals rfl
theorem arr_cb : V m c main_v10 = (shapeCast S1x5632 (pad S5632 ![0] ![128] ![0] (m ((c.tc : Thread nD τ).loc main_arg5) : Vec Ideal S5504 .f32) (sitofp .f32 (constantI S_ 32 0#32)) pads_S5504_S5632_01280 h_S_ : FVec Ideal S5632 .f32) shapeCasts_S5632_S1x5632 : Vec Ideal S1x5632 .f32) := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  all_goals rfl
theorem arr_wd : V m c main_v7 = (truncf .bf16 (pad S5632x2048 ![0, 0] ![128, 0] ![0, 0] (m ((c.tc : Thread nD τ).loc main_arg6) : Vec Ideal S5504x2048 .f32) (sitofp .f32 (constantI S_ 32 0#32)) pads_S5504x2048_S5632x2048_01280_000 h_S_ : FVec Ideal S5632x2048 .f32) bitsLt_bf16_f32 : FVec Ideal S5632x2048 .bf16) := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  all_goals rfl

/-! ## The region's arrays at an index -/

/-- A block padded on the right, or below, with zeros. -/
theorem pad_w (X : FVec Ideal S2048x5504 .f32) (C : Fin 5632) (k : Fin 2048) : pad S2048x5632 ![0, 0] ![0, 128] ![0, 0] X (sitofp .f32 (constantI S_ 32 0#32)) pads_S2048x5504_S2048x5632_000_01280 h_S_ (ix2 k C) = cut (fun C => X (ix2 k C)) C := by
  unfold cut
  pointwise
  by_cases hC : C.val < 5504
  · rw [dif_pos hC, dif_pos hC]
  · rw [dif_neg hC, dif_neg hC]; exact sitofp_zero
theorem pad_c (X : FVec Ideal S3x5504 .f32) (C : Fin 5632) (j : Fin 3) : pad S3x5632 ![0, 0] ![0, 128] ![0, 0] X (sitofp .f32 (constantI S_ 32 0#32)) pads_S3x5504_S3x5632_000_01280 h_S_ (ix2 j C) = cut (fun C => X (ix2 j C)) C := by
  unfold cut
  pointwise
  by_cases hC : C.val < 5504
  · rw [dif_pos hC, dif_pos hC]
  · rw [dif_neg hC, dif_neg hC]; exact sitofp_zero
theorem pad_b (X : FVec Ideal S5504 .f32) (C : Fin 5632) : pad S5632 ![0] ![128] ![0] X (sitofp .f32 (constantI S_ 32 0#32)) pads_S5504_S5632_01280 h_S_ (ix1 C) = cut (fun C => X (ix1 C)) C := by
  unfold cut
  pointwise
  by_cases hC : C.val < 5504
  · rw [dif_pos hC, dif_pos hC]
  · rw [dif_neg hC, dif_neg hC]; exact sitofp_zero
theorem pad_d (X : FVec Ideal S5504x2048 .f32) (C : Fin 5632) (k : Fin 2048) : pad S5632x2048 ![0, 0] ![128, 0] ![0, 0] X (sitofp .f32 (constantI S_ 32 0#32)) pads_S5504x2048_S5632x2048_01280_000 h_S_ (ix2 C k) = cut (fun C => X (ix2 C k)) C := by
  unfold cut
  pointwise
  by_cases hC : C.val < 5504
  · rw [dif_pos hC, dif_pos hC]
  · rw [dif_neg hC, dif_neg hC]; exact sitofp_zero

variable (R : Fin 8192) (C : Fin 5632) (k : Fin 2048) (j : Fin 3)

theorem rows_cast (X : Vec Ideal S2x4096x2048 .f32) : shapeCast S8192x2048 X shapeCasts_S2x4096x2048_S8192x2048 (ix2 R k)
    = X (ix3 (⟨R.val / 4096, by omega⟩ : Fin 2) (⟨R.val % 4096, by omega⟩ : Fin 4096) k) := by
  pointwise
theorem line_cast (X : Vec Ideal S5632 .f32) : shapeCast S1x5632 X shapeCasts_S5632_S1x5632 (ix2 0 C) = X (ix1 C) := by
  pointwise
theorem scale_cast (X : Vec Ideal S2048 .f32) : shapeCast S1x2048 X shapeCasts_S2048_S1x2048 (ix2 0 k) = X (ix1 k) := by
  pointwise

theorem at_x : (V m c main_v8 : Vec Ideal S8192x2048 .f32) (ix2 R k) = (args m c).padded.x R k := by
  rw [arr_x]; exact rows_cast R k _
theorem at_scale : (V m c main_v9 : Vec Ideal S1x2048 .f32) (ix2 0 k) = (args m c).padded.scale k := by
  rw [arr_scale]; exact scale_cast k _
theorem at_wg : (V m c main_v1 : Vec Ideal S2048x5632 .bf16) (ix2 k C) = (args m c).padded.wg k C := by
  rw [arr_wg]; exact pad_w _ C k
theorem at_wu : (V m c main_v3 : Vec Ideal S2048x5632 .bf16) (ix2 k C) = (args m c).padded.wu k C := by
  rw [arr_wu]; exact pad_w _ C k
theorem at_cw : (V m c main_v4 : Vec Ideal S3x5632 .f32) (ix2 j C) = (args m c).padded.cw j C := by
  rw [arr_cw]; exact pad_c _ C j
theorem at_cb : (V m c main_v10 : Vec Ideal S1x5632 .f32) (ix2 0 C) = (args m c).padded.cb C := by
  rw [arr_cb]; exact (line_cast C _).trans (pad_b _ C)
theorem at_wd : (V m c main_v7 : Vec Ideal S5632x2048 .bf16) (ix2 C k) = (args m c).padded.wd C k := by
  rw [arr_wd]; exact pad_d _ C k

/-! ## The blocks -/

/-- The block indices of the windows. -/
theorem idx : ∀ t : Fin cfg0.N, win0_0.index t = ![t.val / 11, 0]
    ∧ win0_1.index t = ![0, 0]
    ∧ win0_2.index t = ![0, t.val % 11]
    ∧ win0_3.index t = ![0, t.val % 11]
    ∧ win0_4.index t = ![0, t.val % 11]
    ∧ win0_5.index t = ![0, t.val % 11]
    ∧ win0_6.index t = ![t.val % 11, 0]
    ∧ win0_7.index t = ![t.val / 11, 0]
    ∧ win0_8.index t = ![t.val / 11, 0, t.val % 11] := by decide +kernel

/-- Row `r` of tile `i` among the 8192 rows, and column `e` of tile `j` among the 5632 columns. -/
abbrev rowOf (i : ℕ) (r : Fin 512) : Fin 8192 := ⟨(512 * i + r.val) % 8192, Nat.mod_lt _ (by decide)⟩
abbrev colOf (j : ℕ) (e : Fin 512) : Fin 5632 := ⟨(512 * j + e.val) % 5632, Nat.mod_lt _ (by decide)⟩

variable (t : Fin cfg0.N) (r : Fin 512) (e : Fin 512) (k : Fin 2048) (j : Fin 3)

theorem iblk_x : iblk m c 0 t (ix2 r k) = (args m c).padded.x (rowOf (t.val / 11) r) k := by
  have ht : t.val < 176 := Nat.lt_of_lt_of_eq t.isLt N_0
  refine Eq.trans (b := (V m c main_v8 : Vec Ideal S8192x2048 .f32) (ix2 (rowOf (t.val / 11) r) k)) ?_ (at_x ..)
  blk_simp [iblk]
  blk_ext [idx t]
theorem iblk_scale : iblk m c 1 t (ix2 0 k) = (args m c).padded.scale k := by
  have ht : t.val < 176 := Nat.lt_of_lt_of_eq t.isLt N_0
  refine Eq.trans (b := (V m c main_v9 : Vec Ideal S1x2048 .f32) (ix2 0 k)) ?_ (at_scale ..)
  blk_simp [iblk]
  blk_ext [idx t]
theorem iblk_wg : iblk m c 2 t (ix2 k e) = (args m c).padded.wg k (colOf (t.val % 11) e) := by
  have ht : t.val < 176 := Nat.lt_of_lt_of_eq t.isLt N_0
  refine Eq.trans (b := (V m c main_v1 : Vec Ideal S2048x5632 .bf16) (ix2 k (colOf (t.val % 11) e))) ?_ (at_wg ..)
  blk_simp [iblk]
  blk_ext [idx t]
theorem iblk_wu : iblk m c 3 t (ix2 k e) = (args m c).padded.wu k (colOf (t.val % 11) e) := by
  have ht : t.val < 176 := Nat.lt_of_lt_of_eq t.isLt N_0
  refine Eq.trans (b := (V m c main_v3 : Vec Ideal S2048x5632 .bf16) (ix2 k (colOf (t.val % 11) e))) ?_ (at_wu ..)
  blk_simp [iblk]
  blk_ext [idx t]
theorem iblk_cw : iblk m c 4 t (ix2 j e) = (args m c).padded.cw j (colOf (t.val % 11) e) := by
  have ht : t.val < 176 := Nat.lt_of_lt_of_eq t.isLt N_0
  refine Eq.trans (b := (V m c main_v4 : Vec Ideal S3x5632 .f32) (ix2 j (colOf (t.val % 11) e))) ?_ (at_cw ..)
  blk_simp [iblk]
  blk_ext [idx t]
theorem iblk_cb : iblk m c 5 t (ix2 0 e) = (args m c).padded.cb (colOf (t.val % 11) e) := by
  have ht : t.val < 176 := Nat.lt_of_lt_of_eq t.isLt N_0
  refine Eq.trans (b := (V m c main_v10 : Vec Ideal S1x5632 .f32) (ix2 0 (colOf (t.val % 11) e))) ?_ (at_cb ..)
  blk_simp [iblk]
  blk_ext [idx t]
theorem iblk_wd : iblk m c 6 t (ix2 e k) = (args m c).padded.wd (colOf (t.val % 11) e) k := by
  have ht : t.val < 176 := Nat.lt_of_lt_of_eq t.isLt N_0
  refine Eq.trans (b := (V m c main_v7 : Vec Ideal S5632x2048 .bf16) (ix2 (colOf (t.val % 11) e) k)) ?_ (at_wd ..)
  blk_simp [iblk]
  blk_ext [idx t]

end Cert.Ffn

end
-- ==== Proof.Ffn.Tile.lean ====
/-
  One point of the grid in closed form: from scaled rows, an accumulator and carried rows as they should be before tile `j`
  of the columns for tile `i` of the rows, the two halves leave them as they should be after it.
-/
module

public import proofs.«01_k».proof.Proof.Ffn.Run
public import Idealize.ShloMosaic.Lib.Pipeline.ValueKit
public import proofs.«01_k».proof.Proof.Ffn.Blocks
public import Idealize.ShloMosaic.Lib.WordCmp

@[expose] public section

set_option maxRecDepth 16384

noncomputable section

namespace Cert.Ffn

open Idealize.ShloMosaic Idealize.ShloMosaic.TcCoe Idealize.SL.Sem
open Cert.Kernel2Ideal Cert.Kernel2Ideal.Gen

/-- A part put in, read where it was put. -/
theorem put_hit {s : Shape} {α : Type} (x : s.Idx → α) (off size : Fin s.rank → ℕ) (w : ((a : Fin s.rank) → Fin (size a)) → α) (y : s.Idx)
    (z : (a : Fin s.rank) → Fin (size a)) (h : ∀ a, (y a).val = off a + (z a).val) : VecWindow.put x off size w y = w z := by
  have hm : ∀ a, off a ≤ (y a).val ∧ (y a).val < off a + size a := fun a => by have := h a; have := (z a).isLt; omega
  unfold VecWindow.put
  rw [dif_pos hm]
  exact congrArg w (funext fun a => Fin.ext (by have := h a; show (y a).val - off a = (z a).val; omega))

/-- A part put in, read elsewhere. -/
theorem put_miss {s : Shape} {α : Type} (x : s.Idx → α) (off size : Fin s.rank → ℕ) (w : ((a : Fin s.rank) → Fin (size a)) → α) (y : s.Idx)
    (a : Fin s.rank) (h : ¬(off a ≤ (y a).val ∧ (y a).val < off a + size a)) : VecWindow.put x off size w y = x y := by
  unfold VecWindow.put
  rw [dif_neg fun hm => h (hm a)]

section Values

variable (A : Args 5632) (i : ℕ) (hi : i < 16) (r : Fin 512)

/-- What should be carried for a column before tile `i`: the last rows of the tile before, nothing at a sequence's first tile. -/
def keptOf (C : Fin 5632) (q : Fin 8) : EReal := if i % 8 = 0 then 0 else A.gate (rowOf (i - 1) ⟨504 + q.val, by omega⟩) C

section Shift

variable (g : FVec Ideal S512x256 .f32) (k : Vec Ideal S1x8x256 .f32) (e : Fin 256) (C : Fin 5632)
  (hg : ∀ r, g (ix2 r e) = A.gate (rowOf i r) C) (hk : ∀ q, k (ix3 0 q e) = keptOf A i C q)

include hi hg hk in
/-- The values one row before. -/
theorem shift1_eq : shift1 g k r e = back 1 (A.gate · C) (rowOf i r) := by
  have hr := r.isLt
  unfold shift1 back
  by_cases h0 : r.val = 0
  · rw [if_pos h0, hk, keptOf]
    by_cases h8 : i % 8 = 0
    · rw [if_pos h8, if_pos]
      show (512 * i + r.val) % 8192 % 4096 < 1; omega
    · rw [if_neg h8, if_neg]
      · refine congrArg (A.gate · C) (Fin.ext ?_)
        show (512 * (i - 1) + (504 + 7)) % 8192 = (512 * i + r.val) % 8192 - 1; omega
      · show ¬(512 * i + r.val) % 8192 % 4096 < 1; omega
  · rw [if_neg h0, hg, if_neg]
    · refine congrArg (A.gate · C) (Fin.ext ?_)
      show (512 * i + (r.val + 512 - 1) % 512) % 8192 = (512 * i + r.val) % 8192 - 1; omega
    · show ¬(512 * i + r.val) % 8192 % 4096 < 1; omega

include hi hg hk in
/-- The values two rows before. -/
theorem shift2_eq : shift2 g k r e = back 2 (A.gate · C) (rowOf i r) := by
  have hr := r.isLt
  unfold shift2 back
  by_cases h1 : r.val = 1
  · rw [if_pos h1, hk, keptOf]
    by_cases h8 : i % 8 = 0
    · rw [if_pos h8, if_pos]
      show (512 * i + r.val) % 8192 % 4096 < 2; omega
    · rw [if_neg h8, if_neg]
      · refine congrArg (A.gate · C) (Fin.ext ?_)
        show (512 * (i - 1) + (504 + 7)) % 8192 = (512 * i + r.val) % 8192 - 2; omega
      · show ¬(512 * i + r.val) % 8192 % 4096 < 2; omega
  rw [if_neg h1]
  by_cases h0 : r.val = 0
  · rw [if_pos h0, hk, keptOf]
    by_cases h8 : i % 8 = 0
    · rw [if_pos h8, if_pos]
      show (512 * i + r.val) % 8192 % 4096 < 2; omega
    · rw [if_neg h8, if_neg]
      · refine congrArg (A.gate · C) (Fin.ext ?_)
        show (512 * (i - 1) + (504 + 6)) % 8192 = (512 * i + r.val) % 8192 - 2; omega
      · show ¬(512 * i + r.val) % 8192 % 4096 < 2; omega
  · rw [if_neg h0, hg, if_neg]
    · refine congrArg (A.gate · C) (Fin.ext ?_)
      show (512 * i + (r.val + 512 - 2) % 512) % 8192 = (512 * i + r.val) % 8192 - 2; omega
    · show ¬(512 * i + r.val) % 8192 % 4096 < 2; omega

end Shift

/-- Column `p`'s term of the result of a row, by the column's number. -/
def term (R : Fin 8192) (n : Fin 2048) (p : ℕ) : EReal := if h : p < 5632 then A.hidden R ⟨p, h⟩ * A.wd ⟨p, h⟩ n else 0

theorem term_col (R n) (j : ℕ) (hj : j < 11) (e : Fin 512) : A.hidden R (colOf j e) * A.wd (colOf j e) n = term A R n (512 * j + e.val) := by
  have h : 512 * j + e.val < 5632 := by have := e.isLt; omega
  have e1 : colOf j e = ⟨512 * j + e.val, h⟩ := Fin.ext (Nat.mod_eq_of_lt h)
  rw [e1, term, dif_pos h]

variable (m : (ℓ : Loc nD τ sig) → Buf (Elt Ideal) ℓ) (c : Dev nD) (t : Fin cfg0.N) (e : Fin 256) (q : Fin 8)

/-- The padded inputs. -/
abbrev pad : Args 5632 := (args m c).padded

section Gates

variable (hn : Vec Ideal S512x2048 .bf16) (hh : ∀ r k, hn (ix2 r k) = (pad m c).normed (rowOf i r) k)

include hh

theorem gate0_eq : gate0 hn (iblk m c 2 t) (ix2 r e) = (pad m c).gate (rowOf i r) (colOf (t.val % 11) (lo e)) := by
  rw [gate0_apply]
  exact Finset.sum_congr rfl fun k _ => by rw [hh, iblk_wg]
theorem gate1_eq : gate1 hn (iblk m c 2 t) (ix2 r e) = (pad m c).gate (rowOf i r) (colOf (t.val % 11) (Cert.Ffn.hi e)) := by
  rw [gate1_apply]
  exact Finset.sum_congr rfl fun k _ => by rw [hh, iblk_wg]
theorem up0_eq : up0 hn (iblk m c 3 t) (ix2 r e) = (pad m c).up (rowOf i r) (colOf (t.val % 11) (lo e)) := by
  rw [up0_apply]
  exact Finset.sum_congr rfl fun k _ => by rw [hh, iblk_wu]
theorem up1_eq : up1 hn (iblk m c 3 t) (ix2 r e) = (pad m c).up (rowOf i r) (colOf (t.val % 11) (Cert.Ffn.hi e)) := by
  rw [up1_apply]
  exact Finset.sum_congr rfl fun k _ => by rw [hh, iblk_wu]

end Gates

section Down

variable (g u : FVec Ideal S512x256 .f32) (k : Vec Ideal S1x8x256 .f32) (n : Fin 2048)

include hi in
/-- The first half's product is its columns' terms. -/
theorem down0_eq (hg : ∀ r e, g (ix2 r e) = (pad m c).gate (rowOf i r) (colOf (t.val % 11) (lo e)))
    (hu : ∀ r e, u (ix2 r e) = (pad m c).up (rowOf i r) (colOf (t.val % 11) (lo e)))
    (hk : ∀ q e, k (ix3 0 q e) = keptOf (pad m c) i (colOf (t.val % 11) (lo e)) q) :
    down0 g u k (iblk m c 4 t) (iblk m c 5 t) (iblk m c 6 t) (ix2 r n) = ∑ x ∈ Finset.range 256, term (pad m c) (rowOf i r) n (512 * (t.val % 11) + x) := by
  rw [down0_apply, Finset.sum_range]
  refine Finset.sum_congr rfl fun e _ => ?_
  rw [shift2_eq (pad m c) i hi r g k e (colOf (t.val % 11) (lo e)) (fun r => hg r e) (fun q => hk q e),
    shift1_eq (pad m c) i hi r g k e (colOf (t.val % 11) (lo e)) (fun r => hg r e) (fun q => hk q e),
    hg, hu, iblk_cb, iblk_cw, iblk_cw, iblk_cw, iblk_wd]
  exact term_col (pad m c) _ n (t.val % 11) (Nat.mod_lt _ (by decide)) (lo e)

include hi in
/-- So is the second half's. -/
theorem down1_eq (hg : ∀ r e, g (ix2 r e) = (pad m c).gate (rowOf i r) (colOf (t.val % 11) (Cert.Ffn.hi e)))
    (hu : ∀ r e, u (ix2 r e) = (pad m c).up (rowOf i r) (colOf (t.val % 11) (Cert.Ffn.hi e)))
    (hk : ∀ q e, k (ix3 0 q e) = keptOf (pad m c) i (colOf (t.val % 11) (Cert.Ffn.hi e)) q) :
    down1 g u k (iblk m c 4 t) (iblk m c 5 t) (iblk m c 6 t) (ix2 r n) = ∑ x ∈ Finset.range 256, term (pad m c) (rowOf i r) n (512 * (t.val % 11) + (256 + x)) := by
  rw [down1_apply, Finset.sum_range]
  refine Finset.sum_congr rfl fun e _ => ?_
  rw [shift2_eq (pad m c) i hi r g k e (colOf (t.val % 11) (Cert.Ffn.hi e)) (fun r => hg r e) (fun q => hk q e),
    shift1_eq (pad m c) i hi r g k e (colOf (t.val % 11) (Cert.Ffn.hi e)) (fun r => hg r e) (fun q => hk q e),
    hg, hu, iblk_cb, iblk_cw, iblk_cw, iblk_cw, iblk_wd]
  exact term_col (pad m c) _ n (t.val % 11) (Nat.mod_lt _ (by decide)) (Cert.Ffn.hi e)

end Down

end Values

/-! ## The carried rows -/

variable (t : Fin cfg0.N) (e : Fin 256) (q : Fin 8)

/-- The point's tile of columns. -/
abbrev tileOf : Fin 11 := ⟨t.val % 11, Nat.mod_lt _ (by decide)⟩

variable (x : Vec Ideal S11x8x512 .f32) (g g' : FVec Ideal S512x256 .f32)

theorem kept0_apply : kept0 (grid0.coords t) x (ix3 0 q e) = x (ix3 (tileOf t) q (lo e)) := by
  unfold kept0
  refine View.ld_unit_apply_of _ _ _ _ _ _ fun a => ?_
  rw [congrFun (off2_eq t) a]
  fin_cases a <;> simp
theorem kept1_apply : kept1 (grid0.coords t) x (ix3 0 q e) = x (ix3 (tileOf t) q (Cert.Ffn.hi e)) := by
  unfold kept1
  refine View.ld_unit_apply_of _ _ _ _ _ _ fun a => ?_
  rw [congrFun (off3_eq t) a]
  fin_cases a <;> simp

/-- The first half's last rows put in. -/
theorem put0_lo : put0 (grid0.coords t) g x (ix3 (tileOf t) q (lo e)) = g (ix2 ⟨504 + q.val, by omega⟩ e) := by
  unfold put0
  refine (put_hit x _ S1x8x256.size (k0_pay12 g) (ix3 (tileOf t) q (lo e)) (ix3 0 q e : S1x8x256.Idx) fun a => ?_).trans (pay12_apply g e q)
  rw [off2_eq]
  fin_cases a <;> simp
theorem put0_hi : put0 (grid0.coords t) g x (ix3 (tileOf t) q (Cert.Ffn.hi e)) = x (ix3 (tileOf t) q (Cert.Ffn.hi e)) := by
  unfold put0
  refine put_miss _ _ _ _ _ 2 ?_
  rw [off2_eq]
  simp [S1x8x256]
theorem put0_other (a : Fin 11) (ha : a ≠ tileOf t) (d : Fin 512) : put0 (grid0.coords t) g x (ix3 a q d) = x (ix3 a q d) := by
  unfold put0
  refine put_miss _ _ _ _ _ 0 ?_
  rw [off2_eq]
  have : a.val ≠ t.val % 11 := fun h => ha (Fin.ext h)
  simp [S1x8x256]; omega

theorem put1_hi : put1 (grid0.coords t) g x (ix3 (tileOf t) q (Cert.Ffn.hi e)) = g (ix2 ⟨504 + q.val, by omega⟩ e) := by
  unfold put1
  refine (put_hit x _ S1x8x256.size _ (ix3 (tileOf t) q (Cert.Ffn.hi e)) (ix3 0 q e : S1x8x256.Idx) fun a => ?_).trans (pay21_apply g e q)
  rw [off3_eq]
  fin_cases a <;> simp
theorem put1_lo : put1 (grid0.coords t) g x (ix3 (tileOf t) q (lo e)) = x (ix3 (tileOf t) q (lo e)) := by
  unfold put1
  refine put_miss _ _ _ _ _ 2 ?_
  rw [off3_eq]
  simp [S1x8x256]
theorem put1_other (a : Fin 11) (ha : a ≠ tileOf t) (d : Fin 512) : put1 (grid0.coords t) g x (ix3 a q d) = x (ix3 a q d) := by
  unfold put1
  refine put_miss _ _ _ _ _ 0 ?_
  rw [off3_eq]
  have : a.val ≠ t.val % 11 := fun h => ha (Fin.ext h)
  simp [S1x8x256]; omega

/-- The tile's carried rows cleared. -/
theorem cleared_tile (d : Fin 512) : cleared (grid0.coords t) x (ix3 (tileOf t) q d) = 0 := by
  unfold cleared
  refine (put_hit x _ S1x8x512.size _ (ix3 (tileOf t) q d) (ix3 0 q d : S1x8x512.Idx) fun a => ?_).trans (pay5_apply q d)
  rw [off1_eq]
  fin_cases a <;> simp
theorem cleared_other (a : Fin 11) (ha : a ≠ tileOf t) (d : Fin 512) : cleared (grid0.coords t) x (ix3 a q d) = x (ix3 a q d) := by
  unfold cleared
  refine put_miss _ _ _ _ _ 0 ?_
  rw [off1_eq]
  have : a.val ≠ t.val % 11 := fun h => ha (Fin.ext h)
  simp [S1x8x512]; omega

variable (l : Vec Ideal S1x8x512 .f32)

/-- The block of last rows. -/
theorem last_lo : last1 g' (last0 g l) (ix3 0 q (lo e)) = g (ix2 ⟨504 + q.val, by omega⟩ e) := by
  unfold last1 last0
  refine (put_miss _ _ _ _ _ 2 ?_).trans ((put_hit l _ S1x8x256.size _ (ix3 0 q (lo e)) (ix3 0 q e : S1x8x256.Idx) fun a => ?_).trans (pay13_apply g e q))
  · simp [S1x8x256]
  · fin_cases a <;> simp
theorem last_hi : last1 g' (last0 g l) (ix3 0 q (Cert.Ffn.hi e)) = g' (ix2 ⟨504 + q.val, by omega⟩ e) := by
  unfold last1
  refine (put_hit (s := S1x8x512) _ _ S1x8x256.size _ (ix3 0 q (Cert.Ffn.hi e)) (ix3 0 q e : S1x8x256.Idx) fun a => ?_).trans (pay22_apply g' e q)
  fin_cases a <;> simp

/-- A column of a tile lies in one of its halves. -/
theorem halves (d : Fin 512) : (∃ e, d = lo e) ∨ ∃ e, d = Cert.Ffn.hi e := by
  by_cases h : d.val < 256
  · exact .inl ⟨⟨d.val, h⟩, rfl⟩
  · exact .inr ⟨⟨d.val - 256, by omega⟩, Fin.ext (by show d.val = 256 + (d.val - 256); omega)⟩

end Cert.Ffn

end
-- ==== Proof.Ffn.Carried.lean ====
/-
  What is carried from point to point of the grid, in closed form: the scaled rows of the tile, the sum of the terms of the columns
  gone through, and for every tile of columns the gates' last eight rows of the last tile of rows that went through it.
-/
module

public import proofs.«01_k».proof.Proof.Ffn.Tile
public import Idealize.ShloMosaic.Lib.Pipeline.ValueKit
public import Idealize.ShloMosaic.Lib.WordCmp

@[expose] public section

set_option maxRecDepth 16384

noncomputable section

namespace Cert.Ffn

open Idealize.ShloMosaic Idealize.ShloMosaic.TcCoe Idealize.SL.Sem
open Cert.Kernel2Ideal Cert.Kernel2Ideal.Gen

variable (m : (ℓ : Loc nD τ sig) → Buf (Elt Ideal) ℓ) (c : Dev nD) (t : Fin cfg0.N)

/-- What the carried rows hold after `n` points: a tile of columns gone through has the gates' last rows of the last tile of rows that did. -/
def Kept (n : ℕ) (x : Vec Ideal S11x8x512 .f32) : Prop :=
  ∀ (a : Fin 11) (q : Fin 8) (e : Fin 512), (n + 10 - a.val) / 11 ≠ 0 →
    x (ix3 a q e) = (pad m c).gate (rowOf ((n + 10 - a.val) / 11 - 1) ⟨504 + q.val, by omega⟩) (colOf a.val e)

/-- The scaled rows of tile `i` are there, and the terms of its first `p` columns are summed. -/
structure Summed (i p : ℕ) (s : St Ideal) : Prop where
  hn : ∀ r k, s.hn (ix2 r k) = (pad m c).normed (rowOf i r) k
  acc : ∀ r n, s.acc (ix2 r n) = ∑ x ∈ Finset.range p, term (pad m c) (rowOf i r) n x

/-- What holds after `n` points. -/
structure Inv (n : ℕ) (s : St Ideal) : Prop where
  halo : Kept m c n s.halo
  sum : n % 11 ≠ 0 → Summed m c (n / 11) (512 * (n % 11)) s

/-- What holds inside point `t`, when its tile's two halves start. -/
structure Ready (s : St Ideal) : Prop where
  sum : Summed m c (t.val / 11) (512 * (t.val % 11)) s
  tile : ∀ q d, s.halo (ix3 (tileOf t) q d) = keptOf (pad m c) (t.val / 11) (colOf (t.val % 11) d) q
  rest : ∀ (a : Fin 11) (q : Fin 8) (d : Fin 512), a ≠ tileOf t → (t.val + 10 - a.val) / 11 ≠ 0 →
    s.halo (ix3 a q d) = (pad m c).gate (rowOf ((t.val + 10 - a.val) / 11 - 1) ⟨504 + q.val, by omega⟩) (colOf a.val d)

/-- What holds when they are done. -/
structure Done (s : St Ideal) : Prop where
  sum : Summed m c (t.val / 11) (512 * (t.val % 11 + 1)) s
  halo : Kept m c (t.val + 1) s.halo
  gl : ∀ q d, s.gl (ix3 0 q d) = (pad m c).gate (rowOf (t.val / 11) ⟨504 + q.val, by omega⟩) (colOf (t.val % 11) d)

/-- The first branch leaves the rows scaled and nothing summed. -/
theorem init_sum (s : St Ideal) : Summed m c (t.val / 11) 0 (initSt (iblk m c 0 t) (iblk m c 1 t) s) where
  hn r k := by
    show k0_pay3 _ _ (ix2 r k) = _
    rw [pay3_apply, iblk_x, iblk_scale, Args.normed, Finset.sum_congr rfl fun k' _ => by rw [iblk_x]]
  acc r n := by
    show k0_pay4 (ix2 r n) = _
    rw [pay4_apply, Finset.range_zero, Finset.sum_empty]

/-- The two branches before the halves make the point ready. -/
theorem ready (s : St Ideal) (h : Inv m c t.val s) :
    Ready m c t (let s1 := if initCond (grid0.coords t) = 1#1 then initSt (iblk m c 0 t) (iblk m c 1 t) s else s
      if k0_cond2 (grid0.coords t) = 1#1 then zeroSt (grid0.coords t) s1 else s1) := by
  simp only [init_iff t, zero_iff t]
  generalize hs : (if t.val % 11 = 0 then initSt (iblk m c 0 t) (iblk m c 1 t) s else s) = s1
  have h1 : Summed m c (t.val / 11) (512 * (t.val % 11)) s1 := by
    subst hs
    by_cases h0 : t.val % 11 = 0
    · rw [if_pos h0, h0]; exact init_sum m c t s
    · rw [if_neg h0]; exact h.sum h0
  have h2 : s1.halo = s.halo := by
    subst hs
    split_ifs <;> rfl
  by_cases h8 : t.val / 11 % 8 = 0
  · rw [if_pos h8]
    refine ⟨⟨h1.hn, h1.acc⟩, fun q d => ?_, fun a q d ha hn => ?_⟩
    · rw [keptOf, if_pos h8]
      exact cleared_tile t q _ d
    · refine (cleared_other t q _ a ha d).trans ?_
      rw [h2]
      exact h.halo a q d hn
  · rw [if_neg h8]
    refine ⟨h1, fun q d => ?_, fun a q d ha hn => ?_⟩
    · have e : (t.val + 10 - (tileOf t).val) / 11 = t.val / 11 := by show (t.val + 10 - t.val % 11) / 11 = t.val / 11; omega
      rw [keptOf, if_neg h8, h2]
      refine (h.halo (tileOf t) q d (by rw [e]; omega)).trans ?_
      rw [e]
    · rw [h2]
      exact h.halo a q d hn

/-- The halves do the tile. -/
theorem done (s : St Ideal) (h : Ready m c t s) :
    Done m c t (mainSt (grid0.coords t) (iblk m c 2 t) (iblk m c 3 t) (iblk m c 4 t) (iblk m c 5 t) (iblk m c 6 t) s) := by
  have ht : t.val < 176 := Nat.lt_of_lt_of_eq t.isLt N_0
  have hi : t.val / 11 < 16 := by omega
  have hg0 := fun r e => gate0_eq (t.val / 11) r m c t e s.hn h.sum.hn
  have hg1 := fun r e => gate1_eq (t.val / 11) r m c t e s.hn h.sum.hn
  have hu0 := fun r e => up0_eq (t.val / 11) r m c t e s.hn h.sum.hn
  have hu1 := fun r e => up1_eq (t.val / 11) r m c t e s.hn h.sum.hn
  refine ⟨⟨h.sum.hn, fun r n => ?_⟩, fun a q d hn => ?_, fun q d => ?_⟩
  · refine (pay1_apply r n _ _ _).trans ?_
    rw [h.sum.acc, down0_eq (t.val / 11) hi r m c t _ _ _ n hg0 hu0 (fun q e => (kept0_apply t e q _).trans (h.tile q _)),
      down1_eq (t.val / 11) hi r m c t _ _ _ n hg1 hu1 (fun q e => (kept1_apply t e q _).trans ((put0_hi t e q _ _).trans (h.tile q _))),
      show 512 * (t.val % 11 + 1) = 512 * (t.val % 11) + (256 + 256) by omega, Finset.sum_range_add, Finset.sum_range_add _ 256 256]
  · by_cases ha : a = tileOf t
    · subst ha
      have e1 : (t.val + 1 + 10 - (tileOf t).val) / 11 - 1 = t.val / 11 := by
        show (t.val + 1 + 10 - t.val % 11) / 11 - 1 = t.val / 11; omega
      rw [e1]
      obtain ⟨e, rfl⟩ | ⟨e, rfl⟩ := halves d
      · exact (put1_lo t e q _ _).trans ((put0_lo t e q _ _).trans (hg0 _ e))
      · exact (put1_hi t e q _ _).trans (hg1 _ e)
    · have hne : a.val ≠ t.val % 11 := fun h => ha (Fin.ext h)
      have e1 : (t.val + 1 + 10 - a.val) / 11 = (t.val + 10 - a.val) / 11 := by have := a.isLt; omega
      rw [e1] at hn ⊢
      exact (put1_other t q _ _ a ha d).trans ((put0_other t q _ _ a ha d).trans (h.rest a q d ha hn))
  · obtain ⟨e, rfl⟩ | ⟨e, rfl⟩ := halves d
    · exact (last_lo e q _ _ _).trans (hg0 _ e)
    · exact (last_hi e q _ _ _).trans (hg1 _ e)

/-- A whole point: what holds when its halves are done, and the result's rows at the tile of rows' last point. -/
theorem point (s : St Ideal) (h : Inv m c t.val s) : Done m c t (stepAt m c t s)
    ∧ (t.val % 11 = 10 → ∀ r n, (stepAt m c t s).o (ix2 r n) = (pad m c).out (rowOf (t.val / 11) r) n) := by
  have hd := done m c t _ (ready m c t s h)
  unfold stepAt stepSt
  simp only [last_iff t]
  dsimp only at hd ⊢
  by_cases hl : t.val % 11 = 10
  · rw [if_pos hl]
    refine ⟨⟨⟨hd.sum.hn, hd.sum.acc⟩, hd.halo, hd.gl⟩, fun _ r n => ?_⟩
    refine (pay2_apply r n _ _).trans ?_
    rw [hd.sum.acc, iblk_x, hl, Args.out]
    refine congrArg (_ + ·) ?_
    show ∑ x ∈ Finset.range 5632, _ = _
    rw [Finset.sum_range]
    exact Finset.sum_congr rfl fun C _ => dif_pos C.isLt
  · rw [if_neg hl]
    exact ⟨hd, fun h => absurd h hl⟩

/-- What holds after any number of points. -/
theorem inv (n : ℕ) (hn : n ≤ 176) : Inv m c n (carried m c n) := by
  induction n with
  | zero => exact ⟨fun a q e h => absurd (by have := a.isLt; omega) h, fun h => absurd rfl h⟩
  | succ n ih =>
    have hlt : n < cfg0.N := Nat.lt_of_lt_of_eq (by omega) N_0.symm
    have hd := (point m c ⟨n, hlt⟩ _ (ih (by omega))).1
    rw [← carried_succ] at hd
    refine ⟨hd.halo, fun h0 => ?_⟩
    have e1 : (n + 1) / 11 = n / 11 := by omega
    have e2 : (n + 1) % 11 = n % 11 + 1 := by omega
    rw [e1, e2]
    exact hd.sum

/-- The last rows written at a point. -/
theorem carried_gl (q : Fin 8) (d : Fin 512) :
    (carried m c (t.val + 1)).gl (ix3 0 q d) = (pad m c).gate (rowOf (t.val / 11) ⟨504 + q.val, by omega⟩) (colOf (t.val % 11) d) := by
  rw [carried_succ]
  exact (point m c t _ (inv m c _ (Nat.le_of_lt (Nat.lt_of_lt_of_eq t.isLt N_0)))).1.gl q d

/-- The result's rows written at a tile of rows' last point. -/
theorem carried_o (hl : t.val % 11 = 10) (r : Fin 512) (n : Fin 2048) :
    (carried m c (t.val + 1)).o (ix2 r n) = (pad m c).out (rowOf (t.val / 11) r) n := by
  rw [carried_succ]
  exact (point m c t _ (inv m c _ (Nat.le_of_lt (Nat.lt_of_lt_of_eq t.isLt N_0)))).2 hl r n

end Cert.Ffn

end
-- ==== Proof.Ffn.Result.lean ====
/-
  The kernel's two results in closed form: the layer's result, and the gates of each sequence's last two positions.
-/
module

public import proofs.«01_k».proof.Proof.Ffn.Carried
public import Idealize.ShloMosaic.Lib.Pipeline.ValueKit
public import Idealize.ShloMosaic.Lib.WordCmp

@[expose] public section

set_option maxRecDepth 16384

noncomputable section

namespace Cert.Ffn

open Idealize.ShloMosaic Idealize.ShloMosaic.TcCoe Idealize.SL.Sem
open Cert.Kernel2Ideal Cert.Kernel2Ideal.Gen

/-- The layer's result, by sequence and position. -/
def yOf (A : Args 5504) : Vec Ideal S2x4096x2048 .f32 := fun y =>
  A.out ⟨(4096 * (y 0).val + (y 1).val) % 8192, Nat.mod_lt _ (by decide)⟩ ⟨(y 2).val % 2048, Nat.mod_lt _ (by decide)⟩
/-- The gates of each sequence's last two positions. -/
def gOf (A : Args 5504) : Vec Ideal S2x2x5504 .f32 := fun y =>
  A.gate ⟨(4096 * (y 0).val + 4094 + (y 1).val) % 8192, Nat.mod_lt _ (by decide)⟩ ⟨(y 2).val % 5504, Nat.mod_lt _ (by decide)⟩

variable (m : (ℓ : Loc nD τ sig) → Buf (Elt Ideal) ℓ) (c : Dev nD)

/-- After the region the first array holds the result, row by row. -/
theorem arrAt_7 : (dats m 0 c).arrAt 7 cfg0.N = (fun y => (pad m c).out ⟨(y 0).val % 8192, Nat.mod_lt _ (by decide)⟩ ⟨(y 1).val % 2048, Nat.mod_lt _ (by decide)⟩ : Vec Ideal S8192x2048 .f32) := by
  refine (dats m 0 c).arrAt_eq_of_covers 7 _ (by decide +kernel) fun t hf y => ?_
  have ht : t.val < 176 := Nat.lt_of_lt_of_eq t.isLt N_0
  have h7 : t.val % 11 = 10 := by have := (flush7 t).symm.trans hf; simpa using this
  blk_simp
  rw [after_7]
  obtain ⟨r, n, rfl⟩ : ∃ (r : Fin 512) (n : Fin 2048), y = ix2 r n := ⟨y 0, y 1, by funext i; fin_cases i <;> rfl⟩
  refine (carried_o m c t h7 r n).trans ?_
  obtain ⟨-, -, -, -, -, -, -, hidx, -⟩ := idx t
  refine congrArg₂ (pad m c).out (Fin.ext ?_) (Fin.ext ?_)
  · show (512 * (t.val / 11) + r.val) % 8192 = (win0_7.index t 0 * 512 + r.val) % 8192
    rw [hidx]
    show _ = (t.val / 11 * 512 + r.val) % 8192
    omega
  · show n.val = (win0_7.index t 1 * 2048 + n.val) % 2048
    have := n.isLt
    rw [hidx]
    show _ = (0 * 2048 + n.val) % 2048
    omega

/-- The second holds the gates of each tile's last eight rows. -/
theorem arrAt_8 : (dats m 0 c).arrAt 8 cfg0.N = (fun y => (pad m c).gate ⟨(512 * (y 0).val + (504 + (y 1).val)) % 8192, Nat.mod_lt _ (by decide)⟩ ⟨(y 2).val % 5632, Nat.mod_lt _ (by decide)⟩ : Vec Ideal S16x8x5632 .f32) := by
  refine (dats m 0 c).arrAt_eq_of_covers 8 _ (by decide +kernel) fun t hf y => ?_
  have ht : t.val < 176 := Nat.lt_of_lt_of_eq t.isLt N_0
  blk_simp
  rw [after_8]
  obtain ⟨q, d, rfl⟩ : ∃ (q : Fin 8) (d : Fin 512), y = ix3 0 q d := ⟨y 1, y 2, by funext i; fin_cases i <;> first | rfl | exact Subsingleton.elim (α := Fin 1) _ _⟩
  refine (carried_gl m c t q d).trans ?_
  obtain ⟨-, -, -, -, -, -, -, -, hidx⟩ := idx t
  refine congrArg₂ (pad m c).gate (Fin.ext ?_) (Fin.ext ?_)
  · show (512 * (t.val / 11) + (504 + q.val)) % 8192 = (512 * win0_8.index t 0 + (504 + (win0_8.index t 1 * 8 + q.val))) % 8192
    rw [hidx]
    show _ = (512 * (t.val / 11) + (504 + (0 * 8 + q.val))) % 8192
    omega
  · show (512 * (t.val % 11) + d.val) % 5632 = (win0_8.index t 2 * 512 + d.val) % 5632
    rw [hidx]
    show _ = (t.val % 11 * 512 + d.val) % 5632
    omega

/-! ## The host's operations after the region -/

theorem arr_inj : Function.Injective (Pipeline.arrRef spec0) := by decide +kernel

theorem tail_y : Pipeline.afterTail₀ cfgs (dats m) 0 (V0 m) [hostOps1] c main_v15
    = (shapeCast S2x4096x2048 ((dats m 0 c).arrAt 7 cfg0.N : Vec Ideal S8192x2048 .f32) shapeCasts_S8192x2048_S2x4096x2048 : Vec Ideal S2x4096x2048 .f32) := by
  unfold Pipeline.afterTail₀
  simp only [hostOps1, List.flatten_cons, List.flatten_nil, List.append_nil, List.cons_append, List.nil_append]
  after_results_simp
  all_goals first
    | rfl
    | exact congrArg (fun x : Vec Ideal S8192x2048 .f32 => (shapeCast S2x4096x2048 x shapeCasts_S8192x2048_S2x4096x2048 : Vec Ideal S2x4096x2048 .f32)) (Pipeline.withArrays_arr spec0 arr_inj c _ _ 7)

theorem tail_g : Pipeline.afterTail₀ cfgs (dats m) 0 (V0 m) [hostOps1] c main_v14
    = (shapeCast S2x2x5504 (extractStridedSlice S2x1x2x5504 ![0, 7, 6, 0] (shapeCast S2x8x8x5632 ((dats m 0 c).arrAt 8 cfg0.N : Vec Ideal S16x8x5632 .f32) shapeCasts_S16x8x5632_S2x8x8x5632 : Vec Ideal S2x8x8x5632 .f32) slices_S2x8x8x5632_S2x1x2x5504_0_7_6_0 : Vec Ideal S2x1x2x5504 .f32) shapeCasts_S2x1x2x5504_S2x2x5504 : Vec Ideal S2x2x5504 .f32) := by
  unfold Pipeline.afterTail₀
  simp only [hostOps1, List.flatten_cons, List.flatten_nil, List.append_nil, List.cons_append, List.nil_append]
  after_results_simp
  have h : Pipeline.withArrays (cfgs 0).spec c (V0 m c) (fun w => (dats m 0 c).arrAt w (cfgs 0).N) (Proc.tc.devRef main_v11_1) = (dats m 0 c).arrAt 8 cfg0.N :=
    Pipeline.withArrays_arr spec0 arr_inj c (V0 m c) (fun w => (dats m 0 c).arrAt w cfg0.N) 8
  rw [h]
  rfl

theorem laid_y (X : Vec Ideal S8192x2048 .f32) (b : Fin 2) (p : Fin 4096) (n : Fin 2048) :
    (shapeCast S2x4096x2048 X shapeCasts_S8192x2048_S2x4096x2048 : Vec Ideal S2x4096x2048 .f32) (ix3 b p n) = X (ix2 ⟨b.val * 4096 + p.val, by omega⟩ n) := by
  pointwise
theorem laid_g (X : Vec Ideal S16x8x5632 .f32) (b : Fin 2) (s : Fin 2) (n : Fin 5504) :
    (shapeCast S2x2x5504 (extractStridedSlice S2x1x2x5504 ![0, 7, 6, 0] (shapeCast S2x8x8x5632 X shapeCasts_S16x8x5632_S2x8x8x5632 : Vec Ideal S2x8x8x5632 .f32) slices_S2x8x8x5632_S2x1x2x5504_0_7_6_0 : Vec Ideal S2x1x2x5504 .f32) shapeCasts_S2x1x2x5504_S2x2x5504 : Vec Ideal S2x2x5504 .f32) (ix3 b s n)
      = X (ix3 ⟨b.val * 8 + 7, by omega⟩ ⟨6 + s.val, by omega⟩ ⟨n.val, by omega⟩) := by
  pointwise

/-- The first result. -/
theorem final_y : Pipeline.afterTail₀ cfgs (dats m) 0 (V0 m) [hostOps1] c main_v15 = yOf (args m c) := by
  rw [tail_y]
  funext y
  obtain ⟨b, p, n, rfl⟩ : ∃ (b : Fin 2) (p : Fin 4096) (n : Fin 2048), y = ix3 b p n := ⟨y 0, y 1, y 2, by funext i; fin_cases i <;> rfl⟩
  refine (laid_y _ b p n).trans ((congrFun (arrAt_7 m c) _).trans (Eq.trans ?_ (padded_out _ _ _)))
  refine congrArg₂ (pad m c).out (Fin.ext ?_) rfl
  show (b.val * 4096 + p.val) % 8192 = (4096 * b.val + p.val) % 8192
  omega

/-- The second result. -/
theorem final_g : Pipeline.afterTail₀ cfgs (dats m) 0 (V0 m) [hostOps1] c main_v14 = gOf (args m c) := by
  rw [tail_g]
  funext y
  obtain ⟨b, s, n, rfl⟩ : ∃ (b : Fin 2) (s : Fin 2) (n : Fin 5504), y = ix3 b s n := ⟨y 0, y 1, y 2, by funext i; fin_cases i <;> rfl⟩
  refine (laid_g _ b s n).trans ((congrFun (arrAt_8 m c) _).trans (Eq.trans ?_ (padded_gate _ _ _)))
  have hn := n.isLt
  refine congrArg₂ (pad m c).gate (Fin.ext ?_) (Fin.ext ?_)
  · show (512 * (b.val * 8 + 7) + (504 + (6 + s.val))) % 8192 = (4096 * b.val + 4094 + s.val) % 8192
    omega
  · show n.val % 5632 = n.val % 5504
    omega

end Cert.Ffn

end
-- ==== Proof.Ffn.Host.lean ====
/-
  The reference's two results read at an index: the layer's result and the gates of each sequence's last two positions.
-/
module

public import proofs.«01_k».proof.Proof.Ffn.Result
public import proofs.«01_k».proof.Proof.Gen.Reference2Ideal.Run

@[expose] public section

set_option maxRecDepth 16384

noncomputable section

namespace Cert.Ffn.Host

open Idealize.ShloMosaic Idealize.ShloMosaic.TcCoe Idealize.SL.Sem
open Cert.Reference2Ideal Cert.Reference2Ideal.Gen

/-! ## The reference's stages -/

/-- The rows scaled to norm one, then by the scale. -/
def normed (h : FVec Ideal S2x4096x2048 .f32) (g : FVec Ideal S2048 .f32) : FVec Ideal S2x4096x2048 .f32 :=
  mulf (mulf h (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf h h) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 g))

/-- The rows' products with a weight. -/
def proj (n : FVec Ideal S2x4096x2048 .f32) (w : FVec Ideal S2048x5504 .f32) : FVec Ideal S2x4096x5504 .f32 :=
  Host.dotGeneral dot_S2x4096x2048_S2048x5504_S2x4096x5504_2_0_01_1_n_n none n w

/-- The gates after two rows of zeros. -/
def led (g : FVec Ideal S2x4096x5504 .f32) : FVec Ideal S2x4098x5504 .f32 :=
  concatenate S2x4098x5504 1 [⟨S2x2x5504, (broadcastInDim S2x2x5504 ![] bcast_S_S2x2x5504 (constant (F := Ideal) S_ .f32 0x00000000#32))⟩, ⟨S2x4096x5504, g⟩] concatenates_S2x2x5504_S2x4096x5504_S2x4098x5504_d1

/-- The taps and the bias on them. -/
def tapped (cw : FVec Ideal S3x5504 .f32) (cb : FVec Ideal S5504 .f32) (gp : FVec Ideal S2x4098x5504 .f32) : FVec Ideal S2x4096x5504 .f32 :=
  addf (broadcastInDim S2x4096x5504 ![0, 1, 2] bcast_S1x1x5504_S2x4096x5504_0_1_2 (broadcastInDim S1x1x5504 ![2] bcast_S5504_S1x1x5504_2 cb))
    (addf (addf (addf (broadcastInDim S2x4096x5504 ![] bcast_S_S2x4096x5504 (constant S_ .f32 0x00000000#32))
      (mulf (broadcastInDim S2x4096x5504 ![0, 1, 2] bcast_S1x1x5504_S2x4096x5504_0_1_2 (broadcastInDim S1x1x5504 ![2] bcast_S5504_S1x1x5504_2 (shapeCast _ (extractStridedSlice S1x5504 ![0, 0] cw slices_S3x5504_S1x5504_0_0) shapeCasts_S1x5504_S5504))) (extractStridedSlice S2x4096x5504 ![0, 0, 0] gp slices_S2x4098x5504_S2x4096x5504_0_0_0)))
      (mulf (broadcastInDim S2x4096x5504 ![0, 1, 2] bcast_S1x1x5504_S2x4096x5504_0_1_2 (broadcastInDim S1x1x5504 ![2] bcast_S5504_S1x1x5504_2 (shapeCast _ (extractStridedSlice S1x5504 ![1, 0] cw slices_S3x5504_S1x5504_1_0) shapeCasts_S1x5504_S5504))) (extractStridedSlice S2x4096x5504 ![0, 1, 0] gp slices_S2x4098x5504_S2x4096x5504_0_1_0)))
      (mulf (broadcastInDim S2x4096x5504 ![0, 1, 2] bcast_S1x1x5504_S2x4096x5504_0_1_2 (broadcastInDim S1x1x5504 ![2] bcast_S5504_S1x1x5504_2 (shapeCast _ (extractStridedSlice S1x5504 ![2, 0] cw slices_S3x5504_S1x5504_2_0) shapeCasts_S1x5504_S5504))) (extractStridedSlice S2x4096x5504 ![0, 2, 0] gp slices_S2x4098x5504_S2x4096x5504_0_2_0)))

/-- The smooth step times its argument, times the ups. -/
def activated (z u : FVec Ideal S2x4096x5504 .f32) : FVec Ideal S2x4096x5504 .f32 :=
  mulf (mulf z (Host.divf (broadcastInDim S2x4096x5504 ![] bcast_S_S2x4096x5504 (constant S_ .f32 0x3F800000#32)) (addf (broadcastInDim S2x4096x5504 ![] bcast_S_S2x4096x5504 (constant S_ .f32 0x3F800000#32)) (Host.exp (Host.negf z))))) u

/-- The rows plus the hidden entries' product with the down weight. -/
def added (h : FVec Ideal S2x4096x2048 .f32) (a : FVec Ideal S2x4096x5504 .f32) (wd : FVec Ideal S5504x2048 .f32) : FVec Ideal S2x4096x2048 .f32 :=
  addf h (Host.dotGeneral dot_S2x4096x5504_S5504x2048_S2x4096x2048_2_0_01_1_n_n none a wd)

/-- The last two rows. -/
def lastTwo (gp : FVec Ideal S2x4098x5504 .f32) : FVec Ideal S2x2x5504 .f32 :=
  extractStridedSlice S2x2x5504 ![0, 4096, 0] gp slices_S2x4098x5504_S2x2x5504_0_4096_0

/-- The reference's first result through its stages. -/
theorem res_eq (m : (ℓ : Loc nD τ sig) → Buf (Elt Ideal) ℓ) (c : Dev nD) :
    Cert.Reference2Ideal.Value.res_main_v45 m c = added (m ((c.tc : Thread nD τ).loc main_arg0))
      (activated (tapped (m ((c.tc : Thread nD τ).loc main_arg4)) (m ((c.tc : Thread nD τ).loc main_arg5)) (led (proj (normed (m ((c.tc : Thread nD τ).loc main_arg0)) (m ((c.tc : Thread nD τ).loc main_arg1))) (m ((c.tc : Thread nD τ).loc main_arg2)))))
        (proj (normed (m ((c.tc : Thread nD τ).loc main_arg0)) (m ((c.tc : Thread nD τ).loc main_arg1))) (m ((c.tc : Thread nD τ).loc main_arg3)))) (m ((c.tc : Thread nD τ).loc main_arg6)) := rfl

/-! ## The stages at an index -/

variable (h : FVec Ideal S2x4096x2048 .f32) (g : FVec Ideal S2048 .f32) (wg wu : FVec Ideal S2048x5504 .f32) (cw : FVec Ideal S3x5504 .f32)
  (cb : FVec Ideal S5504 .f32) (wd : FVec Ideal S5504x2048 .f32) (b : Fin 2) (p : Fin 4096) (k : Fin 2048) (C : Fin 5504) (s : Fin 2)

/-- The row of a sequence's position. -/
abbrev row : Fin 8192 := ⟨(4096 * b.val + p.val) % 8192, Nat.mod_lt _ (by decide)⟩

theorem x_row : (ofVecs h g wg wu cw cb wd).x (row b p) k = h (ix3 b p k) := by
  show h (ix3 _ _ k) = _
  have e0 : (⟨(row b p).val / 4096, by omega⟩ : Fin 2) = b := Fin.ext (by show (4096 * b.val + p.val) % 8192 / 4096 = b.val; omega)
  have e1 : (⟨(row b p).val % 4096, by omega⟩ : Fin 4096) = p := Fin.ext (by show (4096 * b.val + p.val) % 8192 % 4096 = p.val; omega)
  rw [e0, e1]

theorem normed_apply : normed h g (ix3 b p k) = h (ix3 b p k) * Ideal.rsqrt (Ideal.div (∑ k', h (ix3 b p k') * h (ix3 b p k')) (Ideal.ofBits .f32 0x45000000#32) + Ideal.ofBits .f32 0x358637BD#32) * g (ix1 k) := by
  unfold normed
  pointwise

theorem proj_apply (n : FVec Ideal S2x4096x2048 .f32) (w : FVec Ideal S2048x5504 .f32) : proj n w (ix3 b p C) = ∑ k, n (ix3 b p k) * w (ix2 k C) := by
  unfold proj
  pointwise

theorem led_apply (x : FVec Ideal S2x4096x5504 .f32) (q : Fin 4098) : led x (ix3 b q C) = if hq : q.val < 2 then 0 else x (ix3 b ⟨q.val - 2, by omega⟩ C) := by
  unfold led
  pointwise

theorem assoc_four (x y z w : EReal) : x + (y + z + w) = x + y + z + w := by
  rw [← add_assoc, ← add_assoc]

theorem tapped_apply (gp : FVec Ideal S2x4098x5504 .f32) : tapped cw cb gp (ix3 b p C)
    = taps (cb (ix1 C)) (cw (ix2 0 C)) (cw (ix2 1 C)) (cw (ix2 2 C)) (gp (ix3 b ⟨p.val, by omega⟩ C)) (gp (ix3 b ⟨1 + p.val, by omega⟩ C)) (gp (ix3 b ⟨2 + p.val, by omega⟩ C)) := by
  unfold tapped taps
  pointwise
  exact assoc_four _ _ _ _

theorem activated_apply (z u : FVec Ideal S2x4096x5504 .f32) : activated z u (ix3 b p C) = silu (z (ix3 b p C)) * u (ix3 b p C) := by
  unfold activated silu
  rw [zero_sub]
  pointwise

theorem added_apply (a : FVec Ideal S2x4096x5504 .f32) : added h a wd (ix3 b p k) = h (ix3 b p k) + ∑ C, a (ix3 b p C) * wd (ix2 C k) := by
  unfold added
  pointwise

theorem lastTwo_apply (gp : FVec Ideal S2x4098x5504 .f32) : lastTwo gp (ix3 b s C) = gp (ix3 b ⟨4096 + s.val, by omega⟩ C) := by
  unfold lastTwo
  pointwise

/-! ## The results -/

/-- The layer's inputs. -/
abbrev inputs : Args 5504 := ofVecs h g wg wu cw cb wd

theorem normed_eq : normed h g (ix3 b p k) = (inputs h g wg wu cw cb wd).normed (row b p) k := by
  rw [normed_apply, Args.normed]
  simp only [x_row]
  rfl
theorem gate_eq : proj (normed h g) wg (ix3 b p C) = (inputs h g wg wu cw cb wd).gate (row b p) C := by
  rw [proj_apply, Args.gate]
  exact Finset.sum_congr rfl fun k _ => congrArg (· * wg (ix2 k C)) (normed_eq h g wg wu cw cb wd b p k)
theorem up_eq : proj (normed h g) wu (ix3 b p C) = (inputs h g wg wu cw cb wd).up (row b p) C := by
  rw [proj_apply, Args.up]
  exact Finset.sum_congr rfl fun k _ => congrArg (· * wu (ix2 k C)) (normed_eq h g wg wu cw cb wd b p k)

/-- The values `d` rows before, among the gates after their two rows of zeros. -/
theorem led_eq (d : ℕ) (hd : d ≤ 2) (q : Fin 4098) (hq : q.val + d = 2 + p.val) :
    led (proj (normed h g) wg) (ix3 b q C) = back d ((inputs h g wg wu cw cb wd).gate · C) (row b p) := by
  have hr : (row b p).val % 4096 = p.val := by show (4096 * b.val + p.val) % 8192 % 4096 = p.val; omega
  rw [led_apply, back, hr]
  by_cases h2 : q.val < 2
  · rw [dif_pos h2, if_pos (by omega)]
  · rw [dif_neg h2, if_neg (by omega), gate_eq h g wg wu cw cb wd]
    refine congrArg ((inputs h g wg wu cw cb wd).gate · C) (Fin.ext ?_)
    show (4096 * b.val + (q.val - 2)) % 8192 = (4096 * b.val + p.val) % 8192 - d
    omega
theorem back_zero (f : Fin 8192 → EReal) (R : Fin 8192) : back 0 f R = f R := if_neg (Nat.not_lt_zero _)

theorem mixed_eq : tapped cw cb (led (proj (normed h g) wg)) (ix3 b p C) = (inputs h g wg wu cw cb wd).mixed (row b p) C := by
  rw [tapped_apply, led_eq h g wg wu cw cb wd b p C 2 (by omega) ⟨p.val, by omega⟩ (by show p.val + 2 = _; omega),
    led_eq h g wg wu cw cb wd b p C 1 (by omega) ⟨1 + p.val, by omega⟩ (by show 1 + p.val + 1 = _; omega),
    led_eq h g wg wu cw cb wd b p C 0 (by omega) ⟨2 + p.val, by omega⟩ rfl, back_zero]
  rfl

/-- The first result is the layer's. -/
theorem y_eq : added h (activated (tapped cw cb (led (proj (normed h g) wg))) (proj (normed h g) wu)) wd = yOf (inputs h g wg wu cw cb wd) := by
  funext y
  obtain ⟨b, p, n, rfl⟩ : ∃ (b : Fin 2) (p : Fin 4096) (n : Fin 2048), y = ix3 b p n := ⟨y 0, y 1, y 2, by funext i; fin_cases i <;> rfl⟩
  have hn : (⟨n.val % 2048, Nat.mod_lt _ (by decide)⟩ : Fin 2048) = n := Fin.ext (Nat.mod_eq_of_lt n.isLt)
  refine Eq.trans ?_ (congrArg ((inputs h g wg wu cw cb wd).out (row b p)) hn).symm
  rw [added_apply, Args.out, x_row]
  refine congrArg (h (ix3 b p n) + ·) (Finset.sum_congr rfl fun C _ => ?_)
  rw [activated_apply, mixed_eq h g wg wu cw cb wd, up_eq h g wg wu cw cb wd]
  rfl

/-- The second is the gates of each sequence's last two positions. -/
theorem g_eq : lastTwo (led (proj (normed h g) wg)) = gOf (inputs h g wg wu cw cb wd) := by
  funext y
  obtain ⟨b, s, C, rfl⟩ : ∃ (b : Fin 2) (s : Fin 2) (C : Fin 5504), y = ix3 b s C := ⟨y 0, y 1, y 2, by funext i; fin_cases i <;> rfl⟩
  rw [lastTwo_apply, led_eq h g wg wu cw cb wd b ⟨4094 + s.val, by omega⟩ C 0 (by omega) _ (by show 4096 + s.val + 0 = 2 + (4094 + s.val); omega), back_zero]
  refine congrArg₂ (inputs h g wg wu cw cb wd).gate (Fin.ext ?_) (Fin.ext ?_)
  · show (4096 * b.val + (4094 + s.val)) % 8192 = (4096 * b.val + 4094 + s.val) % 8192
    omega
  · show C.val = C.val % 5504
    have := C.isLt
    omega

end Cert.Ffn.Host

end
-- ==== Proof.Ffn.Claims.lean ====
/-
  The claims about the feed-forward layer: the frames, and the two programs' equal results.
-/
module

public import proofs.«01_k».proof.Defs
public import proofs.«01_k».proof.Proof.Gen.Kernel2
public import proofs.«01_k».proof.Proof.Ffn.Host

@[expose] public section

set_option maxRecDepth 16384

noncomputable section

namespace Cert.Ffn

open Idealize.ShloMosaic Idealize.ShloMosaic.TcCoe Idealize.SL.Sem

attribute [local instance] Cert.Kernel2.Gen.facts Cert.Kernel2Ideal.Gen.facts Cert.Reference2Ideal.Gen.facts

/-- The idealized kernel's frame. -/
theorem frame_pi : Cert.quiescent_Kernel2Ideal := fun m ρ _ => frame_ideal m ρ

/-! The kernel's program is the idealized one's: its run is that one's at the machine's floats. -/

theorem main_eq : Cert.Kernel2.main (F := Bits) = Cert.Kernel2Ideal.main (F := Bits) := rfl
theorem conv_ffn_eq : Cert.Kernel2.cc0_conv_ffn (F := Bits) = Cert.Kernel2Ideal.cc0_conv_ffn (F := Bits) := rfl
theorem bodies_eq : Cert.Kernel2.defs₀ (F := Bits) = Cert.Kernel2Ideal.defs₀ (F := Bits) := by
  unfold Cert.Kernel2.defs₀ Cert.Kernel2Ideal.defs₀
  refine congrArg Defs.onTc (funext fun l => funext fun a => ?_)
  match l, a with
  | ⟨0, _⟩, (t, s) => rfl
  | ⟨n + 1, h⟩, _ => exact absurd h (Nat.not_lt.2 (Nat.le_add_left _ _))
theorem defs_eq : Cert.Kernel2.defs (F := Bits) = Cert.Kernel2Ideal.defs (F := Bits) :=
  congrArg (Pipeline.defs (Cert.Kernel2Ideal.pcfgs (F := Bits))) bodies_eq

/-- The kernel's frame. -/
theorem frame_p : Cert.quiescent_Kernel2 := fun m ρ _ => by
  have h := frame_ideal (F := Bits) m ρ
  rw [← defs_eq] at h
  exact h

/-- The reference's frame. -/
theorem frame_ri : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run (F := Ideal) m ρ)

/-- Nothing was replaced. -/
theorem preserves : Cert.preserves_Kernel2_Kernel2Ideal := trivial

section

open Cert.Kernel2Ideal Cert.Kernel2Ideal.Gen

/-- The kernel's run ends with the layer's results and the arguments unchanged. -/
theorem kernel_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v15) = yOf (args m c)
      ∧ r.2.mem ((c.tc : Thread nD τ).loc main_v14) = gOf (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h.1 c).2 main_v15 (Pipeline.mem_restRefs_of main_v15 (by decide) (by decide))).trans (final_y m c),
      ((h.1 c).2 main_v14 (Pipeline.mem_restRefs_of main_v14 (by decide) (by decide))).trans (final_g m c), h.2.1 c⟩)
    (θ_run_and (run_main m ρ) (frame_ideal m ρ))

end

/-- The two programs end with equal results. -/
theorem algebraic : Cert.algebraic_Kernel2Ideal_Reference2Ideal := by
  intro m ρ m' ρ' _ hagree
  refine ⟨_, _, kernel_value m ρ, ?_⟩
  refine (θ_run Cert.Reference2Ideal.defs _ _).mono (fun _ h c => ⟨(h c).1.trans ?_, (h c).2.1.trans ?_, (h c).2.2⟩) (Cert.Reference2Ideal.Value.run (F := Ideal) m' ρ')
  · obtain ⟨a0, a1, a2, a3, a4, a5, a6⟩ := hagree c
    rw [Host.res_eq, a0, a1, a2, a3, a4, a5, a6]
    exact Host.y_eq _ _ _ _ _ _ _
  · obtain ⟨a0, a1, a2, a3, a4, a5, a6⟩ := hagree c
    rw [a0, a1, a2]
    exact Host.g_eq _ _ _ (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))

end Cert.Ffn

end
-- ==== Proof.Out.Value.lean ====
/-
  The output projection: what the kernel's array holds and what the reference computes, index by index. The kernel adds the
  two groups' products to the residual one after the other, the reference multiplies the two groups side by side at once.
-/
module

public import Idealize.ShloMosaic.Lib.Pipeline.ValueKit
public import proofs.«01_k».proof.Proof.Gen.Kernel3Ideal.Value
public import proofs.«01_k».proof.Proof.Gen.Reference3Ideal.Run

@[expose] public section

set_option maxRecDepth 16384

noncomputable section

namespace Cert.Out

open Idealize.ShloMosaic Idealize.ShloMosaic.TcCoe Idealize.SL.Sem

section Kernel

open Cert.Kernel3Ideal Cert.Kernel3Ideal.Gen

/-- Entry `k` of a group's 1024 columns at row `R`: the heads side by side, the sequences one after the other. -/
def wide (o : Vec Ideal S2x4096x8x128 .f32) (R : Fin 8192) (k : Fin 1024) : EReal :=
  o (ix4 (⟨R.val / 4096, by omega⟩ : Fin 2) (⟨R.val % 4096, by omega⟩ : Fin 4096) (⟨k.val / 128, by omega⟩ : Fin 8) (⟨k.val % 128, by omega⟩ : Fin 128))

/-- The layer's hidden state: the residual plus the two groups' products with their halves of the weight. -/
def out (oa ob : Vec Ideal S2x4096x8x128 .f32) (x : Vec Ideal S2x4096x2048 .f32) (w : Vec Ideal S2048x2048 .f32) : Vec Ideal S8192x2048 .f32 := fun y =>
  x (ix3 (⟨(y 0).val / 4096 % 2, Nat.mod_lt _ (by decide)⟩ : Fin 2) (⟨(y 0).val % 4096, Nat.mod_lt _ (by decide)⟩ : Fin 4096) (y 1))
    + (∑ k : Fin 1024, wide oa (y 0) k * w (ix2 (⟨k.val, by omega⟩ : Fin 2048) (y 1)))
    + ∑ k : Fin 1024, wide ob (y 0) k * w (ix2 (⟨1024 + k.val, by omega⟩ : Fin 2048) (y 1))

/-! ## The body -/

theorem pay_apply (v0 : Vec Ideal S512x512 .f32) (v2 v6 : Vec Ideal S512x1024 .bf16) (v4 v9 : Vec Ideal S1024x512 .bf16) (r e : Fin 512) :
    k0_pay1 v0 v2 v4 v6 v9 (ix2 r e) = v0 (ix2 r e) + (∑ k : Fin 1024, v2 (ix2 r k) * v4 (ix2 k e)) + ∑ k : Fin 1024, v6 (ix2 r k) * v9 (ix2 k e) := by
  unfold k0_pay1
  pointwise
theorem ld_rows (x : Vec Ideal S512x1024 .bf16) : View.ld x r0_1 = x := View.ld_unit_lit _ _ (by decide)
theorem ld_res (x : Vec Ideal S512x512 .f32) : View.ld x r0_0 = x := View.ld_unit_lit _ _ (by decide)
theorem ld_top (x : Vec Ideal S2048x512 .bf16) (k : Fin 1024) (e : Fin 512) : View.ld x r0_2 (ix2 k e) = x (ix2 (⟨k.val, by omega⟩ : Fin 2048) e) := by pointwise
theorem ld_low (x : Vec Ideal S2048x512 .bf16) (k : Fin 1024) (e : Fin 512) : View.ld x r0_3 (ix2 k e) = x (ix2 (⟨1024 + k.val, by omega⟩ : Fin 2048) e) := by pointwise

/-- What the body stores, at an index of the block. -/
theorem out_apply (x0 x1 : Vec Ideal S512x1024 .bf16) (x2 : Vec Ideal S2048x512 .bf16) (x3 : Vec Ideal S512x512 .f32) (r e : Fin 512) :
    out0_4 x0 x1 x2 x3 (ix2 r e) = x3 (ix2 r e) + (∑ k : Fin 1024, x0 (ix2 r k) * x2 (ix2 (⟨k.val, by omega⟩ : Fin 2048) e))
      + ∑ k : Fin 1024, x1 (ix2 r k) * x2 (ix2 (⟨1024 + k.val, by omega⟩ : Fin 2048) e) := by
  unfold out0_4
  rw [View.canon_cons_unit_lit _ _ _ (by decide), pay_apply]
  rw [ld_rows, ld_rows, ld_res]
  exact congrArg₂ (· + ·) (congrArg (x3 (ix2 r e) + ·) (Finset.sum_congr rfl fun k _ => by rw [ld_top])) (Finset.sum_congr rfl fun k _ => by rw [ld_low])

/-! ## The arrays and the blocks -/

variable (m : (ℓ : Loc nD τ sig) → Buf (Elt Ideal) ℓ) (c : Dev nD)

theorem arr_oa : V m c main_v1 = (truncf .bf16 (shapeCast S8192x1024 (m ((c.tc : Thread nD τ).loc main_arg0) : Vec Ideal S2x4096x8x128 .f32) shapeCasts_S2x4096x8x128_S8192x1024 : FVec Ideal S8192x1024 .f32) bitsLt_bf16_f32 : FVec Ideal S8192x1024 .bf16) := by
  dsimp only [V]
  simp only [hostOps0]
  after_results_simp
  all_goals rfl
theorem arr_ob : V m c main_v3 = (truncf .bf16 (shapeCast S8192x1024 (m ((c.tc : Thread nD τ).loc main_arg1) : Vec Ideal S2x4096x8x128 .f32) shapeCasts_S2x4096x8x128_S8192x1024 : FVec Ideal S8192x1024 .f32) bitsLt_bf16_f32 : FVec Ideal S8192x1024 .bf16) := by
  dsimp only [V]
  simp only [hostOps0]
  after_results_simp
  all_goals rfl
theorem arr_w : V m c main_v4 = (truncf .bf16 (m ((c.tc : Thread nD τ).loc main_arg3) : FVec Ideal S2048x2048 .f32) bitsLt_bf16_f32 : FVec Ideal S2048x2048 .bf16) := by
  dsimp only [V]
  simp only [hostOps0]
  after_results_simp
  all_goals rfl
theorem arr_x : V m c main_v5 = (shapeCast S8192x2048 (m ((c.tc : Thread nD τ).loc main_arg2) : Vec Ideal S2x4096x2048 .f32) shapeCasts_S2x4096x2048_S8192x2048 : Vec Ideal S8192x2048 .f32) := by
  dsimp only [V]
  simp only [hostOps0]
  after_results_simp
  all_goals rfl

theorem wide_cast (o : Vec Ideal S2x4096x8x128 .f32) (R : Fin 8192) (k : Fin 1024) : shapeCast S8192x1024 o shapeCasts_S2x4096x8x128_S8192x1024 (ix2 R k) = wide o R k := by
  unfold wide
  pointwise
theorem rows_cast (x : Vec Ideal S2x4096x2048 .f32) (R : Fin 8192) (n : Fin 2048) : shapeCast S8192x2048 x shapeCasts_S2x4096x2048_S8192x2048 (ix2 R n)
    = x (ix3 (⟨R.val / 4096, by omega⟩ : Fin 2) (⟨R.val % 4096, by omega⟩ : Fin 4096) n) := by
  pointwise

/-- The block indices of the windows: point `4 i + j` has row tile `i` and column tile `j`. -/
theorem idx : ∀ t : Fin cfg0.N, win0_0.index t = ![t.val / 4, 0]
    ∧ win0_1.index t = ![t.val / 4, 0]
    ∧ win0_2.index t = ![0, t.val % 4]
    ∧ win0_3.index t = ![t.val / 4, t.val % 4]
    ∧ win0_4.index t = ![t.val / 4, t.val % 4] := by decide +kernel

abbrev rowOf (i : ℕ) (r : Fin 512) : Fin 8192 := ⟨(512 * i + r.val) % 8192, Nat.mod_lt _ (by decide)⟩
abbrev colOf (j : ℕ) (e : Fin 512) : Fin 2048 := ⟨(512 * j + e.val) % 2048, Nat.mod_lt _ (by decide)⟩

variable (t : Fin cfg0.N) (r e : Fin 512)

theorem iblk_oa (k : Fin 1024) : iblk m c 0 t (ix2 r k) = wide (m ((c.tc : Thread nD τ).loc main_arg0)) (rowOf (t.val / 4) r) k := by
  have ht : t.val < 64 := Nat.lt_of_lt_of_eq t.isLt N_0
  refine Eq.trans (b := (V m c main_v1 : Vec Ideal S8192x1024 .bf16) (ix2 (rowOf (t.val / 4) r) k)) ?_ ((congrFun (arr_oa m c) _).trans (wide_cast _ _ _))
  blk_simp [iblk]
  blk_ext [idx t]
theorem iblk_ob (k : Fin 1024) : iblk m c 1 t (ix2 r k) = wide (m ((c.tc : Thread nD τ).loc main_arg1)) (rowOf (t.val / 4) r) k := by
  have ht : t.val < 64 := Nat.lt_of_lt_of_eq t.isLt N_0
  refine Eq.trans (b := (V m c main_v3 : Vec Ideal S8192x1024 .bf16) (ix2 (rowOf (t.val / 4) r) k)) ?_ ((congrFun (arr_ob m c) _).trans (wide_cast _ _ _))
  blk_simp [iblk]
  blk_ext [idx t]
theorem iblk_w (k : Fin 2048) : iblk m c 2 t (ix2 k e) = (m ((c.tc : Thread nD τ).loc main_arg3) : Vec Ideal S2048x2048 .f32) (ix2 k (colOf (t.val % 4) e)) := by
  have ht : t.val < 64 := Nat.lt_of_lt_of_eq t.isLt N_0
  refine Eq.trans (b := (V m c main_v4 : Vec Ideal S2048x2048 .bf16) (ix2 k (colOf (t.val % 4) e))) ?_ ((congrFun (arr_w m c) _).trans rfl)
  blk_simp [iblk]
  blk_ext [idx t]
theorem iblk_x : iblk m c 3 t (ix2 r e) = (m ((c.tc : Thread nD τ).loc main_arg2) : Vec Ideal S2x4096x2048 .f32)
    (ix3 (⟨(rowOf (t.val / 4) r).val / 4096, by omega⟩ : Fin 2) (⟨(rowOf (t.val / 4) r).val % 4096, by omega⟩ : Fin 4096) (colOf (t.val % 4) e)) := by
  have ht : t.val < 64 := Nat.lt_of_lt_of_eq t.isLt N_0
  refine Eq.trans (b := (V m c main_v5 : Vec Ideal S8192x2048 .f32) (ix2 (rowOf (t.val / 4) r) (colOf (t.val % 4) e))) ?_ ((congrFun (arr_x m c) _).trans (rows_cast _ _ _))
  blk_simp [iblk]
  blk_ext [idx t]

/-- After the region the array holds the hidden state. -/
theorem arrAt_4 : (dats m 0 c).arrAt 4 cfg0.N = out (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  have ht : t.val < 64 := Nat.lt_of_lt_of_eq t.isLt N_0
  blk_simp
  rw [after0_4]
  obtain ⟨r, e, rfl⟩ : ∃ (r e : Fin 512), y = ix2 r e := ⟨y 0, y 1, by funext i; fin_cases i <;> rfl⟩
  rw [out_apply]
  simp only [iblk_oa, iblk_ob, iblk_w, iblk_x]
  refine Eq.trans (b := out _ _ _ _ (ix2 (rowOf (t.val / 4) r) (colOf (t.val % 4) e))) ?_ (congrArg (out _ _ _ _) ?_)
  · have h2 : (⟨(rowOf (t.val / 4) r).val / 4096, by omega⟩ : Fin 2) = ⟨(rowOf (t.val / 4) r).val / 4096 % 2, Nat.mod_lt _ (by decide)⟩ :=
      Fin.ext (by show (rowOf (t.val / 4) r).val / 4096 = (rowOf (t.val / 4) r).val / 4096 % 2; have := (rowOf (t.val / 4) r).isLt; omega)
    rw [h2]
    rfl
  · blk_ext [idx t]

end Kernel

section Reference

open Cert.Reference3Ideal Cert.Reference3Ideal.Gen

variable (oa ob : FVec Ideal S2x4096x8x128 .f32) (x : FVec Ideal S2x4096x2048 .f32) (w : FVec Ideal S2048x2048 .f32)

/-- The two groups side by side. -/
def side : FVec Ideal S2x4096x2048 .f32 :=
  concatenate S2x4096x2048 2 [⟨S2x4096x1024, (shapeCast _ oa shapeCasts_S2x4096x8x128_S2x4096x1024)⟩, ⟨S2x4096x1024, (shapeCast _ ob shapeCasts_S2x4096x8x128_S2x4096x1024)⟩] concatenates_S2x4096x1024_S2x4096x1024_S2x4096x2048_d2

/-- The reference's result. -/
def host : FVec Ideal S8192x2048 .f32 :=
  shapeCast _ (addf x (Host.dotGeneral dot_S2x4096x2048_S2048x2048_S2x4096x2048_2_0_01_1_n_n none (side oa ob) w)) shapeCasts_S2x4096x2048_S8192x2048

theorem side_lo (b : Fin 2) (p : Fin 4096) (k : Fin 1024) : side oa ob (ix3 b p (⟨k.val, by omega⟩ : Fin 2048))
    = oa (ix4 b p (⟨k.val / 128, by omega⟩ : Fin 8) (⟨k.val % 128, by omega⟩ : Fin 128)) := by
  unfold side
  pointwise
theorem side_hi (b : Fin 2) (p : Fin 4096) (k : Fin 1024) : side oa ob (ix3 b p (⟨1024 + k.val, by omega⟩ : Fin 2048))
    = ob (ix4 b p (⟨k.val / 128, by omega⟩ : Fin 8) (⟨k.val % 128, by omega⟩ : Fin 128)) := by
  unfold side
  pointwise

theorem host_apply (R : Fin 8192) (n : Fin 2048) : host oa ob x w (ix2 R n)
    = x (ix3 (⟨R.val / 4096, by omega⟩ : Fin 2) (⟨R.val % 4096, by omega⟩ : Fin 4096) n)
      + ∑ k : Fin 2048, side oa ob (ix3 (⟨R.val / 4096, by omega⟩ : Fin 2) (⟨R.val % 4096, by omega⟩ : Fin 4096) k) * w (ix2 k n) := by
  unfold host
  pointwise

/-- The reference's result is the hidden state. -/
theorem host_eq : host oa ob x w = out oa ob x w := by
  funext y
  obtain ⟨R, n, rfl⟩ : ∃ (R : Fin 8192) (n : Fin 2048), y = ix2 R n := ⟨y 0, y 1, by funext i; fin_cases i <;> rfl⟩
  rw [host_apply]
  have h2 : (⟨R.val / 4096, by omega⟩ : Fin 2) = ⟨R.val / 4096 % 2, Nat.mod_lt _ (by decide)⟩ := Fin.ext (by show R.val / 4096 = R.val / 4096 % 2; omega)
  have hs : ∀ f : Fin 2048 → EReal, ∑ k, f k = (∑ k : Fin 1024, f ⟨k.val, by omega⟩) + ∑ k : Fin 1024, f ⟨1024 + k.val, by omega⟩ := fun f =>
    Fin.sum_univ_add (a := 1024) (b := 1024) f
  rw [hs, ← add_assoc]
  simp only [side_lo, side_hi]
  show _ = x (ix3 (⟨R.val / 4096 % 2, _⟩ : Fin 2) _ n) + _ + _
  rw [← h2]
  rfl

end Reference

end Cert.Out

end
-- ==== Proof.Out.Claims.lean ====
/-
  The claims about the output projection: the frames, and the two programs' equal results.
-/
module

public import proofs.«01_k».proof.Defs
public import proofs.«01_k».proof.Proof.Gen.Kernel3
public import proofs.«01_k».proof.Proof.Out.Value

@[expose] public section

set_option maxRecDepth 16384

noncomputable section

namespace Cert.Out

open Idealize.ShloMosaic Idealize.ShloMosaic.TcCoe Idealize.SL.Sem

attribute [local instance] Cert.Kernel3.Gen.facts Cert.Kernel3Ideal.Gen.facts Cert.Reference3Ideal.Gen.facts

/-- The idealized kernel's frame. -/
theorem frame_pi : Cert.quiescent_Kernel3Ideal := fun m ρ _ => Cert.Kernel3Ideal.Gen.frame m ρ

/-! The kernel's program is the idealized one's: its run is that one's at the machine's floats. -/

theorem bodies_eq : Cert.Kernel3.defs₀ (F := Bits) = Cert.Kernel3Ideal.defs₀ (F := Bits) := by
  unfold Cert.Kernel3.defs₀ Cert.Kernel3Ideal.defs₀
  refine congrArg Defs.onTc (funext fun l => funext fun a => ?_)
  match l, a with
  | ⟨0, _⟩, (t, s) => rfl
  | ⟨n + 1, h⟩, _ => exact absurd h (Nat.not_lt.2 (Nat.le_add_left _ _))
theorem defs_eq : Cert.Kernel3.defs (F := Bits) = Cert.Kernel3Ideal.defs (F := Bits) :=
  congrArg (Pipeline.defs (Cert.Kernel3Ideal.pcfgs (F := Bits))) bodies_eq

/-- The kernel's frame. -/
theorem frame_p : Cert.quiescent_Kernel3 := fun m ρ _ => by
  have h := Cert.Kernel3Ideal.Gen.frame (F := Bits) m ρ
  rw [← defs_eq] at h
  exact h

/-- The reference's frame. -/
theorem frame_ri : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- Nothing was replaced. -/
theorem preserves : Cert.preserves_Kernel3_Kernel3Ideal := trivial

/-- The two programs end with equal results. -/
theorem algebraic : Cert.algebraic_Kernel3Ideal_Reference3Ideal := by
  intro m ρ m' ρ' _ hagree
  refine ⟨_, (θ_run Cert.Kernel3Ideal.defs _ _).mono (fun _ h c => ⟨(h c).1.trans (arrAt_4 m c), (h c).2⟩) (Cert.Kernel3Ideal.Value.run_blocks (F := Ideal) m ρ), ?_⟩
  refine (θ_run Cert.Reference3Ideal.defs _ _).mono (fun _ h c => ⟨(h c).1.trans ?_, (h c).2⟩) (Cert.Reference3Ideal.Value.run (F := Ideal) m' ρ')
  obtain ⟨a0, a1, a2, a3⟩ := hagree c
  rw [a0, a1, a2, a3]
  exact host_eq _ _ _ _

end Cert.Out

end
-- ==== Proof.Proj.Run.lean ====
/-
  The run of the projections' program: it ends with every array at what the launches and the host's operations left in it.
-/
module

public import proofs.«01_k».proof.Proof.Gen.Kernel4Ideal.Frame

@[expose] public section

set_option maxRecDepth 16384

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run: every array ends at the contents followed through the launches, and every counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W9 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨h, funext fun g => hz g (.inr (no_unscoped g.2))⟩)

/-- The run read at the arguments and the four results. -/
theorem run_at : θ_run defs (onTc (τ := τ) (main (F := F))) ⟨m, fun _ => 0, ρ⟩ (fun r => ∀ c : Dev nD,
      (r.2.mem ((c.tc : Thread nD τ).loc main_v24) = W9 m ρ c (Proc.devRef .tc main_v24)
      ∧ r.2.mem ((c.tc : Thread nD τ).loc main_v25) = W9 m ρ c (Proc.devRef .tc main_v25)
      ∧ r.2.mem ((c.tc : Thread nD τ).loc main_v26) = W9 m ρ c (Proc.devRef .tc main_v26)
      ∧ r.2.mem ((c.tc : Thread nD τ).loc main_v27) = W9 m ρ c (Proc.devRef .tc main_v27))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨⟨h.1 c _ (mem_uc main_v24 (by decide)), h.1 c _ (mem_uc main_v25 (by decide)), h.1 c _ (mem_uc main_v26 (by decide)), h.1 c _ (mem_uc main_v27 (by decide))⟩,
     (h.1 c _ (mem_uc main_arg0 (by decide))).trans (W9_main_arg0 m ρ c),
     (h.1 c _ (mem_uc main_arg1 (by decide))).trans (W9_main_arg1 m ρ c),
     (h.1 c _ (mem_uc main_arg2 (by decide))).trans (W9_main_arg2 m ρ c),
     (h.1 c _ (mem_uc main_arg3 (by decide))).trans (W9_main_arg3 m ρ c),
     (h.1 c _ (mem_uc main_arg4 (by decide))).trans (W9_main_arg4 m ρ c)⟩) (run m ρ)

end Cert.Proj

end
-- ==== Proof.Proj.Blocks.lean ====
/-
  What each launch's body leaves in its blocks, index by index.
-/
module

public import Idealize.ShloMosaic.Lib.Pipeline.ValueKit
public import Idealize.ShloMosaic.Lib.Pipeline.ReadBack
public import proofs.«01_k».proof.Proof.Gen.Kernel4Ideal.Frame

@[expose] public section

set_option maxRecDepth 16384

noncomputable section

namespace Cert.Proj

open Idealize.ShloMosaic Idealize.ShloMosaic.TcCoe Idealize.SL.Sem
open Cert.Kernel4Ideal Cert.Kernel4Ideal.Gen

/-- The factor that scales a row to norm one: one over the root of its mean square, the mean over `N` entries. -/
def factor {n : ℕ} (N : EReal) (y : Fin n → EReal) : EReal :=
  Ideal.rsqrt (Ideal.div (∑ d, y d * y d) N + Ideal.ofBits .f32 0x358637BD#32)

/-- A head's row scaled to norm one, then by the scale. -/
def headed (y : Fin 128 → EReal) (g : Fin 128 → EReal) (e : Fin 128) : EReal := y e * factor (Ideal.ofBits .f32 0x43000000#32) y * g e

/-- The rows' product with a weight of 512 columns. -/
def prod4 (a : Vec Ideal S512x2048 .bf16) (w : Vec Ideal S2048x512 .bf16) (r : Fin 512) (e : Fin 512) : EReal := ∑ k, a (ix2 r k) * w (ix2 k e)
/-- The rows' product with a weight of 256 columns. -/
def prod (a : Vec Ideal S512x2048 .bf16) (w : Vec Ideal S2048x256 .bf16) (r : Fin 512) (e : Fin 256) : EReal := ∑ k, a (ix2 r k) * w (ix2 k e)

/-! ## The stores that tile a block -/

/-- Stores that are blocks of `G` and reach every index leave `G`. -/
theorem canon_of_pieces {s : Shape} {e : EltTy} (L : List (View.Piece (Elt Ideal) s e)) (G : s.Idx → Elt Ideal e) (h : View.PiecesOf G L)
    (hc : ∀ y, ∃ p ∈ L, y ∈ p.1.set) : View.canon L = G := by
  funext y
  have := View.canon_append_of_piecesOf G [] L h y (hc y)
  rwa [List.append_nil] at this

/-- Lane `e` of head `c` of a block's four heads. -/
abbrev lane (c : Fin 4) (e : Fin 128) : Fin 512 := ⟨128 * c.val + e.val, by omega⟩

/-- A block whose heads' rows are `f`. -/
def heads (f : Fin 4 → Fin 512 → Fin 128 → EReal) : Fin 512 → Fin 512 → EReal := fun r e => f ⟨e.val / 128, by omega⟩ r ⟨e.val % 128, by omega⟩

theorem heads_lane (f : Fin 4 → Fin 512 → Fin 128 → EReal) (c : Fin 4) (r : Fin 512) (e : Fin 128) : heads f r (lane c e) = f c r e := by
  have hc : (⟨(lane c e).val / 128, by omega⟩ : Fin 4) = c := Fin.ext (by show (128 * c.val + e.val) / 128 = c.val; omega)
  have he : (⟨(lane c e).val % 128, by omega⟩ : Fin 128) = e := Fin.ext (by show (128 * c.val + e.val) % 128 = e.val; omega)
  unfold heads
  rw [hc, he]

/-! ## The loads -/

section Loads
variable (x : Vec Ideal S2048x512 .bf16) (g : Vec Ideal S1x512 .f32) (k : Fin 2048) (e : Fin 256) (d : Fin 128)
theorem ld_rows (a : Vec Ideal S512x2048 .bf16) : View.ld a r1_0 = a := View.ld_unit_lit _ _ (by decide)
theorem ld_cols0 : View.ld x r1_1 (ix2 k e) = x (ix2 k (⟨e.val, by omega⟩ : Fin 512)) := by pointwise
theorem ld_cols1 : View.ld x r1_2 (ix2 k e) = x (ix2 k (⟨256 + e.val, by omega⟩ : Fin 512)) := by pointwise
theorem ld_gain0 : View.ld g r1_3 (ix2 0 d) = g (ix2 0 (lane 0 d)) := by
  pointwise
  exact congrArg (fun z => g (ix2 0 z)) (Fin.ext (by show d.val = 128 * 0 + d.val; omega))
theorem ld_gain1 : View.ld g r1_5 (ix2 0 d) = g (ix2 0 (lane 1 d)) := by
  pointwise
  exact congrArg (fun z => g (ix2 0 z)) (Fin.ext (by show 128 + d.val = 128 * 1 + d.val; omega))
theorem ld_gain2 : View.ld g r1_7 (ix2 0 d) = g (ix2 0 (lane 2 d)) := by
  pointwise
  exact congrArg (fun z => g (ix2 0 z)) (Fin.ext (by show 256 + d.val = 128 * 2 + d.val; omega))
theorem ld_gain3 : View.ld g r1_9 (ix2 0 d) = g (ix2 0 (lane 3 d)) := by
  pointwise
  exact congrArg (fun z => g (ix2 0 z)) (Fin.ext (by show 384 + d.val = 128 * 3 + d.val; omega))
theorem ld_blk0 {t : EltTy} (G : Vec Ideal S512x512 t) (r : Fin 512) : View.ld G r1_4 (ix2 r d) = G (ix2 r (lane 0 d)) := by
  pointwise
  exact congrArg (fun z => G (ix2 r z)) (Fin.ext (by show d.val = 128 * 0 + d.val; omega))
theorem ld_blk1 {t : EltTy} (G : Vec Ideal S512x512 t) (r : Fin 512) : View.ld G r1_6 (ix2 r d) = G (ix2 r (lane 1 d)) := by
  pointwise
  exact congrArg (fun z => G (ix2 r z)) (Fin.ext (by show 128 + d.val = 128 * 1 + d.val; omega))
theorem ld_blk2 {t : EltTy} (G : Vec Ideal S512x512 t) (r : Fin 512) : View.ld G r1_8 (ix2 r d) = G (ix2 r (lane 2 d)) := by
  pointwise
  exact congrArg (fun z => G (ix2 r z)) (Fin.ext (by show 256 + d.val = 128 * 2 + d.val; omega))
theorem ld_blk3 {t : EltTy} (G : Vec Ideal S512x512 t) (r : Fin 512) : View.ld G r1_10 (ix2 r d) = G (ix2 r (lane 3 d)) := by
  pointwise
  exact congrArg (fun z => G (ix2 r z)) (Fin.ext (by show 384 + d.val = 128 * 3 + d.val; omega))
theorem ld_half0 {t : EltTy} (G : Vec Ideal S512x256 t) (r : Fin 512) : View.ld G r4_2 (ix2 r d) = G (ix2 r (⟨d.val, by omega⟩ : Fin 256)) := by pointwise
theorem ld_half1 {t : EltTy} (G : Vec Ideal S512x256 t) (r : Fin 512) : View.ld G r4_3 (ix2 r d) = G (ix2 r (⟨128 + d.val, by omega⟩ : Fin 256)) := by pointwise
end Loads

section Products
variable (a : Vec Ideal S512x2048 .bf16) (x : Vec Ideal S2048x512 .bf16) (r : Fin 512) (e : Fin 256)
theorem prod0 : prod a (View.ld x r1_1) r e = prod4 a x r (⟨e.val, by omega⟩ : Fin 512) := by
  unfold prod prod4
  exact Finset.sum_congr rfl fun k _ => by rw [ld_cols0]
theorem prod1 : prod a (View.ld x r1_2) r e = prod4 a x r (⟨256 + e.val, by omega⟩ : Fin 512) := by
  unfold prod prod4
  exact Finset.sum_congr rfl fun k _ => by rw [ld_cols1]
end Products

/-! ## The payloads -/

section Payloads
variable (a : Vec Ideal S512x2048 .bf16) (w : Vec Ideal S2048x256 .bf16) (v : Vec Ideal S512x256 .f32) (u f : Vec Ideal S512x128 .f32) (g : Vec Ideal S1x128 .f32)
  (r : Fin 512) (e : Fin 128) (d : Fin 256)

/-- Entry `e` of the first 128 columns, and of the last. -/
abbrev lo (e : Fin 128) : Fin 256 := ⟨e.val, by omega⟩
abbrev hi (e : Fin 128) : Fin 256 := ⟨128 + e.val, by omega⟩

theorem k0_pay (x : Vec Ideal S512x2048 .f32) (s : Vec Ideal S1x2048 .f32) (k : Fin 2048) : k0_pay1 x s (ix2 r k)
    = x (ix2 r k) * factor (Ideal.ofBits .f32 0x45000000#32) (fun k' => x (ix2 r k')) * s (ix2 0 k) := by
  unfold k0_pay1 factor
  pointwise

theorem k1_pay5_at : k1_pay5 a w (ix2 r d) = prod a w r d := by
  unfold k1_pay5 k1_pay4 prod
  pointwise
theorem k1_pay6_at : k1_pay6 a w (ix2 r d) = prod a w r d := by
  unfold k1_pay6 k1_pay4 prod
  pointwise
theorem k1_pay7_at : k1_pay7 a w g (ix2 r e) = headed (fun e => prod a w r (lo e)) (fun e => g (ix2 0 e)) e := by
  unfold k1_pay7 headed factor
  simp only [← k1_pay5_at]
  generalize k1_pay5 a w = y
  pointwise
theorem k1_pay1_at : k1_pay1 (k1_pay8 a w) g (ix2 r e) = headed (fun e => prod a w r (hi e)) (fun e => g (ix2 0 e)) e := by
  unfold k1_pay1 k1_pay8 headed factor
  simp only [← k1_pay5_at]
  generalize k1_pay5 a w = y
  pointwise
theorem k1_pay2_at : k1_pay2 v g (ix2 r e) = headed (fun e => v (ix2 r (lo e))) (fun e => g (ix2 0 e)) e := by
  unfold k1_pay2 headed factor
  pointwise
theorem k1_pay3_at : k1_pay3 v g (ix2 r e) = headed (fun e => v (ix2 r (hi e))) (fun e => g (ix2 0 e)) e := by
  unfold k1_pay3 headed factor
  pointwise

theorem k2_pay4_at : k2_pay4 a w (ix2 r d) = prod a w r d := by
  unfold k2_pay4 k2_pay3 prod
  pointwise
theorem k2_pay5_at : k2_pay5 a w (ix2 r d) = prod a w r d := by
  unfold k2_pay5 k2_pay3 prod
  pointwise
theorem k2_pay6_at : k2_pay6 a w g (ix2 r e) = headed (fun e => prod a w r (lo e)) (fun e => g (ix2 0 e)) e := by
  unfold k2_pay6 headed factor
  simp only [← k2_pay4_at]
  generalize k2_pay4 a w = y
  pointwise
theorem k2_pay10_at : k2_pay10 (k2_pay8 a w) (k2_pay9 a w) g (ix2 r e) = headed (fun e => prod a w r (hi e)) (fun e => g (ix2 0 e)) e := by
  unfold k2_pay10 k2_pay9 k2_pay8 headed factor
  simp only [← k2_pay4_at]
  generalize k2_pay4 a w = y
  pointwise
theorem k2_pay12_at : k2_pay12 v g (ix2 r e) = headed (fun e => v (ix2 r (lo e))) (fun e => g (ix2 0 e)) e := by
  unfold k2_pay12 headed factor
  pointwise
theorem k2_pay1_at : k2_pay1 (k2_pay14 v) g (ix2 r e) = headed (fun e => v (ix2 r (hi e))) (fun e => g (ix2 0 e)) e := by
  unfold k2_pay1 k2_pay14 headed factor
  pointwise

theorem k3_pay2_at : k3_pay2 a w (ix2 r d) = prod a w r d := by
  unfold k3_pay2 k3_pay1 prod
  pointwise
theorem k3_pay3_at : k3_pay3 a w (ix2 r d) = prod a w r d := by
  unfold k3_pay3 k3_pay1 prod
  pointwise
theorem k3_pay4_at : k3_pay4 a w (ix2 r e) = prod a w r (lo e) := by
  rw [← k3_pay2_at]
  unfold k3_pay4
  generalize k3_pay2 a w = y
  pointwise
theorem k3_pay6_at : k3_pay6 a w (ix2 r e) = prod a w r (hi e) := by
  rw [← k3_pay2_at]
  unfold k3_pay6
  generalize k3_pay2 a w = y
  pointwise
theorem k3_pay8_at : k3_pay8 a w (ix2 r e) = prod a w r (lo e) := by
  rw [← k3_pay3_at]
  unfold k3_pay8
  generalize k3_pay3 a w = y
  pointwise
theorem k3_pay10_at : k3_pay10 a w (ix2 r e) = prod a w r (hi e) := by
  rw [← k3_pay3_at]
  unfold k3_pay10
  generalize k3_pay3 a w = y
  pointwise

theorem k4_pay1_at : k4_pay1 a w (ix2 r d) = prod a w r d := by
  unfold k4_pay1 prod
  pointwise
theorem k4_pay2_at : k4_pay2 a w (ix2 r e) = prod a w r (lo e) := by
  rw [← k4_pay1_at]
  unfold k4_pay2
  generalize k4_pay1 a w = y
  pointwise
theorem k4_pay4_at : k4_pay4 a w (ix2 r e) = prod a w r (hi e) := by
  rw [← k4_pay1_at]
  unfold k4_pay4
  generalize k4_pay1 a w = y
  pointwise

end Payloads

/-! ## The bodies -/

/-- Column `e` of the first 256, in its place among the 512: entry of head 0 or 1; of the last 256: of head 2 or 3. -/
theorem lane_lo0 (e : Fin 128) : (⟨(lo e).val, by omega⟩ : Fin 512) = lane 0 e := Fin.ext (by show e.val = 128 * 0 + e.val; omega)
theorem lane_hi0 (e : Fin 128) : (⟨(hi e).val, by omega⟩ : Fin 512) = lane 1 e := Fin.ext (by show 128 + e.val = 128 * 1 + e.val; omega)
theorem lane_lo1 (e : Fin 128) : (⟨256 + (lo e).val, by omega⟩ : Fin 512) = lane 2 e := Fin.ext (by show 256 + e.val = 128 * 2 + e.val; omega)
theorem lane_hi1 (e : Fin 128) : (⟨256 + (hi e).val, by omega⟩ : Fin 512) = lane 3 e := Fin.ext (by show 256 + (128 + e.val) = 128 * 3 + e.val; omega)

section Bodies
variable (a : Vec Ideal S512x2048 .bf16) (x : Vec Ideal S2048x512 .bf16) (g : Vec Ideal S1x512 .f32) (r e : Fin 512)

/-- The rows' products, each head's row scaled to norm one, then by the scale. -/
def scaled (c : Fin 4) (r : Fin 512) : Fin 128 → EReal := headed (fun d => prod4 a x r (lane c d)) (fun d => g (ix2 0 (lane c d)))

theorem out0_at (x : Vec Ideal S512x2048 .f32) (s : Vec Ideal S1x2048 .f32) (k : Fin 2048) : out0_2 x s (ix2 r k)
    = x (ix2 r k) * factor (Ideal.ofBits .f32 0x45000000#32) (fun k' => x (ix2 r k')) * s (ix2 0 k) := by
  unfold out0_2
  rw [View.canon_cons_unit_lit _ _ _ (by decide), k0_pay,
    show View.ld x r0_0 = x from View.ld_unit_lit _ _ (by decide), show View.ld s r0_1 = s from View.ld_unit_lit _ _ (by decide)]

theorem out1_at : out1_3 a x g (ix2 r e) = heads (scaled a x g) r e := by
  unfold out1_3 k1_pay9
  refine congrFun (canon_of_pieces _ (fun y : S512x512.Idx => heads (scaled a x g) (y 0) (y 1)) ?_ (cover1_3 _ _ _ _)) (ix2 r e)
  refine ⟨fun y => ?_, fun y => ?_, fun y => ?_, fun y => ?_, trivial⟩
  all_goals
    obtain ⟨r, e, rfl⟩ : ∃ (r : Fin 512) (e : Fin 128), y = ix2 r e := ⟨y 0, y 1, by funext i; fin_cases i <;> rfl⟩
  · refine (k1_pay3_at _ _ r e).trans (Eq.trans ?_ (ld_blk3 e (t := .bf16) (fun y => heads (scaled a x g) (y 0) (y 1)) r).symm)
    refine Eq.trans ?_ (heads_lane _ 3 r e).symm
    simp only [k1_pay6_at, prod1, ld_rows]
    exact congrArg₂ (headed · · e) (funext fun d => congrArg (prod4 a x r) (lane_hi1 d)) (funext fun d => ld_gain3 g d)
  · refine (k1_pay2_at _ _ r e).trans (Eq.trans ?_ (ld_blk2 e (t := .bf16) (fun y => heads (scaled a x g) (y 0) (y 1)) r).symm)
    refine Eq.trans ?_ (heads_lane _ 2 r e).symm
    simp only [k1_pay6_at, prod1, ld_rows]
    exact congrArg₂ (headed · · e) (funext fun d => congrArg (prod4 a x r) (lane_lo1 d)) (funext fun d => ld_gain2 g d)
  · refine (k1_pay1_at _ _ _ r e).trans (Eq.trans ?_ (ld_blk1 e (t := .bf16) (fun y => heads (scaled a x g) (y 0) (y 1)) r).symm)
    refine Eq.trans ?_ (heads_lane _ 1 r e).symm
    simp only [prod0, ld_rows]
    exact congrArg₂ (headed · · e) (funext fun d => congrArg (prod4 a x r) (lane_hi0 d)) (funext fun d => ld_gain1 g d)
  · refine (k1_pay7_at _ _ _ r e).trans (Eq.trans ?_ (ld_blk0 e (t := .bf16) (fun y => heads (scaled a x g) (y 0) (y 1)) r).symm)
    refine Eq.trans ?_ (heads_lane _ 0 r e).symm
    simp only [prod0, ld_rows]
    exact congrArg₂ (headed · · e) (funext fun d => congrArg (prod4 a x r) (lane_lo0 d)) (funext fun d => ld_gain0 g d)

theorem out2_at : out2_3 a x g (ix2 r e) = heads (scaled a x g) r e := by
  unfold out2_3 k2_pay18 k2_pay17 k2_pay16 k2_pay15
  refine congrFun (canon_of_pieces _ (fun y : S512x512.Idx => heads (scaled a x g) (y 0) (y 1)) ?_ (cover2_3 _ _ _ _)) (ix2 r e)
  refine ⟨fun y => ?_, fun y => ?_, fun y => ?_, fun y => ?_, trivial⟩
  all_goals
    obtain ⟨r, e, rfl⟩ : ∃ (r : Fin 512) (e : Fin 128), y = ix2 r e := ⟨y 0, y 1, by funext i; fin_cases i <;> rfl⟩
  · refine (k2_pay1_at _ _ r e).trans (Eq.trans ?_ (ld_blk3 e (t := .f32) (fun y => heads (scaled a x g) (y 0) (y 1)) r).symm)
    refine Eq.trans ?_ (heads_lane _ 3 r e).symm
    simp only [k2_pay5_at, prod1, ld_rows]
    exact congrArg₂ (headed · · e) (funext fun d => congrArg (prod4 a x r) (lane_hi1 d)) (funext fun d => ld_gain3 g d)
  · refine (k2_pay12_at _ _ r e).trans (Eq.trans ?_ (ld_blk2 e (t := .f32) (fun y => heads (scaled a x g) (y 0) (y 1)) r).symm)
    refine Eq.trans ?_ (heads_lane _ 2 r e).symm
    simp only [k2_pay5_at, prod1, ld_rows]
    exact congrArg₂ (headed · · e) (funext fun d => congrArg (prod4 a x r) (lane_lo1 d)) (funext fun d => ld_gain2 g d)
  · refine (k2_pay10_at _ _ _ r e).trans (Eq.trans ?_ (ld_blk1 e (t := .f32) (fun y => heads (scaled a x g) (y 0) (y 1)) r).symm)
    refine Eq.trans ?_ (heads_lane _ 1 r e).symm
    simp only [prod0, ld_rows]
    exact congrArg₂ (headed · · e) (funext fun d => congrArg (prod4 a x r) (lane_hi0 d)) (funext fun d => ld_gain1 g d)
  · refine (k2_pay6_at _ _ _ r e).trans (Eq.trans ?_ (ld_blk0 e (t := .f32) (fun y => heads (scaled a x g) (y 0) (y 1)) r).symm)
    refine Eq.trans ?_ (heads_lane _ 0 r e).symm
    simp only [prod0, ld_rows]
    exact congrArg₂ (headed · · e) (funext fun d => congrArg (prod4 a x r) (lane_lo0 d)) (funext fun d => ld_gain0 g d)

theorem out3_at : out3_2 a x (ix2 r e) = prod4 a x r e := by
  unfold out3_2
  refine congrFun (canon_of_pieces _ (fun y : S512x512.Idx => prod4 a x (y 0) (y 1)) ?_ (cover3_2 _ _ _ _)) (ix2 r e)
  refine ⟨fun y => ?_, fun y => ?_, fun y => ?_, fun y => ?_, trivial⟩
  all_goals
    obtain ⟨r, e, rfl⟩ : ∃ (r : Fin 512) (e : Fin 128), y = ix2 r e := ⟨y 0, y 1, by funext i; fin_cases i <;> rfl⟩
  · refine (k3_pay10_at _ _ r e).trans (Eq.trans ?_ (ld_blk3 e (t := .f32) (fun y => prod4 a x (y 0) (y 1)) r).symm)
    rw [prod1, lane_hi1, ld_rows]
    rfl
  · refine (k3_pay8_at _ _ r e).trans (Eq.trans ?_ (ld_blk2 e (t := .f32) (fun y => prod4 a x (y 0) (y 1)) r).symm)
    rw [prod1, lane_lo1, ld_rows]
    rfl
  · refine (k3_pay6_at _ _ r e).trans (Eq.trans ?_ (ld_blk1 e (t := .f32) (fun y => prod4 a x (y 0) (y 1)) r).symm)
    rw [prod0, lane_hi0, ld_rows]
    rfl
  · refine (k3_pay4_at _ _ r e).trans (Eq.trans ?_ (ld_blk0 e (t := .f32) (fun y => prod4 a x (y 0) (y 1)) r).symm)
    rw [prod0, lane_lo0, ld_rows]
    rfl

theorem out4_at (w : Vec Ideal S2048x256 .bf16) (d : Fin 256) : out4_2 a w (ix2 r d) = prod a w r d := by
  unfold out4_2
  refine congrFun (canon_of_pieces _ (fun y : S512x256.Idx => prod a w (y 0) (y 1)) ?_ (cover4_2 _ _)) (ix2 r d)
  refine ⟨fun y => ?_, fun y => ?_, trivial⟩
  all_goals
    obtain ⟨r, e, rfl⟩ : ∃ (r : Fin 512) (e : Fin 128), y = ix2 r e := ⟨y 0, y 1, by funext i; fin_cases i <;> rfl⟩
  · refine (k4_pay4_at _ _ r e).trans (Eq.trans ?_ (ld_half1 e (t := .f32) (fun y => prod a w (y 0) (y 1)) r).symm)
    rw [show View.ld a r4_0 = a from View.ld_unit_lit _ _ (by decide), show View.ld w r4_1 = w from View.ld_unit_lit _ _ (by decide)]
    rfl
  · refine (k4_pay2_at _ _ r e).trans (Eq.trans ?_ (ld_half0 e (t := .f32) (fun y => prod a w (y 0) (y 1)) r).symm)
    rw [show View.ld a r4_0 = a from View.ld_unit_lit _ _ (by decide), show View.ld w r4_1 = w from View.ld_unit_lit _ _ (by decide)]
    rfl

end Bodies

end Cert.Proj

end
-- ==== Proof.Proj.Arrays.lean ====
/-
  The arrays the launches read and write, in closed form over the arguments.
-/
module

public import proofs.«01_k».proof.Proof.Proj.Blocks
public import Idealize.ShloMosaic.Lib.WordCmp

@[expose] public section

set_option maxRecDepth 16384

noncomputable section

namespace Cert.Proj

open Idealize.ShloMosaic Idealize.ShloMosaic.TcCoe Idealize.SL.Sem
open Cert.Kernel4Ideal Cert.Kernel4Ideal.Gen

/-! ## The mathematics -/

section Maths
variable (x : Vec Ideal S2x4096x2048 .f32) (g : Vec Ideal S2048 .f32) (w : Vec Ideal S2048x5720 .f32) (s : Vec Ideal S128 .f32)

/-- Row `R` of the input, the sequences one after the other. -/
def inRow (R : ℕ) (k : Fin 2048) : EReal := x (ix3 (⟨R / 4096 % 2, Nat.mod_lt _ (by decide)⟩ : Fin 2) (⟨R % 4096, Nat.mod_lt _ (by decide)⟩ : Fin 4096) k)
/-- The row scaled to norm one, then by the scale. -/
def normed (R : ℕ) (k : Fin 2048) : EReal := inRow x R k * factor (Ideal.ofBits .f32 0x45000000#32) (inRow x R) * g (ix1 k)
/-- Its product with column `n` of the weight. -/
def col (R n : ℕ) : EReal := ∑ k, normed x g R k * w (ix2 k (⟨n % 5720, Nat.mod_lt _ (by decide)⟩ : Fin 5720))
/-- The products with the columns from `o` on, each head's row of 128 scaled to norm one, then by the scale. -/
def headedAt (o R n : ℕ) : EReal := headed (fun d => col x g w R (o + 128 * (n / 128) + d.val)) (fun d => s (ix1 d)) ⟨n % 128, Nat.mod_lt _ (by decide)⟩

/-- The normalised rows as an array. -/
def normedArr : Vec Ideal S8192x2048 .bf16 := fun y => normed x g (y 0).val (y 1)
/-- The two kinds of projection as arrays. -/
def headedArr (o : ℕ) : Vec Ideal S8192x1024 .f32 := fun y => headedAt x g w s o (y 0).val (y 1).val
def colArr (o : ℕ) : Vec Ideal S8192x1024 .f32 := fun y => col x g w (y 0).val (o + (y 1).val)
def colArr' (o : ℕ) : Vec Ideal S8192x256 .f32 := fun y => col x g w (y 0).val (o + (y 1).val)

end Maths

variable (m : (ℓ : Loc nD τ sig) → Buf (Elt Ideal) ℓ) (ρ : Dev nD → PrngReg) (c : Dev nD)

abbrev argX : Vec Ideal S2x4096x2048 .f32 := m ((c.tc : Thread nD τ).loc main_arg0)
abbrev argG : Vec Ideal S2048 .f32 := m ((c.tc : Thread nD τ).loc main_arg1)
abbrev argW : Vec Ideal S2048x5720 .f32 := m ((c.tc : Thread nD τ).loc main_arg2)
abbrev argQ : Vec Ideal S128 .f32 := m ((c.tc : Thread nD τ).loc main_arg3)
abbrev argK : Vec Ideal S128 .f32 := m ((c.tc : Thread nD τ).loc main_arg4)

/-! ## The host's arrays -/

theorem v0_eq : V1 m ρ c main_v0 = (shapeCast S8192x2048 (argX m c) shapeCasts_S2x4096x2048_S8192x2048 : Vec Ideal S8192x2048 .f32) := by
  dsimp only [V1, W1]
  simp only [hostOps0]
  after_results_simp
  all_goals rfl
theorem v1_eq : V1 m ρ c main_v1 = (shapeCast S1x2048 (argG m c) shapeCasts_S2048_S1x2048 : Vec Ideal S1x2048 .f32) := by
  dsimp only [V1, W1]
  simp only [hostOps0]
  after_results_simp
  all_goals rfl

/-- The seven groups of columns side by side. -/
def packed (w : FVec Ideal S2048x5720 .f32) : FVec Ideal S2048x5632 .bf16 :=
  truncf .bf16 (concatenate S2048x5632 1 [⟨S2048x1024, extractStridedSlice S2048x1024 ![0, 0] w slices_S2048x5720_S2048x1024_0_0⟩,
    ⟨S2048x1024, extractStridedSlice S2048x1024 ![0, 1024] w slices_S2048x5720_S2048x1024_0_1024⟩,
    ⟨S2048x1024, extractStridedSlice S2048x1024 ![0, 2048] w slices_S2048x5720_S2048x1024_0_2048⟩,
    ⟨S2048x1024, extractStridedSlice S2048x1024 ![0, 3080] w slices_S2048x5720_S2048x1024_0_3080⟩,
    ⟨S2048x256, extractStridedSlice S2048x256 ![0, 4104] w slices_S2048x5720_S2048x256_0_4104⟩,
    ⟨S2048x256, extractStridedSlice S2048x256 ![0, 4360] w slices_S2048x5720_S2048x256_0_4360⟩,
    ⟨S2048x1024, extractStridedSlice S2048x1024 ![0, 4616] w slices_S2048x5720_S2048x1024_0_4616⟩]
    concatenates_S2048x1024_S2048x1024_S2048x1024_S2048x1024_S2048x256_S2048x256_S2048x1024_S2048x5632_d1 : FVec Ideal S2048x5632 .f32) bitsLt_bf16_f32
/-- A head's scale, eight times over. -/
def tiled (s : FVec Ideal S128 .f32) : FVec Ideal S1x1024 .f32 :=
  shapeCast S1x1024 (shapeCast S1024 (broadcastInDim S8x128 ![0, 1] bcast_S1x128_S8x128_0_1 (shapeCast S1x128 s shapeCasts_S128_S1x128)) shapeCasts_S8x128_S1024) shapeCasts_S1024_S1x1024

theorem v11_eq : V3 m ρ c main_v11 = packed (argW m c) := by
  rw [← show W2 m ρ c (Proc.devRef .tc main_arg2) = argW m c from W2_args m ρ c main_arg2 (by decide)]
  dsimp only [V3, W3]
  simp only [hostOps1]
  after_results_simp
  all_goals rfl
theorem v15_eq : V3 m ρ c main_v15 = tiled (argQ m c) := by
  rw [← show W2 m ρ c (Proc.devRef .tc main_arg3) = argQ m c from W2_args m ρ c main_arg3 (by decide)]
  dsimp only [V3, W3]
  simp only [hostOps1]
  after_results_simp
  all_goals rfl
theorem v20_eq : V5 m ρ c main_v20 = tiled (argK m c) := by
  rw [← show W4 m ρ c (Proc.devRef .tc main_arg4) = argK m c from W4_args m ρ c main_arg4 (by decide)]
  dsimp only [V5, W5]
  simp only [hostOps2]
  after_results_simp
  all_goals rfl

section Packed
variable (w : FVec Ideal S2048x5720 .f32) (s : FVec Ideal S128 .f32) (k : Fin 2048) (n : Fin 1024)
theorem packed0 : packed w (ix2 k (⟨n.val, by omega⟩ : Fin 5632)) = w (ix2 k (⟨n.val, by omega⟩ : Fin 5720)) := by
  unfold packed
  pointwise
theorem packed1 : packed w (ix2 k (⟨1024 + n.val, by omega⟩ : Fin 5632)) = w (ix2 k (⟨1024 + n.val, by omega⟩ : Fin 5720)) := by
  unfold packed
  pointwise
theorem packed2 : packed w (ix2 k (⟨2048 + n.val, by omega⟩ : Fin 5632)) = w (ix2 k (⟨2048 + n.val, by omega⟩ : Fin 5720)) := by
  unfold packed
  pointwise
  rw [dif_neg (by omega), dif_neg (by omega), dif_pos (by omega)]
  exact congrArg w (congrArg (ix2 k) (Fin.ext (by simp only []; omega)))
theorem packed5 (n : Fin 256) : packed w (ix2 k (⟨4352 + n.val, by omega⟩ : Fin 5632)) = w (ix2 k (⟨4360 + n.val, by omega⟩ : Fin 5720)) := by
  unfold packed
  pointwise
  rw [dif_neg (by omega), dif_neg (by omega), dif_neg (by omega), dif_neg (by omega), dif_neg (by omega), dif_pos (by omega)]
  exact congrArg w (congrArg (ix2 k) (Fin.ext (by simp only []; omega)))
theorem tiled_at : tiled s (ix2 0 n) = s (ix1 (⟨n.val % 128, Nat.mod_lt _ (by decide)⟩ : Fin 128)) := by
  unfold tiled
  pointwise
theorem rows_at (x : FVec Ideal S2x4096x2048 .f32) (R : Fin 8192) : shapeCast S8192x2048 x shapeCasts_S2x4096x2048_S8192x2048 (ix2 R k) = inRow x R.val k := by
  have h2 : (⟨R.val / 4096 % 2, Nat.mod_lt _ (by decide)⟩ : Fin 2) = ⟨R.val / 4096, by omega⟩ := Fin.ext (by show R.val / 4096 % 2 = R.val / 4096; omega)
  unfold inRow
  rw [h2]
  pointwise
theorem scale_at (g : FVec Ideal S2048 .f32) : shapeCast S1x2048 g shapeCasts_S2048_S1x2048 (ix2 0 k) = g (ix1 k) := by
  pointwise
end Packed

/-! ## The blocks' places -/

theorem idx0 : ∀ t : Fin cfg0.N, win0_0.index t = ![t.val, 0] ∧ win0_1.index t = ![0, 0] ∧ win0_2.index t = ![t.val, 0] := by decide +kernel
theorem idx1 : ∀ t : Fin cfg1.N, win1_0.index t = ![t.val / 2, 0] ∧ win1_1.index t = ![0, t.val % 2] ∧ win1_2.index t = ![0, t.val % 2]
    ∧ win1_3.index t = ![t.val / 2, t.val % 2] := by decide +kernel
theorem idx2 : ∀ t : Fin cfg2.N, win2_0.index t = ![t.val / 2, 0] ∧ win2_1.index t = ![0, 2 + t.val % 2] ∧ win2_2.index t = ![0, t.val % 2]
    ∧ win2_3.index t = ![t.val / 2, t.val % 2] := by decide +kernel
theorem idx3 : ∀ t : Fin cfg3.N, win3_0.index t = ![t.val / 2, 0] ∧ win3_1.index t = ![0, 4 + t.val % 2]
    ∧ win3_2.index t = ![t.val / 2, t.val % 2] := by decide +kernel
theorem idx4 : ∀ t : Fin cfg4.N, win4_0.index t = ![t.val, 0] ∧ win4_1.index t = ![0, 17] ∧ win4_2.index t = ![t.val, 0] := by decide +kernel

/-! ## The normalised rows -/

theorem arr_xn : (dat0 (V1 m ρ) c).arrAt 2 cfg0.N = normedArr (argX m c) (argG m c) := by
  refine (dat0 (V1 m ρ) c).arrAt_eq_of_covers 2 _ (by decide +kernel) fun t hf y => ?_
  have ht : t.val < 16 := Nat.lt_of_lt_of_eq t.isLt N_0
  blk_simp
  rw [after0_2]
  obtain ⟨r, k, rfl⟩ : ∃ (r : Fin 512) (k : Fin 2048), y = ix2 r k := ⟨y 0, y 1, by funext i; fin_cases i <;> rfl⟩
  have hx : ∀ k, iblk0 (V1 m ρ) c 0 t (ix2 r k) = inRow (argX m c) (512 * t.val + r.val) k := fun k => by
    refine Eq.trans (b := (V1 m ρ c main_v0 : Vec Ideal S8192x2048 .f32) (ix2 (⟨512 * t.val + r.val, by omega⟩ : Fin 8192) k)) ?_ ((congrFun (v0_eq m ρ c) _).trans (rows_at _ _ _))
    blk_simp [iblk0]
    blk_ext [idx0 t]
  have hg : iblk0 (V1 m ρ) c 1 t (ix2 0 k) = argG m c (ix1 k) := by
    refine Eq.trans (b := (V1 m ρ c main_v1 : Vec Ideal S1x2048 .f32) (ix2 0 k)) ?_ ((congrFun (v1_eq m ρ c) _).trans (scale_at _ _))
    blk_simp [iblk0]
    blk_ext [idx0 t]
  refine (out0_at _ _ _ _).trans ?_
  refine Eq.trans (b := normedArr (argX m c) (argG m c) (ix2 (⟨512 * t.val + r.val, by omega⟩ : Fin 8192) k)) ?_ (congrArg (normedArr (argX m c) (argG m c)) ?_)
  · rw [hx, hg]
    simp only [hx]
    rfl
  blk_ext [idx0 t]

/-! ## The arrays as each later launch finds them -/

theorem w3_v2 : W3 m ρ c (Proc.devRef .tc main_v2) = normedArr (argX m c) (argG m c) :=
  (W3_of m ρ c main_v2 (by decide)).trans ((W2_arr m ρ c 2).trans (arr_xn m ρ c))
theorem w5_v2 : W5 m ρ c (Proc.devRef .tc main_v2) = normedArr (argX m c) (argG m c) :=
  (W5_of m ρ c main_v2 (by decide)).trans ((W4_of m ρ c main_v2 (by decide)).trans (w3_v2 m ρ c))
theorem w6_v2 : W6 m ρ c (Proc.devRef .tc main_v2) = normedArr (argX m c) (argG m c) :=
  (W6_of m ρ c main_v2 (by decide)).trans (w5_v2 m ρ c)
theorem w7_v2 : W7 m ρ c (Proc.devRef .tc main_v2) = normedArr (argX m c) (argG m c) :=
  (W7_of m ρ c main_v2 (by decide)).trans (w6_v2 m ρ c)
theorem w5_v11 : W5 m ρ c (Proc.devRef .tc main_v11) = packed (argW m c) :=
  (W5_of m ρ c main_v11 (by decide)).trans ((W4_of m ρ c main_v11 (by decide)).trans (v11_eq m ρ c))
theorem w6_v11 : W6 m ρ c (Proc.devRef .tc main_v11) = packed (argW m c) :=
  (W6_of m ρ c main_v11 (by decide)).trans (w5_v11 m ρ c)
theorem w7_v11 : W7 m ρ c (Proc.devRef .tc main_v11) = packed (argW m c) :=
  (W7_of m ρ c main_v11 (by decide)).trans (w6_v11 m ρ c)

/-! ## The projections -/

/-- A tile's products are columns of the whole, when its rows and columns are the whole's. -/
theorem prod4_col (x : Vec Ideal S2x4096x2048 .f32) (g : Vec Ideal S2048 .f32) (w : Vec Ideal S2048x5720 .f32)
    (a : Vec Ideal S512x2048 .bf16) (b : Vec Ideal S2048x512 .bf16) (r e : Fin 512) (R n : ℕ) (ha : ∀ k, a (ix2 r k) = normed x g R k)
    (hb : ∀ k, b (ix2 k e) = w (ix2 k (⟨n % 5720, Nat.mod_lt _ (by decide)⟩ : Fin 5720))) : prod4 a b r e = col x g w R n := by
  unfold prod4 col
  exact Finset.sum_congr rfl fun k _ => by rw [ha, hb]
/-- The same for a tile scaled head by head. -/
theorem heads_headedAt (x : Vec Ideal S2x4096x2048 .f32) (g : Vec Ideal S2048 .f32) (w : Vec Ideal S2048x5720 .f32) (s : Vec Ideal S128 .f32)
    (a : Vec Ideal S512x2048 .bf16) (b : Vec Ideal S2048x512 .bf16) (z : Vec Ideal S1x512 .f32) (r e : Fin 512) (R o q : ℕ) (ha : ∀ k, a (ix2 r k) = normed x g R k)
    (hb : ∀ (k : Fin 2048) (e : Fin 512), b (ix2 k e) = w (ix2 k (⟨(o + 512 * q + e.val) % 5720, Nat.mod_lt _ (by decide)⟩ : Fin 5720)))
    (hz : ∀ e : Fin 512, z (ix2 0 e) = s (ix1 (⟨e.val % 128, Nat.mod_lt _ (by decide)⟩ : Fin 128))) :
    heads (scaled a b z) r e = headedAt x g w s o R (512 * q + e.val) := by
  have hl : ∀ (c : Fin 4) (d : Fin 128), (lane c d).val = 128 * c.val + d.val := fun c d => by
    unfold lane
    simp only [] <;> omega
  have he := e.isLt
  unfold heads scaled headedAt
  have h1 : ∀ d : Fin 128, prod4 a b r (lane ⟨e.val / 128, by omega⟩ d) = col x g w R (o + 128 * ((512 * q + e.val) / 128) + d.val) := fun d =>
    prod4_col x g w a b r _ R _ ha fun k => by
      rw [hb]
      refine congrArg w (congrArg (ix2 k) (Fin.ext ?_))
      show (o + 512 * q + (lane _ d).val) % 5720 = _
      rw [hl]
      congr 1
      simp only []
      omega
  have h2 : ∀ d : Fin 128, z (ix2 0 (lane ⟨e.val / 128, by omega⟩ d)) = s (ix1 d) := fun d => by
    rw [hz]
    refine congrArg s (congrArg ix1 (Fin.ext ?_))
    show (lane _ d).val % 128 = d.val
    rw [hl]
    have := d.isLt
    omega
  have h3 : (⟨e.val % 128, by omega⟩ : Fin 128) = ⟨(512 * q + e.val) % 128, by omega⟩ := Fin.ext (by simp only []; omega)
  rw [h3]
  exact congrArg₂ (fun f h => headed f h (⟨(512 * q + e.val) % 128, by omega⟩ : Fin 128)) (funext h1) (funext h2)

theorem arr_qa : (dat1 (V3 m ρ) c).arrAt 3 cfg1.N = headedArr (argX m c) (argG m c) (argW m c) (argQ m c) 0 := by
  refine (dat1 (V3 m ρ) c).arrAt_eq_of_covers 3 _ (by decide +kernel) fun t hf y => ?_
  have ht : t.val < 32 := Nat.lt_of_lt_of_eq t.isLt N_1
  blk_simp
  rw [after1_3]
  obtain ⟨r, e, rfl⟩ : ∃ (r : Fin 512) (e : Fin 512), y = ix2 r e := ⟨y 0, y 1, by funext i; fin_cases i <;> rfl⟩
  have ha : ∀ k, iblk1 (V3 m ρ) c 0 t (ix2 r k) = normed (argX m c) (argG m c) (512 * (t.val / 2) + r.val) k := fun k => by
    refine Eq.trans (b := (V3 m ρ c main_v2 : Vec Ideal S8192x2048 .bf16) (ix2 (⟨512 * (t.val / 2) + r.val, by omega⟩ : Fin 8192) k)) ?_ (congrFun (w3_v2 m ρ c) _)
    blk_simp [iblk1]
    blk_ext [idx1 t]
  have hb : ∀ (k : Fin 2048) (e : Fin 512), iblk1 (V3 m ρ) c 1 t (ix2 k e) = argW m c (ix2 k (⟨(0 + 512 * (t.val % 2) + e.val) % 5720, Nat.mod_lt _ (by decide)⟩ : Fin 5720)) := fun k e => by
    refine Eq.trans (b := (V3 m ρ c main_v11 : Vec Ideal S2048x5632 .bf16) (ix2 k (⟨512 * (t.val % 2) + e.val, by omega⟩ : Fin 5632))) ?_
      ((congrFun (v11_eq m ρ c) _).trans ((packed0 (argW m c) k ⟨512 * (t.val % 2) + e.val, by omega⟩).trans
        (congrArg (argW m c) (congrArg (ix2 k) (Fin.ext (by simp only []; omega))))))
    blk_simp [iblk1]
    blk_ext [idx1 t]
  have hz : ∀ e : Fin 512, iblk1 (V3 m ρ) c 2 t (ix2 0 e) = argQ m c (ix1 (⟨e.val % 128, Nat.mod_lt _ (by decide)⟩ : Fin 128)) := fun e => by
    refine Eq.trans (b := (V3 m ρ c main_v15 : Vec Ideal S1x1024 .f32) (ix2 0 (⟨512 * (t.val % 2) + e.val, by omega⟩ : Fin 1024))) ?_
      ((congrFun (v15_eq m ρ c) _).trans ((tiled_at (argQ m c) ⟨512 * (t.val % 2) + e.val, by omega⟩).trans
        (congrArg (argQ m c) (congrArg ix1 (Fin.ext (by simp only []; omega))))))
    blk_simp [iblk1]
    blk_ext [idx1 t]
  refine (out1_at _ _ _ _ _).trans ?_
  refine Eq.trans (b := headedArr (argX m c) (argG m c) (argW m c) (argQ m c) 0 (ix2 (⟨512 * (t.val / 2) + r.val, by omega⟩ : Fin 8192) (⟨512 * (t.val % 2) + e.val, by omega⟩ : Fin 1024))) ?_
    (congrArg (headedArr (argX m c) (argG m c) (argW m c) (argQ m c) 0) ?_)
  · exact heads_headedAt _ _ _ _ _ _ _ r e _ 0 (t.val % 2) ha hb hz
  blk_ext [idx1 t]

end Cert.Proj

end
-- ==== Proof.Proj.Results.lean ====
/-
  The keys' and values' projections in closed form, and the four results of the run.
-/
module

public import proofs.«01_k».proof.Proof.Proj.Arrays

@[expose] public section

set_option maxRecDepth 16384

noncomputable section

namespace Cert.Proj

open Idealize.ShloMosaic Idealize.ShloMosaic.TcCoe Idealize.SL.Sem
open Cert.Kernel4Ideal Cert.Kernel4Ideal.Gen

variable (m : (ℓ : Loc nD τ sig) → Buf (Elt Ideal) ℓ) (ρ : Dev nD → PrngReg) (c : Dev nD)

theorem arr_ka : (dat2 (V5 m ρ) c).arrAt 3 cfg2.N = headedArr (argX m c) (argG m c) (argW m c) (argK m c) 1024 := by
  refine (dat2 (V5 m ρ) c).arrAt_eq_of_covers 3 _ (by decide +kernel) fun t hf y => ?_
  have ht : t.val < 32 := Nat.lt_of_lt_of_eq t.isLt N_2
  blk_simp
  rw [after2_3]
  obtain ⟨r, e, rfl⟩ : ∃ (r : Fin 512) (e : Fin 512), y = ix2 r e := ⟨y 0, y 1, by funext i; fin_cases i <;> rfl⟩
  have ha : ∀ k, iblk2 (V5 m ρ) c 0 t (ix2 r k) = normed (argX m c) (argG m c) (512 * (t.val / 2) + r.val) k := fun k => by
    refine Eq.trans (b := (V5 m ρ c main_v2 : Vec Ideal S8192x2048 .bf16) (ix2 (⟨512 * (t.val / 2) + r.val, by omega⟩ : Fin 8192) k)) ?_ (congrFun (w5_v2 m ρ c) _)
    blk_simp [iblk2]
    blk_ext [idx2 t]
  have hb : ∀ (k : Fin 2048) (e : Fin 512), iblk2 (V5 m ρ) c 1 t (ix2 k e) = argW m c (ix2 k (⟨(1024 + 512 * (t.val % 2) + e.val) % 5720, Nat.mod_lt _ (by decide)⟩ : Fin 5720)) := fun k e => by
    refine Eq.trans (b := (V5 m ρ c main_v11 : Vec Ideal S2048x5632 .bf16) (ix2 k (⟨1024 + (512 * (t.val % 2) + e.val), by omega⟩ : Fin 5632))) ?_
      ((congrFun (w5_v11 m ρ c) _).trans ((packed1 (argW m c) k ⟨512 * (t.val % 2) + e.val, by omega⟩).trans
        (congrArg (argW m c) (congrArg (ix2 k) (Fin.ext (by simp only []; omega))))))
    blk_simp [iblk2]
    blk_ext [idx2 t]
  have hz : ∀ e : Fin 512, iblk2 (V5 m ρ) c 2 t (ix2 0 e) = argK m c (ix1 (⟨e.val % 128, Nat.mod_lt _ (by decide)⟩ : Fin 128)) := fun e => by
    refine Eq.trans (b := (V5 m ρ c main_v20 : Vec Ideal S1x1024 .f32) (ix2 0 (⟨512 * (t.val % 2) + e.val, by omega⟩ : Fin 1024))) ?_
      ((congrFun (v20_eq m ρ c) _).trans ((tiled_at (argK m c) ⟨512 * (t.val % 2) + e.val, by omega⟩).trans
        (congrArg (argK m c) (congrArg ix1 (Fin.ext (by simp only []; omega))))))
    blk_simp [iblk2]
    blk_ext [idx2 t]
  refine (out2_at _ _ _ _ _).trans ?_
  refine Eq.trans (b := headedArr (argX m c) (argG m c) (argW m c) (argK m c) 1024 (ix2 (⟨512 * (t.val / 2) + r.val, by omega⟩ : Fin 8192) (⟨512 * (t.val % 2) + e.val, by omega⟩ : Fin 1024))) ?_
    (congrArg (headedArr (argX m c) (argG m c) (argW m c) (argK m c) 1024) ?_)
  · exact heads_headedAt _ _ _ _ _ _ _ r e _ 1024 (t.val % 2) ha hb hz
  blk_ext [idx2 t]

theorem arr_va : (dat3 (V6 m ρ) c).arrAt 2 cfg3.N = colArr (argX m c) (argG m c) (argW m c) 2048 := by
  refine (dat3 (V6 m ρ) c).arrAt_eq_of_covers 2 _ (by decide +kernel) fun t hf y => ?_
  have ht : t.val < 32 := Nat.lt_of_lt_of_eq t.isLt N_3
  blk_simp
  rw [after3_2]
  obtain ⟨r, e, rfl⟩ : ∃ (r : Fin 512) (e : Fin 512), y = ix2 r e := ⟨y 0, y 1, by funext i; fin_cases i <;> rfl⟩
  have ha : ∀ k, iblk3 (V6 m ρ) c 0 t (ix2 r k) = normed (argX m c) (argG m c) (512 * (t.val / 2) + r.val) k := fun k => by
    refine Eq.trans (b := (V6 m ρ c main_v2 : Vec Ideal S8192x2048 .bf16) (ix2 (⟨512 * (t.val / 2) + r.val, by omega⟩ : Fin 8192) k)) ?_ (congrFun (w6_v2 m ρ c) _)
    blk_simp [iblk3]
    blk_ext [idx3 t]
  have hb : ∀ k : Fin 2048, iblk3 (V6 m ρ) c 1 t (ix2 k e) = argW m c (ix2 k (⟨(2048 + (512 * (t.val % 2) + e.val)) % 5720, Nat.mod_lt _ (by decide)⟩ : Fin 5720)) := fun k => by
    refine Eq.trans (b := (V6 m ρ c main_v11 : Vec Ideal S2048x5632 .bf16) (ix2 k (⟨2048 + (512 * (t.val % 2) + e.val), by omega⟩ : Fin 5632))) ?_
      ((congrFun (w6_v11 m ρ c) _).trans ((packed2 (argW m c) k ⟨512 * (t.val % 2) + e.val, by omega⟩).trans
        (congrArg (argW m c) (congrArg (ix2 k) (Fin.ext (by simp only []; omega))))))
    blk_simp [iblk3]
    blk_ext [idx3 t]
  refine (out3_at _ _ _ _).trans ?_
  refine Eq.trans (b := colArr (argX m c) (argG m c) (argW m c) 2048 (ix2 (⟨512 * (t.val / 2) + r.val, by omega⟩ : Fin 8192) (⟨512 * (t.val % 2) + e.val, by omega⟩ : Fin 1024))) ?_
    (congrArg (colArr (argX m c) (argG m c) (argW m c) 2048) ?_)
  · exact prod4_col _ _ _ _ _ r e _ _ ha hb
  blk_ext [idx3 t]

theorem arr_vb : (dat4 (V7 m ρ) c).arrAt 2 cfg4.N = colArr' (argX m c) (argG m c) (argW m c) 4360 := by
  refine (dat4 (V7 m ρ) c).arrAt_eq_of_covers 2 _ (by decide +kernel) fun t hf y => ?_
  have ht : t.val < 16 := Nat.lt_of_lt_of_eq t.isLt N_4
  blk_simp
  rw [after4_2]
  obtain ⟨r, e, rfl⟩ : ∃ (r : Fin 512) (e : Fin 256), y = ix2 r e := ⟨y 0, y 1, by funext i; fin_cases i <;> rfl⟩
  have ha : ∀ k, iblk4 (V7 m ρ) c 0 t (ix2 r k) = normed (argX m c) (argG m c) (512 * t.val + r.val) k := fun k => by
    refine Eq.trans (b := (V7 m ρ c main_v2 : Vec Ideal S8192x2048 .bf16) (ix2 (⟨512 * t.val + r.val, by omega⟩ : Fin 8192) k)) ?_ (congrFun (w7_v2 m ρ c) _)
    blk_simp [iblk4]
    blk_ext [idx4 t]
  have hb : ∀ k : Fin 2048, iblk4 (V7 m ρ) c 1 t (ix2 k e) = argW m c (ix2 k (⟨(4360 + e.val) % 5720, Nat.mod_lt _ (by decide)⟩ : Fin 5720)) := fun k => by
    refine Eq.trans (b := (V7 m ρ c main_v11 : Vec Ideal S2048x5632 .bf16) (ix2 k (⟨4352 + e.val, by omega⟩ : Fin 5632))) ?_
      ((congrFun (w7_v11 m ρ c) _).trans ((packed5 (argW m c) k e).trans
        (congrArg (argW m c) (congrArg (ix2 k) (Fin.ext (by simp only []; omega))))))
    blk_simp [iblk4]
    blk_ext [idx4 t]
  refine (out4_at _ _ _ _).trans ?_
  refine Eq.trans (b := colArr' (argX m c) (argG m c) (argW m c) 4360 (ix2 (⟨512 * t.val + r.val, by omega⟩ : Fin 8192) e)) ?_
    (congrArg (colArr' (argX m c) (argG m c) (argW m c) 4360) ?_)
  · show _ = col (argX m c) (argG m c) (argW m c) (512 * t.val + r.val) (4360 + e.val)
    unfold prod col
    exact Finset.sum_congr rfl fun k _ => by rw [ha, hb]
  blk_ext [idx4 t]

/-! ## The results -/

section Results
variable (x : Vec Ideal S2x4096x2048 .f32) (g : Vec Ideal S2048 .f32) (w : Vec Ideal S2048x5720 .f32) (s : Vec Ideal S128 .f32)
/-- Head by head, scaled. -/
def headedOut (o : ℕ) : Vec Ideal S2x4096x8x128 .f32 := fun y =>
  headed (fun d => col x g w (4096 * (y 0).val + (y 1).val) (o + 128 * (y 2).val + d.val)) (fun d => s (ix1 d)) (y 3)
/-- Head by head, as they come. -/
def colOut (o : ℕ) : Vec Ideal S2x4096x8x128 .f32 := fun y => col x g w (4096 * (y 0).val + (y 1).val) (o + 128 * (y 2).val + (y 3).val)
def colOut' (o : ℕ) : Vec Ideal S2x4096x2x128 .f32 := fun y => col x g w (4096 * (y 0).val + (y 1).val) (o + 128 * (y 2).val + (y 3).val)

theorem headedArr_out (o : ℕ) : shapeCast S2x4096x8x128 (headedArr x g w s o) shapeCasts_S8192x1024_S2x4096x8x128 = headedOut x g w s o := by
  funext y
  obtain ⟨b, p, h, e, rfl⟩ : ∃ (b : Fin 2) (p : Fin 4096) (h : Fin 8) (e : Fin 128), y = ix4 b p h e := ⟨y 0, y 1, y 2, y 3, by funext i; fin_cases i <;> rfl⟩
  have hR : shapeCast S2x4096x8x128 (headedArr x g w s o) shapeCasts_S8192x1024_S2x4096x8x128 (ix4 b p h e)
      = headedArr x g w s o (ix2 (⟨4096 * b.val + p.val, by omega⟩ : Fin 8192) (⟨128 * h.val + e.val, by omega⟩ : Fin 1024)) := by
    generalize headedArr x g w s o = v
    pointwise
    refine congrArg₂ (fun i j => v (ix2 i j)) (Fin.ext ?_) (Fin.ext ?_) <;> simp only [] <;> omega
  refine hR.trans ?_
  show headed (fun d => col x g w (4096 * b.val + p.val) (o + 128 * ((128 * h.val + e.val) / 128) + d.val)) (fun d => s (ix1 d)) ⟨(128 * h.val + e.val) % 128, _⟩
    = headed (fun d => col x g w (4096 * b.val + p.val) (o + 128 * h.val + d.val)) (fun d => s (ix1 d)) e
  have h1 : (128 * h.val + e.val) / 128 = h.val := by omega
  have h2 : (⟨(128 * h.val + e.val) % 128, by omega⟩ : Fin 128) = e := Fin.ext (by simp only []; omega)
  rw [h1, h2]
theorem colArr_out (o : ℕ) : shapeCast S2x4096x8x128 (colArr x g w o) shapeCasts_S8192x1024_S2x4096x8x128 = colOut x g w o := by
  funext y
  obtain ⟨b, p, h, e, rfl⟩ : ∃ (b : Fin 2) (p : Fin 4096) (h : Fin 8) (e : Fin 128), y = ix4 b p h e := ⟨y 0, y 1, y 2, y 3, by funext i; fin_cases i <;> rfl⟩
  have hR : shapeCast S2x4096x8x128 (colArr x g w o) shapeCasts_S8192x1024_S2x4096x8x128 (ix4 b p h e)
      = colArr x g w o (ix2 (⟨4096 * b.val + p.val, by omega⟩ : Fin 8192) (⟨128 * h.val + e.val, by omega⟩ : Fin 1024)) := by
    generalize colArr x g w o = v
    pointwise
    refine congrArg₂ (fun i j => v (ix2 i j)) (Fin.ext ?_) (Fin.ext ?_) <;> simp only [] <;> omega
  refine hR.trans (congrArg (col x g w _) ?_)
  exact (Nat.add_assoc _ _ _).symm
theorem colArr'_out (o : ℕ) : shapeCast S2x4096x2x128 (colArr' x g w o) shapeCasts_S8192x256_S2x4096x2x128 = colOut' x g w o := by
  funext y
  obtain ⟨b, p, h, e, rfl⟩ : ∃ (b : Fin 2) (p : Fin 4096) (h : Fin 2) (e : Fin 128), y = ix4 b p h e := ⟨y 0, y 1, y 2, y 3, by funext i; fin_cases i <;> rfl⟩
  have hR : shapeCast S2x4096x2x128 (colArr' x g w o) shapeCasts_S8192x256_S2x4096x2x128 (ix4 b p h e)
      = colArr' x g w o (ix2 (⟨4096 * b.val + p.val, by omega⟩ : Fin 8192) (⟨128 * h.val + e.val, by omega⟩ : Fin 256)) := by
    generalize colArr' x g w o = v
    pointwise
    refine congrArg₂ (fun i j => v (ix2 i j)) (Fin.ext ?_) (Fin.ext ?_) <;> simp only [] <;> omega
  refine hR.trans (congrArg (col x g w _) ?_)
  exact (Nat.add_assoc _ _ _).symm
end Results

theorem w8_qa : W8 m ρ c (Proc.devRef .tc main_v16) = headedArr (argX m c) (argG m c) (argW m c) (argQ m c) 0 :=
  (W8_of m ρ c main_v16 (by decide)).trans ((W7_of m ρ c main_v16 (by decide)).trans ((W6_of m ρ c main_v16 (by decide)).trans
    ((W5_of m ρ c main_v16 (by decide)).trans ((W4_arr m ρ c 3).trans (arr_qa m ρ c)))))
theorem w8_ka : W8 m ρ c (Proc.devRef .tc main_v21_0) = headedArr (argX m c) (argG m c) (argW m c) (argK m c) 1024 :=
  (W8_of m ρ c main_v21_0 (by decide)).trans ((W7_of m ρ c main_v21_0 (by decide)).trans ((W6_arr m ρ c 3).trans (arr_ka m ρ c)))
theorem w8_va : W8 m ρ c (Proc.devRef .tc main_v22_0) = colArr (argX m c) (argG m c) (argW m c) 2048 :=
  (W8_of m ρ c main_v22_0 (by decide)).trans ((W7_arr m ρ c 2).trans (arr_va m ρ c))
theorem w8_vb : W8 m ρ c (Proc.devRef .tc main_v23_0) = colArr' (argX m c) (argG m c) (argW m c) 4360 :=
  (W8_arr m ρ c 2).trans (arr_vb m ρ c)

theorem res_qa : W9 m ρ c (Proc.devRef .tc main_v24) = headedOut (argX m c) (argG m c) (argW m c) (argQ m c) 0 := by
  refine Eq.trans (b := (shapeCast S2x4096x8x128 (W8 m ρ c (Proc.devRef .tc main_v16) : Vec Ideal S8192x1024 .f32) shapeCasts_S8192x1024_S2x4096x8x128 : Vec Ideal S2x4096x8x128 .f32)) ?_ ?_
  · dsimp only [W9]
    simp only [hostOps5]
    after_results_simp
    all_goals rfl
  rw [w8_qa]
  exact headedArr_out _ _ _ _ _
theorem res_ka : W9 m ρ c (Proc.devRef .tc main_v25) = headedOut (argX m c) (argG m c) (argW m c) (argK m c) 1024 := by
  refine Eq.trans (b := (shapeCast S2x4096x8x128 (W8 m ρ c (Proc.devRef .tc main_v21_0) : Vec Ideal S8192x1024 .f32) shapeCasts_S8192x1024_S2x4096x8x128 : Vec Ideal S2x4096x8x128 .f32)) ?_ ?_
  · dsimp only [W9]
    simp only [hostOps5]
    after_results_simp
    all_goals rfl
  rw [w8_ka]
  exact headedArr_out _ _ _ _ _
theorem res_va : W9 m ρ c (Proc.devRef .tc main_v26) = colOut (argX m c) (argG m c) (argW m c) 2048 := by
  refine Eq.trans (b := (shapeCast S2x4096x8x128 (W8 m ρ c (Proc.devRef .tc main_v22_0) : Vec Ideal S8192x1024 .f32) shapeCasts_S8192x1024_S2x4096x8x128 : Vec Ideal S2x4096x8x128 .f32)) ?_ ?_
  · dsimp only [W9]
    simp only [hostOps5]
    after_results_simp
    all_goals rfl
  rw [w8_va]
  exact colArr_out _ _ _ _
theorem res_vb : W9 m ρ c (Proc.devRef .tc main_v27) = colOut' (argX m c) (argG m c) (argW m c) 4360 := by
  refine Eq.trans (b := (shapeCast S2x4096x2x128 (W8 m ρ c (Proc.devRef .tc main_v23_0) : Vec Ideal S8192x256 .f32) shapeCasts_S8192x256_S2x4096x2x128 : Vec Ideal S2x4096x2x128 .f32)) ?_ ?_
  · dsimp only [W9]
    simp only [hostOps5]
    after_results_simp
    all_goals rfl
  rw [w8_vb]
  exact colArr'_out _ _ _ _

end Cert.Proj

end
-- ==== Proof.Proj.Host.lean ====
/-
  The reference's four results in the same closed form as the kernel's.
-/
module

public import proofs.«01_k».proof.Proof.Proj.Results
public import proofs.«01_k».proof.Proof.Gen.Reference4Ideal.Run

@[expose] public section

set_option maxRecDepth 16384

noncomputable section

namespace Cert.Proj.Host

open Idealize.ShloMosaic Idealize.ShloMosaic.TcCoe Idealize.SL.Sem
open Cert.Reference4Ideal Cert.Reference4Ideal.Gen

/-- The rows scaled to norm one, then by the scale. -/
def rows (h : FVec Ideal S2x4096x2048 .f32) (g : FVec Ideal S2048 .f32) : FVec Ideal S2x4096x2048 .f32 :=
  mulf (mulf h (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf h h) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 g))
/-- Their products with the weight. -/
def prods (h : FVec Ideal S2x4096x2048 .f32) (g : FVec Ideal S2048 .f32) (w : FVec Ideal S2048x5720 .f32) : FVec Ideal S2x4096x5720 .f32 :=
  Host.dotGeneral dot_S2x4096x2048_S2048x5720_S2x4096x5720_2_0_01_1_n_n none (rows h g) w
/-- Four groups of columns, head by head. -/
def part0 (q : FVec Ideal S2x4096x5720 .f32) : FVec Ideal S2x4096x8x128 .f32 := shapeCast _ (extractStridedSlice S2x4096x1024 ![0, 0, 0] q slices_S2x4096x5720_S2x4096x1024_0_0_0) shapeCasts_S2x4096x1024_S2x4096x8x128
def part1 (q : FVec Ideal S2x4096x5720 .f32) : FVec Ideal S2x4096x8x128 .f32 := shapeCast _ (extractStridedSlice S2x4096x1024 ![0, 0, 1024] q slices_S2x4096x5720_S2x4096x1024_0_0_1024) shapeCasts_S2x4096x1024_S2x4096x8x128
def part2 (q : FVec Ideal S2x4096x5720 .f32) : FVec Ideal S2x4096x8x128 .f32 := shapeCast _ (extractStridedSlice S2x4096x1024 ![0, 0, 2048] q slices_S2x4096x5720_S2x4096x1024_0_0_2048) shapeCasts_S2x4096x1024_S2x4096x8x128
def part3 (q : FVec Ideal S2x4096x5720 .f32) : FVec Ideal S2x4096x2x128 .f32 := shapeCast _ (extractStridedSlice S2x4096x256 ![0, 0, 4360] q slices_S2x4096x5720_S2x4096x256_0_0_4360) shapeCasts_S2x4096x256_S2x4096x2x128
/-- Each head's row scaled to norm one, then by the scale. -/
def scaledHeads (q : FVec Ideal S2x4096x8x128 .f32) (s : FVec Ideal S128 .f32) : FVec Ideal S2x4096x8x128 .f32 :=
  mulf (mulf q (broadcastInDim S2x4096x8x128 ![0, 1, 2, 3] bcast_S2x4096x8x1_S2x4096x8x128_0_1_2_3 (Host.rsqrt (addf (Host.divf (broadcastInDim S2x4096x8x1 ![0, 1, 2] bcast_S2x4096x8_S2x4096x8x1_0_1_2 (Host.reduceAdd (mulf q q) (constant S_ .f32 0x00000000#32) reducesTo_S2x4096x8x128_S2x4096x8_d3 h_S_)) (broadcastInDim S2x4096x8x1 ![] bcast_S_S2x4096x8x1 (constant S_ .f32 0x43000000#32))) (broadcastInDim S2x4096x8x1 ![] bcast_S_S2x4096x8x1 (constant S_ .f32 0x358637BD#32)))))) (broadcastInDim S2x4096x8x128 ![0, 1, 2, 3] bcast_S1x1x1x128_S2x4096x8x128_0_1_2_3 (broadcastInDim S1x1x1x128 ![3] bcast_S128_S1x1x1x128_3 s))

section Apply
variable (x : FVec Ideal S2x4096x2048 .f32) (g : FVec Ideal S2048 .f32) (w : FVec Ideal S2048x5720 .f32) (s : FVec Ideal S128 .f32)
  (b : Fin 2) (p : Fin 4096)

theorem rows_apply (k : Fin 2048) : rows x g (ix3 b p k) = x (ix3 b p k) * factor (Ideal.ofBits .f32 0x45000000#32) (fun k' => x (ix3 b p k')) * g (ix1 k) := by
  unfold rows factor
  pointwise
theorem dot_apply (y : FVec Ideal S2x4096x2048 .f32) (n : Fin 5720) :
    Host.dotGeneral dot_S2x4096x2048_S2048x5720_S2x4096x5720_2_0_01_1_n_n none y w (ix3 b p n) = ∑ k, y (ix3 b p k) * w (ix2 k n) := by
  pointwise
theorem inRow_at (k : Fin 2048) : inRow x (4096 * b.val + p.val) k = x (ix3 b p k) := by
  unfold inRow
  refine congrArg₂ (fun i j => x (ix3 i j k)) (Fin.ext ?_) (Fin.ext ?_) <;> simp only [] <;> omega
theorem prods_apply (n : ℕ) (hn : n < 5720) : prods x g w (ix3 b p (⟨n, hn⟩ : Fin 5720)) = col x g w (4096 * b.val + p.val) n := by
  refine (dot_apply w b p _ _).trans ?_
  unfold col normed
  refine Finset.sum_congr rfl fun k _ => ?_
  have h1 : inRow x (4096 * b.val + p.val) = fun k => x (ix3 b p k) := funext (inRow_at x b p)
  have h2 : (⟨n % 5720, Nat.mod_lt _ (by decide)⟩ : Fin 5720) = ⟨n, hn⟩ := Fin.ext (Nat.mod_eq_of_lt hn)
  rw [rows_apply, h1, h2]
theorem part0_apply (q : FVec Ideal S2x4096x5720 .f32) (h : Fin 8) (e : Fin 128) : part0 q (ix4 b p h e) = q (ix3 b p (⟨h.val * 128 + e.val, by omega⟩ : Fin 5720)) := by
  unfold part0
  pointwise
theorem part1_apply (q : FVec Ideal S2x4096x5720 .f32) (h : Fin 8) (e : Fin 128) : part1 q (ix4 b p h e) = q (ix3 b p (⟨1024 + (h.val * 128 + e.val), by omega⟩ : Fin 5720)) := by
  unfold part1
  pointwise
theorem part2_apply (q : FVec Ideal S2x4096x5720 .f32) (h : Fin 8) (e : Fin 128) : part2 q (ix4 b p h e) = q (ix3 b p (⟨2048 + (h.val * 128 + e.val), by omega⟩ : Fin 5720)) := by
  unfold part2
  pointwise
theorem part3_apply (q : FVec Ideal S2x4096x5720 .f32) (h : Fin 2) (e : Fin 128) : part3 q (ix4 b p h e) = q (ix3 b p (⟨4360 + (h.val * 128 + e.val), by omega⟩ : Fin 5720)) := by
  unfold part3
  pointwise
theorem scaledHeads_apply (q : FVec Ideal S2x4096x8x128 .f32) (h : Fin 8) (e : Fin 128) :
    scaledHeads q s (ix4 b p h e) = headed (fun d => q (ix4 b p h d)) (fun d => s (ix1 d)) e := by
  unfold scaledHeads headed factor
  pointwise
end Apply

section Results
variable (x : FVec Ideal S2x4096x2048 .f32) (g : FVec Ideal S2048 .f32) (w : FVec Ideal S2048x5720 .f32) (s : FVec Ideal S128 .f32)

/-- The first result: the queries. -/
theorem qa_eq : truncf .bf16 (scaledHeads (part0 (prods x g w)) s) bitsLt_bf16_f32 = headedOut x g w s 0 := by
  funext y
  obtain ⟨b, p, h, e, rfl⟩ : ∃ (b : Fin 2) (p : Fin 4096) (h : Fin 8) (e : Fin 128), y = ix4 b p h e := ⟨y 0, y 1, y 2, y 3, by funext i; fin_cases i <;> rfl⟩
  refine Eq.trans (b := scaledHeads (part0 (prods x g w)) s (ix4 b p h e)) rfl ((scaledHeads_apply s b p _ h e).trans ?_)
  refine congrArg (fun f => headed f (fun d => s (ix1 d)) e) (funext fun d => ?_)
  refine (part0_apply b p _ h d).trans ((prods_apply x g w b p _ _).trans (congrArg (col x g w _) ?_))
  show h.val * 128 + d.val = 0 + 128 * h.val + d.val
  omega
/-- The second: the keys. -/
theorem ka_eq : scaledHeads (part1 (prods x g w)) s = headedOut x g w s 1024 := by
  funext y
  obtain ⟨b, p, h, e, rfl⟩ : ∃ (b : Fin 2) (p : Fin 4096) (h : Fin 8) (e : Fin 128), y = ix4 b p h e := ⟨y 0, y 1, y 2, y 3, by funext i; fin_cases i <;> rfl⟩
  refine (scaledHeads_apply s b p _ h e).trans ?_
  refine congrArg (fun f => headed f (fun d => s (ix1 d)) e) (funext fun d => ?_)
  refine (part1_apply b p _ h d).trans ((prods_apply x g w b p _ _).trans (congrArg (col x g w _) ?_))
  show 1024 + (h.val * 128 + d.val) = 1024 + 128 * h.val + d.val
  omega
/-- The third: the values. -/
theorem va_eq : part2 (prods x g w) = colOut x g w 2048 := by
  funext y
  obtain ⟨b, p, h, e, rfl⟩ : ∃ (b : Fin 2) (p : Fin 4096) (h : Fin 8) (e : Fin 128), y = ix4 b p h e := ⟨y 0, y 1, y 2, y 3, by funext i; fin_cases i <;> rfl⟩
  refine (part2_apply b p _ h e).trans ((prods_apply x g w b p _ _).trans (congrArg (col x g w _) ?_))
  show 2048 + (h.val * 128 + e.val) = 2048 + 128 * h.val + e.val
  omega
/-- The fourth: the second attention's values. -/
theorem vb_eq : part3 (prods x g w) = colOut' x g w 4360 := by
  funext y
  obtain ⟨b, p, h, e, rfl⟩ : ∃ (b : Fin 2) (p : Fin 4096) (h : Fin 2) (e : Fin 128), y = ix4 b p h e := ⟨y 0, y 1, y 2, y 3, by funext i; fin_cases i <;> rfl⟩
  refine (part3_apply b p _ h e).trans ((prods_apply x g w b p _ _).trans (congrArg (col x g w _) ?_))
  show 4360 + (h.val * 128 + e.val) = 4360 + 128 * h.val + e.val
  omega
end Results

end Cert.Proj.Host

end
-- ==== Proof.Proj.Claims.lean ====
/-
  The claims about the projections: the frames, and the two programs' equal results.
-/
module

public import proofs.«01_k».proof.Defs
public import proofs.«01_k».proof.Proof.Gen.Kernel4
public import proofs.«01_k».proof.Proof.Proj.Run
public import proofs.«01_k».proof.Proof.Proj.Host

@[expose] public section

set_option maxRecDepth 16384

noncomputable section

namespace Cert.Proj

open Idealize.ShloMosaic Idealize.ShloMosaic.TcCoe Idealize.SL.Sem

attribute [local instance] Cert.Kernel4.Gen.facts Cert.Kernel4Ideal.Gen.facts Cert.Reference4Ideal.Gen.facts

/-- The idealized kernel's frame. -/
theorem frame_pi : Cert.quiescent_Kernel4Ideal := fun m ρ _ => Cert.Kernel4Ideal.Gen.frame m ρ

/-! The kernel's program is the idealized one's: its run is that one's at the machine's floats. -/

set_option maxHeartbeats 4000000 in
theorem bodies_eq : Cert.Kernel4.defs₀ (F := Bits) = Cert.Kernel4Ideal.defs₀ (F := Bits) := by
  unfold Cert.Kernel4.defs₀ Cert.Kernel4Ideal.defs₀
  refine congrArg Defs.onTc (funext fun l => funext fun a => ?_)
  match l, a with
  | ⟨0, _⟩, (t, s) => rfl
  | ⟨1, _⟩, (t, s) => rfl
  | ⟨2, _⟩, (t, s) => rfl
  | ⟨3, _⟩, (t, s) => rfl
  | ⟨4, _⟩, (t, s) => rfl
  | ⟨n + 5, h⟩, _ => exact absurd h (Nat.not_lt.2 (Nat.le_add_left _ _))
set_option maxHeartbeats 4000000 in
theorem defs_eq : Cert.Kernel4.defs (F := Bits) = Cert.Kernel4Ideal.defs (F := Bits) :=
  congrArg (Pipeline.defs (Cert.Kernel4Ideal.pcfgs (F := Bits))) bodies_eq

set_option maxHeartbeats 4000000 in
/-- The kernel's frame. -/
theorem frame_p : Cert.quiescent_Kernel4 := fun m ρ _ => by
  have h := Cert.Kernel4Ideal.Gen.frame (F := Bits) m ρ
  rw [← defs_eq] at h
  exact h

/-- The reference's frame. -/
theorem frame_ri : Cert.quiescent_Reference4Ideal := fun m ρ _ =>
  (θ_run Cert.Reference4Ideal.defs _ _).mono (fun r h => ⟨fun c => (h c).2.2.2.2, Idealize.ShloMosaic.sem_eq_zero_of_no_sems (by decide) r.2⟩)
    (Cert.Reference4Ideal.Value.run (F := Ideal) m ρ)

/-- Nothing was replaced. -/
theorem preserves : Cert.preserves_Kernel4_Kernel4Ideal := trivial

/-- The two programs end with equal results. -/
theorem algebraic : Cert.algebraic_Kernel4Ideal_Reference4Ideal := by
  intro m ρ m' ρ' _ hagree
  refine ⟨_, _, _, _, (θ_run Cert.Kernel4Ideal.defs _ _).mono (fun _ h c =>
      ⟨(h c).1.1.trans (res_qa m ρ c), (h c).1.2.1.trans (res_ka m ρ c), (h c).1.2.2.1.trans (res_va m ρ c), (h c).1.2.2.2.trans (res_vb m ρ c), (h c).2⟩)
    (run_at m ρ), ?_⟩
  refine (θ_run Cert.Reference4Ideal.defs _ _).mono (fun _ h c =>
      ⟨(h c).1.trans ?_, (h c).2.1.trans ?_, (h c).2.2.1.trans ?_, (h c).2.2.2.1.trans ?_, (h c).2.2.2.2⟩) (Cert.Reference4Ideal.Value.run (F := Ideal) m' ρ')
  all_goals obtain ⟨a0, a1, a2, a3, a4⟩ := hagree c
  · rw [a0, a1, a2, a3]
    exact Host.qa_eq _ _ _ _
  · rw [a0, a1, a2, a4]
    exact Host.ka_eq _ _ _ _
  · rw [a0, a1, a2]
    exact Host.va_eq _ _ _
  · rw [a0, a1, a2]
    exact Host.vb_eq _ _ _

end Cert.Proj

end
-- ==== Proof.Rope.Run.lean ====
/-
  The run of the rotary projections' program: it ends with every array at what the launches and the host's operations left in it.
-/
module

public import proofs.«01_k».proof.Proof.Gen.Kernel5Ideal.Frame

@[expose] public section

set_option maxRecDepth 16384

noncomputable section

namespace Cert.Rope

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run: every array ends at the contents followed through the launches, and every counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W8 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (no_unscoped g.2))⟩)

/-- The run read at the arguments and the three results. -/
theorem run_at : θ_run defs (onTc (τ := τ) (main (F := F))) ⟨m, fun _ => 0, ρ⟩ (fun r => ∀ c : Dev nD,
      (r.2.mem ((c.tc : Thread nD τ).loc main_v74) = W8 m ρ c (Proc.devRef .tc main_v74)
      ∧ r.2.mem ((c.tc : Thread nD τ).loc main_v75) = W8 m ρ c (Proc.devRef .tc main_v75)
      ∧ r.2.mem ((c.tc : Thread nD τ).loc main_v76) = W8 m ρ c (Proc.devRef .tc main_v76))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨⟨h.1 c _ (mem_uc main_v74 (by decide)), h.1 c _ (mem_uc main_v75 (by decide)), h.1 c _ (mem_uc main_v76 (by decide))⟩,
     (h.1 c _ (mem_uc main_arg0 (by decide))).trans (W8_main_arg0 m ρ c),
     (h.1 c _ (mem_uc main_arg1 (by decide))).trans (W8_main_arg1 m ρ c),
     (h.1 c _ (mem_uc main_arg2 (by decide))).trans (W8_main_arg2 m ρ c),
     (h.1 c _ (mem_uc main_arg3 (by decide))).trans (W8_main_arg3 m ρ c),
     (h.1 c _ (mem_uc main_arg4 (by decide))).trans (W8_main_arg4 m ρ c)⟩) (run m ρ)

end Cert.Rope

end
-- ==== Proof.Rope.Blocks.lean ====
/-
  What the bodies of the projections with rotary leave in their blocks, index by index.
-/
module

public import proofs.«01_k».proof.Proof.Proj.Blocks
public import proofs.«01_k».proof.Proof.Gen.Kernel5Ideal.Frame

@[expose] public section

set_option maxRecDepth 16384

noncomputable section

namespace Cert.Rope

open Idealize.ShloMosaic Idealize.ShloMosaic.TcCoe Idealize.SL.Sem
open Cert.Proj (factor headed prod prod4 canon_of_pieces lane heads heads_lane lo hi lane_lo0 lane_hi0 lane_lo1 lane_hi1)
open Cert.Kernel5Ideal Cert.Kernel5Ideal.Gen

/-- A row of 128 times one table, plus the row turned by half times another. -/
def turned (y c s : Fin 128 → EReal) (e : Fin 128) : EReal := y e * c e + y ⟨(e.val + 128 - 64) % 128, Nat.mod_lt _ (by decide)⟩ * s e
/-- Where the lane's remainder by 64 is less than 32: the bit of it. -/
def low (e : Fin 128) : BitVec 1 :=
  IntOp.cmpi .slt (Scalar.select (IntOp.andi (IntOp.xori (IntOp.cmpi .slt (IntOp.remsi ArithUnit.vector (BitVec.ofNat 32 e.val)
    (Scalar.select (Scalar.cmpi .eq 64#32 0#32) 1#32 64#32)) 0#32) (Scalar.cmpi .slt (Scalar.select (Scalar.cmpi .eq 64#32 0#32) 1#32 64#32) 0#32))
    (IntOp.cmpi .ne (IntOp.remsi ArithUnit.vector (BitVec.ofNat 32 e.val) (Scalar.select (Scalar.cmpi .eq 64#32 0#32) 1#32 64#32)) 0#32))
    (IntOp.addi (IntOp.remsi ArithUnit.vector (BitVec.ofNat 32 e.val) (Scalar.select (Scalar.cmpi .eq 64#32 0#32) 1#32 64#32))
      (Scalar.select (Scalar.cmpi .eq 64#32 0#32) 1#32 64#32))
    (IntOp.remsi ArithUnit.vector (BitVec.ofNat 32 e.val) (Scalar.select (Scalar.cmpi .eq 64#32 0#32) 1#32 64#32))) 32#32
theorem low_eq : ∀ e : Fin 128, low e = BitVec.ofBool (decide (e.val % 64 < 32)) := by decide +kernel
/-- The lane a lane is turned with where 128 lanes are two rows of 64: the one half a row away in its own row. -/
def mate (e : Fin 128) : Fin 128 := if e.val % 64 < 32 then ⟨(e.val + 128 - 96) % 128, Nat.mod_lt _ (by decide)⟩ else ⟨(e.val + 128 - 32) % 128, Nat.mod_lt _ (by decide)⟩
theorem select_low (y : Fin 128 → EReal) (e : Fin 128) : Scalar.select (low e) (y ⟨(e.val + 128 - 96) % 128, Nat.mod_lt _ (by decide)⟩) (y ⟨(e.val + 128 - 32) % 128, Nat.mod_lt _ (by decide)⟩) = y (mate e) := by
  rw [low_eq]
  unfold mate
  by_cases h : e.val % 64 < 32
  · simp [h, Scalar.select]
  · simp [h, Scalar.select]
/-- Two rows of 64, each turned by half. -/
def turned2 (y c s : Fin 128 → EReal) (e : Fin 128) : EReal :=
  y e * c e + Scalar.select (low e) (y ⟨(e.val + 128 - 96) % 128, Nat.mod_lt _ (by decide)⟩) (y ⟨(e.val + 128 - 32) % 128, Nat.mod_lt _ (by decide)⟩) * s e
theorem turned2_eq (y c s : Fin 128 → EReal) (e : Fin 128) : turned2 y c s e = y e * c e + y (mate e) * s e := by
  unfold turned2
  rw [select_low]

section Payloads
variable (a : Vec Ideal S512x2048 .bf16) (w : Vec Ideal S2048x256 .bf16) (v : Vec Ideal S512x256 .f32) (u c s : Vec Ideal S512x128 .f32) (g : Vec Ideal S1x128 .f32)
  (r : Fin 512) (e : Fin 128) (d : Fin 256)

theorem k0_pay (x : Vec Ideal S512x2048 .f32) (s : Vec Ideal S1x2048 .f32) (k : Fin 2048) : k0_pay1 x s (ix2 r k)
    = x (ix2 r k) * factor (Ideal.ofBits .f32 0x45000000#32) (fun k' => x (ix2 r k')) * s (ix2 0 k) := by
  unfold k0_pay1 factor
  pointwise

theorem k1_pay4_at : k1_pay4 a w (ix2 r d) = prod a w r d := by
  unfold k1_pay4 k1_pay3 prod
  pointwise
theorem k1_pay5_at : k1_pay5 a w (ix2 r d) = prod a w r d := by
  unfold k1_pay5 k1_pay3 prod
  pointwise
theorem k1_pay6_at : k1_pay6 a w g c s (ix2 r e) = turned (headed (fun e => prod a w r (lo e)) (fun e => g (ix2 0 e))) (fun e => c (ix2 r e)) (fun e => s (ix2 r e)) e := by
  unfold k1_pay6 turned headed factor
  simp only [← k1_pay4_at]
  generalize k1_pay4 a w = y
  pointwise
theorem k1_pay9_at : k1_pay9 (k1_pay7 a w) (k1_pay8 a w) g c s (ix2 r e) = turned (headed (fun e => prod a w r (hi e)) (fun e => g (ix2 0 e))) (fun e => c (ix2 r e)) (fun e => s (ix2 r e)) e := by
  unfold k1_pay9 k1_pay8 k1_pay7 turned headed factor
  simp only [← k1_pay4_at]
  generalize k1_pay4 a w = y
  pointwise
theorem k1_pay1_at : k1_pay1 (k1_pay10 v g) (k1_pay11 c) s (ix2 r e) = turned (headed (fun e => v (ix2 r (lo e))) (fun e => g (ix2 0 e))) (fun e => c (ix2 r e)) (fun e => s (ix2 r e)) e := by
  unfold k1_pay1 k1_pay10 k1_pay11 turned headed factor
  pointwise
theorem k1_pay2_at : k1_pay2 v g c s (ix2 r e) = turned (headed (fun e => v (ix2 r (hi e))) (fun e => g (ix2 0 e))) (fun e => c (ix2 r e)) (fun e => s (ix2 r e)) e := by
  unfold k1_pay2 turned headed factor
  pointwise

theorem k2_pay3_at : k2_pay3 a w (ix2 r d) = prod a w r d := by
  unfold k2_pay3 prod
  pointwise
theorem k2_pay4_at : k2_pay4 a w g c s (ix2 r e) = turned (headed (fun e => prod a w r (lo e)) (fun e => g (ix2 0 e))) (fun e => c (ix2 r e)) (fun e => s (ix2 r e)) e := by
  unfold k2_pay4 turned headed factor
  simp only [← k2_pay3_at]
  generalize k2_pay3 a w = y
  pointwise
theorem k2_pay1_at : k2_pay1 (k2_pay6 a w) (k2_pay7 a w) (Scalar.ofBits .f32 0x43000000#32) g c s (ix2 r e) = turned (headed (fun e => prod a w r (hi e)) (fun e => g (ix2 0 e))) (fun e => c (ix2 r e)) (fun e => s (ix2 r e)) e := by
  unfold k2_pay1 k2_pay6 k2_pay7 k2_pay6 turned headed factor
  simp only [← k2_pay3_at]
  generalize k2_pay3 a w = y
  pointwise

theorem k3_pay3_at : k3_pay3 a w (ix2 r d) = prod a w r d := by
  unfold k3_pay3 k3_pay2 prod
  pointwise
theorem k3_pay4_at : k3_pay4 a w (ix2 r d) = prod a w r d := by
  unfold k3_pay4 k3_pay2 prod
  pointwise
theorem k3_pay8_at : k3_pay8 (k3_pay6 a w c) (k3_pay7 a w s) (ix2 r e) = turned2 (fun e => prod a w r (lo e)) (fun e => c (ix2 r e)) (fun e => s (ix2 r e)) e := by
  simp only [← k3_pay3_at]
  unfold k3_pay8 k3_pay7 k3_pay6 k3_pay5 turned2
  generalize k3_pay3 a w = y
  pointwise
  rfl
theorem k3_pay9_at : k3_pay9 v c s (ix2 r e) = turned2 (fun e => v (ix2 r (hi e))) (fun e => c (ix2 r e)) (fun e => s (ix2 r e)) e := by
  unfold k3_pay9 turned2
  pointwise
  rfl
theorem k3_pay12_at : k3_pay12 (k3_pay10 v) (k3_pay11 c) s (ix2 r e) = turned2 (fun e => v (ix2 r (lo e))) (fun e => c (ix2 r e)) (fun e => s (ix2 r e)) e := by
  unfold k3_pay12 k3_pay11 k3_pay10 turned2
  pointwise
  rfl
theorem k3_pay1_at : k3_pay1 (k3_pay13 v) (k3_pay14 c) (k3_pay15 s) (Scalar.select (Scalar.cmpi .eq 64#32 0#32) 1#32 64#32) k3_pay16 0#32 (ix2 r e) = turned2 (fun e => v (ix2 r (hi e))) (fun e => c (ix2 r e)) (fun e => s (ix2 r e)) e := by
  unfold k3_pay1 k3_pay13 k3_pay14 k3_pay15 k3_pay16 turned2
  pointwise
  rfl
end Payloads

/-! ## The loads -/

section Loads
variable (x : Vec Ideal S2048x512 .bf16) (g : Vec Ideal S1x512 .f32) (k : Fin 2048) (e : Fin 256) (d : Fin 128)
theorem ld_rows (a : Vec Ideal S512x2048 .bf16) : View.ld a r1_0 = a := View.ld_unit_lit _ _ (by decide)
theorem ld_table (a : Vec Ideal S512x128 .f32) : View.ld a r1_4 = a := View.ld_unit_lit _ _ (by decide)
theorem ld_weight (a : Vec Ideal S2048x256 .bf16) : View.ld a r2_1 = a := View.ld_unit_lit _ _ (by decide)
theorem ld_cols0 : View.ld x r1_1 (ix2 k e) = x (ix2 k (⟨e.val, by omega⟩ : Fin 512)) := by pointwise
theorem ld_cols1 : View.ld x r1_2 (ix2 k e) = x (ix2 k (⟨256 + e.val, by omega⟩ : Fin 512)) := by pointwise
theorem ld_gain0 : View.ld g r1_3 (ix2 0 d) = g (ix2 0 (lane 0 d)) := by
  pointwise
  exact congrArg (fun z => g (ix2 0 z)) (Fin.ext (by show d.val = 128 * 0 + d.val; omega))
theorem ld_gain1 : View.ld g r1_6 (ix2 0 d) = g (ix2 0 (lane 1 d)) := by
  pointwise
  exact congrArg (fun z => g (ix2 0 z)) (Fin.ext (by show 128 + d.val = 128 * 1 + d.val; omega))
theorem ld_gain2 : View.ld g r1_8 (ix2 0 d) = g (ix2 0 (lane 2 d)) := by
  pointwise
  exact congrArg (fun z => g (ix2 0 z)) (Fin.ext (by show 256 + d.val = 128 * 2 + d.val; omega))
theorem ld_gain3 : View.ld g r1_10 (ix2 0 d) = g (ix2 0 (lane 3 d)) := by
  pointwise
  exact congrArg (fun z => g (ix2 0 z)) (Fin.ext (by show 384 + d.val = 128 * 3 + d.val; omega))
theorem ld_blk0 {t : EltTy} (G : Vec Ideal S512x512 t) (r : Fin 512) : View.ld G r1_5 (ix2 r d) = G (ix2 r (lane 0 d)) := by
  pointwise
  exact congrArg (fun z => G (ix2 r z)) (Fin.ext (by show d.val = 128 * 0 + d.val; omega))
theorem ld_blk1 {t : EltTy} (G : Vec Ideal S512x512 t) (r : Fin 512) : View.ld G r1_7 (ix2 r d) = G (ix2 r (lane 1 d)) := by
  pointwise
  exact congrArg (fun z => G (ix2 r z)) (Fin.ext (by show 128 + d.val = 128 * 1 + d.val; omega))
theorem ld_blk2 {t : EltTy} (G : Vec Ideal S512x512 t) (r : Fin 512) : View.ld G r1_9 (ix2 r d) = G (ix2 r (lane 2 d)) := by
  pointwise
  exact congrArg (fun z => G (ix2 r z)) (Fin.ext (by show 256 + d.val = 128 * 2 + d.val; omega))
theorem ld_blk3 {t : EltTy} (G : Vec Ideal S512x512 t) (r : Fin 512) : View.ld G r1_11 (ix2 r d) = G (ix2 r (lane 3 d)) := by
  pointwise
  exact congrArg (fun z => G (ix2 r z)) (Fin.ext (by show 384 + d.val = 128 * 3 + d.val; omega))
theorem ld_half0 {t : EltTy} (G : Vec Ideal S512x256 t) (r : Fin 512) : View.ld G r2_4 (ix2 r d) = G (ix2 r (lo d)) := by pointwise
theorem ld_half1 {t : EltTy} (G : Vec Ideal S512x256 t) (r : Fin 512) : View.ld G r2_6 (ix2 r d) = G (ix2 r (hi d)) := by pointwise
theorem ld_low (z : Vec Ideal S1x256 .f32) : View.ld z r2_2 (ix2 0 d) = z (ix2 0 (lo d)) := by pointwise
theorem ld_high (z : Vec Ideal S1x256 .f32) : View.ld z r2_5 (ix2 0 d) = z (ix2 0 (hi d)) := by pointwise
end Loads

section Products
variable (a : Vec Ideal S512x2048 .bf16) (x : Vec Ideal S2048x512 .bf16) (r : Fin 512) (e : Fin 256)
theorem prod0 : prod a (View.ld x r1_1) r e = prod4 a x r (⟨e.val, by omega⟩ : Fin 512) := by
  unfold prod prod4
  exact Finset.sum_congr rfl fun k _ => by rw [ld_cols0]
theorem prod1 : prod a (View.ld x r1_2) r e = prod4 a x r (⟨256 + e.val, by omega⟩ : Fin 512) := by
  unfold prod prod4
  exact Finset.sum_congr rfl fun k _ => by rw [ld_cols1]
end Products

/-! ## The bodies -/

/-- A block of 256 columns whose two heads' rows are `f`. -/
def heads2 (f : Fin 2 → Fin 512 → Fin 128 → EReal) : Fin 512 → Fin 256 → EReal := fun r e => f ⟨e.val / 128, by omega⟩ r ⟨e.val % 128, by omega⟩
theorem heads2_lo (f : Fin 2 → Fin 512 → Fin 128 → EReal) (r : Fin 512) (e : Fin 128) : heads2 f r (lo e) = f 0 r e := by
  have hc : (⟨(lo e).val / 128, by omega⟩ : Fin 2) = 0 := Fin.ext (by show e.val / 128 = 0; omega)
  have he : (⟨(lo e).val % 128, by omega⟩ : Fin 128) = e := Fin.ext (by show e.val % 128 = e.val; omega)
  unfold heads2
  rw [hc, he]
theorem heads2_hi (f : Fin 2 → Fin 512 → Fin 128 → EReal) (r : Fin 512) (e : Fin 128) : heads2 f r (hi e) = f 1 r e := by
  have hc : (⟨(hi e).val / 128, by omega⟩ : Fin 2) = 1 := Fin.ext (by show (128 + e.val) / 128 = 1; omega)
  have he : (⟨(hi e).val % 128, by omega⟩ : Fin 128) = e := Fin.ext (by show (128 + e.val) % 128 = e.val; omega)
  unfold heads2
  rw [hc, he]

section Bodies
variable (a : Vec Ideal S512x2048 .bf16) (x : Vec Ideal S2048x512 .bf16) (w : Vec Ideal S2048x256 .bf16) (g : Vec Ideal S1x512 .f32) (z : Vec Ideal S1x256 .f32)
  (C S : Vec Ideal S512x128 .f32) (r e : Fin 512)

/-- The rows' products, each head's row scaled to norm one, then by the scale, then turned. -/
def scaled (c : Fin 4) (r : Fin 512) : Fin 128 → EReal :=
  turned (headed (fun d => prod4 a x r (lane c d)) (fun d => g (ix2 0 (lane c d)))) (fun d => C (ix2 r d)) (fun d => S (ix2 r d))
/-- The same of two heads. -/
def scaled2 (c : Fin 2) (r : Fin 512) : Fin 128 → EReal :=
  turned (headed (fun d => prod a w r (⟨128 * c.val + d.val, by omega⟩ : Fin 256)) (fun d => z (ix2 0 (⟨128 * c.val + d.val, by omega⟩ : Fin 256)))) (fun d => C (ix2 r d)) (fun d => S (ix2 r d))
/-- The rows' products, each 64 turned. -/
def plain (c : Fin 4) (r : Fin 512) : Fin 128 → EReal := turned2 (fun d => prod4 a x r (lane c d)) (fun d => C (ix2 r d)) (fun d => S (ix2 r d))

theorem out0_at (x : Vec Ideal S512x2048 .f32) (s : Vec Ideal S1x2048 .f32) (k : Fin 2048) : out0_2 x s (ix2 r k)
    = x (ix2 r k) * factor (Ideal.ofBits .f32 0x45000000#32) (fun k' => x (ix2 r k')) * s (ix2 0 k) := by
  unfold out0_2
  rw [View.canon_cons_unit_lit _ _ _ (by decide), k0_pay,
    show View.ld x r0_0 = x from View.ld_unit_lit _ _ (by decide), show View.ld s r0_1 = s from View.ld_unit_lit _ _ (by decide)]

theorem out1_at : out1_5 a x g C S (ix2 r e) = heads (scaled a x g C S) r e := by
  unfold out1_5 k1_pay12
  refine congrFun (canon_of_pieces _ (fun y : S512x512.Idx => heads (scaled a x g C S) (y 0) (y 1)) ?_ (cover1_5 _ _ _ _)) (ix2 r e)
  refine ⟨fun y => ?_, fun y => ?_, fun y => ?_, fun y => ?_, trivial⟩
  all_goals
    obtain ⟨r, e, rfl⟩ : ∃ (r : Fin 512) (e : Fin 128), y = ix2 r e := ⟨y 0, y 1, by funext i; fin_cases i <;> rfl⟩
  · refine (k1_pay2_at _ _ _ _ r e).trans (Eq.trans ?_ (ld_blk3 e (t := .bf16) (fun y => heads (scaled a x g C S) (y 0) (y 1)) r).symm)
    refine Eq.trans ?_ (heads_lane _ 3 r e).symm
    simp only [k1_pay5_at, prod1, ld_rows]
    rw [show View.ld C r1_4 = C from ld_table C, show View.ld S r1_4 = S from ld_table S]
    exact congrArg (fun y => turned y (fun d => C (ix2 r d)) (fun d => S (ix2 r d)) e)
      (funext fun e => congrArg₂ (headed · · e) (funext fun d => congrArg (prod4 a x r) (lane_hi1 d)) (funext fun d => ld_gain3 g d))
  · refine (k1_pay1_at _ _ _ _ r e).trans (Eq.trans ?_ (ld_blk2 e (t := .bf16) (fun y => heads (scaled a x g C S) (y 0) (y 1)) r).symm)
    refine Eq.trans ?_ (heads_lane _ 2 r e).symm
    simp only [k1_pay5_at, prod1, ld_rows]
    rw [show View.ld C r1_4 = C from ld_table C, show View.ld S r1_4 = S from ld_table S]
    exact congrArg (fun y => turned y (fun d => C (ix2 r d)) (fun d => S (ix2 r d)) e)
      (funext fun e => congrArg₂ (headed · · e) (funext fun d => congrArg (prod4 a x r) (lane_lo1 d)) (funext fun d => ld_gain2 g d))
  · refine (k1_pay9_at _ _ _ _ _ r e).trans (Eq.trans ?_ (ld_blk1 e (t := .bf16) (fun y => heads (scaled a x g C S) (y 0) (y 1)) r).symm)
    refine Eq.trans ?_ (heads_lane _ 1 r e).symm
    simp only [prod0, ld_rows]
    rw [show View.ld C r1_4 = C from ld_table C, show View.ld S r1_4 = S from ld_table S]
    exact congrArg (fun y => turned y (fun d => C (ix2 r d)) (fun d => S (ix2 r d)) e)
      (funext fun e => congrArg₂ (headed · · e) (funext fun d => congrArg (prod4 a x r) (lane_hi0 d)) (funext fun d => ld_gain1 g d))
  · refine (k1_pay6_at _ _ _ _ _ r e).trans (Eq.trans ?_ (ld_blk0 e (t := .bf16) (fun y => heads (scaled a x g C S) (y 0) (y 1)) r).symm)
    refine Eq.trans ?_ (heads_lane _ 0 r e).symm
    simp only [prod0, ld_rows]
    rw [show View.ld C r1_4 = C from ld_table C, show View.ld S r1_4 = S from ld_table S]
    exact congrArg (fun y => turned y (fun d => C (ix2 r d)) (fun d => S (ix2 r d)) e)
      (funext fun e => congrArg₂ (headed · · e) (funext fun d => congrArg (prod4 a x r) (lane_lo0 d)) (funext fun d => ld_gain0 g d))

theorem out2_at (e : Fin 256) : out2_5 a w z C S (ix2 r e) = heads2 (scaled2 a w z C S) r e := by
  unfold out2_5 k2_pay8 k2_pay9
  refine congrFun (canon_of_pieces _ (fun y : S512x256.Idx => heads2 (scaled2 a w z C S) (y 0) (y 1)) ?_ (cover2_5 _ _)) (ix2 r e)
  refine ⟨fun y => ?_, fun y => ?_, trivial⟩
  all_goals
    obtain ⟨r, e, rfl⟩ : ∃ (r : Fin 512) (e : Fin 128), y = ix2 r e := ⟨y 0, y 1, by funext i; fin_cases i <;> rfl⟩
  · refine (k2_pay1_at _ _ _ _ _ r e).trans (Eq.trans ?_ (ld_half1 e (t := .f32) (fun y => heads2 (scaled2 a w z C S) (y 0) (y 1)) r).symm)
    refine Eq.trans ?_ (heads2_hi _ r e).symm
    rw [show View.ld a r2_0 = a from ld_rows a, ld_weight, show View.ld C r2_3 = C from ld_table C, show View.ld S r2_3 = S from ld_table S]
    exact congrArg (fun y => turned y (fun d => C (ix2 r d)) (fun d => S (ix2 r d)) e) (funext fun e => congrArg (headed _ · e) (funext fun d => ld_high d z))
  · refine (k2_pay4_at _ _ _ _ _ r e).trans (Eq.trans ?_ (ld_half0 e (t := .f32) (fun y => heads2 (scaled2 a w z C S) (y 0) (y 1)) r).symm)
    refine Eq.trans ?_ (heads2_lo _ r e).symm
    rw [show View.ld a r2_0 = a from ld_rows a, ld_weight, show View.ld C r2_3 = C from ld_table C, show View.ld S r2_3 = S from ld_table S]
    refine congrArg (fun y => turned y (fun d => C (ix2 r d)) (fun d => S (ix2 r d)) e) (funext fun e => congrArg₂ (headed · · e) (funext fun d => ?_) (funext fun d => (ld_low d z).trans ?_))
    · exact congrArg (prod a w r) (Fin.ext (by show d.val = 128 * 0 + d.val; omega))
    · exact congrArg (fun i => z (ix2 0 i)) (Fin.ext (by show d.val = 128 * 0 + d.val; omega))

theorem out2_at' (e : Fin 256) : out2_6 a w z C S (ix2 r e) = heads2 (scaled2 a w z C S) r e := by
  unfold out2_6 k2_pay8 k2_pay9
  refine congrFun (canon_of_pieces _ (fun y : S512x256.Idx => heads2 (scaled2 a w z C S) (y 0) (y 1)) ?_ (cover2_6 _ _)) (ix2 r e)
  refine ⟨fun y => ?_, fun y => ?_, trivial⟩
  all_goals
    obtain ⟨r, e, rfl⟩ : ∃ (r : Fin 512) (e : Fin 128), y = ix2 r e := ⟨y 0, y 1, by funext i; fin_cases i <;> rfl⟩
  · refine (k2_pay1_at _ _ _ _ _ r e).trans (Eq.trans ?_ (ld_half1 e (t := .bf16) (fun y => heads2 (scaled2 a w z C S) (y 0) (y 1)) r).symm)
    refine Eq.trans ?_ (heads2_hi _ r e).symm
    rw [show View.ld a r2_0 = a from ld_rows a, ld_weight, show View.ld C r2_3 = C from ld_table C, show View.ld S r2_3 = S from ld_table S]
    exact congrArg (fun y => turned y (fun d => C (ix2 r d)) (fun d => S (ix2 r d)) e) (funext fun e => congrArg (headed _ · e) (funext fun d => ld_high d z))
  · refine (k2_pay4_at _ _ _ _ _ r e).trans (Eq.trans ?_ (ld_half0 e (t := .bf16) (fun y => heads2 (scaled2 a w z C S) (y 0) (y 1)) r).symm)
    refine Eq.trans ?_ (heads2_lo _ r e).symm
    rw [show View.ld a r2_0 = a from ld_rows a, ld_weight, show View.ld C r2_3 = C from ld_table C, show View.ld S r2_3 = S from ld_table S]
    refine congrArg (fun y => turned y (fun d => C (ix2 r d)) (fun d => S (ix2 r d)) e) (funext fun e => congrArg₂ (headed · · e) (funext fun d => ?_) (funext fun d => (ld_low d z).trans ?_))
    · exact congrArg (prod a w r) (Fin.ext (by show d.val = 128 * 0 + d.val; omega))
    · exact congrArg (fun i => z (ix2 0 i)) (Fin.ext (by show d.val = 128 * 0 + d.val; omega))

theorem out3_at : out3_4 a x C S (ix2 r e) = heads (plain a x C S) r e := by
  unfold out3_4 k3_pay17
  refine congrFun (canon_of_pieces _ (fun y : S512x512.Idx => heads (plain a x C S) (y 0) (y 1)) ?_ (cover3_4 _ _ _ _)) (ix2 r e)
  refine ⟨fun y => ?_, fun y => ?_, fun y => ?_, fun y => ?_, trivial⟩
  all_goals
    obtain ⟨r, e, rfl⟩ : ∃ (r : Fin 512) (e : Fin 128), y = ix2 r e := ⟨y 0, y 1, by funext i; fin_cases i <;> rfl⟩
  · refine (k3_pay1_at _ _ _ r e).trans (Eq.trans ?_ (ld_blk3 e (t := .bf16) (fun y => heads (plain a x C S) (y 0) (y 1)) r).symm)
    refine Eq.trans ?_ (heads_lane _ 3 r e).symm
    rw [show View.ld a r3_0 = a from ld_rows a, show View.ld C r3_3 = C from ld_table C, show View.ld S r3_3 = S from ld_table S]
    simp only [k3_pay4_at]
    exact congrArg (fun y => turned2 y (fun d => C (ix2 r d)) (fun d => S (ix2 r d)) e) (funext fun d => (prod1 a x r _).trans (congrArg (prod4 a x r) (lane_hi1 d)))
  · refine (k3_pay12_at _ _ _ r e).trans (Eq.trans ?_ (ld_blk2 e (t := .bf16) (fun y => heads (plain a x C S) (y 0) (y 1)) r).symm)
    refine Eq.trans ?_ (heads_lane _ 2 r e).symm
    rw [show View.ld a r3_0 = a from ld_rows a, show View.ld C r3_3 = C from ld_table C, show View.ld S r3_3 = S from ld_table S]
    simp only [k3_pay4_at]
    exact congrArg (fun y => turned2 y (fun d => C (ix2 r d)) (fun d => S (ix2 r d)) e) (funext fun d => (prod1 a x r _).trans (congrArg (prod4 a x r) (lane_lo1 d)))
  · refine (k3_pay9_at _ _ _ r e).trans (Eq.trans ?_ (ld_blk1 e (t := .bf16) (fun y => heads (plain a x C S) (y 0) (y 1)) r).symm)
    refine Eq.trans ?_ (heads_lane _ 1 r e).symm
    rw [show View.ld a r3_0 = a from ld_rows a, show View.ld C r3_3 = C from ld_table C, show View.ld S r3_3 = S from ld_table S]
    simp only [k3_pay3_at]
    exact congrArg (fun y => turned2 y (fun d => C (ix2 r d)) (fun d => S (ix2 r d)) e) (funext fun d => (prod0 a x r _).trans (congrArg (prod4 a x r) (lane_hi0 d)))
  · refine (k3_pay8_at _ _ _ _ r e).trans (Eq.trans ?_ (ld_blk0 e (t := .bf16) (fun y => heads (plain a x C S) (y 0) (y 1)) r).symm)
    refine Eq.trans ?_ (heads_lane _ 0 r e).symm
    rw [show View.ld a r3_0 = a from ld_rows a, show View.ld C r3_3 = C from ld_table C, show View.ld S r3_3 = S from ld_table S]
    exact congrArg (fun y => turned2 y (fun d => C (ix2 r d)) (fun d => S (ix2 r d)) e) (funext fun d => (prod0 a x r _).trans (congrArg (prod4 a x r) (lane_lo0 d)))

end Bodies

end Cert.Rope

end
-- ==== Proof.Rope.Tables.lean ====
/-
  Rotary: the tables the host makes of the angles, and what a turned row is in terms of them.
-/
module

public import proofs.«01_k».proof.Proof.Rope.Blocks

@[expose] public section

set_option maxRecDepth 16384

noncomputable section

namespace Cert.Rope

open Idealize.ShloMosaic Idealize.ShloMosaic.TcCoe Idealize.SL.Sem
open Cert.Kernel5Ideal Cert.Kernel5Ideal.Gen

/-! ## The tables -/

/-- The angles of 64 frequencies, position by position. -/
def ang64 : FVec Ideal S4096x64 .f32 :=
  mulf (broadcastInDim S4096x64 ![0, 1] bcast_S4096x1_S4096x64_0_1 (broadcastInDim S4096x1 ![0] bcast_S4096_S4096x1_0 (sitofp .f32 (iotaInDim S4096 32 0))))
    (broadcastInDim S4096x64 ![0, 1] bcast_S1x64_S4096x64_0_1 (broadcastInDim S1x64 ![1] bcast_S64_S1x64_1
      (Host.powf (broadcastInDim S64 ![] bcast_S_S64 (constant S_ .f32 0x461C4000#32))
        (Host.divf (Host.negf (sitofp .f32 (iotaInDim S64 32 0))) (broadcastInDim S64 ![] bcast_S_S64 (constant S_ .f32 0x42800000#32))))))
/-- The angles of 32 frequencies. -/
def ang32 : FVec Ideal S4096x32 .f32 :=
  mulf (broadcastInDim S4096x32 ![0, 1] bcast_S4096x1_S4096x32_0_1 (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

section Tables
variable (a : FVec Ideal S4096x64 .f32) (b : FVec Ideal S4096x32 .f32) (p : Fin 4096) (e : Fin 128)

/-- The cosines twice over, and the sines, first with their signs turned. -/
def cosT : FVec Ideal S4096x128 .f32 := shapeCast S4096x128 (broadcastInDim S1x4096x1x128 ![0, 1, 2, 3] bcast_S1x4096x1x128_S1x4096x1x128_0_1_2_3
  (shapeCast S1x4096x1x128 (concatenate S4096x128 1 [⟨S4096x64, Host.cos a⟩, ⟨S4096x64, Host.cos a⟩] concatenates_S4096x64_S4096x64_S4096x128_d1 : FVec Ideal S4096x128 .f32)
    shapeCasts_S4096x128_S1x4096x1x128)) shapeCasts_S1x4096x1x128_S4096x128
def sinT : FVec Ideal S4096x128 .f32 := shapeCast S4096x128 (broadcastInDim S1x4096x1x128 ![0, 1, 2, 3] bcast_S1x4096x1x128_S1x4096x1x128_0_1_2_3
  (shapeCast S1x4096x1x128 (concatenate S4096x128 1 [⟨S4096x64, Host.negf (Host.sin a)⟩, ⟨S4096x64, Host.sin a⟩] concatenates_S4096x64_S4096x64_S4096x128_d1 : FVec Ideal S4096x128 .f32)
    shapeCasts_S4096x128_S1x4096x1x128)) shapeCasts_S1x4096x1x128_S4096x128
/-- The same of 32 frequencies, for two rows side by side. -/
def cosT2 : FVec Ideal S4096x128 .f32 := shapeCast S4096x128 (broadcastInDim S1x4096x2x64 ![0, 1, 2, 3] bcast_S1x4096x1x64_S1x4096x2x64_0_1_2_3
  (shapeCast S1x4096x1x64 (concatenate S4096x64 1 [⟨S4096x32, Host.cos b⟩, ⟨S4096x32, Host.cos b⟩] concatenates_S4096x32_S4096x32_S4096x64_d1 : FVec Ideal S4096x64 .f32)
    shapeCasts_S4096x64_S1x4096x1x64)) shapeCasts_S1x4096x2x64_S4096x128
def sinT2 : FVec Ideal S4096x128 .f32 := shapeCast S4096x128 (broadcastInDim S1x4096x2x64 ![0, 1, 2, 3] bcast_S1x4096x1x64_S1x4096x2x64_0_1_2_3
  (shapeCast S1x4096x1x64 (concatenate S4096x64 1 [⟨S4096x32, Host.negf (Host.sin b)⟩, ⟨S4096x32, Host.sin b⟩] concatenates_S4096x32_S4096x32_S4096x64_d1 : FVec Ideal S4096x64 .f32)
    shapeCasts_S4096x64_S1x4096x1x64)) shapeCasts_S1x4096x2x64_S4096x128

theorem cosT_at : cosT a (ix2 p e) = Ideal.cos (a (ix2 p (⟨e.val % 64, Nat.mod_lt _ (by decide)⟩ : Fin 64))) := by
  unfold cosT
  pointwise
  split <;> exact congrArg (fun i => Ideal.cos (a (ix2 p i))) (Fin.ext (by simp only []; omega))
theorem sinT_at : sinT a (ix2 p e) = if e.val < 64 then -Ideal.sin (a (ix2 p (⟨e.val % 64, Nat.mod_lt _ (by decide)⟩ : Fin 64))) else Ideal.sin (a (ix2 p (⟨e.val % 64, Nat.mod_lt _ (by decide)⟩ : Fin 64))) := by
  unfold sinT
  pointwise
  split
  · exact congrArg (fun i => -Ideal.sin (a (ix2 p i))) (Fin.ext (by simp only []; omega))
  · exact congrArg (fun i => Ideal.sin (a (ix2 p i))) (Fin.ext (by simp only []; omega))
theorem cosT2_at : cosT2 b (ix2 p e) = Ideal.cos (b (ix2 p (⟨e.val % 32, Nat.mod_lt _ (by decide)⟩ : Fin 32))) := by
  unfold cosT2
  pointwise
  split <;> exact congrArg (fun i => Ideal.cos (b (ix2 p i))) (Fin.ext (by simp only []; omega))
theorem sinT2_at : sinT2 b (ix2 p e) = if e.val % 64 < 32 then -Ideal.sin (b (ix2 p (⟨e.val % 32, Nat.mod_lt _ (by decide)⟩ : Fin 32))) else Ideal.sin (b (ix2 p (⟨e.val % 32, Nat.mod_lt _ (by decide)⟩ : Fin 32))) := by
  unfold sinT2
  pointwise
  split
  · exact congrArg (fun i => -Ideal.sin (b (ix2 p i))) (Fin.ext (by simp only []; omega))
  · exact congrArg (fun i => Ideal.sin (b (ix2 p i))) (Fin.ext (by simp only []; omega))
end Tables

/-! ## Turned rows -/

/-- A row of 128 turned by the angles `a`, half against half. -/
def roped (y : Fin 128 → EReal) (a : Fin 64 → EReal) (e : Fin 128) : EReal :=
  if h : e.val < 64 then y ⟨e.val, by omega⟩ * Ideal.cos (a ⟨e.val, h⟩) - y ⟨64 + e.val, by omega⟩ * Ideal.sin (a ⟨e.val, h⟩)
  else y ⟨64 + (e.val - 64), by omega⟩ * Ideal.cos (a ⟨e.val - 64, by omega⟩) + y ⟨e.val - 64, by omega⟩ * Ideal.sin (a ⟨e.val - 64, by omega⟩)
/-- A row of 64. -/
def roped2 (y : Fin 64 → EReal) (a : Fin 32 → EReal) (e : Fin 64) : EReal :=
  if h : e.val < 32 then y ⟨e.val, by omega⟩ * Ideal.cos (a ⟨e.val, h⟩) - y ⟨32 + e.val, by omega⟩ * Ideal.sin (a ⟨e.val, h⟩)
  else y ⟨32 + (e.val - 32), by omega⟩ * Ideal.cos (a ⟨e.val - 32, by omega⟩) + y ⟨e.val - 32, by omega⟩ * Ideal.sin (a ⟨e.val - 32, by omega⟩)

theorem turned_roped (y : Fin 128 → EReal) (a : Fin 64 → EReal) (c s : Fin 128 → EReal)
    (hc : ∀ e, c e = Ideal.cos (a (⟨e.val % 64, Nat.mod_lt _ (by decide)⟩ : Fin 64)))
    (hs : ∀ e, s e = if e.val < 64 then -Ideal.sin (a (⟨e.val % 64, Nat.mod_lt _ (by decide)⟩ : Fin 64)) else Ideal.sin (a (⟨e.val % 64, Nat.mod_lt _ (by decide)⟩ : Fin 64)))
    (e : Fin 128) : turned y c s e = roped y a e := by
  unfold turned roped
  rw [hc, hs]
  by_cases h : e.val < 64
  · have h1 : (⟨e.val % 64, Nat.mod_lt _ (by decide)⟩ : Fin 64) = ⟨e.val, h⟩ := Fin.ext (Nat.mod_eq_of_lt h)
    have h2 : (⟨(e.val + 128 - 64) % 128, Nat.mod_lt _ (by decide)⟩ : Fin 128) = ⟨64 + e.val, by omega⟩ := Fin.ext (by simp only []; omega)
    rw [if_pos h, dif_pos h, h1, h2, mul_neg, sub_eq_add_neg]
  · have h1 : (⟨e.val % 64, Nat.mod_lt _ (by decide)⟩ : Fin 64) = ⟨e.val - 64, by omega⟩ := Fin.ext (by simp only []; omega)
    have h2 : (⟨(e.val + 128 - 64) % 128, Nat.mod_lt _ (by decide)⟩ : Fin 128) = ⟨e.val - 64, by omega⟩ := Fin.ext (by simp only []; omega)
    have h3 : (⟨64 + (e.val - 64), by omega⟩ : Fin 128) = e := Fin.ext (by simp only []; omega)
    rw [if_neg h, dif_neg h, h1, h2, h3]

theorem turned2_roped2 (y : Fin 128 → EReal) (b : Fin 32 → EReal) (c s : Fin 128 → EReal)
    (hc : ∀ e, c e = Ideal.cos (b (⟨e.val % 32, Nat.mod_lt _ (by decide)⟩ : Fin 32)))
    (hs : ∀ e, s e = if e.val % 64 < 32 then -Ideal.sin (b (⟨e.val % 32, Nat.mod_lt _ (by decide)⟩ : Fin 32)) else Ideal.sin (b (⟨e.val % 32, Nat.mod_lt _ (by decide)⟩ : Fin 32)))
    (e : Fin 128) : turned2 y c s e = roped2 (fun d => y ⟨64 * (e.val / 64) + d.val, by omega⟩) b ⟨e.val % 64, Nat.mod_lt _ (by decide)⟩ := by
  rw [turned2_eq]
  unfold roped2 mate
  rw [hc, hs]
  by_cases h : e.val % 64 < 32
  · have h1 : (⟨e.val % 32, Nat.mod_lt _ (by decide)⟩ : Fin 32) = ⟨e.val % 64, h⟩ := Fin.ext (by simp only []; omega)
    have h2 : (⟨(e.val + 128 - 96) % 128, Nat.mod_lt _ (by decide)⟩ : Fin 128) = ⟨64 * (e.val / 64) + (32 + e.val % 64), by omega⟩ := Fin.ext (by simp only []; omega)
    have h3 : (⟨64 * (e.val / 64) + e.val % 64, by omega⟩ : Fin 128) = e := Fin.ext (by simp only []; omega)
    rw [if_pos h, if_pos h, dif_pos h, h1, h2, mul_neg, sub_eq_add_neg]
    simp only [h3]
  · have h1 : (⟨e.val % 32, Nat.mod_lt _ (by decide)⟩ : Fin 32) = ⟨e.val % 64 - 32, by omega⟩ := Fin.ext (by simp only []; omega)
    have h2 : (⟨(e.val + 128 - 32) % 128, Nat.mod_lt _ (by decide)⟩ : Fin 128) = ⟨64 * (e.val / 64) + (e.val % 64 - 32), by omega⟩ := Fin.ext (by simp only []; omega)
    have h3 : (⟨64 * (e.val / 64) + (32 + (e.val % 64 - 32)), by omega⟩ : Fin 128) = e := Fin.ext (by simp only []; omega)
    rw [if_neg h, if_neg h, dif_neg h, h1, h2]
    simp only [h3]

end Cert.Rope

end
-- ==== Proof.Rope.Arrays.lean ====
/-
  The arrays the launches with rotary read and write, in closed form over the arguments.
-/
module

public import proofs.«01_k».proof.Proof.Rope.Tables
public import proofs.«01_k».proof.Proof.Proj.Arrays

@[expose] public section

set_option maxRecDepth 16384

noncomputable section

namespace Cert.Rope

open Idealize.ShloMosaic Idealize.ShloMosaic.TcCoe Idealize.SL.Sem
open Cert.Proj (factor headed prod prod4 lane heads inRow normed col normedArr prod4_col packed tiled tiled_at rows_at scale_at)
open Cert.Kernel5Ideal Cert.Kernel5Ideal.Gen

/-! ## The mathematics -/

section Maths
variable (x : Vec Ideal S2x4096x2048 .f32) (g : Vec Ideal S2048 .f32) (w : Vec Ideal S2048x5720 .f32) (s : Vec Ideal S128 .f32)
  (A : FVec Ideal S4096x64 .f32) (B : FVec Ideal S4096x32 .f32)

/-- A row's products with the 128 columns from `n` on, scaled to norm one, then by the scale. -/
def headRow (R n : ℕ) : Fin 128 → EReal := headed (fun d => col x g w R (n + d.val)) (fun d => s (ix1 d))
/-- The angles of a row's position in its sequence. -/
def angRow (R : ℕ) (i : Fin 64) : EReal := A (ix2 (⟨R % 4096, Nat.mod_lt _ (by decide)⟩ : Fin 4096) i)
def angRow2 (R : ℕ) (i : Fin 32) : EReal := B (ix2 (⟨R % 4096, Nat.mod_lt _ (by decide)⟩ : Fin 4096) i)
/-- The heads from column `o` on, scaled and turned. -/
def ropedAt (o R n : ℕ) : EReal := roped (headRow x g w s R (o + 128 * (n / 128))) (angRow A R) ⟨n % 128, Nat.mod_lt _ (by decide)⟩
/-- The heads of 64 from column `o` on, turned. -/
def ropedAt2 (o R n : ℕ) : EReal := roped2 (fun d => col x g w R (o + 64 * (n / 64) + d.val)) (angRow2 B R) ⟨n % 64, Nat.mod_lt _ (by decide)⟩

/-- As arrays. -/
def ropedArr (o : ℕ) : Vec Ideal S8192x1024 .bf16 := fun y => ropedAt x g w s A o (y 0).val (y 1).val
def ropedArr' (o : ℕ) : Vec Ideal S8192x256 .f32 := fun y => ropedAt x g w s A o (y 0).val (y 1).val
def ropedArr2 (o : ℕ) : Vec Ideal S8192x1024 .bf16 := fun y => ropedAt2 x g w B o (y 0).val (y 1).val

/-- A tile of four heads is a part of the whole, when its rows, columns, scale and angles are the whole's. -/
theorem heads_ropedAt (a : Vec Ideal S512x2048 .bf16) (b : Vec Ideal S2048x512 .bf16) (z : Vec Ideal S1x512 .f32) (C S : Vec Ideal S512x128 .f32) (r e : Fin 512) (R o q : ℕ)
    (ha : ∀ k, a (ix2 r k) = normed x g R k)
    (hb : ∀ (k : Fin 2048) (e : Fin 512), b (ix2 k e) = w (ix2 k (⟨(o + 512 * q + e.val) % 5720, Nat.mod_lt _ (by decide)⟩ : Fin 5720)))
    (hz : ∀ e : Fin 512, z (ix2 0 e) = s (ix1 (⟨e.val % 128, Nat.mod_lt _ (by decide)⟩ : Fin 128)))
    (hC : ∀ d : Fin 128, C (ix2 r d) = Ideal.cos (angRow A R (⟨d.val % 64, Nat.mod_lt _ (by decide)⟩ : Fin 64)))
    (hS : ∀ d : Fin 128, S (ix2 r d) = if d.val < 64 then -Ideal.sin (angRow A R (⟨d.val % 64, Nat.mod_lt _ (by decide)⟩ : Fin 64)) else Ideal.sin (angRow A R (⟨d.val % 64, Nat.mod_lt _ (by decide)⟩ : Fin 64))) :
    heads (scaled a b z C S) r e = ropedAt x g w s A o R (512 * q + e.val) := by
  have hl : ∀ (c : Fin 4) (d : Fin 128), (lane c d).val = 128 * c.val + d.val := fun c d => by
    unfold lane
    simp only [] <;> omega
  have he := e.isLt
  unfold heads scaled ropedAt headRow
  refine (turned_roped _ (angRow A R) _ _ hC hS _).trans ?_
  have h1 : ∀ d : Fin 128, prod4 a b r (lane ⟨e.val / 128, by omega⟩ d) = col x g w R (o + 128 * ((512 * q + e.val) / 128) + d.val) := fun d =>
    prod4_col x g w a b r _ R _ ha fun k => by
      rw [hb]
      refine congrArg w (congrArg (ix2 k) (Fin.ext ?_))
      show (o + 512 * q + (lane _ d).val) % 5720 = _
      rw [hl]
      congr 1
      simp only []
      omega
  have h2 : ∀ d : Fin 128, z (ix2 0 (lane ⟨e.val / 128, by omega⟩ d)) = s (ix1 d) := fun d => by
    rw [hz]
    refine congrArg s (congrArg ix1 (Fin.ext ?_))
    show (lane _ d).val % 128 = d.val
    rw [hl]
    have := d.isLt
    omega
  have h3 : (⟨e.val % 128, by omega⟩ : Fin 128) = ⟨(512 * q + e.val) % 128, by omega⟩ := Fin.ext (by simp only []; omega)
  rw [h3]
  exact congrArg₂ (fun f h => roped (headed f h) (angRow A R) (⟨(512 * q + e.val) % 128, by omega⟩ : Fin 128)) (funext h1) (funext h2)

/-- The same for a tile of two heads. -/
theorem heads2_ropedAt (a : Vec Ideal S512x2048 .bf16) (b : Vec Ideal S2048x256 .bf16) (z : Vec Ideal S1x256 .f32) (C S : Vec Ideal S512x128 .f32) (r : Fin 512) (e : Fin 256) (R o : ℕ)
    (ha : ∀ k, a (ix2 r k) = normed x g R k)
    (hb : ∀ (k : Fin 2048) (e : Fin 256), b (ix2 k e) = w (ix2 k (⟨(o + e.val) % 5720, Nat.mod_lt _ (by decide)⟩ : Fin 5720)))
    (hz : ∀ e : Fin 256, z (ix2 0 e) = s (ix1 (⟨e.val % 128, Nat.mod_lt _ (by decide)⟩ : Fin 128)))
    (hC : ∀ d : Fin 128, C (ix2 r d) = Ideal.cos (angRow A R (⟨d.val % 64, Nat.mod_lt _ (by decide)⟩ : Fin 64)))
    (hS : ∀ d : Fin 128, S (ix2 r d) = if d.val < 64 then -Ideal.sin (angRow A R (⟨d.val % 64, Nat.mod_lt _ (by decide)⟩ : Fin 64)) else Ideal.sin (angRow A R (⟨d.val % 64, Nat.mod_lt _ (by decide)⟩ : Fin 64))) :
    heads2 (scaled2 a b z C S) r e = ropedAt x g w s A o R e.val := by
  have he := e.isLt
  unfold heads2 scaled2 ropedAt headRow
  refine (turned_roped _ (angRow A R) _ _ hC hS _).trans ?_
  have h1 : ∀ d : Fin 128, prod a b r (⟨128 * (e.val / 128) + d.val, by omega⟩ : Fin 256) = col x g w R (o + 128 * (e.val / 128) + d.val) := fun d => by
    unfold prod col
    refine Finset.sum_congr rfl fun k _ => ?_
    rw [ha, hb]
    exact congrArg (fun i => normed x g R k * w (ix2 k i)) (Fin.ext (by simp only []; omega))
  have h2 : ∀ d : Fin 128, z (ix2 0 (⟨128 * (e.val / 128) + d.val, by omega⟩ : Fin 256)) = s (ix1 d) := fun d => by
    rw [hz]
    exact congrArg s (congrArg ix1 (Fin.ext (by simp only []; omega)))
  exact congrArg₂ (fun f h => roped (headed f h) (angRow A R) (⟨e.val % 128, by omega⟩ : Fin 128)) (funext h1) (funext h2)

/-- The same for a tile of eight heads of 64. -/
theorem heads_ropedAt2 (a : Vec Ideal S512x2048 .bf16) (b : Vec Ideal S2048x512 .bf16) (C S : Vec Ideal S512x128 .f32) (r e : Fin 512) (R o q : ℕ)
    (ha : ∀ k, a (ix2 r k) = normed x g R k)
    (hb : ∀ (k : Fin 2048) (e : Fin 512), b (ix2 k e) = w (ix2 k (⟨(o + 512 * q + e.val) % 5720, Nat.mod_lt _ (by decide)⟩ : Fin 5720)))
    (hC : ∀ d : Fin 128, C (ix2 r d) = Ideal.cos (angRow2 B R (⟨d.val % 32, Nat.mod_lt _ (by decide)⟩ : Fin 32)))
    (hS : ∀ d : Fin 128, S (ix2 r d) = if d.val % 64 < 32 then -Ideal.sin (angRow2 B R (⟨d.val % 32, Nat.mod_lt _ (by decide)⟩ : Fin 32)) else Ideal.sin (angRow2 B R (⟨d.val % 32, Nat.mod_lt _ (by decide)⟩ : Fin 32))) :
    heads (plain a b C S) r e = ropedAt2 x g w B o R (512 * q + e.val) := by
  have hl : ∀ (c : Fin 4) (d : Fin 128), (lane c d).val = 128 * c.val + d.val := fun c d => by
    unfold lane
    simp only [] <;> omega
  have he := e.isLt
  unfold heads plain ropedAt2
  refine (turned2_roped2 _ (angRow2 B R) _ _ hC hS _).trans ?_
  have h1 : ∀ d : Fin 64, prod4 a b r (lane ⟨e.val / 128, by omega⟩ (⟨64 * (e.val % 128 / 64) + d.val, by omega⟩ : Fin 128)) = col x g w R (o + 64 * ((512 * q + e.val) / 64) + d.val) := fun d =>
    prod4_col x g w a b r _ R _ ha fun k => by
      rw [hb]
      refine congrArg w (congrArg (ix2 k) (Fin.ext ?_))
      show (o + 512 * q + (lane _ _).val) % 5720 = _
      rw [hl]
      congr 1
      simp only []
      omega
  have h3 : (⟨e.val % 128 % 64, by omega⟩ : Fin 64) = ⟨(512 * q + e.val) % 64, by omega⟩ := Fin.ext (by simp only []; omega)
  refine Eq.trans (b := roped2 (fun d => prod4 a b r (lane ⟨e.val / 128, by omega⟩ (⟨64 * (e.val % 128 / 64) + d.val, by omega⟩ : Fin 128))) (angRow2 B R) (⟨e.val % 128 % 64, by omega⟩ : Fin 64)) rfl ?_
  rw [h3]
  exact congrArg (fun f => roped2 f (angRow2 B R) (⟨(512 * q + e.val) % 64, by omega⟩ : Fin 64)) (funext h1)

end Maths

variable (m : (ℓ : Loc nD τ sig) → Buf (Elt Ideal) ℓ) (ρ : Dev nD → PrngReg) (c : Dev nD)

abbrev argX : Vec Ideal S2x4096x2048 .f32 := m ((c.tc : Thread nD τ).loc main_arg0)
abbrev argG : Vec Ideal S2048 .f32 := m ((c.tc : Thread nD τ).loc main_arg1)
abbrev argW : Vec Ideal S2048x5720 .f32 := m ((c.tc : Thread nD τ).loc main_arg2)
abbrev argQ : Vec Ideal S128 .f32 := m ((c.tc : Thread nD τ).loc main_arg3)
abbrev argK : Vec Ideal S128 .f32 := m ((c.tc : Thread nD τ).loc main_arg4)

/-! ## The host's arrays -/

theorem v51_eq : V1 m ρ c main_v51 = (shapeCast S8192x2048 (argX m c) shapeCasts_S2x4096x2048_S8192x2048 : Vec Ideal S8192x2048 .f32) := by
  dsimp only [V1, W1]
  simp only [hostOps0]
  after_results_simp
  all_goals rfl
theorem v52_eq : V1 m ρ c main_v52 = (shapeCast S1x2048 (argG m c) shapeCasts_S2048_S1x2048 : Vec Ideal S1x2048 .f32) := by
  dsimp only [V1, W1]
  simp only [hostOps0]
  after_results_simp
  all_goals rfl
theorem v18_eq : V1 m ρ c main_v18 = cosT ang64 := by
  dsimp only [V1, W1]
  simp only [hostOps0]
  after_results_simp
  all_goals rfl
theorem v25_eq : V1 m ρ c main_v25 = sinT ang64 := by
  dsimp only [V1, W1]
  simp only [hostOps0]
  after_results_simp
  all_goals rfl
theorem v43_eq : V1 m ρ c main_v43 = cosT2 ang32 := by
  dsimp only [V1, W1]
  simp only [hostOps0]
  after_results_simp
  all_goals rfl
theorem v50_eq : V1 m ρ c main_v50 = sinT2 ang32 := by
  dsimp only [V1, W1]
  simp only [hostOps0]
  after_results_simp
  all_goals rfl
/-- A head's scale, twice over. -/
def tiled2 (s : FVec Ideal S128 .f32) : FVec Ideal S1x256 .f32 :=
  shapeCast S1x256 (shapeCast S256 (broadcastInDim S2x128 ![0, 1] bcast_S1x128_S2x128_0_1 (shapeCast S1x128 s shapeCasts_S128_S1x128)) shapeCasts_S2x128_S256) shapeCasts_S256_S1x256
theorem v62_eq : V3 m ρ c main_v62 = packed (argW m c) := by
  rw [← show W2 m ρ c (Proc.devRef .tc main_arg2) = argW m c from W2_args m ρ c main_arg2 (by decide)]
  dsimp only [V3, W3]
  simp only [hostOps1]
  after_results_simp
  all_goals rfl
theorem v66_eq : V3 m ρ c main_v66 = tiled (argQ m c) := by
  rw [← show W2 m ρ c (Proc.devRef .tc main_arg3) = argQ m c from W2_args m ρ c main_arg3 (by decide)]
  dsimp only [V3, W3]
  simp only [hostOps1]
  after_results_simp
  all_goals rfl
theorem v71_eq : V5 m ρ c main_v71 = tiled2 (argK m c) := by
  rw [← show W4 m ρ c (Proc.devRef .tc main_arg4) = argK m c from W4_args m ρ c main_arg4 (by decide)]
  dsimp only [V5, W5]
  simp only [hostOps2]
  after_results_simp
  all_goals rfl

section Packed
variable (w : FVec Ideal S2048x5720 .f32) (s : FVec Ideal S128 .f32) (k : Fin 2048) (n : Fin 1024)
theorem packed3 : packed w (ix2 k (⟨3072 + n.val, by omega⟩ : Fin 5632)) = w (ix2 k (⟨3080 + n.val, by omega⟩ : Fin 5720)) := by
  unfold packed
  pointwise
  rw [dif_neg (by omega), dif_neg (by omega), dif_neg (by omega), dif_pos (by omega)]
  exact congrArg w (congrArg (ix2 k) (Fin.ext (by simp only []; omega)))
theorem packed4 (n : Fin 256) : packed w (ix2 k (⟨4096 + n.val, by omega⟩ : Fin 5632)) = w (ix2 k (⟨4104 + n.val, by omega⟩ : Fin 5720)) := by
  unfold packed
  pointwise
  rw [dif_neg (by omega), dif_neg (by omega), dif_neg (by omega), dif_neg (by omega), dif_pos (by omega)]
  exact congrArg w (congrArg (ix2 k) (Fin.ext (by simp only []; omega)))
theorem packed6 : packed w (ix2 k (⟨4608 + n.val, by omega⟩ : Fin 5632)) = w (ix2 k (⟨4616 + n.val, by omega⟩ : Fin 5720)) := by
  unfold packed
  pointwise
  rw [dif_neg (by omega), dif_neg (by omega), dif_neg (by omega), dif_neg (by omega), dif_neg (by omega), dif_neg (by omega)]
  exact congrArg w (congrArg (ix2 k) (Fin.ext (by simp only []; omega)))
theorem tiled2_at (n : Fin 256) : tiled2 s (ix2 0 n) = s (ix1 (⟨n.val % 128, Nat.mod_lt _ (by decide)⟩ : Fin 128)) := by
  unfold tiled2
  pointwise
end Packed

/-! ## The blocks' places -/

theorem idx0 : ∀ t : Fin cfg0.N, win0_0.index t = ![t.val, 0] ∧ win0_1.index t = ![0, 0] ∧ win0_2.index t = ![t.val, 0] := by decide +kernel
theorem idx1 : ∀ t : Fin cfg1.N, win1_0.index t = ![t.val / 2, 0] ∧ win1_1.index t = ![0, 6 + t.val % 2] ∧ win1_2.index t = ![0, t.val % 2]
    ∧ win1_3.index t = ![t.val / 2 % 8, 0] ∧ win1_4.index t = ![t.val / 2 % 8, 0] ∧ win1_5.index t = ![t.val / 2, t.val % 2] := by decide +kernel
theorem idx2 : ∀ t : Fin cfg2.N, win2_0.index t = ![t.val, 0] ∧ win2_1.index t = ![0, 16] ∧ win2_2.index t = ![0, 0]
    ∧ win2_3.index t = ![t.val % 8, 0] ∧ win2_4.index t = ![t.val % 8, 0] ∧ win2_5.index t = ![t.val, 0] := by decide +kernel
theorem idx3 : ∀ t : Fin cfg3.N, win3_0.index t = ![t.val / 2, 0] ∧ win3_1.index t = ![0, 9 + t.val % 2]
    ∧ win3_2.index t = ![t.val / 2 % 8, 0] ∧ win3_3.index t = ![t.val / 2 % 8, 0] ∧ win3_4.index t = ![t.val / 2, t.val % 2] := by decide +kernel

/-! ## The normalised rows -/

theorem arr_xn_of (V : (c : Dev nD) → (b : Ref sig .tc) → Buf (Elt Ideal) ((c : Thread nD τ).loc b)) (h51 : V c main_v51 = (shapeCast S8192x2048 (argX m c) shapeCasts_S2x4096x2048_S8192x2048 : Vec Ideal S8192x2048 .f32))
    (h52 : V c main_v52 = (shapeCast S1x2048 (argG m c) shapeCasts_S2048_S1x2048 : Vec Ideal S1x2048 .f32)) : (dat0 V c).arrAt 2 cfg0.N = normedArr (argX m c) (argG m c) := by
  refine (dat0 V c).arrAt_eq_of_covers 2 _ (by decide +kernel) fun t hf y => ?_
  have ht : t.val < 16 := Nat.lt_of_lt_of_eq t.isLt N_0
  blk_simp
  rw [after0_2]
  obtain ⟨r, k, rfl⟩ : ∃ (r : Fin 512) (k : Fin 2048), y = ix2 r k := ⟨y 0, y 1, by funext i; fin_cases i <;> rfl⟩
  have hx : ∀ k, iblk0 V c 0 t (ix2 r k) = inRow (argX m c) (512 * t.val + r.val) k := fun k => by
    refine Eq.trans (b := (V c main_v51 : Vec Ideal S8192x2048 .f32) (ix2 (⟨512 * t.val + r.val, by omega⟩ : Fin 8192) k)) ?_ ((congrFun (h51) _).trans (rows_at _ _ _))
    blk_simp [iblk0]
    blk_ext [idx0 t]
  have hg : iblk0 V c 1 t (ix2 0 k) = argG m c (ix1 k) := by
    refine Eq.trans (b := (V c main_v52 : Vec Ideal S1x2048 .f32) (ix2 0 k)) ?_ ((congrFun (h52) _).trans (scale_at _ _))
    blk_simp [iblk0]
    blk_ext [idx0 t]
  refine (out0_at _ _ _ _).trans ?_
  refine Eq.trans (b := normedArr (argX m c) (argG m c) (ix2 (⟨512 * t.val + r.val, by omega⟩ : Fin 8192) k)) ?_ (congrArg (normedArr (argX m c) (argG m c)) ?_)
  · rw [hx, hg]
    simp only [hx]
    rfl
  blk_ext [idx0 t]
theorem arr_xn : (dat0 (V1 m ρ) c).arrAt 2 cfg0.N = normedArr (argX m c) (argG m c) := arr_xn_of m c (V1 m ρ) (v51_eq m ρ c) (v52_eq m ρ c)

/-! ## The arrays as each later launch finds them -/

theorem w3_v53 : W3 m ρ c (Proc.devRef .tc main_v53) = normedArr (argX m c) (argG m c) :=
  (W3_of m ρ c main_v53 (by decide)).trans ((W2_arr m ρ c 2).trans (arr_xn m ρ c))
theorem w5_v53 : W5 m ρ c (Proc.devRef .tc main_v53) = normedArr (argX m c) (argG m c) :=
  (W5_of m ρ c main_v53 (by decide)).trans ((W4_of m ρ c main_v53 (by decide)).trans (w3_v53 m ρ c))
theorem w6_v53 : W6 m ρ c (Proc.devRef .tc main_v53) = normedArr (argX m c) (argG m c) :=
  (W6_of m ρ c main_v53 (by decide)).trans (w5_v53 m ρ c)
theorem w5_v62 : W5 m ρ c (Proc.devRef .tc main_v62) = packed (argW m c) :=
  (W5_of m ρ c main_v62 (by decide)).trans ((W4_of m ρ c main_v62 (by decide)).trans (v62_eq m ρ c))
theorem w6_v62 : W6 m ρ c (Proc.devRef .tc main_v62) = packed (argW m c) :=
  (W6_of m ρ c main_v62 (by decide)).trans (w5_v62 m ρ c)
theorem w3_v18 : W3 m ρ c (Proc.devRef .tc main_v18) = cosT ang64 :=
  (W3_of m ρ c main_v18 (by decide)).trans ((W2_of m ρ c main_v18 (by decide)).trans (v18_eq m ρ c))
theorem w5_v18 : W5 m ρ c (Proc.devRef .tc main_v18) = cosT ang64 :=
  (W5_of m ρ c main_v18 (by decide)).trans ((W4_of m ρ c main_v18 (by decide)).trans (w3_v18 m ρ c))
theorem w6_v18 : W6 m ρ c (Proc.devRef .tc main_v18) = cosT ang64 :=
  (W6_of m ρ c main_v18 (by decide)).trans (w5_v18 m ρ c)
theorem w3_v25 : W3 m ρ c (Proc.devRef .tc main_v25) = sinT ang64 :=
  (W3_of m ρ c main_v25 (by decide)).trans ((W2_of m ρ c main_v25 (by decide)).trans (v25_eq m ρ c))
theorem w5_v25 : W5 m ρ c (Proc.devRef .tc main_v25) = sinT ang64 :=
  (W5_of m ρ c main_v25 (by decide)).trans ((W4_of m ρ c main_v25 (by decide)).trans (w3_v25 m ρ c))
theorem w6_v25 : W6 m ρ c (Proc.devRef .tc main_v25) = sinT ang64 :=
  (W6_of m ρ c main_v25 (by decide)).trans (w5_v25 m ρ c)
theorem w3_v43 : W3 m ρ c (Proc.devRef .tc main_v43) = cosT2 ang32 :=
  (W3_of m ρ c main_v43 (by decide)).trans ((W2_of m ρ c main_v43 (by decide)).trans (v43_eq m ρ c))
theorem w5_v43 : W5 m ρ c (Proc.devRef .tc main_v43) = cosT2 ang32 :=
  (W5_of m ρ c main_v43 (by decide)).trans ((W4_of m ρ c main_v43 (by decide)).trans (w3_v43 m ρ c))
theorem w6_v43 : W6 m ρ c (Proc.devRef .tc main_v43) = cosT2 ang32 :=
  (W6_of m ρ c main_v43 (by decide)).trans (w5_v43 m ρ c)
theorem w3_v50 : W3 m ρ c (Proc.devRef .tc main_v50) = sinT2 ang32 :=
  (W3_of m ρ c main_v50 (by decide)).trans ((W2_of m ρ c main_v50 (by decide)).trans (v50_eq m ρ c))
theorem w5_v50 : W5 m ρ c (Proc.devRef .tc main_v50) = sinT2 ang32 :=
  (W5_of m ρ c main_v50 (by decide)).trans ((W4_of m ρ c main_v50 (by decide)).trans (w3_v50 m ρ c))
theorem w6_v50 : W6 m ρ c (Proc.devRef .tc main_v50) = sinT2 ang32 :=
  (W6_of m ρ c main_v50 (by decide)).trans (w5_v50 m ρ c)

/-! ## The projections -/

set_option maxHeartbeats 2000000 in
theorem arr_qb_of (A : FVec Ideal S4096x64 .f32) (V : (c : Dev nD) → (b : Ref sig .tc) → Buf (Elt Ideal) ((c : Thread nD τ).loc b)) (h53 : V c main_v53 = normedArr (argX m c) (argG m c)) (h62 : V c main_v62 = packed (argW m c)) (h66 : V c main_v66 = tiled (argQ m c))
    (h18 : V c main_v18 = cosT A) (h25 : V c main_v25 = sinT A) : (dat1 V c).arrAt 5 cfg1.N = ropedArr (argX m c) (argG m c) (argW m c) (argQ m c) A 3080 := by
  refine (dat1 V c).arrAt_eq_of_covers 5 _ (by decide +kernel) fun t hf y => ?_
  have ht : t.val < 32 := Nat.lt_of_lt_of_eq t.isLt N_1
  blk_simp
  rw [after1_5]
  obtain ⟨r, e, rfl⟩ : ∃ (r : Fin 512) (e : Fin 512), y = ix2 r e := ⟨y 0, y 1, by funext i; fin_cases i <;> rfl⟩
  have ha : ∀ k, iblk1 V c 0 t (ix2 r k) = normed (argX m c) (argG m c) (512 * (t.val / 2) + r.val) k := fun k => by
    refine Eq.trans (b := (V c main_v53 : Vec Ideal S8192x2048 .bf16) (ix2 (⟨512 * (t.val / 2) + r.val, by omega⟩ : Fin 8192) k)) ?_ (congrFun (h53) _)
    blk_simp [iblk1]
    blk_ext [idx1 t]
  have hb : ∀ (k : Fin 2048) (e : Fin 512), iblk1 V c 1 t (ix2 k e) = argW m c (ix2 k (⟨(3080 + 512 * (t.val % 2) + e.val) % 5720, Nat.mod_lt _ (by decide)⟩ : Fin 5720)) := fun k e => by
    refine Eq.trans (b := (V c main_v62 : Vec Ideal S2048x5632 .bf16) (ix2 k (⟨3072 + (512 * (t.val % 2) + e.val), by omega⟩ : Fin 5632))) ?_
      ((congrFun (h62) _).trans ((packed3 (argW m c) k ⟨512 * (t.val % 2) + e.val, by omega⟩).trans
        (congrArg (argW m c) (congrArg (ix2 k) (Fin.ext (by simp only []; omega))))))
    blk_simp [iblk1]
    blk_ext [idx1 t]
  have hz : ∀ e : Fin 512, iblk1 V c 2 t (ix2 0 e) = argQ m c (ix1 (⟨e.val % 128, Nat.mod_lt _ (by decide)⟩ : Fin 128)) := fun e => by
    refine Eq.trans (b := (V c main_v66 : Vec Ideal S1x1024 .f32) (ix2 0 (⟨512 * (t.val % 2) + e.val, by omega⟩ : Fin 1024))) ?_
      ((congrFun (h66) _).trans ((tiled_at (argQ m c) ⟨512 * (t.val % 2) + e.val, by omega⟩).trans
        (congrArg (argQ m c) (congrArg ix1 (Fin.ext (by simp only []; omega))))))
    blk_simp [iblk1]
    blk_ext [idx1 t]
  have hC : ∀ d : Fin 128, iblk1 V c 3 t (ix2 r d) = Ideal.cos (angRow A (512 * (t.val / 2) + r.val) (⟨d.val % 64, Nat.mod_lt _ (by decide)⟩ : Fin 64)) := fun d => by
    refine Eq.trans (b := (V c main_v18 : Vec Ideal S4096x128 .f32) (ix2 (⟨512 * (t.val / 2 % 8) + r.val, by omega⟩ : Fin 4096) d)) ?_
      ((congrFun (h18) _).trans ((cosT_at _ _ d).trans ?_))
    · blk_simp [iblk1]
      blk_ext [idx1 t]
    · have hp : (⟨512 * (t.val / 2 % 8) + r.val, by omega⟩ : Fin 4096) = ⟨(512 * (t.val / 2) + r.val) % 4096, Nat.mod_lt _ (by decide)⟩ := Fin.ext (by simp only []; omega)
      rw [hp]
      rfl
  have hS : ∀ d : Fin 128, iblk1 V c 4 t (ix2 r d) = if d.val < 64 then -Ideal.sin (angRow A (512 * (t.val / 2) + r.val) (⟨d.val % 64, Nat.mod_lt _ (by decide)⟩ : Fin 64)) else Ideal.sin (angRow A (512 * (t.val / 2) + r.val) (⟨d.val % 64, Nat.mod_lt _ (by decide)⟩ : Fin 64)) := fun d => by
    refine Eq.trans (b := (V c main_v25 : Vec Ideal S4096x128 .f32) (ix2 (⟨512 * (t.val / 2 % 8) + r.val, by omega⟩ : Fin 4096) d)) ?_
      ((congrFun (h25) _).trans ((sinT_at _ _ d).trans ?_))
    · blk_simp [iblk1]
      blk_ext [idx1 t]
    · have hp : (⟨512 * (t.val / 2 % 8) + r.val, by omega⟩ : Fin 4096) = ⟨(512 * (t.val / 2) + r.val) % 4096, Nat.mod_lt _ (by decide)⟩ := Fin.ext (by simp only []; omega)
      rw [hp]
      rfl
  refine (out1_at _ _ _ _ _ _ _).trans ?_
  refine Eq.trans (b := ropedArr (argX m c) (argG m c) (argW m c) (argQ m c) A 3080 (ix2 (⟨512 * (t.val / 2) + r.val, by omega⟩ : Fin 8192) (⟨512 * (t.val % 2) + e.val, by omega⟩ : Fin 1024))) ?_
    (congrArg (ropedArr (argX m c) (argG m c) (argW m c) (argQ m c) A 3080) ?_)
  · exact heads_ropedAt _ _ _ _ _ _ _ _ _ _ r e _ 3080 (t.val % 2) ha hb hz hC hS
  blk_ext [idx1 t]
theorem arr_qb : (dat1 (V3 m ρ) c).arrAt 5 cfg1.N = ropedArr (argX m c) (argG m c) (argW m c) (argQ m c) ang64 3080 := arr_qb_of m c ang64 (V3 m ρ) (w3_v53 m ρ c) (v62_eq m ρ c) (v66_eq m ρ c) (w3_v18 m ρ c) (w3_v25 m ρ c)

set_option maxHeartbeats 2000000 in
theorem arr_kb_of (A : FVec Ideal S4096x64 .f32) (V : (c : Dev nD) → (b : Ref sig .tc) → Buf (Elt Ideal) ((c : Thread nD τ).loc b)) (h53 : V c main_v53 = normedArr (argX m c) (argG m c)) (h62 : V c main_v62 = packed (argW m c)) (h71 : V c main_v71 = tiled2 (argK m c))
    (h18 : V c main_v18 = cosT A) (h25 : V c main_v25 = sinT A) : (dat2 V c).arrAt 5 cfg2.N = ropedArr' (argX m c) (argG m c) (argW m c) (argK m c) A 4104 := by
  refine (dat2 V c).arrAt_eq_of_covers 5 _ (by decide +kernel) fun t hf y => ?_
  have ht : t.val < 16 := Nat.lt_of_lt_of_eq t.isLt N_2
  blk_simp
  rw [after2_5]
  obtain ⟨r, e, rfl⟩ : ∃ (r : Fin 512) (e : Fin 256), y = ix2 r e := ⟨y 0, y 1, by funext i; fin_cases i <;> rfl⟩
  have ha : ∀ k, iblk2 V c 0 t (ix2 r k) = normed (argX m c) (argG m c) (512 * (t.val) + r.val) k := fun k => by
    refine Eq.trans (b := (V c main_v53 : Vec Ideal S8192x2048 .bf16) (ix2 (⟨512 * (t.val) + r.val, by omega⟩ : Fin 8192) k)) ?_ (congrFun (h53) _)
    blk_simp [iblk2]
    blk_ext [idx2 t]
  have hb : ∀ (k : Fin 2048) (e : Fin 256), iblk2 V c 1 t (ix2 k e) = argW m c (ix2 k (⟨(4104 + e.val) % 5720, Nat.mod_lt _ (by decide)⟩ : Fin 5720)) := fun k e => by
    refine Eq.trans (b := (V c main_v62 : Vec Ideal S2048x5632 .bf16) (ix2 k (⟨4096 + (e.val), by omega⟩ : Fin 5632))) ?_
      ((congrFun (h62) _).trans ((packed4 (argW m c) k ⟨e.val, by omega⟩).trans
        (congrArg (argW m c) (congrArg (ix2 k) (Fin.ext (by simp only []; omega))))))
    blk_simp [iblk2]
    blk_ext [idx2 t]
  have hz : ∀ e : Fin 256, iblk2 V c 2 t (ix2 0 e) = argK m c (ix1 (⟨e.val % 128, Nat.mod_lt _ (by decide)⟩ : Fin 128)) := fun e => by
    refine Eq.trans (b := (V c main_v71 : Vec Ideal S1x256 .f32) (ix2 0 (⟨e.val, by omega⟩ : Fin 256))) ?_
      ((congrFun (h71) _).trans ((tiled2_at (argK m c) ⟨e.val, by omega⟩).trans
        (congrArg (argK m c) (congrArg ix1 (Fin.ext rfl)))))
    blk_simp [iblk2]
    blk_ext [idx2 t]
  have hC : ∀ d : Fin 128, iblk2 V c 3 t (ix2 r d) = Ideal.cos (angRow A (512 * (t.val) + r.val) (⟨d.val % 64, Nat.mod_lt _ (by decide)⟩ : Fin 64)) := fun d => by
    refine Eq.trans (b := (V c main_v18 : Vec Ideal S4096x128 .f32) (ix2 (⟨512 * (t.val % 8) + r.val, by omega⟩ : Fin 4096) d)) ?_
      ((congrFun (h18) _).trans ((cosT_at _ _ d).trans ?_))
    · blk_simp [iblk2]
      blk_ext [idx2 t]
    · have hp : (⟨512 * (t.val % 8) + r.val, by omega⟩ : Fin 4096) = ⟨(512 * (t.val) + r.val) % 4096, Nat.mod_lt _ (by decide)⟩ := Fin.ext (by simp only []; omega)
      rw [hp]
      rfl
  have hS : ∀ d : Fin 128, iblk2 V c 4 t (ix2 r d) = if d.val < 64 then -Ideal.sin (angRow A (512 * (t.val) + r.val) (⟨d.val % 64, Nat.mod_lt _ (by decide)⟩ : Fin 64)) else Ideal.sin (angRow A (512 * (t.val) + r.val) (⟨d.val % 64, Nat.mod_lt _ (by decide)⟩ : Fin 64)) := fun d => by
    refine Eq.trans (b := (V c main_v25 : Vec Ideal S4096x128 .f32) (ix2 (⟨512 * (t.val % 8) + r.val, by omega⟩ : Fin 4096) d)) ?_
      ((congrFun (h25) _).trans ((sinT_at _ _ d).trans ?_))
    · blk_simp [iblk2]
      blk_ext [idx2 t]
    · have hp : (⟨512 * (t.val % 8) + r.val, by omega⟩ : Fin 4096) = ⟨(512 * (t.val) + r.val) % 4096, Nat.mod_lt _ (by decide)⟩ := Fin.ext (by simp only []; omega)
      rw [hp]
      rfl
  refine (out2_at _ _ _ _ _ _ _).trans ?_
  refine Eq.trans (b := ropedArr' (argX m c) (argG m c) (argW m c) (argK m c) A 4104 (ix2 (⟨512 * (t.val) + r.val, by omega⟩ : Fin 8192) (⟨e.val, by omega⟩ : Fin 256))) ?_
    (congrArg (ropedArr' (argX m c) (argG m c) (argW m c) (argK m c) A 4104) ?_)
  · exact heads2_ropedAt _ _ _ _ _ _ _ _ _ _ r e _ 4104 ha hb hz hC hS
  blk_ext [idx2 t]
theorem arr_kb : (dat2 (V5 m ρ) c).arrAt 5 cfg2.N = ropedArr' (argX m c) (argG m c) (argW m c) (argK m c) ang64 4104 := arr_kb_of m c ang64 (V5 m ρ) (w5_v53 m ρ c) (w5_v62 m ρ c) (v71_eq m ρ c) (w5_v18 m ρ c) (w5_v25 m ρ c)

set_option maxHeartbeats 2000000 in
theorem arr_qi_of (B : FVec Ideal S4096x32 .f32) (V : (c : Dev nD) → (b : Ref sig .tc) → Buf (Elt Ideal) ((c : Thread nD τ).loc b)) (h53 : V c main_v53 = normedArr (argX m c) (argG m c)) (h62 : V c main_v62 = packed (argW m c))
    (h43 : V c main_v43 = cosT2 B) (h50 : V c main_v50 = sinT2 B) : (dat3 V c).arrAt 4 cfg3.N = ropedArr2 (argX m c) (argG m c) (argW m c) B 4616 := by
  refine (dat3 V c).arrAt_eq_of_covers 4 _ (by decide +kernel) fun t hf y => ?_
  have ht : t.val < 32 := Nat.lt_of_lt_of_eq t.isLt N_3
  blk_simp
  rw [after3_4]
  obtain ⟨r, e, rfl⟩ : ∃ (r : Fin 512) (e : Fin 512), y = ix2 r e := ⟨y 0, y 1, by funext i; fin_cases i <;> rfl⟩
  have ha : ∀ k, iblk3 V c 0 t (ix2 r k) = normed (argX m c) (argG m c) (512 * (t.val / 2) + r.val) k := fun k => by
    refine Eq.trans (b := (V c main_v53 : Vec Ideal S8192x2048 .bf16) (ix2 (⟨512 * (t.val / 2) + r.val, by omega⟩ : Fin 8192) k)) ?_ (congrFun (h53) _)
    blk_simp [iblk3]
    blk_ext [idx3 t]
  have hb : ∀ (k : Fin 2048) (e : Fin 512), iblk3 V c 1 t (ix2 k e) = argW m c (ix2 k (⟨(4616 + 512 * (t.val % 2) + e.val) % 5720, Nat.mod_lt _ (by decide)⟩ : Fin 5720)) := fun k e => by
    refine Eq.trans (b := (V c main_v62 : Vec Ideal S2048x5632 .bf16) (ix2 k (⟨4608 + (512 * (t.val % 2) + e.val), by omega⟩ : Fin 5632))) ?_
      ((congrFun (h62) _).trans ((packed6 (argW m c) k ⟨512 * (t.val % 2) + e.val, by omega⟩).trans
        (congrArg (argW m c) (congrArg (ix2 k) (Fin.ext (by simp only []; omega))))))
    blk_simp [iblk3]
    blk_ext [idx3 t]
  have hC : ∀ d : Fin 128, iblk3 V c 2 t (ix2 r d) = Ideal.cos (angRow2 B (512 * (t.val / 2) + r.val) (⟨d.val % 32, Nat.mod_lt _ (by decide)⟩ : Fin 32)) := fun d => by
    refine Eq.trans (b := (V c main_v43 : Vec Ideal S4096x128 .f32) (ix2 (⟨512 * (t.val / 2 % 8) + r.val, by omega⟩ : Fin 4096) d)) ?_
      ((congrFun (h43) _).trans ((cosT2_at _ _ d).trans ?_))
    · blk_simp [iblk3]
      blk_ext [idx3 t]
    · have hp : (⟨512 * (t.val / 2 % 8) + r.val, by omega⟩ : Fin 4096) = ⟨(512 * (t.val / 2) + r.val) % 4096, Nat.mod_lt _ (by decide)⟩ := Fin.ext (by simp only []; omega)
      rw [hp]
      rfl
  have hS : ∀ d : Fin 128, iblk3 V c 3 t (ix2 r d) = if d.val % 64 < 32 then -Ideal.sin (angRow2 B (512 * (t.val / 2) + r.val) (⟨d.val % 32, Nat.mod_lt _ (by decide)⟩ : Fin 32)) else Ideal.sin (angRow2 B (512 * (t.val / 2) + r.val) (⟨d.val % 32, Nat.mod_lt _ (by decide)⟩ : Fin 32)) := fun d => by
    refine Eq.trans (b := (V c main_v50 : Vec Ideal S4096x128 .f32) (ix2 (⟨512 * (t.val / 2 % 8) + r.val, by omega⟩ : Fin 4096) d)) ?_
      ((congrFun (h50) _).trans ((sinT2_at _ _ d).trans ?_))
    · blk_simp [iblk3]
      blk_ext [idx3 t]
    · have hp : (⟨512 * (t.val / 2 % 8) + r.val, by omega⟩ : Fin 4096) = ⟨(512 * (t.val / 2) + r.val) % 4096, Nat.mod_lt _ (by decide)⟩ := Fin.ext (by simp only []; omega)
      rw [hp]
      rfl
  refine (out3_at _ _ _ _ _ _).trans ?_
  refine Eq.trans (b := ropedArr2 (argX m c) (argG m c) (argW m c) B 4616 (ix2 (⟨512 * (t.val / 2) + r.val, by omega⟩ : Fin 8192) (⟨512 * (t.val % 2) + e.val, by omega⟩ : Fin 1024))) ?_
    (congrArg (ropedArr2 (argX m c) (argG m c) (argW m c) B 4616) ?_)
  · exact heads_ropedAt2 _ _ _ _ _ _ _ _ r e _ 4616 (t.val % 2) ha hb hC hS
  blk_ext [idx3 t]
theorem arr_qi : (dat3 (V6 m ρ) c).arrAt 4 cfg3.N = ropedArr2 (argX m c) (argG m c) (argW m c) ang32 4616 := arr_qi_of m c ang32 (V6 m ρ) (w6_v53 m ρ c) (w6_v62 m ρ c) (w6_v43 m ρ c) (w6_v50 m ρ c)

end Cert.Rope

end
-- ==== Proof.Rope.Results.lean ====
/-
  The three results of the run with rotary, in closed form.
-/
module

public import proofs.«01_k».proof.Proof.Rope.Arrays

@[expose] public section

set_option maxRecDepth 16384

noncomputable section

namespace Cert.Rope

open Idealize.ShloMosaic Idealize.ShloMosaic.TcCoe Idealize.SL.Sem
open Cert.Proj (col)
open Cert.Kernel5Ideal Cert.Kernel5Ideal.Gen

section Results
variable (x : Vec Ideal S2x4096x2048 .f32) (g : Vec Ideal S2048 .f32) (w : Vec Ideal S2048x5720 .f32) (s : Vec Ideal S128 .f32)
  (A : FVec Ideal S4096x64 .f32) (B : FVec Ideal S4096x32 .f32)
/-- Head by head, scaled and turned: eight heads, and two. -/
def ropedOut (o : ℕ) : Vec Ideal S2x4096x8x128 .bf16 := fun y =>
  roped (headRow x g w s (4096 * (y 0).val + (y 1).val) (o + 128 * (y 2).val)) (fun i => A (ix2 (y 1) i)) (y 3)
def ropedOut' (o : ℕ) : Vec Ideal S2x4096x2x128 .f32 := fun y =>
  roped (headRow x g w s (4096 * (y 0).val + (y 1).val) (o + 128 * (y 2).val)) (fun i => A (ix2 (y 1) i)) (y 3)
/-- Sixteen heads of 64, turned. -/
def ropedOut2 (o : ℕ) : Vec Ideal S2x4096x16x64 .bf16 := fun y =>
  roped2 (fun d => col x g w (4096 * (y 0).val + (y 1).val) (o + 64 * (y 2).val + d.val)) (fun i => B (ix2 (y 1) i)) (y 3)

theorem angRow_at (b : Fin 2) (p : Fin 4096) : angRow A (4096 * b.val + p.val) = fun i => A (ix2 p i) :=
  funext fun i => congrArg (fun p => A (ix2 p i)) (Fin.ext (by simp only []; omega))
theorem angRow2_at (b : Fin 2) (p : Fin 4096) : angRow2 B (4096 * b.val + p.val) = fun i => B (ix2 p i) :=
  funext fun i => congrArg (fun p => B (ix2 p i)) (Fin.ext (by simp only []; omega))

theorem ropedArr_out (o : ℕ) : shapeCast S2x4096x8x128 (ropedArr x g w s A o) shapeCasts_S8192x1024_S2x4096x8x128 = ropedOut x g w s A o := by
  funext y
  obtain ⟨b, p, h, e, rfl⟩ : ∃ (b : Fin 2) (p : Fin 4096) (h : Fin 8) (e : Fin 128), y = ix4 b p h e := ⟨y 0, y 1, y 2, y 3, by funext i; fin_cases i <;> rfl⟩
  have hR : shapeCast S2x4096x8x128 (ropedArr x g w s A o) shapeCasts_S8192x1024_S2x4096x8x128 (ix4 b p h e)
      = ropedArr x g w s A o (ix2 (⟨4096 * b.val + p.val, by omega⟩ : Fin 8192) (⟨128 * h.val + e.val, by omega⟩ : Fin 1024)) := by
    generalize ropedArr x g w s A o = v
    pointwise
    refine congrArg₂ (fun i j => v (ix2 i j)) (Fin.ext ?_) (Fin.ext ?_) <;> simp only [] <;> omega
  refine hR.trans ?_
  show roped (headRow x g w s (4096 * b.val + p.val) (o + 128 * ((128 * h.val + e.val) / 128))) (angRow A (4096 * b.val + p.val)) ⟨(128 * h.val + e.val) % 128, _⟩
    = roped (headRow x g w s (4096 * b.val + p.val) (o + 128 * h.val)) (fun i => A (ix2 p i)) e
  have h1 : (128 * h.val + e.val) / 128 = h.val := by omega
  have h2 : (⟨(128 * h.val + e.val) % 128, by omega⟩ : Fin 128) = e := Fin.ext (by simp only []; omega)
  rw [h1, h2, angRow_at]
theorem ropedArr'_out (o : ℕ) : shapeCast S2x4096x2x128 (ropedArr' x g w s A o) shapeCasts_S8192x256_S2x4096x2x128 = ropedOut' x g w s A o := by
  funext y
  obtain ⟨b, p, h, e, rfl⟩ : ∃ (b : Fin 2) (p : Fin 4096) (h : Fin 2) (e : Fin 128), y = ix4 b p h e := ⟨y 0, y 1, y 2, y 3, by funext i; fin_cases i <;> rfl⟩
  have hR : shapeCast S2x4096x2x128 (ropedArr' x g w s A o) shapeCasts_S8192x256_S2x4096x2x128 (ix4 b p h e)
      = ropedArr' x g w s A o (ix2 (⟨4096 * b.val + p.val, by omega⟩ : Fin 8192) (⟨128 * h.val + e.val, by omega⟩ : Fin 256)) := by
    generalize ropedArr' x g w s A o = v
    pointwise
    refine congrArg₂ (fun i j => v (ix2 i j)) (Fin.ext ?_) (Fin.ext ?_) <;> simp only [] <;> omega
  refine hR.trans ?_
  show roped (headRow x g w s (4096 * b.val + p.val) (o + 128 * ((128 * h.val + e.val) / 128))) (angRow A (4096 * b.val + p.val)) ⟨(128 * h.val + e.val) % 128, _⟩
    = roped (headRow x g w s (4096 * b.val + p.val) (o + 128 * h.val)) (fun i => A (ix2 p i)) e
  have h1 : (128 * h.val + e.val) / 128 = h.val := by omega
  have h2 : (⟨(128 * h.val + e.val) % 128, by omega⟩ : Fin 128) = e := Fin.ext (by simp only []; omega)
  rw [h1, h2, angRow_at]
theorem ropedArr2_out (o : ℕ) : shapeCast S2x4096x16x64 (ropedArr2 x g w B o) shapeCasts_S8192x1024_S2x4096x16x64 = ropedOut2 x g w B o := by
  funext y
  obtain ⟨b, p, h, e, rfl⟩ : ∃ (b : Fin 2) (p : Fin 4096) (h : Fin 16) (e : Fin 64), y = ix4 b p h e := ⟨y 0, y 1, y 2, y 3, by funext i; fin_cases i <;> rfl⟩
  have hR : shapeCast S2x4096x16x64 (ropedArr2 x g w B o) shapeCasts_S8192x1024_S2x4096x16x64 (ix4 b p h e)
      = ropedArr2 x g w B o (ix2 (⟨4096 * b.val + p.val, by omega⟩ : Fin 8192) (⟨64 * h.val + e.val, by omega⟩ : Fin 1024)) := by
    generalize ropedArr2 x g w B o = v
    pointwise
    refine congrArg₂ (fun i j => v (ix2 i j)) (Fin.ext ?_) (Fin.ext ?_) <;> simp only [] <;> omega
  refine hR.trans ?_
  show roped2 (fun d => col x g w (4096 * b.val + p.val) (o + 64 * ((64 * h.val + e.val) / 64) + d.val)) (angRow2 B (4096 * b.val + p.val)) ⟨(64 * h.val + e.val) % 64, _⟩
    = roped2 (fun d => col x g w (4096 * b.val + p.val) (o + 64 * h.val + d.val)) (fun i => B (ix2 p i)) e
  have h1 : (64 * h.val + e.val) / 64 = h.val := by omega
  have h2 : (⟨(64 * h.val + e.val) % 64, by omega⟩ : Fin 64) = e := Fin.ext (by simp only []; omega)
  rw [h1, h2, angRow2_at]
end Results

variable (m : (ℓ : Loc nD τ sig) → Buf (Elt Ideal) ℓ) (ρ : Dev nD → PrngReg) (c : Dev nD)

theorem w7_qb : W7 m ρ c (Proc.devRef .tc main_v67) = ropedArr (argX m c) (argG m c) (argW m c) (argQ m c) ang64 3080 :=
  (W7_of m ρ c main_v67 (by decide)).trans ((W6_of m ρ c main_v67 (by decide)).trans ((W5_of m ρ c main_v67 (by decide)).trans
    ((W4_arr m ρ c 5).trans (arr_qb m ρ c))))
theorem w7_kb : W7 m ρ c (Proc.devRef .tc main_v72_0) = ropedArr' (argX m c) (argG m c) (argW m c) (argK m c) ang64 4104 :=
  (W7_of m ρ c main_v72_0 (by decide)).trans ((W6_arr m ρ c 5).trans (arr_kb m ρ c))
theorem w7_qi : W7 m ρ c (Proc.devRef .tc main_v73) = ropedArr2 (argX m c) (argG m c) (argW m c) ang32 4616 :=
  (W7_arr m ρ c 4).trans (arr_qi m ρ c)

theorem res_qb : W8 m ρ c (Proc.devRef .tc main_v74) = ropedOut (argX m c) (argG m c) (argW m c) (argQ m c) ang64 3080 := by
  refine Eq.trans (b := (shapeCast S2x4096x8x128 (W7 m ρ c (Proc.devRef .tc main_v67) : Vec Ideal S8192x1024 .bf16) shapeCasts_S8192x1024_S2x4096x8x128 : Vec Ideal S2x4096x8x128 .bf16)) ?_ ?_
  · dsimp only [W8]
    simp only [hostOps4]
    after_results_simp
    all_goals rfl
  rw [w7_qb]
  exact ropedArr_out _ _ _ _ _ _
theorem res_kb : W8 m ρ c (Proc.devRef .tc main_v75) = ropedOut' (argX m c) (argG m c) (argW m c) (argK m c) ang64 4104 := by
  refine Eq.trans (b := (shapeCast S2x4096x2x128 (W7 m ρ c (Proc.devRef .tc main_v72_0) : Vec Ideal S8192x256 .f32) shapeCasts_S8192x256_S2x4096x2x128 : Vec Ideal S2x4096x2x128 .f32)) ?_ ?_
  · dsimp only [W8]
    simp only [hostOps4]
    after_results_simp
    all_goals rfl
  rw [w7_kb]
  exact ropedArr'_out _ _ _ _ _ _
theorem res_qi : W8 m ρ c (Proc.devRef .tc main_v76) = ropedOut2 (argX m c) (argG m c) (argW m c) ang32 4616 := by
  refine Eq.trans (b := (shapeCast S2x4096x16x64 (W7 m ρ c (Proc.devRef .tc main_v73) : Vec Ideal S8192x1024 .bf16) shapeCasts_S8192x1024_S2x4096x16x64 : Vec Ideal S2x4096x16x64 .bf16)) ?_ ?_
  · dsimp only [W8]
    simp only [hostOps4]
    after_results_simp
    all_goals rfl
  rw [w7_qi]
  exact ropedArr2_out _ _ _ _ _

end Cert.Rope

end
-- ==== Proof.Rope.Host.lean ====
/-
  The reference's three results with rotary, in the same closed form as the kernel's.
-/
module

public import proofs.«01_k».proof.Proof.Rope.Results
public import proofs.«01_k».proof.Proof.Proj.Host
public import proofs.«01_k».proof.Proof.Gen.Reference5Ideal.Run

@[expose] public section

set_option maxRecDepth 16384

noncomputable section

namespace Cert.Rope.Host

open Idealize.ShloMosaic Idealize.ShloMosaic.TcCoe Idealize.SL.Sem
open Cert.Proj (factor headed col)
open Cert.Proj.Host (prods prods_apply scaledHeads scaledHeads_apply)
open Cert.Reference5Ideal Cert.Reference5Ideal.Gen

/-- The three groups of columns, head by head. -/
def part3 (q : FVec Ideal S2x4096x5720 .f32) : FVec Ideal S2x4096x8x128 .f32 := shapeCast _ (extractStridedSlice S2x4096x1024 ![0, 0, 3080] q slices_S2x4096x5720_S2x4096x1024_0_0_3080) shapeCasts_S2x4096x1024_S2x4096x8x128
def part4 (q : FVec Ideal S2x4096x5720 .f32) : FVec Ideal S2x4096x2x128 .f32 := shapeCast _ (extractStridedSlice S2x4096x256 ![0, 0, 4104] q slices_S2x4096x5720_S2x4096x256_0_0_4104) shapeCasts_S2x4096x256_S2x4096x2x128
def part6 (q : FVec Ideal S2x4096x5720 .f32) : FVec Ideal S2x4096x16x64 .f32 := shapeCast _ (extractStridedSlice S2x4096x1024 ![0, 0, 4616] q slices_S2x4096x5720_S2x4096x1024_0_0_4616) shapeCasts_S2x4096x1024_S2x4096x16x64
/-- Each of two heads' rows scaled to norm one, then by the scale. -/
def scaledHeads2 (q : FVec Ideal S2x4096x2x128 .f32) (s : FVec Ideal S128 .f32) : FVec Ideal S2x4096x2x128 .f32 :=
  mulf (mulf q (broadcastInDim S2x4096x2x128 ![0, 1, 2, 3] bcast_S2x4096x2x1_S2x4096x2x128_0_1_2_3 (Host.rsqrt (addf (Host.divf (broadcastInDim S2x4096x2x1 ![0, 1, 2] bcast_S2x4096x2_S2x4096x2x1_0_1_2 (Host.reduceAdd (mulf q q) (constant S_ .f32 0x00000000#32) reducesTo_S2x4096x2x128_S2x4096x2_d3 h_S_)) (broadcastInDim S2x4096x2x1 ![] bcast_S_S2x4096x2x1 (constant S_ .f32 0x43000000#32))) (broadcastInDim S2x4096x2x1 ![] bcast_S_S2x4096x2x1 (constant S_ .f32 0x358637BD#32)))))) (broadcastInDim S2x4096x2x128 ![0, 1, 2, 3] bcast_S1x1x1x128_S2x4096x2x128_0_1_2_3 (broadcastInDim S1x1x1x128 ![3] bcast_S128_S1x1x1x128_3 s))
/-- Rows turned by the angles, half against half. -/
def rope8 (q : FVec Ideal S2x4096x8x128 .f32) (a : FVec Ideal S4096x64 .f32) : FVec Ideal S2x4096x8x128 .f32 :=
  concatenate S2x4096x8x128 3 [⟨S2x4096x8x64, (subf (mulf (extractStridedSlice S2x4096x8x64 ![0, 0, 0, 0] q slices_S2x4096x8x128_S2x4096x8x64_0_0_0_0) (broadcastInDim S2x4096x8x64 ![0, 1, 2, 3] bcast_S1x4096x1x64_S2x4096x8x64_0_1_2_3 (broadcastInDim S1x4096x1x64 ![1, 2, 3] bcast_S4096x1x64_S1x4096x1x64_1_2_3 (broadcastInDim S4096x1x64 ![0, 2] bcast_S4096x64_S4096x1x64_0_2 (Host.cos a))))) (mulf (extractStridedSlice S2x4096x8x64 ![0, 0, 0, 64] q slices_S2x4096x8x128_S2x4096x8x64_0_0_0_64) (broadcastInDim S2x4096x8x64 ![0, 1, 2, 3] bcast_S1x4096x1x64_S2x4096x8x64_0_1_2_3 (broadcastInDim S1x4096x1x64 ![1, 2, 3] bcast_S4096x1x64_S1x4096x1x64_1_2_3 (broadcastInDim S4096x1x64 ![0, 2] bcast_S4096x64_S4096x1x64_0_2 (Host.sin a))))) : FVec Ideal S2x4096x8x64 .f32)⟩,
    ⟨S2x4096x8x64, (addf (mulf (extractStridedSlice S2x4096x8x64 ![0, 0, 0, 64] q slices_S2x4096x8x128_S2x4096x8x64_0_0_0_64) (broadcastInDim S2x4096x8x64 ![0, 1, 2, 3] bcast_S1x4096x1x64_S2x4096x8x64_0_1_2_3 (broadcastInDim S1x4096x1x64 ![1, 2, 3] bcast_S4096x1x64_S1x4096x1x64_1_2_3 (broadcastInDim S4096x1x64 ![0, 2] bcast_S4096x64_S4096x1x64_0_2 (Host.cos a))))) (mulf (extractStridedSlice S2x4096x8x64 ![0, 0, 0, 0] q slices_S2x4096x8x128_S2x4096x8x64_0_0_0_0) (broadcastInDim S2x4096x8x64 ![0, 1, 2, 3] bcast_S1x4096x1x64_S2x4096x8x64_0_1_2_3 (broadcastInDim S1x4096x1x64 ![1, 2, 3] bcast_S4096x1x64_S1x4096x1x64_1_2_3 (broadcastInDim S4096x1x64 ![0, 2] bcast_S4096x64_S4096x1x64_0_2 (Host.sin a))))) : FVec Ideal S2x4096x8x64 .f32)⟩] concatenates_S2x4096x8x64_S2x4096x8x64_S2x4096x8x128_d3
def rope2 (q : FVec Ideal S2x4096x2x128 .f32) (a : FVec Ideal S4096x64 .f32) : FVec Ideal S2x4096x2x128 .f32 :=
  concatenate S2x4096x2x128 3 [⟨S2x4096x2x64, (subf (mulf (extractStridedSlice S2x4096x2x64 ![0, 0, 0, 0] q slices_S2x4096x2x128_S2x4096x2x64_0_0_0_0) (broadcastInDim S2x4096x2x64 ![0, 1, 2, 3] bcast_S1x4096x1x64_S2x4096x2x64_0_1_2_3 (broadcastInDim S1x4096x1x64 ![1, 2, 3] bcast_S4096x1x64_S1x4096x1x64_1_2_3 (broadcastInDim S4096x1x64 ![0, 2] bcast_S4096x64_S4096x1x64_0_2 (Host.cos a))))) (mulf (extractStridedSlice S2x4096x2x64 ![0, 0, 0, 64] q slices_S2x4096x2x128_S2x4096x2x64_0_0_0_64) (broadcastInDim S2x4096x2x64 ![0, 1, 2, 3] bcast_S1x4096x1x64_S2x4096x2x64_0_1_2_3 (broadcastInDim S1x4096x1x64 ![1, 2, 3] bcast_S4096x1x64_S1x4096x1x64_1_2_3 (broadcastInDim S4096x1x64 ![0, 2] bcast_S4096x64_S4096x1x64_0_2 (Host.sin a))))) : FVec Ideal S2x4096x2x64 .f32)⟩,
    ⟨S2x4096x2x64, (addf (mulf (extractStridedSlice S2x4096x2x64 ![0, 0, 0, 64] q slices_S2x4096x2x128_S2x4096x2x64_0_0_0_64) (broadcastInDim S2x4096x2x64 ![0, 1, 2, 3] bcast_S1x4096x1x64_S2x4096x2x64_0_1_2_3 (broadcastInDim S1x4096x1x64 ![1, 2, 3] bcast_S4096x1x64_S1x4096x1x64_1_2_3 (broadcastInDim S4096x1x64 ![0, 2] bcast_S4096x64_S4096x1x64_0_2 (Host.cos a))))) (mulf (extractStridedSlice S2x4096x2x64 ![0, 0, 0, 0] q slices_S2x4096x2x128_S2x4096x2x64_0_0_0_0) (broadcastInDim S2x4096x2x64 ![0, 1, 2, 3] bcast_S1x4096x1x64_S2x4096x2x64_0_1_2_3 (broadcastInDim S1x4096x1x64 ![1, 2, 3] bcast_S4096x1x64_S1x4096x1x64_1_2_3 (broadcastInDim S4096x1x64 ![0, 2] bcast_S4096x64_S4096x1x64_0_2 (Host.sin a))))) : FVec Ideal S2x4096x2x64 .f32)⟩] concatenates_S2x4096x2x64_S2x4096x2x64_S2x4096x2x128_d3
def rope16 (q : FVec Ideal S2x4096x16x64 .f32) (a : FVec Ideal S4096x32 .f32) : FVec Ideal S2x4096x16x64 .f32 :=
  concatenate S2x4096x16x64 3 [⟨S2x4096x16x32, (subf (mulf (extractStridedSlice S2x4096x16x32 ![0, 0, 0, 0] q slices_S2x4096x16x64_S2x4096x16x32_0_0_0_0) (broadcastInDim S2x4096x16x32 ![0, 1, 2, 3] bcast_S1x4096x1x32_S2x4096x16x32_0_1_2_3 (broadcastInDim S1x4096x1x32 ![1, 2, 3] bcast_S4096x1x32_S1x4096x1x32_1_2_3 (broadcastInDim S4096x1x32 ![0, 2] bcast_S4096x32_S4096x1x32_0_2 (Host.cos a))))) (mulf (extractStridedSlice S2x4096x16x32 ![0, 0, 0, 32] q slices_S2x4096x16x64_S2x4096x16x32_0_0_0_32) (broadcastInDim S2x4096x16x32 ![0, 1, 2, 3] bcast_S1x4096x1x32_S2x4096x16x32_0_1_2_3 (broadcastInDim S1x4096x1x32 ![1, 2, 3] bcast_S4096x1x32_S1x4096x1x32_1_2_3 (broadcastInDim S4096x1x32 ![0, 2] bcast_S4096x32_S4096x1x32_0_2 (Host.sin a))))) : FVec Ideal S2x4096x16x32 .f32)⟩,
    ⟨S2x4096x16x32, (addf (mulf (extractStridedSlice S2x4096x16x32 ![0, 0, 0, 32] q slices_S2x4096x16x64_S2x4096x16x32_0_0_0_32) (broadcastInDim S2x4096x16x32 ![0, 1, 2, 3] bcast_S1x4096x1x32_S2x4096x16x32_0_1_2_3 (broadcastInDim S1x4096x1x32 ![1, 2, 3] bcast_S4096x1x32_S1x4096x1x32_1_2_3 (broadcastInDim S4096x1x32 ![0, 2] bcast_S4096x32_S4096x1x32_0_2 (Host.cos a))))) (mulf (extractStridedSlice S2x4096x16x32 ![0, 0, 0, 0] q slices_S2x4096x16x64_S2x4096x16x32_0_0_0_0) (broadcastInDim S2x4096x16x32 ![0, 1, 2, 3] bcast_S1x4096x1x32_S2x4096x16x32_0_1_2_3 (broadcastInDim S1x4096x1x32 ![1, 2, 3] bcast_S4096x1x32_S1x4096x1x32_1_2_3 (broadcastInDim S4096x1x32 ![0, 2] bcast_S4096x32_S4096x1x32_0_2 (Host.sin a))))) : FVec Ideal S2x4096x16x32 .f32)⟩] concatenates_S2x4096x16x32_S2x4096x16x32_S2x4096x16x64_d3

section Apply
variable (s : FVec Ideal S128 .f32) (b : Fin 2) (p : Fin 4096)
theorem part3_apply (q : FVec Ideal S2x4096x5720 .f32) (h : Fin 8) (e : Fin 128) : part3 q (ix4 b p h e) = q (ix3 b p (⟨3080 + (h.val * 128 + e.val), by omega⟩ : Fin 5720)) := by
  unfold part3
  pointwise
theorem part4_apply (q : FVec Ideal S2x4096x5720 .f32) (h : Fin 2) (e : Fin 128) : part4 q (ix4 b p h e) = q (ix3 b p (⟨4104 + (h.val * 128 + e.val), by omega⟩ : Fin 5720)) := by
  unfold part4
  pointwise
theorem part6_apply (q : FVec Ideal S2x4096x5720 .f32) (h : Fin 16) (e : Fin 64) : part6 q (ix4 b p h e) = q (ix3 b p (⟨4616 + (h.val * 64 + e.val), by omega⟩ : Fin 5720)) := by
  unfold part6
  pointwise
theorem scaledHeads2_apply (q : FVec Ideal S2x4096x2x128 .f32) (h : Fin 2) (e : Fin 128) :
    scaledHeads2 q s (ix4 b p h e) = headed (fun d => q (ix4 b p h d)) (fun d => s (ix1 d)) e := by
  unfold scaledHeads2 headed factor
  pointwise
theorem rope8_apply (q : FVec Ideal S2x4096x8x128 .f32) (a : FVec Ideal S4096x64 .f32) (h : Fin 8) (e : Fin 128) :
    rope8 q a (ix4 b p h e) = roped (fun d => q (ix4 b p h d)) (fun i => a (ix2 p i)) e := by
  unfold rope8 roped
  pointwise
theorem rope2_apply (q : FVec Ideal S2x4096x2x128 .f32) (a : FVec Ideal S4096x64 .f32) (h : Fin 2) (e : Fin 128) :
    rope2 q a (ix4 b p h e) = roped (fun d => q (ix4 b p h d)) (fun i => a (ix2 p i)) e := by
  unfold rope2 roped
  pointwise
theorem rope16_apply (q : FVec Ideal S2x4096x16x64 .f32) (a : FVec Ideal S4096x32 .f32) (h : Fin 16) (e : Fin 64) :
    rope16 q a (ix4 b p h e) = roped2 (fun d => q (ix4 b p h d)) (fun i => a (ix2 p i)) e := by
  unfold rope16 roped2
  pointwise
end Apply

section Results
variable (x : FVec Ideal S2x4096x2048 .f32) (g : FVec Ideal S2048 .f32) (w : FVec Ideal S2048x5720 .f32) (s : FVec Ideal S128 .f32)
  (A : FVec Ideal S4096x64 .f32) (B : FVec Ideal S4096x32 .f32)

/-- The first result: the second attention's queries. -/
theorem qb_eq : truncf .bf16 (rope8 (scaledHeads (part3 (prods x g w)) s) A) bitsLt_bf16_f32 = ropedOut x g w s A 3080 := by
  funext y
  obtain ⟨b, p, h, e, rfl⟩ : ∃ (b : Fin 2) (p : Fin 4096) (h : Fin 8) (e : Fin 128), y = ix4 b p h e := ⟨y 0, y 1, y 2, y 3, by funext i; fin_cases i <;> rfl⟩
  refine Eq.trans (b := (rope8 (scaledHeads (part3 (prods x g w)) s) A) (ix4 b p h e)) rfl ((rope8_apply b p _ _ h e).trans ?_)
  refine congrArg (fun f => roped f (fun i => A (ix2 p i)) e) (funext fun e => ?_)
  refine (scaledHeads_apply s b p _ h e).trans ?_
  refine congrArg (fun f => headed f (fun d => s (ix1 d)) e) (funext fun d => ?_)
  refine (part3_apply b p _ h d).trans ((prods_apply x g w b p _ _).trans (congrArg (col x g w _) ?_))
  show 3080 + (h.val * 128 + d.val) = 3080 + 128 * h.val + d.val
  omega
/-- The second: its keys. -/
theorem kb_eq : rope2 (scaledHeads2 (part4 (prods x g w)) s) A = ropedOut' x g w s A 4104 := by
  funext y
  obtain ⟨b, p, h, e, rfl⟩ : ∃ (b : Fin 2) (p : Fin 4096) (h : Fin 2) (e : Fin 128), y = ix4 b p h e := ⟨y 0, y 1, y 2, y 3, by funext i; fin_cases i <;> rfl⟩
  refine Eq.trans (b := (rope2 (scaledHeads2 (part4 (prods x g w)) s) A) (ix4 b p h e)) rfl ((rope2_apply b p _ _ h e).trans ?_)
  refine congrArg (fun f => roped f (fun i => A (ix2 p i)) e) (funext fun e => ?_)
  refine (scaledHeads2_apply s b p _ h e).trans ?_
  refine congrArg (fun f => headed f (fun d => s (ix1 d)) e) (funext fun d => ?_)
  refine (part4_apply b p _ h d).trans ((prods_apply x g w b p _ _).trans (congrArg (col x g w _) ?_))
  show 4104 + (h.val * 128 + d.val) = 4104 + 128 * h.val + d.val
  omega
/-- The third: the index's queries. -/
theorem qi_eq : truncf .bf16 (rope16 (part6 (prods x g w)) B) bitsLt_bf16_f32 = ropedOut2 x g w B 4616 := by
  funext y
  obtain ⟨b, p, h, e, rfl⟩ : ∃ (b : Fin 2) (p : Fin 4096) (h : Fin 16) (e : Fin 64), y = ix4 b p h e := ⟨y 0, y 1, y 2, y 3, by funext i; fin_cases i <;> rfl⟩
  refine Eq.trans (b := (rope16 (part6 (prods x g w)) B) (ix4 b p h e)) rfl ((rope16_apply b p _ _ h e).trans ?_)
  refine congrArg (fun f => roped2 f (fun i => B (ix2 p i)) e) (funext fun d => ?_)
  refine (part6_apply b p _ h d).trans ((prods_apply x g w b p _ _).trans (congrArg (col x g w _) ?_))
  show 4616 + (h.val * 64 + d.val) = 4616 + 64 * h.val + d.val
  omega
end Results

set_option maxHeartbeats 2000000
/-- The reference's first result in closed form. -/
theorem res0_eq (m : (ℓ : Loc nD τ sig) → Buf (Elt Ideal) ℓ) (c : Dev nD) :
    Cert.Reference5Ideal.Value.res_out0 m c = ropedOut (m (c.tc.loc main_arg0)) (m (c.tc.loc main_arg1)) (m (c.tc.loc main_arg2)) (m (c.tc.loc main_arg3)) ang64 3080 := by
  unfold Cert.Reference5Ideal.Value.res_out0 Cert.Reference5Ideal.Value.res_main_v72
  exact qb_eq (m (c.tc.loc main_arg0)) (m (c.tc.loc main_arg1)) (m (c.tc.loc main_arg2)) (m (c.tc.loc main_arg3)) ang64
/-- Its second. -/
theorem res1_eq (m : (ℓ : Loc nD τ sig) → Buf (Elt Ideal) ℓ) (c : Dev nD) :
    Cert.Reference5Ideal.Value.res_out1 m c = ropedOut' (m (c.tc.loc main_arg0)) (m (c.tc.loc main_arg1)) (m (c.tc.loc main_arg2)) (m (c.tc.loc main_arg4)) ang64 4104 := by
  unfold Cert.Reference5Ideal.Value.res_out1 Cert.Reference5Ideal.Value.res_main_v119
  exact kb_eq (m (c.tc.loc main_arg0)) (m (c.tc.loc main_arg1)) (m (c.tc.loc main_arg2)) (m (c.tc.loc main_arg4)) ang64
/-- Its third. -/
theorem res2_eq (m : (ℓ : Loc nD τ sig) → Buf (Elt Ideal) ℓ) (c : Dev nD) :
    Cert.Reference5Ideal.Value.res_out2 m c = ropedOut2 (m (c.tc.loc main_arg0)) (m (c.tc.loc main_arg1)) (m (c.tc.loc main_arg2)) ang32 4616 := by
  unfold Cert.Reference5Ideal.Value.res_out2 Cert.Reference5Ideal.Value.res_main_v154
  exact qi_eq (m (c.tc.loc main_arg0)) (m (c.tc.loc main_arg1)) (m (c.tc.loc main_arg2)) ang32

end Cert.Rope.Host

end
-- ==== Proof.Rope.Claims.lean ====
/-
  The claims about the projections with rotary: the frames, and the two programs' equal results.
-/
module

public import proofs.«01_k».proof.Defs
public import proofs.«01_k».proof.Proof.Gen.Kernel5
public import proofs.«01_k».proof.Proof.Rope.Run
public import proofs.«01_k».proof.Proof.Rope.Host

@[expose] public section

set_option maxRecDepth 16384

noncomputable section

namespace Cert.Rope

open Idealize.ShloMosaic Idealize.ShloMosaic.TcCoe Idealize.SL.Sem

attribute [local instance] Cert.Kernel5.Gen.facts Cert.Kernel5Ideal.Gen.facts Cert.Reference5Ideal.Gen.facts

/-- The idealized kernel's frame. -/
theorem frame_pi : Cert.quiescent_Kernel5Ideal := fun m ρ _ => Cert.Kernel5Ideal.Gen.frame m ρ

/-! The kernel's program is the idealized one's: its run is that one's at the machine's floats. -/

set_option maxHeartbeats 4000000 in
theorem bodies_eq : Cert.Kernel5.defs₀ (F := Bits) = Cert.Kernel5Ideal.defs₀ (F := Bits) := by
  unfold Cert.Kernel5.defs₀ Cert.Kernel5Ideal.defs₀
  refine congrArg Defs.onTc (funext fun l => funext fun a => ?_)
  match l, a with
  | ⟨0, _⟩, (t, s) => rfl
  | ⟨1, _⟩, (t, s) => rfl
  | ⟨2, _⟩, (t, s) => rfl
  | ⟨3, _⟩, (t, s) => rfl
  | ⟨n + 4, h⟩, _ => exact absurd h (Nat.not_lt.2 (Nat.le_add_left _ _))
set_option maxHeartbeats 4000000 in
theorem defs_eq : Cert.Kernel5.defs (F := Bits) = Cert.Kernel5Ideal.defs (F := Bits) :=
  congrArg (Pipeline.defs (Cert.Kernel5Ideal.pcfgs (F := Bits))) bodies_eq

set_option maxHeartbeats 4000000 in
/-- The kernel's frame. -/
theorem frame_p : Cert.quiescent_Kernel5 := fun m ρ _ => by
  have h := Cert.Kernel5Ideal.Gen.frame (F := Bits) m ρ
  rw [← defs_eq] at h
  exact h

/-- The reference's frame. -/
theorem frame_ri : Cert.quiescent_Reference5Ideal := fun m ρ _ =>
  (θ_run Cert.Reference5Ideal.defs _ _).mono (fun r h => ⟨fun c => (h c).2.2.2, Idealize.ShloMosaic.sem_eq_zero_of_no_sems (by decide) r.2⟩)
    (Cert.Reference5Ideal.Value.run (F := Ideal) m ρ)

/-- Nothing was replaced. -/
theorem preserves : Cert.preserves_Kernel5_Kernel5Ideal := trivial

/-- The two programs end with equal results. -/
theorem algebraic : Cert.algebraic_Kernel5Ideal_Reference5Ideal := by
  intro m ρ m' ρ' _ hagree
  refine ⟨_, _, _, (θ_run Cert.Kernel5Ideal.defs _ _).mono (fun _ h c =>
      ⟨(h c).1.1.trans (res_qb m ρ c), (h c).1.2.1.trans (res_kb m ρ c), (h c).1.2.2.trans (res_qi m ρ c), (h c).2⟩)
    (run_at m ρ), ?_⟩
  refine (θ_run Cert.Reference5Ideal.defs _ _).mono (fun _ h c =>
      ⟨(h c).1.trans ((Host.res0_eq m' c).trans ?_), (h c).2.1.trans ((Host.res1_eq m' c).trans ?_), (h c).2.2.1.trans ((Host.res2_eq m' c).trans ?_), (h c).2.2.2⟩)
    (Cert.Reference5Ideal.Value.run (F := Ideal) m' ρ')
  all_goals obtain ⟨a0, a1, a2, a3, a4⟩ := hagree c
  · rw [a0, a1, a2, a3]
  · rw [a0, a1, a2, a4]
  · rw [a0, a1, a2]

end Cert.Rope

end
-- ==== Proof.Misc.Run.lean ====
/-
  The run of the last projection's program: it ends with every array at what the launches and the host's operations left in it.
-/
module

public import proofs.«01_k».proof.Proof.Gen.Kernel6Ideal.Frame

@[expose] public section

set_option maxRecDepth 16384

noncomputable section

namespace Cert.Misc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run: every array ends at the contents followed through the launches, and every counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W11 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => ⟨h, funext fun g => hz g (.inr (no_unscoped g.2))⟩)

/-- The run read at the arguments and the three results. -/
theorem run_at : θ_run defs (onTc (τ := τ) (main (F := F))) ⟨m, fun _ => 0, ρ⟩ (fun r => ∀ c : Dev nD,
      (r.2.mem ((c.tc : Thread nD τ).loc main_v39) = W11 m ρ c (Proc.devRef .tc main_v39)
      ∧ r.2.mem ((c.tc : Thread nD τ).loc main_v40) = W11 m ρ c (Proc.devRef .tc main_v40)
      ∧ r.2.mem ((c.tc : Thread nD τ).loc main_v41) = W11 m ρ c (Proc.devRef .tc main_v41))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨⟨h.1 c _ (mem_uc main_v39 (by decide)), h.1 c _ (mem_uc main_v40 (by decide)), h.1 c _ (mem_uc main_v41 (by decide))⟩,
     (h.1 c _ (mem_uc main_arg0 (by decide))).trans (W11_main_arg0 m ρ c),
     (h.1 c _ (mem_uc main_arg1 (by decide))).trans (W11_main_arg1 m ρ c),
     (h.1 c _ (mem_uc main_arg2 (by decide))).trans (W11_main_arg2 m ρ c),
     (h.1 c _ (mem_uc main_arg3 (by decide))).trans (W11_main_arg3 m ρ c)⟩) (run m ρ)

end Cert.Misc

end
-- ==== Proof.Misc.Blocks.lean ====
/-
  What the bodies of the last projection leave in their blocks, index by index.
-/
module

public import proofs.«01_k».proof.Proof.Rope.Tables
public import proofs.«01_k».proof.Proof.Gen.Kernel6Ideal.Frame

@[expose] public section

set_option maxRecDepth 16384

noncomputable section

namespace Cert.Misc

open Idealize.ShloMosaic Idealize.ShloMosaic.TcCoe Idealize.SL.Sem
open Cert.Proj (factor)
open Cert.Rope (turned2 low)
open Cert.Kernel6Ideal Cert.Kernel6Ideal.Gen

/-- A row's product with a column of a tile of 384. -/
def prod3 (a : Vec Ideal S512x2048 .bf16) (w : Vec Ideal S2048x384 .bf16) (r : Fin 512) (e : Fin 384) : EReal := ∑ k, a (ix2 r k) * w (ix2 k e)
/-- The logarithm of the logistic function, as the body computes it. -/
def gate (z : EReal) : EReal := min z 0 - Ideal.log1p (Ideal.exp (0 - max z (-z)))

section Payloads
variable (a : Vec Ideal S512x2048 .bf16) (w : Vec Ideal S2048x384 .bf16) (y : Vec Ideal S512x384 .f32) (c s : Vec Ideal S512x128 .f32) (b : Vec Ideal S1x8 .f32)
  (r : Fin 512) (e : Fin 384)

theorem k0_pay (x : Vec Ideal S512x2048 .f32) (s : Vec Ideal S1x2048 .f32) (k : Fin 2048) : k0_pay1 x s (ix2 r k)
    = x (ix2 r k) * factor (Ideal.ofBits .f32 0x45000000#32) (fun k' => x (ix2 r k')) * s (ix2 0 k) := by
  unfold k0_pay1 factor
  pointwise
theorem k1_pay3_at : k1_pay3 a w (ix2 r e) = prod3 a w r e := by
  unfold k1_pay3 prod3
  pointwise
theorem k1_pay2_at (e : Fin 16) : k1_pay2 (F := Ideal) y (ix2 r e) = y (ix2 r (⟨256 + e.val, by omega⟩ : Fin 384)) := by
  unfold k1_pay2
  pointwise
theorem k1_pay4_at (e : Fin 64) : k1_pay4 a w c s (ix2 r e) = turned2 (fun d => prod3 a w r (⟨d.val, by omega⟩ : Fin 384)) (fun d => c (ix2 r d)) (fun d => s (ix2 r d)) (⟨e.val, by omega⟩ : Fin 128) := by
  simp only [← k1_pay3_at]
  unfold k1_pay4 turned2
  generalize k1_pay3 a w = y
  pointwise
  rfl
theorem k1_pay1_at (e : Fin 8) : k1_pay1 y b (ix2 r e) = gate (y (ix2 r (⟨128 + e.val, by omega⟩ : Fin 384)) + b (ix2 0 e)) := by
  unfold k1_pay1 gate
  pointwise
  rfl
end Payloads

section Bodies
variable (a : Vec Ideal S512x2048 .bf16) (w : Vec Ideal S2048x384 .bf16) (c s : Vec Ideal S512x128 .f32) (b : Vec Ideal S1x8 .f32) (r : Fin 512)

theorem out0_at (x : Vec Ideal S512x2048 .f32) (s : Vec Ideal S1x2048 .f32) (k : Fin 2048) : out0_2 x s (ix2 r k)
    = x (ix2 r k) * factor (Ideal.ofBits .f32 0x45000000#32) (fun k' => x (ix2 r k')) * s (ix2 0 k) := by
  unfold out0_2
  rw [View.canon_cons_unit_lit _ _ _ (by decide), k0_pay,
    show View.ld x r0_0 = x from View.ld_unit_lit _ _ (by decide), show View.ld s r0_1 = s from View.ld_unit_lit _ _ (by decide)]
theorem part_eq : k1_pay6 a w b c s = k1_pay3 a w := by
  unfold k1_pay6
  rw [show View.ld a r1_0 = a from View.ld_unit_lit _ _ (by decide), show View.ld w r1_1 = w from View.ld_unit_lit _ _ (by decide)]
/-- The indexer's keys: the first 64 products, turned. -/
theorem out1_5_at (e : Fin 64) : out1_5 a w b c s (ix2 r e)
    = turned2 (fun d => prod3 a w r (⟨d.val, by omega⟩ : Fin 384)) (fun d => c (ix2 r d)) (fun d => s (ix2 r d)) (⟨e.val, by omega⟩ : Fin 128) := by
  unfold out1_5
  rw [View.canon_cons_unit_lit _ _ _ (by decide), k1_pay4_at,
    show View.ld a r1_0 = a from View.ld_unit_lit _ _ (by decide), show View.ld w r1_1 = w from View.ld_unit_lit _ _ (by decide),
    show View.ld c r1_2 = c from View.ld_unit_lit _ _ (by decide), show View.ld s r1_2 = s from View.ld_unit_lit _ _ (by decide)]
/-- The forget gates: eight of the second 128, with their biases. -/
theorem out1_7_at (e : Fin 8) : out1_7 a w b c s (ix2 r e) = gate (prod3 a w r (⟨128 + e.val, by omega⟩ : Fin 384) + b (ix2 0 e)) := by
  unfold out1_7
  rw [View.canon_cons_unit_lit _ _ _ (by decide), k1_pay1_at, part_eq, k1_pay3_at, show View.ld b r1_4 = b from View.ld_unit_lit _ _ (by decide)]
/-- The indexer's weights: sixteen of the third 128. -/
theorem out1_8_at (e : Fin 16) : out1_8 a w b c s (ix2 r e) = prod3 a w r (⟨256 + e.val, by omega⟩ : Fin 384) := by
  unfold out1_8
  rw [View.canon_cons_unit_lit _ _ _ (by decide), k1_pay2_at, part_eq, k1_pay3_at]
end Bodies

end Cert.Misc

end
-- ==== Proof.Misc.Math.lean ====
/-
  The logarithm of the logistic function, as the reference writes it and as the kernel computes it.
-/
module

public import proofs.«01_k».proof.Proof.Misc.Blocks

@[expose] public section

set_option maxRecDepth 16384

noncomputable section

namespace Cert.Misc

open Idealize.ShloMosaic Idealize.ShloMosaic.TcCoe Idealize.SL.Sem

/-- The exponential is never negative. -/
theorem exp_nonneg (u : EReal) : 0 ≤ Ideal.exp u := by
  induction u with
  | bot => exact le_refl _
  | coe u => exact EReal.coe_nonneg.2 (Real.exp_pos u).le
  | top => exact le_top
/-- So the logarithm of one more is never the bottom. -/
theorem log1p_exp (u : EReal) : Ideal.log1p (Ideal.exp u) ≠ ⊥ := by
  have h0 := exp_nonneg u
  unfold Ideal.log1p
  generalize Ideal.exp u = v at h0
  induction v with
  | bot => exact absurd h0 (by simp)
  | coe v =>
    have hv : (0 : ℝ) ≤ v := EReal.coe_nonneg.1 h0
    rw [show (1 : EReal) + (v : EReal) = ((1 + v : ℝ) : EReal) from by push_cast; rfl]
    show (if 1 + v ≤ 0 then (⊥ : EReal) else (Real.log (1 + v) : EReal)) ≠ ⊥
    rw [if_neg (by linarith)]
    exact EReal.coe_ne_bot _
  | top =>
    rw [show (1 : EReal) + ⊤ = ⊤ from EReal.add_top_of_ne_bot (by exact_mod_cast EReal.coe_ne_bot 1)]
    exact (by decide : (⊤ : EReal) ≠ ⊥)

/-- The softplus of `-z`, negated, is the kernel's form. -/
theorem gate_eq (z : EReal) : -(max (-z) 0 + Ideal.log1p (Ideal.exp (-(max (-z) (- -z))))) = gate z := by
  have h1 : max (-z) 0 ≠ ⊥ := fun h => absurd (le_max_right (-z) 0) (by rw [h]; simp)
  rw [EReal.neg_add (.inl h1) (.inr (log1p_exp _)), neg_neg, max_comm (-z) z]
  unfold gate
  rw [zero_sub]
  congr 1
  rcases le_total z 0 with h | h
  · rw [max_eq_left (by rwa [EReal.le_neg, neg_zero]), neg_neg, min_eq_left h]
  · rw [max_eq_right (by rwa [EReal.neg_le, neg_zero]), neg_zero, min_eq_right h]

end Cert.Misc

end
-- ==== Proof.Misc.Arrays.lean ====
/-
  The arrays of the last projection in closed form: the indexer's keys and weights, and the forget gates.
-/
module

public import proofs.«01_k».proof.Proof.Misc.Math
public import proofs.«01_k».proof.Proof.Rope.Results

@[expose] public section

set_option maxRecDepth 16384

noncomputable section

namespace Cert.Misc

open Idealize.ShloMosaic Idealize.ShloMosaic.TcCoe Idealize.SL.Sem
open Cert.Proj (factor inRow normed col normedArr rows_at scale_at)
open Cert.Rope (roped2 turned2 turned2_roped2 angRow2 angRow2_at ang32 cosT2 sinT2 cosT2_at sinT2_at)
open Cert.Kernel6Ideal Cert.Kernel6Ideal.Gen

/-! ## The mathematics -/

section Maths
variable (x : Vec Ideal S2x4096x2048 .f32) (g : Vec Ideal S2048 .f32) (w : Vec Ideal S2048x5720 .f32) (b : Vec Ideal S8 .f32) (B : FVec Ideal S4096x32 .f32)

/-- The indexer's keys of a row, turned by its position's angles. -/
def keyAt (R : ℕ) (e : Fin 64) : EReal := roped2 (fun d => col x g w R (5640 + d.val)) (angRow2 B R) e
/-- The forget gates of a row. -/
def gateAt (R : ℕ) (e : Fin 8) : EReal := gate (col x g w R (3072 + e.val) + b (ix1 e))
/-- As arrays, the indexer's weights last. -/
def keyArr : Vec Ideal S8192x64 .f32 := fun y => keyAt x g w B (y 0).val (y 1)
def gateArr : Vec Ideal S8192x8 .f32 := fun y => gateAt x g w b (y 0).val (y 1)
def weightArr : Vec Ideal S8192x16 .f32 := fun y => col x g w (y 0).val (5704 + (y 1 : Fin 16).val)

/-- A product of a tile is a product of the whole. -/
theorem prod3_col (a : Vec Ideal S512x2048 .bf16) (v : Vec Ideal S2048x384 .bf16) (r : Fin 512) (e : Fin 384) (R n : ℕ)
    (ha : ∀ k, a (ix2 r k) = normed x g R k) (hv : ∀ k, v (ix2 k e) = w (ix2 k (⟨n % 5720, Nat.mod_lt _ (by decide)⟩ : Fin 5720))) :
    prod3 a v r e = col x g w R n := by
  unfold prod3 col
  exact Finset.sum_congr rfl fun k _ => by rw [ha, hv]
end Maths

variable (m : (ℓ : Loc nD τ sig) → Buf (Elt Ideal) ℓ) (ρ : Dev nD → PrngReg) (c : Dev nD)

abbrev argX : Vec Ideal S2x4096x2048 .f32 := m ((c.tc : Thread nD τ).loc main_arg0)
abbrev argG : Vec Ideal S2048 .f32 := m ((c.tc : Thread nD τ).loc main_arg1)
abbrev argW : Vec Ideal S2048x5720 .f32 := m ((c.tc : Thread nD τ).loc main_arg2)
abbrev argB : Vec Ideal S8 .f32 := m ((c.tc : Thread nD τ).loc main_arg3)

/-! ## The host's arrays -/

/-- Three groups of columns, each padded to 128 lanes, side by side. -/
def slabK (w : FVec Ideal S2048x5720 .f32) : FVec Ideal S2048x128 .f32 :=
  pad S2048x128 ![0, 0] ![0, 64] ![0, 0] (extractStridedSlice S2048x64 ![0, 5640] w slices_S2048x5720_S2048x64_0_5640) (sitofp .f32 (constantI S_ 32 0#32)) pads_S2048x64_S2048x128_000_0640 h_S_
def slabG (w : FVec Ideal S2048x5720 .f32) : FVec Ideal S2048x128 .f32 :=
  pad S2048x128 ![0, 0] ![0, 120] ![0, 0] (extractStridedSlice S2048x8 ![0, 3072] w slices_S2048x5720_S2048x8_0_3072) (sitofp .f32 (constantI S_ 32 0#32)) pads_S2048x8_S2048x128_000_01200 h_S_
def slabW (w : FVec Ideal S2048x5720 .f32) : FVec Ideal S2048x128 .f32 :=
  pad S2048x128 ![0, 0] ![0, 112] ![0, 0] (extractStridedSlice S2048x16 ![0, 5704] w slices_S2048x5720_S2048x16_0_5704) (sitofp .f32 (constantI S_ 32 0#32)) pads_S2048x16_S2048x128_000_01120 h_S_
def packed3 (a b d : FVec Ideal S2048x128 .f32) : FVec Ideal S2048x384 .bf16 :=
  truncf .bf16 (concatenate S2048x384 1 [⟨S2048x128, a⟩, ⟨S2048x128, b⟩, ⟨S2048x128, d⟩] concatenates_S2048x128_S2048x128_S2048x128_S2048x384_d1 : FVec Ideal S2048x384 .f32) bitsLt_bf16_f32

theorem w2_v1 : W2 m ρ c (Proc.devRef .tc main_v1) = slabK (argW m c) := by
  dsimp only [W2, W1]
  simp only [hostOps0, hostOps0_1, StableHlo.TRef.binary, StableHlo.TRef.nullary, StableHlo.TRef.unary, StableHlo.TRef.toBuf, StableHlo.TRef.ofBuf, cast_eq]
  after_results_simp
  all_goals rfl
theorem w4_v3 : W4 m ρ c (Proc.devRef .tc main_v3) = slabG (argW m c) := by
  rw [← show W2 m ρ c (Proc.devRef .tc main_arg2) = argW m c from (W2_of m ρ c main_arg2 (by decide)).trans (W1_of m ρ c main_arg2 (by decide))]
  dsimp only [W4, W3]
  simp only [hostOps0_2, hostOps0_3, StableHlo.TRef.binary, StableHlo.TRef.nullary, StableHlo.TRef.unary, StableHlo.TRef.toBuf, StableHlo.TRef.ofBuf, cast_eq]
  after_results_simp
  all_goals rfl
theorem w6_v5 : W6 m ρ c (Proc.devRef .tc main_v5) = slabW (argW m c) := by
  rw [← show W4 m ρ c (Proc.devRef .tc main_arg2) = argW m c from (W4_of m ρ c main_arg2 (by decide)).trans ((W3_of m ρ c main_arg2 (by decide)).trans ((W2_of m ρ c main_arg2 (by decide)).trans (W1_of m ρ c main_arg2 (by decide))))]
  dsimp only [W6, W5]
  simp only [hostOps0_4, hostOps0_5, StableHlo.TRef.binary, StableHlo.TRef.nullary, StableHlo.TRef.unary, StableHlo.TRef.toBuf, StableHlo.TRef.ofBuf, cast_eq]
  after_results_simp
  all_goals rfl
theorem w6_v3 : W6 m ρ c (Proc.devRef .tc main_v3) = slabG (argW m c) :=
  (W6_of m ρ c main_v3 (by decide)).trans ((W5_of m ρ c main_v3 (by decide)).trans (w4_v3 m ρ c))
theorem w6_v1 : W6 m ρ c (Proc.devRef .tc main_v1) = slabK (argW m c) :=
  (W6_of m ρ c main_v1 (by decide)).trans ((W5_of m ρ c main_v1 (by decide)).trans ((W4_of m ρ c main_v1 (by decide)).trans ((W3_of m ρ c main_v1 (by decide)).trans (w2_v1 m ρ c))))
theorem v7_eq : V7 m ρ c main_v7 = packed3 (slabK (argW m c)) (slabG (argW m c)) (slabW (argW m c)) := by
  rw [← w6_v1 m ρ c, ← w6_v3 m ρ c, ← w6_v5 m ρ c]
  dsimp only [V7, W7]
  simp only [hostOps0_6]
  after_results_simp
  all_goals rfl
theorem v26_eq : V7 m ρ c main_v26 = cosT2 ang32 := by
  dsimp only [V7, W7]
  simp only [hostOps0_6]
  after_results_simp
  all_goals rfl
theorem v33_eq : V7 m ρ c main_v33 = sinT2 ang32 := by
  dsimp only [V7, W7]
  simp only [hostOps0_6]
  after_results_simp
  all_goals rfl
theorem v34_eq : V7 m ρ c main_v34 = (shapeCast S8192x2048 (argX m c) shapeCasts_S2x4096x2048_S8192x2048 : Vec Ideal S8192x2048 .f32) := by
  rw [← show W6 m ρ c (Proc.devRef .tc main_arg0) = argX m c from (W6_of m ρ c main_arg0 (by decide)).trans ((W5_of m ρ c main_arg0 (by decide)).trans ((W4_of m ρ c main_arg0 (by decide)).trans ((W3_of m ρ c main_arg0 (by decide)).trans ((W2_of m ρ c main_arg0 (by decide)).trans (W1_of m ρ c main_arg0 (by decide))))))]
  dsimp only [V7, W7]
  simp only [hostOps0_6]
  after_results_simp
  all_goals rfl
theorem v35_eq : V7 m ρ c main_v35 = (shapeCast S1x2048 (argG m c) shapeCasts_S2048_S1x2048 : Vec Ideal S1x2048 .f32) := by
  rw [← show W6 m ρ c (Proc.devRef .tc main_arg1) = argG m c from (W6_of m ρ c main_arg1 (by decide)).trans ((W5_of m ρ c main_arg1 (by decide)).trans ((W4_of m ρ c main_arg1 (by decide)).trans ((W3_of m ρ c main_arg1 (by decide)).trans ((W2_of m ρ c main_arg1 (by decide)).trans (W1_of m ρ c main_arg1 (by decide))))))]
  dsimp only [V7, W7]
  simp only [hostOps0_6]
  after_results_simp
  all_goals rfl
theorem v37_eq : V9 m ρ c main_v37 = (shapeCast S1x8 (argB m c) shapeCasts_S8_S1x8 : Vec Ideal S1x8 .f32) := by
  rw [← show W8 m ρ c (Proc.devRef .tc main_arg3) = argB m c from (W8_of m ρ c main_arg3 (by decide)).trans ((W7_of m ρ c main_arg3 (by decide)).trans ((W6_of m ρ c main_arg3 (by decide)).trans ((W5_of m ρ c main_arg3 (by decide)).trans ((W4_of m ρ c main_arg3 (by decide)).trans ((W3_of m ρ c main_arg3 (by decide)).trans ((W2_of m ρ c main_arg3 (by decide)).trans (W1_of m ρ c main_arg3 (by decide))))))))]
  dsimp only [V9, W9]
  simp only [hostOps1]
  after_results_simp
  all_goals rfl

section Packed
variable (w : FVec Ideal S2048x5720 .f32) (a b d : FVec Ideal S2048x128 .f32) (k : Fin 2048) (n : Fin 128)
theorem slabK_at (n : Fin 64) : slabK w (ix2 k (⟨n.val, by omega⟩ : Fin 128)) = w (ix2 k (⟨5640 + n.val, by omega⟩ : Fin 5720)) := by
  unfold slabK
  pointwise
theorem slabG_at (n : Fin 8) : slabG w (ix2 k (⟨n.val, by omega⟩ : Fin 128)) = w (ix2 k (⟨3072 + n.val, by omega⟩ : Fin 5720)) := by
  unfold slabG
  pointwise
theorem slabW_at (n : Fin 16) : slabW w (ix2 k (⟨n.val, by omega⟩ : Fin 128)) = w (ix2 k (⟨5704 + n.val, by omega⟩ : Fin 5720)) := by
  unfold slabW
  pointwise
theorem packed3_0 : packed3 a b d (ix2 k (⟨n.val, by omega⟩ : Fin 384)) = a (ix2 k n) := by
  unfold packed3
  pointwise
theorem packed3_1 : packed3 a b d (ix2 k (⟨128 + n.val, by omega⟩ : Fin 384)) = b (ix2 k n) := by
  unfold packed3
  pointwise
theorem packed3_2 : packed3 a b d (ix2 k (⟨256 + n.val, by omega⟩ : Fin 384)) = d (ix2 k n) := by
  unfold packed3
  pointwise
  rw [dif_neg (by omega), dif_neg (by omega)]
  exact congrArg d (congrArg (ix2 k) (Fin.ext (by simp only []; omega)))
theorem bias_at (v : FVec Ideal S8 .f32) (e : Fin 8) : shapeCast S1x8 v shapeCasts_S8_S1x8 (ix2 0 e) = v (ix1 e) := by
  pointwise
end Packed

/-! ## The blocks' places -/

theorem idx0 : ∀ t : Fin cfg0.N, win0_0.index t = ![t.val, 0] ∧ win0_1.index t = ![0, 0] ∧ win0_2.index t = ![t.val, 0] := by decide +kernel
theorem idx1 : ∀ t : Fin cfg1.N, win1_0.index t = ![t.val, 0] ∧ win1_1.index t = ![0, 0] ∧ win1_2.index t = ![0, 0]
    ∧ win1_3.index t = ![t.val % 8, 0] ∧ win1_4.index t = ![t.val % 8, 0] ∧ win1_5.index t = ![t.val, 0] ∧ win1_7.index t = ![t.val, 0] ∧ win1_8.index t = ![t.val, 0] := by decide +kernel

/-! ## The normalised rows -/

theorem arr_xn_of (V : (c : Dev nD) → (b : Ref sig .tc) → Buf (Elt Ideal) ((c : Thread nD τ).loc b)) (h51 : V c main_v34 = (shapeCast S8192x2048 (argX m c) shapeCasts_S2x4096x2048_S8192x2048 : Vec Ideal S8192x2048 .f32))
    (h52 : V c main_v35 = (shapeCast S1x2048 (argG m c) shapeCasts_S2048_S1x2048 : Vec Ideal S1x2048 .f32)) : (dat0 V c).arrAt 2 cfg0.N = normedArr (argX m c) (argG m c) := by
  refine (dat0 V c).arrAt_eq_of_covers 2 _ (by decide +kernel) fun t hf y => ?_
  have ht : t.val < 16 := Nat.lt_of_lt_of_eq t.isLt N_0
  blk_simp
  rw [after0_2]
  obtain ⟨r, k, rfl⟩ : ∃ (r : Fin 512) (k : Fin 2048), y = ix2 r k := ⟨y 0, y 1, by funext i; fin_cases i <;> rfl⟩
  have hx : ∀ k, iblk0 V c 0 t (ix2 r k) = inRow (argX m c) (512 * t.val + r.val) k := fun k => by
    refine Eq.trans (b := (V c main_v34 : Vec Ideal S8192x2048 .f32) (ix2 (⟨512 * t.val + r.val, by omega⟩ : Fin 8192) k)) ?_ ((congrFun (h51) _).trans (rows_at _ _ _))
    blk_simp [iblk0]
    blk_ext [idx0 t]
  have hg : iblk0 V c 1 t (ix2 0 k) = argG m c (ix1 k) := by
    refine Eq.trans (b := (V c main_v35 : Vec Ideal S1x2048 .f32) (ix2 0 k)) ?_ ((congrFun (h52) _).trans (scale_at _ _))
    blk_simp [iblk0]
    blk_ext [idx0 t]
  refine (out0_at _ _ _ _).trans ?_
  refine Eq.trans (b := normedArr (argX m c) (argG m c) (ix2 (⟨512 * t.val + r.val, by omega⟩ : Fin 8192) k)) ?_ (congrArg (normedArr (argX m c) (argG m c)) ?_)
  · rw [hx, hg]
    simp only [hx]
    rfl
  blk_ext [idx0 t]
theorem arr_xn : (dat0 (V7 m ρ) c).arrAt 2 cfg0.N = normedArr (argX m c) (argG m c) := arr_xn_of m c (V7 m ρ) (v34_eq m ρ c) (v35_eq m ρ c)

/-! ## The arrays as the projection finds them -/

theorem w9_v36 : W9 m ρ c (Proc.devRef .tc main_v36) = normedArr (argX m c) (argG m c) :=
  (W9_of m ρ c main_v36 (by decide)).trans ((W8_arr m ρ c 2).trans (arr_xn m ρ c))
theorem w9_v7 : W9 m ρ c (Proc.devRef .tc main_v7) = packed3 (slabK (argW m c)) (slabG (argW m c)) (slabW (argW m c)) :=
  (W9_of m ρ c main_v7 (by decide)).trans ((W8_of m ρ c main_v7 (by decide)).trans (v7_eq m ρ c))
theorem w9_v26 : W9 m ρ c (Proc.devRef .tc main_v26) = cosT2 ang32 :=
  (W9_of m ρ c main_v26 (by decide)).trans ((W8_of m ρ c main_v26 (by decide)).trans (v26_eq m ρ c))
theorem w9_v33 : W9 m ρ c (Proc.devRef .tc main_v33) = sinT2 ang32 :=
  (W9_of m ρ c main_v33 (by decide)).trans ((W8_of m ρ c main_v33 (by decide)).trans (v33_eq m ρ c))

/-! ## The projection -/

set_option maxHeartbeats 2000000 in
theorem arr_key_of (B : FVec Ideal S4096x32 .f32) (V : (c : Dev nD) → (b : Ref sig .tc) → Buf (Elt Ideal) ((c : Thread nD τ).loc b)) (h36 : V c main_v36 = normedArr (argX m c) (argG m c)) (h7 : V c main_v7 = packed3 (slabK (argW m c)) (slabG (argW m c)) (slabW (argW m c))) (h26 : V c main_v26 = cosT2 B) (h33 : V c main_v33 = sinT2 B) : (dat1 V c).arrAt 5 cfg1.N = keyArr (argX m c) (argG m c) (argW m c) B := by
  refine (dat1 V c).arrAt_eq_of_covers 5 _ (by decide +kernel) fun t hf y => ?_
  have ht : t.val < 16 := Nat.lt_of_lt_of_eq t.isLt N_1
  blk_simp
  rw [after1_5]
  obtain ⟨r, e, rfl⟩ : ∃ (r : Fin 512) (e : Fin 64), y = ix2 r e := ⟨y 0, y 1, by funext i; fin_cases i <;> rfl⟩
  have he := e.isLt
  have ha : ∀ k, iblk1 V c 0 t (ix2 r k) = normed (argX m c) (argG m c) (512 * t.val + r.val) k := fun k => by
    refine Eq.trans (b := (V c main_v36 : Vec Ideal S8192x2048 .bf16) (ix2 (⟨512 * t.val + r.val, by omega⟩ : Fin 8192) k)) ?_ (congrFun (h36) _)
    blk_simp [iblk1]
    blk_ext [idx1 t]
  have hb : ∀ (k : Fin 2048) (d : Fin 64), iblk1 V c 1 t (ix2 k (⟨d.val, by omega⟩ : Fin 384)) = argW m c (ix2 k (⟨(5640 + d.val) % 5720, Nat.mod_lt _ (by decide)⟩ : Fin 5720)) := fun k d => by
    refine Eq.trans (b := (V c main_v7 : Vec Ideal S2048x384 .bf16) (ix2 k (⟨d.val, by omega⟩ : Fin 384))) ?_
      ((congrFun (h7) _).trans ((packed3_0 _ _ _ k (⟨d.val, by omega⟩ : Fin 128)).trans ((slabK_at (argW m c) k d).trans
        (congrArg (argW m c) (congrArg (ix2 k) (Fin.ext (by simp only []; omega)))))))
    blk_simp [iblk1]
    blk_ext [idx1 t]
  have hC : ∀ d : Fin 128, iblk1 V c 3 t (ix2 r d) = Ideal.cos (angRow2 B (512 * t.val + r.val) (⟨d.val % 32, Nat.mod_lt _ (by decide)⟩ : Fin 32)) := fun d => by
    refine Eq.trans (b := (V c main_v26 : Vec Ideal S4096x128 .f32) (ix2 (⟨512 * (t.val % 8) + r.val, by omega⟩ : Fin 4096) d)) ?_
      ((congrFun (h26) _).trans ((cosT2_at _ _ d).trans ?_))
    · blk_simp [iblk1]
      blk_ext [idx1 t]
    · have hp : (⟨512 * (t.val % 8) + r.val, by omega⟩ : Fin 4096) = ⟨(512 * t.val + r.val) % 4096, Nat.mod_lt _ (by decide)⟩ := Fin.ext (by simp only []; omega)
      rw [hp]
      rfl
  have hS : ∀ d : Fin 128, iblk1 V c 4 t (ix2 r d) = if d.val % 64 < 32 then -Ideal.sin (angRow2 B (512 * t.val + r.val) (⟨d.val % 32, Nat.mod_lt _ (by decide)⟩ : Fin 32)) else Ideal.sin (angRow2 B (512 * t.val + r.val) (⟨d.val % 32, Nat.mod_lt _ (by decide)⟩ : Fin 32)) := fun d => by
    refine Eq.trans (b := (V c main_v33 : Vec Ideal S4096x128 .f32) (ix2 (⟨512 * (t.val % 8) + r.val, by omega⟩ : Fin 4096) d)) ?_
      ((congrFun (h33) _).trans ((sinT2_at _ _ d).trans ?_))
    · blk_simp [iblk1]
      blk_ext [idx1 t]
    · have hp : (⟨512 * (t.val % 8) + r.val, by omega⟩ : Fin 4096) = ⟨(512 * t.val + r.val) % 4096, Nat.mod_lt _ (by decide)⟩ := Fin.ext (by simp only []; omega)
      rw [hp]
      rfl
  refine (out1_5_at _ _ _ _ _ _ _).trans ?_
  refine Eq.trans (b := keyArr (argX m c) (argG m c) (argW m c) B (ix2 (⟨512 * t.val + r.val, by omega⟩ : Fin 8192) e)) ?_
    (congrArg (keyArr (argX m c) (argG m c) (argW m c) B) ?_)
  · refine (turned2_roped2 _ (angRow2 B (512 * t.val + r.val)) _ _ hC hS _).trans ?_
    show _ = roped2 (fun d => col (argX m c) (argG m c) (argW m c) (512 * t.val + r.val) (5640 + d.val)) (angRow2 B (512 * t.val + r.val)) e
    have h1 : ∀ d : Fin 64, prod3 (iblk1 V c 0 t) (iblk1 V c 1 t) r (⟨64 * (e.val / 64) + d.val, by omega⟩ : Fin 384) = col (argX m c) (argG m c) (argW m c) (512 * t.val + r.val) (5640 + d.val) := fun d => by
      rw [show (⟨64 * (e.val / 64) + d.val, by omega⟩ : Fin 384) = ⟨d.val, by omega⟩ from Fin.ext (by simp only []; omega)]
      exact prod3_col _ _ _ _ _ _ _ _ _ ha fun k => hb k d
    exact congrArg₂ (fun f i => roped2 f (angRow2 B (512 * t.val + r.val)) i) (funext h1) (Fin.ext (by simp only []; omega))
  blk_ext [idx1 t]
set_option maxHeartbeats 2000000 in
theorem arr_gate_of (V : (c : Dev nD) → (b : Ref sig .tc) → Buf (Elt Ideal) ((c : Thread nD τ).loc b)) (h36 : V c main_v36 = normedArr (argX m c) (argG m c)) (h7 : V c main_v7 = packed3 (slabK (argW m c)) (slabG (argW m c)) (slabW (argW m c))) (h37 : V c main_v37 = (shapeCast S1x8 (argB m c) shapeCasts_S8_S1x8 : Vec Ideal S1x8 .f32)) : (dat1 V c).arrAt 7 cfg1.N = gateArr (argX m c) (argG m c) (argW m c) (argB m c) := by
  refine (dat1 V c).arrAt_eq_of_covers 7 _ (by decide +kernel) fun t hf y => ?_
  have ht : t.val < 16 := Nat.lt_of_lt_of_eq t.isLt N_1
  blk_simp
  rw [after1_7]
  obtain ⟨r, e, rfl⟩ : ∃ (r : Fin 512) (e : Fin 8), y = ix2 r e := ⟨y 0, y 1, by funext i; fin_cases i <;> rfl⟩
  have he := e.isLt
  have ha : ∀ k, iblk1 V c 0 t (ix2 r k) = normed (argX m c) (argG m c) (512 * t.val + r.val) k := fun k => by
    refine Eq.trans (b := (V c main_v36 : Vec Ideal S8192x2048 .bf16) (ix2 (⟨512 * t.val + r.val, by omega⟩ : Fin 8192) k)) ?_ (congrFun (h36) _)
    blk_simp [iblk1]
    blk_ext [idx1 t]
  have hb : ∀ (k : Fin 2048) (d : Fin 8), iblk1 V c 1 t (ix2 k (⟨128 + d.val, by omega⟩ : Fin 384)) = argW m c (ix2 k (⟨(3072 + d.val) % 5720, Nat.mod_lt _ (by decide)⟩ : Fin 5720)) := fun k d => by
    refine Eq.trans (b := (V c main_v7 : Vec Ideal S2048x384 .bf16) (ix2 k (⟨128 + d.val, by omega⟩ : Fin 384))) ?_
      ((congrFun (h7) _).trans ((packed3_1 _ _ _ k (⟨d.val, by omega⟩ : Fin 128)).trans ((slabG_at (argW m c) k d).trans
        (congrArg (argW m c) (congrArg (ix2 k) (Fin.ext (by simp only []; omega)))))))
    blk_simp [iblk1]
    blk_ext [idx1 t]
  have hz : iblk1 V c 2 t (ix2 0 e) = argB m c (ix1 e) := by
    refine Eq.trans (b := (V c main_v37 : Vec Ideal S1x8 .f32) (ix2 0 e)) ?_ ((congrFun (h37) _).trans (bias_at _ _))
    blk_simp [iblk1]
    blk_ext [idx1 t]
  refine (out1_7_at _ _ _ _ _ _ _).trans ?_
  refine Eq.trans (b := gateArr (argX m c) (argG m c) (argW m c) (argB m c) (ix2 (⟨512 * t.val + r.val, by omega⟩ : Fin 8192) e)) ?_
    (congrArg (gateArr (argX m c) (argG m c) (argW m c) (argB m c)) ?_)
  · rw [hz]
    exact congrArg (fun z => gate (z + argB m c (ix1 e))) (prod3_col _ _ _ _ _ _ _ _ _ ha fun k => hb k e)
  blk_ext [idx1 t]
set_option maxHeartbeats 2000000 in
theorem arr_weight_of (V : (c : Dev nD) → (b : Ref sig .tc) → Buf (Elt Ideal) ((c : Thread nD τ).loc b)) (h36 : V c main_v36 = normedArr (argX m c) (argG m c)) (h7 : V c main_v7 = packed3 (slabK (argW m c)) (slabG (argW m c)) (slabW (argW m c))) : (dat1 V c).arrAt 8 cfg1.N = weightArr (argX m c) (argG m c) (argW m c) := by
  refine (dat1 V c).arrAt_eq_of_covers 8 _ (by decide +kernel) fun t hf y => ?_
  have ht : t.val < 16 := Nat.lt_of_lt_of_eq t.isLt N_1
  blk_simp
  rw [after1_8]
  obtain ⟨r, e, rfl⟩ : ∃ (r : Fin 512) (e : Fin 16), y = ix2 r e := ⟨y 0, y 1, by funext i; fin_cases i <;> rfl⟩
  have he := e.isLt
  have ha : ∀ k, iblk1 V c 0 t (ix2 r k) = normed (argX m c) (argG m c) (512 * t.val + r.val) k := fun k => by
    refine Eq.trans (b := (V c main_v36 : Vec Ideal S8192x2048 .bf16) (ix2 (⟨512 * t.val + r.val, by omega⟩ : Fin 8192) k)) ?_ (congrFun (h36) _)
    blk_simp [iblk1]
    blk_ext [idx1 t]
  have hb : ∀ (k : Fin 2048) (d : Fin 16), iblk1 V c 1 t (ix2 k (⟨256 + d.val, by omega⟩ : Fin 384)) = argW m c (ix2 k (⟨(5704 + d.val) % 5720, Nat.mod_lt _ (by decide)⟩ : Fin 5720)) := fun k d => by
    refine Eq.trans (b := (V c main_v7 : Vec Ideal S2048x384 .bf16) (ix2 k (⟨256 + d.val, by omega⟩ : Fin 384))) ?_
      ((congrFun (h7) _).trans ((packed3_2 _ _ _ k (⟨d.val, by omega⟩ : Fin 128)).trans ((slabW_at (argW m c) k d).trans
        (congrArg (argW m c) (congrArg (ix2 k) (Fin.ext (by simp only []; omega)))))))
    blk_simp [iblk1]
    blk_ext [idx1 t]
  refine (out1_8_at _ _ _ _ _ _ _).trans ?_
  refine Eq.trans (b := weightArr (argX m c) (argG m c) (argW m c) (ix2 (⟨512 * t.val + r.val, by omega⟩ : Fin 8192) e)) ?_
    (congrArg (weightArr (argX m c) (argG m c) (argW m c)) ?_)
  · exact prod3_col _ _ _ _ _ _ _ _ _ ha fun k => hb k e
  blk_ext [idx1 t]
theorem arr_key : (dat1 (V9 m ρ) c).arrAt 5 cfg1.N = keyArr (argX m c) (argG m c) (argW m c) ang32 := arr_key_of m c ang32 (V9 m ρ) (w9_v36 m ρ c) (w9_v7 m ρ c) (w9_v26 m ρ c) (w9_v33 m ρ c)
theorem arr_gate : (dat1 (V9 m ρ) c).arrAt 7 cfg1.N = gateArr (argX m c) (argG m c) (argW m c) (argB m c) := arr_gate_of m c (V9 m ρ) (w9_v36 m ρ c) (w9_v7 m ρ c) (v37_eq m ρ c)
theorem arr_weight : (dat1 (V9 m ρ) c).arrAt 8 cfg1.N = weightArr (argX m c) (argG m c) (argW m c) := arr_weight_of m c (V9 m ρ) (w9_v36 m ρ c) (w9_v7 m ρ c)

end Cert.Misc

end
-- ==== Proof.Misc.Results.lean ====
/-
  The three results of the last projection's run, in closed form.
-/
module

public import proofs.«01_k».proof.Proof.Misc.Arrays

@[expose] public section

set_option maxRecDepth 16384

noncomputable section

namespace Cert.Misc

open Idealize.ShloMosaic Idealize.ShloMosaic.TcCoe Idealize.SL.Sem
open Cert.Proj (col)
open Cert.Rope (roped2 angRow2 angRow2_at ang32)
open Cert.Kernel6Ideal Cert.Kernel6Ideal.Gen

section Results
variable (x : Vec Ideal S2x4096x2048 .f32) (g : Vec Ideal S2048 .f32) (w : Vec Ideal S2048x5720 .f32) (b : Vec Ideal S8 .f32) (B : FVec Ideal S4096x32 .f32)

/-- The indexer's keys, turned. -/
def keyOut : Vec Ideal S2x4096x64 .f32 := fun y =>
  roped2 (fun d => col x g w (4096 * (y 0).val + (y 1).val) (5640 + d.val)) (fun i => B (ix2 (y 1) i)) (y 2)
/-- The forget gates. -/
def gateOut : Vec Ideal S2x4096x8 .f32 := fun y => gate (col x g w (4096 * (y 0).val + (y 1).val) (3072 + (y 2 : Fin 8).val) + b (ix1 (y 2)))
/-- The indexer's weights. -/
def weightOut : Vec Ideal S2x4096x16 .f32 := fun y => col x g w (4096 * (y 0).val + (y 1).val) (5704 + (y 2 : Fin 16).val)

theorem keyArr_out : shapeCast S2x4096x64 (keyArr x g w B) shapeCasts_S8192x64_S2x4096x64 = keyOut x g w B := by
  funext y
  obtain ⟨i, p, e, rfl⟩ : ∃ (i : Fin 2) (p : Fin 4096) (e : Fin 64), y = ix3 i p e := ⟨y 0, y 1, y 2, by funext i; fin_cases i <;> rfl⟩
  have hR : shapeCast S2x4096x64 (keyArr x g w B) shapeCasts_S8192x64_S2x4096x64 (ix3 i p e)
      = keyArr x g w B (ix2 (⟨4096 * i.val + p.val, by omega⟩ : Fin 8192) e) := by
    generalize keyArr x g w B = v
    pointwise
    refine congrArg₂ (fun i j => v (ix2 i j)) (Fin.ext ?_) (Fin.ext ?_) <;> simp only [] <;> omega
  refine hR.trans ?_
  show roped2 (fun d => col x g w (4096 * i.val + p.val) (5640 + d.val)) (angRow2 B (4096 * i.val + p.val)) e
    = roped2 (fun d => col x g w (4096 * i.val + p.val) (5640 + d.val)) (fun i => B (ix2 p i)) e
  rw [angRow2_at]
theorem gateArr_out : shapeCast S2x4096x8 (gateArr x g w b) shapeCasts_S8192x8_S2x4096x8 = gateOut x g w b := by
  funext y
  obtain ⟨i, p, e, rfl⟩ : ∃ (i : Fin 2) (p : Fin 4096) (e : Fin 8), y = ix3 i p e := ⟨y 0, y 1, y 2, by funext i; fin_cases i <;> rfl⟩
  have hR : shapeCast S2x4096x8 (gateArr x g w b) shapeCasts_S8192x8_S2x4096x8 (ix3 i p e)
      = gateArr x g w b (ix2 (⟨4096 * i.val + p.val, by omega⟩ : Fin 8192) e) := by
    generalize gateArr x g w b = v
    pointwise
    refine congrArg₂ (fun i j => v (ix2 i j)) (Fin.ext ?_) (Fin.ext ?_) <;> simp only [] <;> omega
  refine hR.trans ?_
  rfl
theorem weightArr_out : shapeCast S2x4096x16 (weightArr x g w) shapeCasts_S8192x16_S2x4096x16 = weightOut x g w := by
  funext y
  obtain ⟨i, p, e, rfl⟩ : ∃ (i : Fin 2) (p : Fin 4096) (e : Fin 16), y = ix3 i p e := ⟨y 0, y 1, y 2, by funext i; fin_cases i <;> rfl⟩
  have hR : shapeCast S2x4096x16 (weightArr x g w) shapeCasts_S8192x16_S2x4096x16 (ix3 i p e)
      = weightArr x g w (ix2 (⟨4096 * i.val + p.val, by omega⟩ : Fin 8192) e) := by
    generalize weightArr x g w = v
    pointwise
    refine congrArg₂ (fun i j => v (ix2 i j)) (Fin.ext ?_) (Fin.ext ?_) <;> simp only [] <;> omega
  refine hR.trans ?_
  rfl
end Results

variable (m : (ℓ : Loc nD τ sig) → Buf (Elt Ideal) ℓ) (ρ : Dev nD → PrngReg) (c : Dev nD)

theorem w10_key : W10 m ρ c (Proc.devRef .tc main_v38_0) = keyArr (argX m c) (argG m c) (argW m c) ang32 := (W10_arr m ρ c 5).trans (arr_key m ρ c)
theorem res_key : W11 m ρ c (Proc.devRef .tc main_v39) = keyOut (argX m c) (argG m c) (argW m c) ang32 := by
  refine Eq.trans (b := (shapeCast S2x4096x64 (W10 m ρ c (Proc.devRef .tc main_v38_0) : Vec Ideal S8192x64 .f32) shapeCasts_S8192x64_S2x4096x64 : Vec Ideal S2x4096x64 .f32)) ?_ ?_
  · dsimp only [W11]
    simp only [hostOps2]
    after_results_simp
    all_goals rfl
  rw [w10_key]
  exact keyArr_out _ _ _ _
theorem w10_gate : W10 m ρ c (Proc.devRef .tc main_v38_2) = gateArr (argX m c) (argG m c) (argW m c) (argB m c) := (W10_arr m ρ c 7).trans (arr_gate m ρ c)
theorem res_gate : W11 m ρ c (Proc.devRef .tc main_v40) = gateOut (argX m c) (argG m c) (argW m c) (argB m c) := by
  refine Eq.trans (b := (shapeCast S2x4096x8 (W10 m ρ c (Proc.devRef .tc main_v38_2) : Vec Ideal S8192x8 .f32) shapeCasts_S8192x8_S2x4096x8 : Vec Ideal S2x4096x8 .f32)) ?_ ?_
  · dsimp only [W11]
    simp only [hostOps2]
    after_results_simp
    all_goals rfl
  rw [w10_gate]
  exact gateArr_out _ _ _ _
theorem w10_weight : W10 m ρ c (Proc.devRef .tc main_v38_3) = weightArr (argX m c) (argG m c) (argW m c) := (W10_arr m ρ c 8).trans (arr_weight m ρ c)
theorem res_weight : W11 m ρ c (Proc.devRef .tc main_v41) = weightOut (argX m c) (argG m c) (argW m c) := by
  refine Eq.trans (b := (shapeCast S2x4096x16 (W10 m ρ c (Proc.devRef .tc main_v38_3) : Vec Ideal S8192x16 .f32) shapeCasts_S8192x16_S2x4096x16 : Vec Ideal S2x4096x16 .f32)) ?_ ?_
  · dsimp only [W11]
    simp only [hostOps2]
    after_results_simp
    all_goals rfl
  rw [w10_weight]
  exact weightArr_out _ _ _

end Cert.Misc

end
-- ==== Proof.Misc.Host.lean ====
/-
  The reference's three results of the last projection, in the same closed form as the kernel's.
-/
module

public import proofs.«01_k».proof.Proof.Misc.Results
public import proofs.«01_k».proof.Proof.Proj.Host
public import proofs.«01_k».proof.Proof.Gen.Reference6Ideal.Run

@[expose] public section

set_option maxRecDepth 16384

noncomputable section

namespace Cert.Misc.Host

open Idealize.ShloMosaic Idealize.ShloMosaic.TcCoe Idealize.SL.Sem
open Cert.Proj (col)
open Cert.Proj.Host (prods prods_apply)
open Cert.Rope (roped2 ang32)
open Cert.Reference6Ideal Cert.Reference6Ideal.Gen

/-- The three groups of columns, the first as one head of 64. -/
def partK (q : FVec Ideal S2x4096x5720 .f32) : FVec Ideal S2x4096x1x64 .f32 := broadcastInDim S2x4096x1x64 ![0, 1, 3] bcast_S2x4096x64_S2x4096x1x64_0_1_3 (extractStridedSlice S2x4096x64 ![0, 0, 5640] q slices_S2x4096x5720_S2x4096x64_0_0_5640)
def partG (q : FVec Ideal S2x4096x5720 .f32) (b : FVec Ideal S8 .f32) : FVec Ideal S2x4096x8 .f32 :=
  addf (extractStridedSlice S2x4096x8 ![0, 0, 3072] q slices_S2x4096x5720_S2x4096x8_0_0_3072) (broadcastInDim S2x4096x8 ![0, 1, 2] bcast_S1x1x8_S2x4096x8_0_1_2 (broadcastInDim S1x1x8 ![2] bcast_S8_S1x1x8_2 b))
def partW (q : FVec Ideal S2x4096x5720 .f32) : FVec Ideal S2x4096x16 .f32 := extractStridedSlice S2x4096x16 ![0, 0, 5704] q slices_S2x4096x5720_S2x4096x16_0_0_5704
/-- Zero, as the reference spreads it. -/
def zeros : FVec Ideal S2x4096x8 .f32 := broadcastInDim S2x4096x8 ![] bcast_S_S2x4096x8 (constant S_ .f32 0x00000000#32)
/-- The logarithm of the logistic function: the softplus of the negation, negated. -/
def logSig (z : FVec Ideal S2x4096x8 .f32) : FVec Ideal S2x4096x8 .f32 :=
  Host.negf (select (cmpf .une (subf (Host.negf z) zeros) (subf (Host.negf z) zeros)) (addf (Host.negf z) zeros)
    (addf (maximumf (Host.negf z) zeros) (Host.log1p (Host.exp (Host.negf (Host.absf (subf (Host.negf z) zeros)))))))
/-- Rows turned by the angles, half against half. -/
def rope1 (q : FVec Ideal S2x4096x1x64 .f32) (a : FVec Ideal S4096x32 .f32) : FVec Ideal S2x4096x1x64 .f32 :=
  concatenate S2x4096x1x64 3 [⟨S2x4096x1x32, (subf (mulf (extractStridedSlice S2x4096x1x32 ![0, 0, 0, 0] q slices_S2x4096x1x64_S2x4096x1x32_0_0_0_0) (broadcastInDim S2x4096x1x32 ![0, 1, 2, 3] bcast_S1x4096x1x32_S2x4096x1x32_0_1_2_3 (broadcastInDim S1x4096x1x32 ![1, 2, 3] bcast_S4096x1x32_S1x4096x1x32_1_2_3 (broadcastInDim S4096x1x32 ![0, 2] bcast_S4096x32_S4096x1x32_0_2 (Host.cos a))))) (mulf (extractStridedSlice S2x4096x1x32 ![0, 0, 0, 32] q slices_S2x4096x1x64_S2x4096x1x32_0_0_0_32) (broadcastInDim S2x4096x1x32 ![0, 1, 2, 3] bcast_S1x4096x1x32_S2x4096x1x32_0_1_2_3 (broadcastInDim S1x4096x1x32 ![1, 2, 3] bcast_S4096x1x32_S1x4096x1x32_1_2_3 (broadcastInDim S4096x1x32 ![0, 2] bcast_S4096x32_S4096x1x32_0_2 (Host.sin a))))) : FVec Ideal S2x4096x1x32 .f32)⟩,
    ⟨S2x4096x1x32, (addf (mulf (extractStridedSlice S2x4096x1x32 ![0, 0, 0, 32] q slices_S2x4096x1x64_S2x4096x1x32_0_0_0_32) (broadcastInDim S2x4096x1x32 ![0, 1, 2, 3] bcast_S1x4096x1x32_S2x4096x1x32_0_1_2_3 (broadcastInDim S1x4096x1x32 ![1, 2, 3] bcast_S4096x1x32_S1x4096x1x32_1_2_3 (broadcastInDim S4096x1x32 ![0, 2] bcast_S4096x32_S4096x1x32_0_2 (Host.cos a))))) (mulf (extractStridedSlice S2x4096x1x32 ![0, 0, 0, 0] q slices_S2x4096x1x64_S2x4096x1x32_0_0_0_0) (broadcastInDim S2x4096x1x32 ![0, 1, 2, 3] bcast_S1x4096x1x32_S2x4096x1x32_0_1_2_3 (broadcastInDim S1x4096x1x32 ![1, 2, 3] bcast_S4096x1x32_S1x4096x1x32_1_2_3 (broadcastInDim S4096x1x32 ![0, 2] bcast_S4096x32_S4096x1x32_0_2 (Host.sin a))))) : FVec Ideal S2x4096x1x32 .f32)⟩] concatenates_S2x4096x1x32_S2x4096x1x32_S2x4096x1x64_d3

section Apply
variable (b : Fin 2) (p : Fin 4096)
theorem partK_apply (q : FVec Ideal S2x4096x5720 .f32) (h : Fin 1) (e : Fin 64) : partK q (ix4 b p h e) = q (ix3 b p (⟨5640 + e.val, by omega⟩ : Fin 5720)) := by
  unfold partK
  pointwise
theorem partG_apply (q : FVec Ideal S2x4096x5720 .f32) (v : FVec Ideal S8 .f32) (e : Fin 8) : partG q v (ix3 b p e) = q (ix3 b p (⟨3072 + e.val, by omega⟩ : Fin 5720)) + v (ix1 e) := by
  unfold partG
  pointwise
theorem partW_apply (q : FVec Ideal S2x4096x5720 .f32) (e : Fin 16) : partW q (ix3 b p e) = q (ix3 b p (⟨5704 + e.val, by omega⟩ : Fin 5720)) := by
  unfold partW
  pointwise
theorem zeros_apply (y : S2x4096x8.Idx) : zeros y = 0 := Ideal.ofBits_zero_f32
theorem rope1_apply (q : FVec Ideal S2x4096x1x64 .f32) (a : FVec Ideal S4096x32 .f32) (h : Fin 1) (e : Fin 64) :
    rope1 q a (ix4 b p h e) = roped2 (fun d => q (ix4 b p h d)) (fun i => a (ix2 p i)) e := by
  obtain rfl : h = 0 := Subsingleton.elim _ _
  unfold rope1 roped2
  pointwise
/-- Where nothing differs from itself, the guarded branch is never taken. -/
theorem logSig_apply (z : FVec Ideal S2x4096x8 .f32) (e : Fin 8) : logSig z (ix3 b p e) = gate (z (ix3 b p e)) := by
  rw [← gate_eq]
  unfold logSig
  have hz := zeros_apply (ix3 b p e)
  generalize zeros = o at hz
  show -(Scalar.select (Ideal.cmp .une (-(z (ix3 b p e)) - o (ix3 b p e)) (-(z (ix3 b p e)) - o (ix3 b p e))) (-(z (ix3 b p e)) + o (ix3 b p e))
    (max (-(z (ix3 b p e))) (o (ix3 b p e)) + Ideal.log1p (Ideal.exp (-(max (-(z (ix3 b p e)) - o (ix3 b p e)) (-(-(z (ix3 b p e)) - o (ix3 b p e))))))) : EReal) = _
  rw [hz, sub_zero]
  have hc : Ideal.cmp .une (-(z (ix3 b p e))) (-(z (ix3 b p e))) = 0#1 := by
    show BitVec.ofBool (decide ((-(z (ix3 b p e)) : EReal) ≠ -(z (ix3 b p e)))) = 0#1
    rw [decide_eq_false (fun h => h rfl)]
    rfl
  rw [hc]
  rfl
end Apply

section Results
variable (x : FVec Ideal S2x4096x2048 .f32) (g : FVec Ideal S2048 .f32) (w : FVec Ideal S2048x5720 .f32) (v : FVec Ideal S8 .f32) (B : FVec Ideal S4096x32 .f32)

/-- The first result: the indexer's keys. -/
theorem key_eq : shapeCast S2x4096x64 (rope1 (partK (prods x g w)) B) shapeCasts_S2x4096x1x64_S2x4096x64 = keyOut x g w B := by
  funext y
  obtain ⟨b, p, e, rfl⟩ : ∃ (b : Fin 2) (p : Fin 4096) (e : Fin 64), y = ix3 b p e := ⟨y 0, y 1, y 2, by funext i; fin_cases i <;> rfl⟩
  have hR : shapeCast S2x4096x64 (rope1 (partK (prods x g w)) B) shapeCasts_S2x4096x1x64_S2x4096x64 (ix3 b p e) = rope1 (partK (prods x g w)) B (ix4 b p 0 e) := by
    generalize rope1 (partK (prods x g w)) B = q
    pointwise
  refine hR.trans ((rope1_apply b p _ _ 0 e).trans ?_)
  exact congrArg (fun f => roped2 f (fun i => B (ix2 p i)) e) (funext fun d => (partK_apply b p _ 0 d).trans (prods_apply x g w b p _ _))
/-- The second: the forget gates. -/
theorem gate_out : logSig (partG (prods x g w) v) = gateOut x g w v := by
  funext y
  obtain ⟨b, p, e, rfl⟩ : ∃ (b : Fin 2) (p : Fin 4096) (e : Fin 8), y = ix3 b p e := ⟨y 0, y 1, y 2, by funext i; fin_cases i <;> rfl⟩
  refine (logSig_apply b p _ e).trans (congrArg gate ((partG_apply b p _ v e).trans ?_))
  exact congrArg (· + v (ix1 e)) (prods_apply x g w b p _ _)
/-- The third: the indexer's weights. -/
theorem weight_eq : partW (prods x g w) = weightOut x g w := by
  funext y
  obtain ⟨b, p, e, rfl⟩ : ∃ (b : Fin 2) (p : Fin 4096) (e : Fin 16), y = ix3 b p e := ⟨y 0, y 1, y 2, by funext i; fin_cases i <;> rfl⟩
  exact (partW_apply b p _ e).trans (prods_apply x g w b p _ _)
end Results

set_option maxHeartbeats 2000000
/-- The reference's first result in closed form. -/
theorem res0_eq (m : (ℓ : Loc nD τ sig) → Buf (Elt Ideal) ℓ) (c : Dev nD) :
    Cert.Reference6Ideal.Value.res_out0 m c = keyOut (m (c.tc.loc main_arg0)) (m (c.tc.loc main_arg1)) (m (c.tc.loc main_arg2)) ang32 := by
  unfold Cert.Reference6Ideal.Value.res_out0 Cert.Reference6Ideal.Value.res_main_v59
  exact key_eq (m (c.tc.loc main_arg0)) (m (c.tc.loc main_arg1)) (m (c.tc.loc main_arg2)) ang32
/-- Its second. -/
theorem res1_eq (m : (ℓ : Loc nD τ sig) → Buf (Elt Ideal) ℓ) (c : Dev nD) :
    Cert.Reference6Ideal.Value.res_out1 m c = gateOut (m (c.tc.loc main_arg0)) (m (c.tc.loc main_arg1)) (m (c.tc.loc main_arg2)) (m (c.tc.loc main_arg3)) := by
  unfold Cert.Reference6Ideal.Value.res_out1 Cert.Reference6Ideal.Value.res_main_v63
  exact gate_out (m (c.tc.loc main_arg0)) (m (c.tc.loc main_arg1)) (m (c.tc.loc main_arg2)) (m (c.tc.loc main_arg3))

end Cert.Misc.Host

end
-- ==== Proof.Misc.Claims.lean ====
/-
  The claims about the last projection: the frames, and the two programs' equal results.
-/
module

public import proofs.«01_k».proof.Defs
public import proofs.«01_k».proof.Proof.Gen.Kernel6
public import proofs.«01_k».proof.Proof.Misc.Run
public import proofs.«01_k».proof.Proof.Misc.Host

@[expose] public section

set_option maxRecDepth 16384

noncomputable section

namespace Cert.Misc

open Idealize.ShloMosaic Idealize.ShloMosaic.TcCoe Idealize.SL.Sem

attribute [local instance] Cert.Kernel6.Gen.facts Cert.Kernel6Ideal.Gen.facts Cert.Reference6Ideal.Gen.facts

/-- The idealized kernel's frame. -/
theorem frame_pi : Cert.quiescent_Kernel6Ideal := fun m ρ _ => Cert.Kernel6Ideal.Gen.frame m ρ

/-! The kernel's program is the idealized one's: its run is that one's at the machine's floats. -/

set_option maxHeartbeats 4000000 in
theorem bodies_eq : Cert.Kernel6.defs₀ (F := Bits) = Cert.Kernel6Ideal.defs₀ (F := Bits) := by
  unfold Cert.Kernel6.defs₀ Cert.Kernel6Ideal.defs₀
  refine congrArg Defs.onTc (funext fun l => funext fun a => ?_)
  match l, a with
  | ⟨0, _⟩, (t, s) => rfl
  | ⟨1, _⟩, (t, s) => rfl
  | ⟨n + 2, h⟩, _ => exact absurd h (Nat.not_lt.2 (Nat.le_add_left _ _))
set_option maxHeartbeats 4000000 in
theorem defs_eq : Cert.Kernel6.defs (F := Bits) = Cert.Kernel6Ideal.defs (F := Bits) :=
  congrArg (Pipeline.defs (Cert.Kernel6Ideal.pcfgs (F := Bits))) bodies_eq

set_option maxHeartbeats 4000000 in
/-- The kernel's frame. -/
theorem frame_p : Cert.quiescent_Kernel6 := fun m ρ _ => by
  have h := Cert.Kernel6Ideal.Gen.frame (F := Bits) m ρ
  rw [← defs_eq] at h
  exact h

/-- The reference's frame. -/
theorem frame_ri : Cert.quiescent_Reference6Ideal := fun m ρ _ =>
  (θ_run Cert.Reference6Ideal.defs _ _).mono (fun r h => ⟨fun c => (h c).2.2.2, Idealize.ShloMosaic.sem_eq_zero_of_no_sems (by decide) r.2⟩)
    (Cert.Reference6Ideal.Value.run (F := Ideal) m ρ)

/-- Nothing was replaced. -/
theorem preserves : Cert.preserves_Kernel6_Kernel6Ideal := trivial

/-- The two programs end with equal results. -/
theorem algebraic : Cert.algebraic_Kernel6Ideal_Reference6Ideal := by
  intro m ρ m' ρ' _ hagree
  refine ⟨_, _, _, (θ_run Cert.Kernel6Ideal.defs _ _).mono (fun _ h c =>
      ⟨(h c).1.1.trans (res_key m ρ c), (h c).1.2.1.trans (res_gate m ρ c), (h c).1.2.2.trans (res_weight m ρ c), (h c).2⟩)
    (run_at m ρ), ?_⟩
  refine (θ_run Cert.Reference6Ideal.defs _ _).mono (fun _ h c =>
      ⟨(h c).1.trans ((Host.res0_eq m' c).trans ?_), (h c).2.1.trans ((Host.res1_eq m' c).trans ?_), (h c).2.2.1.trans ((Host.weight_eq _ _ _).trans ?_), (h c).2.2.2⟩)
    (Cert.Reference6Ideal.Value.run (F := Ideal) m' ρ')
  all_goals obtain ⟨a0, a1, a2, a3⟩ := hagree c
  · rw [a0, a1, a2]
  · rw [a0, a1, a2, a3]
  · rw [a0, a1, a2]

end Cert.Misc

end
-- ==== Proof.lean ====
/-
  The certificate: the frames, the ledgers and the equal results of the attention, the feed-forward layer, the output projection, the input projections, those with rotary and the last one.
-/
module

public import proofs.«01_k».proof.Defs
public import proofs.«01_k».proof.Proof.Fox.Claims
public import proofs.«01_k».proof.Proof.Ffn.Claims
public import proofs.«01_k».proof.Proof.Out.Claims
public import proofs.«01_k».proof.Proof.Proj.Claims
public import proofs.«01_k».proof.Proof.Rope.Claims
public import proofs.«01_k».proof.Proof.Misc.Claims

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts, Cert.Kernel6Ideal.Gen.facts, Cert.Reference6Ideal.Gen.facts, Cert.Fox.pre_facts,
    Cert.Fox.frame_p, Cert.Fox.frame_pi, Cert.Fox.frame_pi_finite, Cert.Fox.frame_ri, Cert.Fox.frame_ri_finite,
    Cert.Ffn.frame_p, Cert.Ffn.frame_pi, Cert.Ffn.frame_ri, Cert.Out.frame_p, Cert.Out.frame_pi, Cert.Out.frame_ri, Cert.Proj.frame_p, Cert.Proj.frame_pi, Cert.Proj.frame_ri, Cert.Rope.frame_p, Cert.Rope.frame_pi, Cert.Rope.frame_ri, Cert.Misc.frame_p, Cert.Misc.frame_pi, Cert.Misc.frame_ri,
    Cert.Fox.preserves, Cert.Fox.algebraic, Cert.Ffn.preserves, Cert.Ffn.algebraic, Cert.Out.preserves, Cert.Out.algebraic, Cert.Proj.preserves, Cert.Proj.algebraic, Cert.Rope.preserves, Cert.Rope.algebraic, Cert.Misc.preserves, Cert.Misc.algebraic⟩

end Cert.Proof

end
